-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x2048x1024 : Shape := ⟨3, ![8, 2048, 1024]⟩
abbrev S8x4 : Shape := ⟨2, ![8, 4]⟩
abbrev S5000x512 : Shape := ⟨2, ![5000, 512]⟩
abbrev S1x5000x512 : Shape := ⟨3, ![1, 5000, 512]⟩
abbrev S_ : Shape := ⟨0, ![]⟩

class Facts : Prop where
  bcast_S_S8x4 : S_.BroadcastsInDim S8x4 (![] : Fin 0 → Fin S8x4.rank)
  reducesTo_S8x4_S_d0_1 : S8x4.ReducesTo [0, 1] S_
  h_S_ : 0 < S_.numel

variable [Facts]

def fn {F : FTy → Type} [FloatOps F] (main_arg0 : FVec F S8x2048x1024 .f32) (main_arg1 : IVec S8x4 32) (main_arg2 : FVec F S5000x512 .f32) (main_arg3 : FVec F S1x5000x512 .f32) : IVec S_ 1 :=
  let main_c : IVec S_ 32 := constantI S_ 32 0#32
  let main_v0 : IVec S8x4 32 := broadcastInDim S8x4 ![] bcast_S_S8x4 main_c
  let main_v1 : IVec S8x4 1 := cmpi .sge main_arg1 main_v0
  let main_c_0 : IVec S_ 32 := constantI S_ 32 2048#32
  let main_v2 : IVec S8x4 32 := broadcastInDim S8x4 ![] bcast_S_S8x4 main_c_0
  let main_v3 : IVec S8x4 1 := cmpi .slt main_arg1 main_v2
  let main_v4 : IVec S8x4 1 := andi main_v1 main_v3
  let main_c_1 : IVec S_ 1 := constantI S_ 1 1#1
  let main_v5 : IVec S_ 1 := (fun x v => Host.reduce IntOp.andi x v reducesTo_S8x4_S_d0_1 h_S_) main_v4 main_c_1
  main_v5
-- ==== Kernel.lean ====
abbrev S8x2048x1024 : Shape := ⟨3, ![8, 2048, 1024]⟩
abbrev S8x4 : Shape := ⟨2, ![8, 4]⟩
abbrev S5000x512 : Shape := ⟨2, ![5000, 512]⟩
abbrev S1x5000x512 : Shape := ⟨3, ![1, 5000, 512]⟩
abbrev S1x2048x1024 : Shape := ⟨3, ![1, 2048, 1024]⟩
abbrev S1x2048x512 : Shape := ⟨3, ![1, 2048, 512]⟩
abbrev S1x1 : Shape := ⟨2, ![1, 1]⟩
abbrev S1x64x512 : Shape := ⟨3, ![1, 64, 512]⟩
abbrev S64x512 : Shape := ⟨2, ![64, 512]⟩
abbrev S72x512 : Shape := ⟨2, ![72, 512]⟩
abbrev S64x1024 : Shape := ⟨2, ![64, 1024]⟩
abbrev S1x64x1024 : Shape := ⟨3, ![1, 64, 1024]⟩
abbrev S64x1 : Shape := ⟨2, ![64, 1]⟩

abbrev nBuf : Space → Nat
  | .hbm => 5
  | .vmem => 6
  | .smem => 1
  | _ => 0

abbrev bufTy : (tb : Table) → Fin (tcTables nBuf tb) → BufTy
  | .hbm, ⟨0, _⟩ => ⟨S8x2048x1024, .f32⟩
  | .hbm, ⟨1, _⟩ => ⟨S8x4, .i32⟩
  | .hbm, ⟨2, _⟩ => ⟨S5000x512, .f32⟩
  | .hbm, ⟨3, _⟩ => ⟨S1x5000x512, .f32⟩
  | .hbm, ⟨4, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S5000x512, .f32⟩
  | .local _ .vmem, ⟨3, _⟩ => ⟨S1x2048x512, .f32⟩
  | .local _ .vmem, ⟨4, _⟩ => ⟨S1x2048x1024, .f32⟩
  | .local _ .vmem, ⟨5, _⟩ => ⟨S1x2048x1024, .f32⟩
  | .local _ .smem, ⟨0, _⟩ => ⟨S8x4, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![1, 8], ![false, false]⟩

def k0_off1 (i : grid0.Coords) : Fin 2 → Nat :=
  let arg1 : BitVec 32 := BitVec.ofNat 32 (i 1).val
  let v1 : Index := Scalar.indexCast arg1
  let c0 : Index := 0#32
  ![v1.toNat, 0]
def k0_off2 (i : grid0.Coords) : Fin 2 → Nat :=
  let arg1 : BitVec 32 := BitVec.ofNat 32 (i 1).val
  let v3 : Index := Scalar.indexCast arg1
  let c1 : Index := 1#32
  ![v3.toNat, 1]
def k0_off3 (i : grid0.Coords) : Fin 2 → Nat :=
  let arg1 : BitVec 32 := BitVec.ofNat 32 (i 1).val
  let v5 : Index := Scalar.indexCast arg1
  let c2 : Index := 2#32
  ![v5.toNat, 2]
def k0_off4 (i : grid0.Coords) : Fin 2 → Nat :=
  let arg1 : BitVec 32 := BitVec.ofNat 32 (i 1).val
  let v7 : Index := Scalar.indexCast arg1
  let c3 : Index := 3#32
  ![v7.toNat, 3]
def k0_off5 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c0_i32_21 : BitVec 32 := 0#32
  let v66 : BitVec 32 := Scalar.addi v0 c0_i32_21
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v68 : BitVec 1 := Scalar.cmpi .sge v66 v27
  let v69 : BitVec 32 := Scalar.extui v68
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v70 : BitVec 1 := Scalar.cmpi .sge v66 v46
  let v71 : BitVec 32 := Scalar.extui v70
  let v72 : BitVec 32 := Scalar.addi v69 v71
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v73 : BitVec 1 := Scalar.cmpi .sge v66 v65
  let v74 : BitVec 32 := Scalar.extui v73
  let v75 : BitVec 32 := Scalar.addi v72 v74
  let v1123 : Index := Scalar.indexCast v75
  ![v1122.toNat, v1123.toNat]
def k0_cond1 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c0_i32_21 : BitVec 32 := 0#32
  let v66 : BitVec 32 := Scalar.addi v0 c0_i32_21
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v68 : BitVec 1 := Scalar.cmpi .sge v66 v27
  let v69 : BitVec 32 := Scalar.extui v68
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v70 : BitVec 1 := Scalar.cmpi .sge v66 v46
  let v71 : BitVec 32 := Scalar.extui v70
  let v72 : BitVec 32 := Scalar.addi v69 v71
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v73 : BitVec 1 := Scalar.cmpi .sge v66 v65
  let v74 : BitVec 32 := Scalar.extui v73
  let v75 : BitVec 32 := Scalar.addi v72 v74
  let c64_i32 : BitVec 32 := 64#32
  let v76 : BitVec 32 := Scalar.addi v66 c64_i32
  let c1_i32_22 : BitVec 32 := 1#32
  let v77 : BitVec 32 := Scalar.subi v76 c1_i32_22
  let v78 : BitVec 1 := Scalar.cmpi .sge v77 v27
  let v79 : BitVec 32 := Scalar.extui v78
  let v80 : BitVec 1 := Scalar.cmpi .sge v77 v46
  let v81 : BitVec 32 := Scalar.extui v80
  let v82 : BitVec 32 := Scalar.addi v79 v81
  let v83 : BitVec 1 := Scalar.cmpi .sge v77 v65
  let v84 : BitVec 32 := Scalar.extui v83
  let v85 : BitVec 32 := Scalar.addi v82 v84
  let v93 : BitVec 1 := Scalar.cmpi .eq v75 v85
  let v94 : BitVec 32 := Scalar.extui v93
  let c0_i32_31 : BitVec 32 := 0#32
  let v95 : BitVec 1 := Scalar.cmpi .ne v94 c0_i32_31
  v95

def k0_off6 (i : grid0.Coords) (v1124 : BitVec 32) : Fin 2 → Nat :=
  let c2500_i32 : BitVec 32 := 2500#32
  let arg0 : BitVec 32 := BitVec.ofNat 32 (i 0).val
  let c2048_i32 : BitVec 32 := 2048#32
  let v0 : BitVec 32 := Scalar.muli arg0 c2048_i32
  let c0_i32_21 : BitVec 32 := 0#32
  let v66 : BitVec 32 := Scalar.addi v0 c0_i32_21
  let v67 : BitVec 32 := Scalar.addi c2500_i32 v66
  let v1125 : BitVec 32 := Scalar.subi v67 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk2 (i : grid0.Coords) (v2 : BitVec 32) (v4 : BitVec 32) (v6 : BitVec 32) (v8 : BitVec 32) (v1124 : BitVec 32) : Prop :=
  (∀ (k0_h1 : k0_cond1 i v2 v4 v6 v8 = 1#1), ∀ a, (k0_off6 i v1124) a + S72x512.size a ≤ S5000x512.size a)
theorem k0_off6_inb : ∀ (i : grid0.Coords) (v2 : BitVec 32) (v4 : BitVec 32) (v6 : BitVec 32) (v8 : BitVec 32) (v1124 : BitVec 32) (k0_hw2 : k0_chk2 i v2 v4 v6 v8 v1124), ∀ (k0_h1 : k0_cond1 i v2 v4 v6 v8 = 1#1), ∀ a, (k0_off6 i v1124) a + S72x512.size a ≤ S5000x512.size a := fun i v2 v4 v6 v8 v1124 k0_hw2 k0_h1 => k0_hw2 k0_h1

def k0_off7 (i : grid0.Coords) (v2 : BitVec 32) : Fin 2 → Nat :=
  let c2500_i32 : BitVec 32 := 2500#32
  let arg0 : BitVec 32 := BitVec.ofNat 32 (i 0).val
  let c2048_i32 : BitVec 32 := 2048#32
  let v0 : BitVec 32 := Scalar.muli arg0 c2048_i32
  let c0_i32_21 : BitVec 32 := 0#32
  let v66 : BitVec 32 := Scalar.addi v0 c0_i32_21
  let v67 : BitVec 32 := Scalar.addi c2500_i32 v66
  let v1136 : BitVec 32 := Scalar.subi v67 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond10 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c0_i32_21 : BitVec 32 := 0#32
  let v66 : BitVec 32 := Scalar.addi v0 c0_i32_21
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v68 : BitVec 1 := Scalar.cmpi .sge v66 v27
  let v69 : BitVec 32 := Scalar.extui v68
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v70 : BitVec 1 := Scalar.cmpi .sge v66 v46
  let v71 : BitVec 32 := Scalar.extui v70
  let v72 : BitVec 32 := Scalar.addi v69 v71
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v73 : BitVec 1 := Scalar.cmpi .sge v66 v65
  let v74 : BitVec 32 := Scalar.extui v73
  let v75 : BitVec 32 := Scalar.addi v72 v74
  let c64_i32 : BitVec 32 := 64#32
  let v76 : BitVec 32 := Scalar.addi v66 c64_i32
  let c1_i32_22 : BitVec 32 := 1#32
  let v77 : BitVec 32 := Scalar.subi v76 c1_i32_22
  let v78 : BitVec 1 := Scalar.cmpi .sge v77 v27
  let v79 : BitVec 32 := Scalar.extui v78
  let v80 : BitVec 1 := Scalar.cmpi .sge v77 v46
  let v81 : BitVec 32 := Scalar.extui v80
  let v82 : BitVec 32 := Scalar.addi v79 v81
  let v83 : BitVec 1 := Scalar.cmpi .sge v77 v65
  let v84 : BitVec 32 := Scalar.extui v83
  let v85 : BitVec 32 := Scalar.addi v82 v84
  let v96 : BitVec 1 := Scalar.cmpi .ne v75 v85
  let v97 : BitVec 32 := Scalar.extui v96
  let c0_i32_32 : BitVec 32 := 0#32
  let v98 : BitVec 1 := Scalar.cmpi .ne v97 c0_i32_32
  v98

def k0_off8 (i : grid0.Coords) (v4 : BitVec 32) : Fin 2 → Nat :=
  let c2500_i32 : BitVec 32 := 2500#32
  let arg0 : BitVec 32 := BitVec.ofNat 32 (i 0).val
  let c2048_i32 : BitVec 32 := 2048#32
  let v0 : BitVec 32 := Scalar.muli arg0 c2048_i32
  let c0_i32_21 : BitVec 32 := 0#32
  let v66 : BitVec 32 := Scalar.addi v0 c0_i32_21
  let v67 : BitVec 32 := Scalar.addi c2500_i32 v66
  let v1148 : BitVec 32 := Scalar.subi v67 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off9 (i : grid0.Coords) (v6 : BitVec 32) : Fin 2 → Nat :=
  let c2500_i32 : BitVec 32 := 2500#32
  let arg0 : BitVec 32 := BitVec.ofNat 32 (i 0).val
  let c2048_i32 : BitVec 32 := 2048#32
  let v0 : BitVec 32 := Scalar.muli arg0 c2048_i32
  let c0_i32_21 : BitVec 32 := 0#32
  let v66 : BitVec 32 := Scalar.addi v0 c0_i32_21
  let v67 : BitVec 32 := Scalar.addi c2500_i32 v66
  let v1163 : BitVec 32 := Scalar.subi v67 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off10 (i : grid0.Coords) (v8 : BitVec 32) : Fin 2 → Nat :=
  let c2500_i32 : BitVec 32 := 2500#32
  let arg0 : BitVec 32 := BitVec.ofNat 32 (i 0).val
  let c2048_i32 : BitVec 32 := 2048#32
  let v0 : BitVec 32 := Scalar.muli arg0 c2048_i32
  let c0_i32_21 : BitVec 32 := 0#32
  let v66 : BitVec 32 := Scalar.addi v0 c0_i32_21
  let v67 : BitVec 32 := Scalar.addi c2500_i32 v66
  let v1178 : BitVec 32 := Scalar.subi v67 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off11 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c64_i32_33 : BitVec 32 := 64#32
  let v99 : BitVec 32 := Scalar.addi v0 c64_i32_33
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v101 : BitVec 1 := Scalar.cmpi .sge v99 v27
  let v102 : BitVec 32 := Scalar.extui v101
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v103 : BitVec 1 := Scalar.cmpi .sge v99 v46
  let v104 : BitVec 32 := Scalar.extui v103
  let v105 : BitVec 32 := Scalar.addi v102 v104
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v106 : BitVec 1 := Scalar.cmpi .sge v99 v65
  let v107 : BitVec 32 := Scalar.extui v106
  let v108 : BitVec 32 := Scalar.addi v105 v107
  let v1123 : Index := Scalar.indexCast v108
  ![v1122.toNat, v1123.toNat]
def k0_cond11 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c64_i32_33 : BitVec 32 := 64#32
  let v99 : BitVec 32 := Scalar.addi v0 c64_i32_33
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v101 : BitVec 1 := Scalar.cmpi .sge v99 v27
  let v102 : BitVec 32 := Scalar.extui v101
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v103 : BitVec 1 := Scalar.cmpi .sge v99 v46
  let v104 : BitVec 32 := Scalar.extui v103
  let v105 : BitVec 32 := Scalar.addi v102 v104
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v106 : BitVec 1 := Scalar.cmpi .sge v99 v65
  let v107 : BitVec 32 := Scalar.extui v106
  let v108 : BitVec 32 := Scalar.addi v105 v107
  let c64_i32_35 : BitVec 32 := 64#32
  let v109 : BitVec 32 := Scalar.addi v99 c64_i32_35
  let c1_i32_36 : BitVec 32 := 1#32
  let v110 : BitVec 32 := Scalar.subi v109 c1_i32_36
  let v111 : BitVec 1 := Scalar.cmpi .sge v110 v27
  let v112 : BitVec 32 := Scalar.extui v111
  let v113 : BitVec 1 := Scalar.cmpi .sge v110 v46
  let v114 : BitVec 32 := Scalar.extui v113
  let v115 : BitVec 32 := Scalar.addi v112 v114
  let v116 : BitVec 1 := Scalar.cmpi .sge v110 v65
  let v117 : BitVec 32 := Scalar.extui v116
  let v118 : BitVec 32 := Scalar.addi v115 v117
  let v126 : BitVec 1 := Scalar.cmpi .eq v108 v118
  let v127 : BitVec 32 := Scalar.extui v126
  let c0_i32_45 : BitVec 32 := 0#32
  let v128 : BitVec 1 := Scalar.cmpi .ne v127 c0_i32_45
  v128

def k0_off12 (i : grid0.Coords) (v1124 : BitVec 32) : Fin 2 → Nat :=
  let c2500_i32_34 : BitVec 32 := 2500#32
  let arg0 : BitVec 32 := BitVec.ofNat 32 (i 0).val
  let c2048_i32 : BitVec 32 := 2048#32
  let v0 : BitVec 32 := Scalar.muli arg0 c2048_i32
  let c64_i32_33 : BitVec 32 := 64#32
  let v99 : BitVec 32 := Scalar.addi v0 c64_i32_33
  let v100 : BitVec 32 := Scalar.addi c2500_i32_34 v99
  let v1125 : BitVec 32 := Scalar.subi v100 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk3 (i : grid0.Coords) (v2 : BitVec 32) (v4 : BitVec 32) (v6 : BitVec 32) (v8 : BitVec 32) (v1124 : BitVec 32) : Prop :=
  (∀ (k0_h11 : k0_cond11 i v2 v4 v6 v8 = 1#1), ∀ a, (k0_off12 i v1124) a + S72x512.size a ≤ S5000x512.size a)
theorem k0_off12_inb : ∀ (i : grid0.Coords) (v2 : BitVec 32) (v4 : BitVec 32) (v6 : BitVec 32) (v8 : BitVec 32) (v1124 : BitVec 32) (k0_hw3 : k0_chk3 i v2 v4 v6 v8 v1124), ∀ (k0_h11 : k0_cond11 i v2 v4 v6 v8 = 1#1), ∀ a, (k0_off12 i v1124) a + S72x512.size a ≤ S5000x512.size a := fun i v2 v4 v6 v8 v1124 k0_hw3 k0_h11 => k0_hw3 k0_h11

def k0_off13 (i : grid0.Coords) (v2 : BitVec 32) : Fin 2 → Nat :=
  let c2500_i32_34 : BitVec 32 := 2500#32
  let arg0 : BitVec 32 := BitVec.ofNat 32 (i 0).val
  let c2048_i32 : BitVec 32 := 2048#32
  let v0 : BitVec 32 := Scalar.muli arg0 c2048_i32
  let c64_i32_33 : BitVec 32 := 64#32
  let v99 : BitVec 32 := Scalar.addi v0 c64_i32_33
  let v100 : BitVec 32 := Scalar.addi c2500_i32_34 v99
  let v1136 : BitVec 32 := Scalar.subi v100 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond20 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c64_i32_33 : BitVec 32 := 64#32
  let v99 : BitVec 32 := Scalar.addi v0 c64_i32_33
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v101 : BitVec 1 := Scalar.cmpi .sge v99 v27
  let v102 : BitVec 32 := Scalar.extui v101
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v103 : BitVec 1 := Scalar.cmpi .sge v99 v46
  let v104 : BitVec 32 := Scalar.extui v103
  let v105 : BitVec 32 := Scalar.addi v102 v104
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v106 : BitVec 1 := Scalar.cmpi .sge v99 v65
  let v107 : BitVec 32 := Scalar.extui v106
  let v108 : BitVec 32 := Scalar.addi v105 v107
  let c64_i32_35 : BitVec 32 := 64#32
  let v109 : BitVec 32 := Scalar.addi v99 c64_i32_35
  let c1_i32_36 : BitVec 32 := 1#32
  let v110 : BitVec 32 := Scalar.subi v109 c1_i32_36
  let v111 : BitVec 1 := Scalar.cmpi .sge v110 v27
  let v112 : BitVec 32 := Scalar.extui v111
  let v113 : BitVec 1 := Scalar.cmpi .sge v110 v46
  let v114 : BitVec 32 := Scalar.extui v113
  let v115 : BitVec 32 := Scalar.addi v112 v114
  let v116 : BitVec 1 := Scalar.cmpi .sge v110 v65
  let v117 : BitVec 32 := Scalar.extui v116
  let v118 : BitVec 32 := Scalar.addi v115 v117
  let v129 : BitVec 1 := Scalar.cmpi .ne v108 v118
  let v130 : BitVec 32 := Scalar.extui v129
  let c0_i32_46 : BitVec 32 := 0#32
  let v131 : BitVec 1 := Scalar.cmpi .ne v130 c0_i32_46
  v131

def k0_off14 (i : grid0.Coords) (v4 : BitVec 32) : Fin 2 → Nat :=
  let c2500_i32_34 : BitVec 32 := 2500#32
  let arg0 : BitVec 32 := BitVec.ofNat 32 (i 0).val
  let c2048_i32 : BitVec 32 := 2048#32
  let v0 : BitVec 32 := Scalar.muli arg0 c2048_i32
  let c64_i32_33 : BitVec 32 := 64#32
  let v99 : BitVec 32 := Scalar.addi v0 c64_i32_33
  let v100 : BitVec 32 := Scalar.addi c2500_i32_34 v99
  let v1148 : BitVec 32 := Scalar.subi v100 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off15 (i : grid0.Coords) (v6 : BitVec 32) : Fin 2 → Nat :=
  let c2500_i32_34 : BitVec 32 := 2500#32
  let arg0 : BitVec 32 := BitVec.ofNat 32 (i 0).val
  let c2048_i32 : BitVec 32 := 2048#32
  let v0 : BitVec 32 := Scalar.muli arg0 c2048_i32
  let c64_i32_33 : BitVec 32 := 64#32
  let v99 : BitVec 32 := Scalar.addi v0 c64_i32_33
  let v100 : BitVec 32 := Scalar.addi c2500_i32_34 v99
  let v1163 : BitVec 32 := Scalar.subi v100 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off16 (i : grid0.Coords) (v8 : BitVec 32) : Fin 2 → Nat :=
  let c2500_i32_34 : BitVec 32 := 2500#32
  let arg0 : BitVec 32 := BitVec.ofNat 32 (i 0).val
  let c2048_i32 : BitVec 32 := 2048#32
  let v0 : BitVec 32 := Scalar.muli arg0 c2048_i32
  let c64_i32_33 : BitVec 32 := 64#32
  let v99 : BitVec 32 := Scalar.addi v0 c64_i32_33
  let v100 : BitVec 32 := Scalar.addi c2500_i32_34 v99
  let v1178 : BitVec 32 := Scalar.subi v100 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off17 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c128_i32 : BitVec 32 := 128#32
  let v132 : BitVec 32 := Scalar.addi v0 c128_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v134 : BitVec 1 := Scalar.cmpi .sge v132 v27
  let v135 : BitVec 32 := Scalar.extui v134
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v136 : BitVec 1 := Scalar.cmpi .sge v132 v46
  let v137 : BitVec 32 := Scalar.extui v136
  let v138 : BitVec 32 := Scalar.addi v135 v137
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v139 : BitVec 1 := Scalar.cmpi .sge v132 v65
  let v140 : BitVec 32 := Scalar.extui v139
  let v141 : BitVec 32 := Scalar.addi v138 v140
  let v1123 : Index := Scalar.indexCast v141
  ![v1122.toNat, v1123.toNat]
def k0_cond21 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c128_i32 : BitVec 32 := 128#32
  let v132 : BitVec 32 := Scalar.addi v0 c128_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v134 : BitVec 1 := Scalar.cmpi .sge v132 v27
  let v135 : BitVec 32 := Scalar.extui v134
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v136 : BitVec 1 := Scalar.cmpi .sge v132 v46
  let v137 : BitVec 32 := Scalar.extui v136
  let v138 : BitVec 32 := Scalar.addi v135 v137
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v139 : BitVec 1 := Scalar.cmpi .sge v132 v65
  let v140 : BitVec 32 := Scalar.extui v139
  let v141 : BitVec 32 := Scalar.addi v138 v140
  let c64_i32_48 : BitVec 32 := 64#32
  let v142 : BitVec 32 := Scalar.addi v132 c64_i32_48
  let c1_i32_49 : BitVec 32 := 1#32
  let v143 : BitVec 32 := Scalar.subi v142 c1_i32_49
  let v144 : BitVec 1 := Scalar.cmpi .sge v143 v27
  let v145 : BitVec 32 := Scalar.extui v144
  let v146 : BitVec 1 := Scalar.cmpi .sge v143 v46
  let v147 : BitVec 32 := Scalar.extui v146
  let v148 : BitVec 32 := Scalar.addi v145 v147
  let v149 : BitVec 1 := Scalar.cmpi .sge v143 v65
  let v150 : BitVec 32 := Scalar.extui v149
  let v151 : BitVec 32 := Scalar.addi v148 v150
  let v159 : BitVec 1 := Scalar.cmpi .eq v141 v151
  let v160 : BitVec 32 := Scalar.extui v159
  let c0_i32_58 : BitVec 32 := 0#32
  let v161 : BitVec 1 := Scalar.cmpi .ne v160 c0_i32_58
  v161

def k0_off18 (i : grid0.Coords) (v1124 : BitVec 32) : Fin 2 → Nat :=
  let c2500_i32_47 : BitVec 32 := 2500#32
  let arg0 : BitVec 32 := BitVec.ofNat 32 (i 0).val
  let c2048_i32 : BitVec 32 := 2048#32
  let v0 : BitVec 32 := Scalar.muli arg0 c2048_i32
  let c128_i32 : BitVec 32 := 128#32
  let v132 : BitVec 32 := Scalar.addi v0 c128_i32
  let v133 : BitVec 32 := Scalar.addi c2500_i32_47 v132
  let v1125 : BitVec 32 := Scalar.subi v133 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk4 (i : grid0.Coords) (v2 : BitVec 32) (v4 : BitVec 32) (v6 : BitVec 32) (v8 : BitVec 32) (v1124 : BitVec 32) : Prop :=
  (∀ (k0_h21 : k0_cond21 i v2 v4 v6 v8 = 1#1), ∀ a, (k0_off18 i v1124) a + S72x512.size a ≤ S5000x512.size a)
theorem k0_off18_inb : ∀ (i : grid0.Coords) (v2 : BitVec 32) (v4 : BitVec 32) (v6 : BitVec 32) (v8 : BitVec 32) (v1124 : BitVec 32) (k0_hw4 : k0_chk4 i v2 v4 v6 v8 v1124), ∀ (k0_h21 : k0_cond21 i v2 v4 v6 v8 = 1#1), ∀ a, (k0_off18 i v1124) a + S72x512.size a ≤ S5000x512.size a := fun i v2 v4 v6 v8 v1124 k0_hw4 k0_h21 => k0_hw4 k0_h21

def k0_off19 (i : grid0.Coords) (v2 : BitVec 32) : Fin 2 → Nat :=
  let c2500_i32_47 : BitVec 32 := 2500#32
  let arg0 : BitVec 32 := BitVec.ofNat 32 (i 0).val
  let c2048_i32 : BitVec 32 := 2048#32
  let v0 : BitVec 32 := Scalar.muli arg0 c2048_i32
  let c128_i32 : BitVec 32 := 128#32
  let v132 : BitVec 32 := Scalar.addi v0 c128_i32
  let v133 : BitVec 32 := Scalar.addi c2500_i32_47 v132
  let v1136 : BitVec 32 := Scalar.subi v133 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond30 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c128_i32 : BitVec 32 := 128#32
  let v132 : BitVec 32 := Scalar.addi v0 c128_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v134 : BitVec 1 := Scalar.cmpi .sge v132 v27
  let v135 : BitVec 32 := Scalar.extui v134
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v136 : BitVec 1 := Scalar.cmpi .sge v132 v46
  let v137 : BitVec 32 := Scalar.extui v136
  let v138 : BitVec 32 := Scalar.addi v135 v137
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v139 : BitVec 1 := Scalar.cmpi .sge v132 v65
  let v140 : BitVec 32 := Scalar.extui v139
  let v141 : BitVec 32 := Scalar.addi v138 v140
  let c64_i32_48 : BitVec 32 := 64#32
  let v142 : BitVec 32 := Scalar.addi v132 c64_i32_48
  let c1_i32_49 : BitVec 32 := 1#32
  let v143 : BitVec 32 := Scalar.subi v142 c1_i32_49
  let v144 : BitVec 1 := Scalar.cmpi .sge v143 v27
  let v145 : BitVec 32 := Scalar.extui v144
  let v146 : BitVec 1 := Scalar.cmpi .sge v143 v46
  let v147 : BitVec 32 := Scalar.extui v146
  let v148 : BitVec 32 := Scalar.addi v145 v147
  let v149 : BitVec 1 := Scalar.cmpi .sge v143 v65
  let v150 : BitVec 32 := Scalar.extui v149
  let v151 : BitVec 32 := Scalar.addi v148 v150
  let v162 : BitVec 1 := Scalar.cmpi .ne v141 v151
  let v163 : BitVec 32 := Scalar.extui v162
  let c0_i32_59 : BitVec 32 := 0#32
  let v164 : BitVec 1 := Scalar.cmpi .ne v163 c0_i32_59
  v164

def k0_off20 (i : grid0.Coords) (v4 : BitVec 32) : Fin 2 → Nat :=
  let c2500_i32_47 : BitVec 32 := 2500#32
  let arg0 : BitVec 32 := BitVec.ofNat 32 (i 0).val
  let c2048_i32 : BitVec 32 := 2048#32
  let v0 : BitVec 32 := Scalar.muli arg0 c2048_i32
  let c128_i32 : BitVec 32 := 128#32
  let v132 : BitVec 32 := Scalar.addi v0 c128_i32
  let v133 : BitVec 32 := Scalar.addi c2500_i32_47 v132
  let v1148 : BitVec 32 := Scalar.subi v133 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off21 (i : grid0.Coords) (v6 : BitVec 32) : Fin 2 → Nat :=
  let c2500_i32_47 : BitVec 32 := 2500#32
  let arg0 : BitVec 32 := BitVec.ofNat 32 (i 0).val
  let c2048_i32 : BitVec 32 := 2048#32
  let v0 : BitVec 32 := Scalar.muli arg0 c2048_i32
  let c128_i32 : BitVec 32 := 128#32
  let v132 : BitVec 32 := Scalar.addi v0 c128_i32
  let v133 : BitVec 32 := Scalar.addi c2500_i32_47 v132
  let v1163 : BitVec 32 := Scalar.subi v133 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off22 (i : grid0.Coords) (v8 : BitVec 32) : Fin 2 → Nat :=
  let c2500_i32_47 : BitVec 32 := 2500#32
  let arg0 : BitVec 32 := BitVec.ofNat 32 (i 0).val
  let c2048_i32 : BitVec 32 := 2048#32
  let v0 : BitVec 32 := Scalar.muli arg0 c2048_i32
  let c128_i32 : BitVec 32 := 128#32
  let v132 : BitVec 32 := Scalar.addi v0 c128_i32
  let v133 : BitVec 32 := Scalar.addi c2500_i32_47 v132
  let v1178 : BitVec 32 := Scalar.subi v133 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off23 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c192_i32 : BitVec 32 := 192#32
  let v165 : BitVec 32 := Scalar.addi v0 c192_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v167 : BitVec 1 := Scalar.cmpi .sge v165 v27
  let v168 : BitVec 32 := Scalar.extui v167
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v169 : BitVec 1 := Scalar.cmpi .sge v165 v46
  let v170 : BitVec 32 := Scalar.extui v169
  let v171 : BitVec 32 := Scalar.addi v168 v170
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v172 : BitVec 1 := Scalar.cmpi .sge v165 v65
  let v173 : BitVec 32 := Scalar.extui v172
  let v174 : BitVec 32 := Scalar.addi v171 v173
  let v1123 : Index := Scalar.indexCast v174
  ![v1122.toNat, v1123.toNat]
def k0_cond31 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c192_i32 : BitVec 32 := 192#32
  let v165 : BitVec 32 := Scalar.addi v0 c192_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v167 : BitVec 1 := Scalar.cmpi .sge v165 v27
  let v168 : BitVec 32 := Scalar.extui v167
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v169 : BitVec 1 := Scalar.cmpi .sge v165 v46
  let v170 : BitVec 32 := Scalar.extui v169
  let v171 : BitVec 32 := Scalar.addi v168 v170
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v172 : BitVec 1 := Scalar.cmpi .sge v165 v65
  let v173 : BitVec 32 := Scalar.extui v172
  let v174 : BitVec 32 := Scalar.addi v171 v173
  let c64_i32_61 : BitVec 32 := 64#32
  let v175 : BitVec 32 := Scalar.addi v165 c64_i32_61
  let c1_i32_62 : BitVec 32 := 1#32
  let v176 : BitVec 32 := Scalar.subi v175 c1_i32_62
  let v177 : BitVec 1 := Scalar.cmpi .sge v176 v27
  let v178 : BitVec 32 := Scalar.extui v177
  let v179 : BitVec 1 := Scalar.cmpi .sge v176 v46
  let v180 : BitVec 32 := Scalar.extui v179
  let v181 : BitVec 32 := Scalar.addi v178 v180
  let v182 : BitVec 1 := Scalar.cmpi .sge v176 v65
  let v183 : BitVec 32 := Scalar.extui v182
  let v184 : BitVec 32 := Scalar.addi v181 v183
  let v192 : BitVec 1 := Scalar.cmpi .eq v174 v184
  let v193 : BitVec 32 := Scalar.extui v192
  let c0_i32_71 : BitVec 32 := 0#32
  let v194 : BitVec 1 := Scalar.cmpi .ne v193 c0_i32_71
  v194

def k0_off24 (i : grid0.Coords) (v1124 : BitVec 32) : Fin 2 → Nat :=
  let c2500_i32_60 : BitVec 32 := 2500#32
  let arg0 : BitVec 32 := BitVec.ofNat 32 (i 0).val
  let c2048_i32 : BitVec 32 := 2048#32
  let v0 : BitVec 32 := Scalar.muli arg0 c2048_i32
  let c192_i32 : BitVec 32 := 192#32
  let v165 : BitVec 32 := Scalar.addi v0 c192_i32
  let v166 : BitVec 32 := Scalar.addi c2500_i32_60 v165
  let v1125 : BitVec 32 := Scalar.subi v166 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk5 (i : grid0.Coords) (v2 : BitVec 32) (v4 : BitVec 32) (v6 : BitVec 32) (v8 : BitVec 32) (v1124 : BitVec 32) : Prop :=
  (∀ (k0_h31 : k0_cond31 i v2 v4 v6 v8 = 1#1), ∀ a, (k0_off24 i v1124) a + S72x512.size a ≤ S5000x512.size a)
theorem k0_off24_inb : ∀ (i : grid0.Coords) (v2 : BitVec 32) (v4 : BitVec 32) (v6 : BitVec 32) (v8 : BitVec 32) (v1124 : BitVec 32) (k0_hw5 : k0_chk5 i v2 v4 v6 v8 v1124), ∀ (k0_h31 : k0_cond31 i v2 v4 v6 v8 = 1#1), ∀ a, (k0_off24 i v1124) a + S72x512.size a ≤ S5000x512.size a := fun i v2 v4 v6 v8 v1124 k0_hw5 k0_h31 => k0_hw5 k0_h31

def k0_off25 (i : grid0.Coords) (v2 : BitVec 32) : Fin 2 → Nat :=
  let c2500_i32_60 : BitVec 32 := 2500#32
  let arg0 : BitVec 32 := BitVec.ofNat 32 (i 0).val
  let c2048_i32 : BitVec 32 := 2048#32
  let v0 : BitVec 32 := Scalar.muli arg0 c2048_i32
  let c192_i32 : BitVec 32 := 192#32
  let v165 : BitVec 32 := Scalar.addi v0 c192_i32
  let v166 : BitVec 32 := Scalar.addi c2500_i32_60 v165
  let v1136 : BitVec 32 := Scalar.subi v166 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond40 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c192_i32 : BitVec 32 := 192#32
  let v165 : BitVec 32 := Scalar.addi v0 c192_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v167 : BitVec 1 := Scalar.cmpi .sge v165 v27
  let v168 : BitVec 32 := Scalar.extui v167
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v169 : BitVec 1 := Scalar.cmpi .sge v165 v46
  let v170 : BitVec 32 := Scalar.extui v169
  let v171 : BitVec 32 := Scalar.addi v168 v170
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v172 : BitVec 1 := Scalar.cmpi .sge v165 v65
  let v173 : BitVec 32 := Scalar.extui v172
  let v174 : BitVec 32 := Scalar.addi v171 v173
  let c64_i32_61 : BitVec 32 := 64#32
  let v175 : BitVec 32 := Scalar.addi v165 c64_i32_61
  let c1_i32_62 : BitVec 32 := 1#32
  let v176 : BitVec 32 := Scalar.subi v175 c1_i32_62
  let v177 : BitVec 1 := Scalar.cmpi .sge v176 v27
  let v178 : BitVec 32 := Scalar.extui v177
  let v179 : BitVec 1 := Scalar.cmpi .sge v176 v46
  let v180 : BitVec 32 := Scalar.extui v179
  let v181 : BitVec 32 := Scalar.addi v178 v180
  let v182 : BitVec 1 := Scalar.cmpi .sge v176 v65
  let v183 : BitVec 32 := Scalar.extui v182
  let v184 : BitVec 32 := Scalar.addi v181 v183
  let v195 : BitVec 1 := Scalar.cmpi .ne v174 v184
  let v196 : BitVec 32 := Scalar.extui v195
  let c0_i32_72 : BitVec 32 := 0#32
  let v197 : BitVec 1 := Scalar.cmpi .ne v196 c0_i32_72
  v197

def k0_off26 (i : grid0.Coords) (v4 : BitVec 32) : Fin 2 → Nat :=
  let c2500_i32_60 : BitVec 32 := 2500#32
  let arg0 : BitVec 32 := BitVec.ofNat 32 (i 0).val
  let c2048_i32 : BitVec 32 := 2048#32
  let v0 : BitVec 32 := Scalar.muli arg0 c2048_i32
  let c192_i32 : BitVec 32 := 192#32
  let v165 : BitVec 32 := Scalar.addi v0 c192_i32
  let v166 : BitVec 32 := Scalar.addi c2500_i32_60 v165
  let v1148 : BitVec 32 := Scalar.subi v166 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off27 (i : grid0.Coords) (v6 : BitVec 32) : Fin 2 → Nat :=
  let c2500_i32_60 : BitVec 32 := 2500#32
  let arg0 : BitVec 32 := BitVec.ofNat 32 (i 0).val
  let c2048_i32 : BitVec 32 := 2048#32
  let v0 : BitVec 32 := Scalar.muli arg0 c2048_i32
  let c192_i32 : BitVec 32 := 192#32
  let v165 : BitVec 32 := Scalar.addi v0 c192_i32
  let v166 : BitVec 32 := Scalar.addi c2500_i32_60 v165
  let v1163 : BitVec 32 := Scalar.subi v166 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off28 (i : grid0.Coords) (v8 : BitVec 32) : Fin 2 → Nat :=
  let c2500_i32_60 : BitVec 32 := 2500#32
  let arg0 : BitVec 32 := BitVec.ofNat 32 (i 0).val
  let c2048_i32 : BitVec 32 := 2048#32
  let v0 : BitVec 32 := Scalar.muli arg0 c2048_i32
  let c192_i32 : BitVec 32 := 192#32
  let v165 : BitVec 32 := Scalar.addi v0 c192_i32
  let v166 : BitVec 32 := Scalar.addi c2500_i32_60 v165
  let v1178 : BitVec 32 := Scalar.subi v166 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off29 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c256_i32 : BitVec 32 := 256#32
  let v198 : BitVec 32 := Scalar.addi v0 c256_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v200 : BitVec 1 := Scalar.cmpi .sge v198 v27
  let v201 : BitVec 32 := Scalar.extui v200
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v202 : BitVec 1 := Scalar.cmpi .sge v198 v46
  let v203 : BitVec 32 := Scalar.extui v202
  let v204 : BitVec 32 := Scalar.addi v201 v203
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v205 : BitVec 1 := Scalar.cmpi .sge v198 v65
  let v206 : BitVec 32 := Scalar.extui v205
  let v207 : BitVec 32 := Scalar.addi v204 v206
  let v1123 : Index := Scalar.indexCast v207
  ![v1122.toNat, v1123.toNat]
def k0_cond41 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c256_i32 : BitVec 32 := 256#32
  let v198 : BitVec 32 := Scalar.addi v0 c256_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v200 : BitVec 1 := Scalar.cmpi .sge v198 v27
  let v201 : BitVec 32 := Scalar.extui v200
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v202 : BitVec 1 := Scalar.cmpi .sge v198 v46
  let v203 : BitVec 32 := Scalar.extui v202
  let v204 : BitVec 32 := Scalar.addi v201 v203
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v205 : BitVec 1 := Scalar.cmpi .sge v198 v65
  let v206 : BitVec 32 := Scalar.extui v205
  let v207 : BitVec 32 := Scalar.addi v204 v206
  let c64_i32_74 : BitVec 32 := 64#32
  let v208 : BitVec 32 := Scalar.addi v198 c64_i32_74
  let c1_i32_75 : BitVec 32 := 1#32
  let v209 : BitVec 32 := Scalar.subi v208 c1_i32_75
  let v210 : BitVec 1 := Scalar.cmpi .sge v209 v27
  let v211 : BitVec 32 := Scalar.extui v210
  let v212 : BitVec 1 := Scalar.cmpi .sge v209 v46
  let v213 : BitVec 32 := Scalar.extui v212
  let v214 : BitVec 32 := Scalar.addi v211 v213
  let v215 : BitVec 1 := Scalar.cmpi .sge v209 v65
  let v216 : BitVec 32 := Scalar.extui v215
  let v217 : BitVec 32 := Scalar.addi v214 v216
  let v225 : BitVec 1 := Scalar.cmpi .eq v207 v217
  let v226 : BitVec 32 := Scalar.extui v225
  let c0_i32_84 : BitVec 32 := 0#32
  let v227 : BitVec 1 := Scalar.cmpi .ne v226 c0_i32_84
  v227

def k0_off30 (i : grid0.Coords) (v1124 : BitVec 32) : Fin 2 → Nat :=
  let c2500_i32_73 : BitVec 32 := 2500#32
  let arg0 : BitVec 32 := BitVec.ofNat 32 (i 0).val
  let c2048_i32 : BitVec 32 := 2048#32
  let v0 : BitVec 32 := Scalar.muli arg0 c2048_i32
  let c256_i32 : BitVec 32 := 256#32
  let v198 : BitVec 32 := Scalar.addi v0 c256_i32
  let v199 : BitVec 32 := Scalar.addi c2500_i32_73 v198
  let v1125 : BitVec 32 := Scalar.subi v199 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk6 (i : grid0.Coords) (v2 : BitVec 32) (v4 : BitVec 32) (v6 : BitVec 32) (v8 : BitVec 32) (v1124 : BitVec 32) : Prop :=
  (∀ (k0_h41 : k0_cond41 i v2 v4 v6 v8 = 1#1), ∀ a, (k0_off30 i v1124) a + S72x512.size a ≤ S5000x512.size a)
theorem k0_off30_inb : ∀ (i : grid0.Coords) (v2 : BitVec 32) (v4 : BitVec 32) (v6 : BitVec 32) (v8 : BitVec 32) (v1124 : BitVec 32) (k0_hw6 : k0_chk6 i v2 v4 v6 v8 v1124), ∀ (k0_h41 : k0_cond41 i v2 v4 v6 v8 = 1#1), ∀ a, (k0_off30 i v1124) a + S72x512.size a ≤ S5000x512.size a := fun i v2 v4 v6 v8 v1124 k0_hw6 k0_h41 => k0_hw6 k0_h41

def k0_off31 (i : grid0.Coords) (v2 : BitVec 32) : Fin 2 → Nat :=
  let c2500_i32_73 : BitVec 32 := 2500#32
  let arg0 : BitVec 32 := BitVec.ofNat 32 (i 0).val
  let c2048_i32 : BitVec 32 := 2048#32
  let v0 : BitVec 32 := Scalar.muli arg0 c2048_i32
  let c256_i32 : BitVec 32 := 256#32
  let v198 : BitVec 32 := Scalar.addi v0 c256_i32
  let v199 : BitVec 32 := Scalar.addi c2500_i32_73 v198
  let v1136 : BitVec 32 := Scalar.subi v199 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond50 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c256_i32 : BitVec 32 := 256#32
  let v198 : BitVec 32 := Scalar.addi v0 c256_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v200 : BitVec 1 := Scalar.cmpi .sge v198 v27
  let v201 : BitVec 32 := Scalar.extui v200
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v202 : BitVec 1 := Scalar.cmpi .sge v198 v46
  let v203 : BitVec 32 := Scalar.extui v202
  let v204 : BitVec 32 := Scalar.addi v201 v203
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v205 : BitVec 1 := Scalar.cmpi .sge v198 v65
  let v206 : BitVec 32 := Scalar.extui v205
  let v207 : BitVec 32 := Scalar.addi v204 v206
  let c64_i32_74 : BitVec 32 := 64#32
  let v208 : BitVec 32 := Scalar.addi v198 c64_i32_74
  let c1_i32_75 : BitVec 32 := 1#32
  let v209 : BitVec 32 := Scalar.subi v208 c1_i32_75
  let v210 : BitVec 1 := Scalar.cmpi .sge v209 v27
  let v211 : BitVec 32 := Scalar.extui v210
  let v212 : BitVec 1 := Scalar.cmpi .sge v209 v46
  let v213 : BitVec 32 := Scalar.extui v212
  let v214 : BitVec 32 := Scalar.addi v211 v213
  let v215 : BitVec 1 := Scalar.cmpi .sge v209 v65
  let v216 : BitVec 32 := Scalar.extui v215
  let v217 : BitVec 32 := Scalar.addi v214 v216
  let v228 : BitVec 1 := Scalar.cmpi .ne v207 v217
  let v229 : BitVec 32 := Scalar.extui v228
  let c0_i32_85 : BitVec 32 := 0#32
  let v230 : BitVec 1 := Scalar.cmpi .ne v229 c0_i32_85
  v230

def k0_off32 (i : grid0.Coords) (v4 : BitVec 32) : Fin 2 → Nat :=
  let c2500_i32_73 : BitVec 32 := 2500#32
  let arg0 : BitVec 32 := BitVec.ofNat 32 (i 0).val
  let c2048_i32 : BitVec 32 := 2048#32
  let v0 : BitVec 32 := Scalar.muli arg0 c2048_i32
  let c256_i32 : BitVec 32 := 256#32
  let v198 : BitVec 32 := Scalar.addi v0 c256_i32
  let v199 : BitVec 32 := Scalar.addi c2500_i32_73 v198
  let v1148 : BitVec 32 := Scalar.subi v199 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off33 (i : grid0.Coords) (v6 : BitVec 32) : Fin 2 → Nat :=
  let c2500_i32_73 : BitVec 32 := 2500#32
  let arg0 : BitVec 32 := BitVec.ofNat 32 (i 0).val
  let c2048_i32 : BitVec 32 := 2048#32
  let v0 : BitVec 32 := Scalar.muli arg0 c2048_i32
  let c256_i32 : BitVec 32 := 256#32
  let v198 : BitVec 32 := Scalar.addi v0 c256_i32
  let v199 : BitVec 32 := Scalar.addi c2500_i32_73 v198
  let v1163 : BitVec 32 := Scalar.subi v199 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off34 (i : grid0.Coords) (v8 : BitVec 32) : Fin 2 → Nat :=
  let c2500_i32_73 : BitVec 32 := 2500#32
  let arg0 : BitVec 32 := BitVec.ofNat 32 (i 0).val
  let c2048_i32 : BitVec 32 := 2048#32
  let v0 : BitVec 32 := Scalar.muli arg0 c2048_i32
  let c256_i32 : BitVec 32 := 256#32
  let v198 : BitVec 32 := Scalar.addi v0 c256_i32
  let v199 : BitVec 32 := Scalar.addi c2500_i32_73 v198
  let v1178 : BitVec 32 := Scalar.subi v199 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off35 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c320_i32 : BitVec 32 := 320#32
  let v231 : BitVec 32 := Scalar.addi v0 c320_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v233 : BitVec 1 := Scalar.cmpi .sge v231 v27
  let v234 : BitVec 32 := Scalar.extui v233
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v235 : BitVec 1 := Scalar.cmpi .sge v231 v46
  let v236 : BitVec 32 := Scalar.extui v235
  let v237 : BitVec 32 := Scalar.addi v234 v236
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v238 : BitVec 1 := Scalar.cmpi .sge v231 v65
  let v239 : BitVec 32 := Scalar.extui v238
  let v240 : BitVec 32 := Scalar.addi v237 v239
  let v1123 : Index := Scalar.indexCast v240
  ![v1122.toNat, v1123.toNat]
def k0_cond51 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c320_i32 : BitVec 32 := 320#32
  let v231 : BitVec 32 := Scalar.addi v0 c320_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v233 : BitVec 1 := Scalar.cmpi .sge v231 v27
  let v234 : BitVec 32 := Scalar.extui v233
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v235 : BitVec 1 := Scalar.cmpi .sge v231 v46
  let v236 : BitVec 32 := Scalar.extui v235
  let v237 : BitVec 32 := Scalar.addi v234 v236
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v238 : BitVec 1 := Scalar.cmpi .sge v231 v65
  let v239 : BitVec 32 := Scalar.extui v238
  let v240 : BitVec 32 := Scalar.addi v237 v239
  let c64_i32_87 : BitVec 32 := 64#32
  let v241 : BitVec 32 := Scalar.addi v231 c64_i32_87
  let c1_i32_88 : BitVec 32 := 1#32
  let v242 : BitVec 32 := Scalar.subi v241 c1_i32_88
  let v243 : BitVec 1 := Scalar.cmpi .sge v242 v27
  let v244 : BitVec 32 := Scalar.extui v243
  let v245 : BitVec 1 := Scalar.cmpi .sge v242 v46
  let v246 : BitVec 32 := Scalar.extui v245
  let v247 : BitVec 32 := Scalar.addi v244 v246
  let v248 : BitVec 1 := Scalar.cmpi .sge v242 v65
  let v249 : BitVec 32 := Scalar.extui v248
  let v250 : BitVec 32 := Scalar.addi v247 v249
  let v258 : BitVec 1 := Scalar.cmpi .eq v240 v250
  let v259 : BitVec 32 := Scalar.extui v258
  let c0_i32_97 : BitVec 32 := 0#32
  let v260 : BitVec 1 := Scalar.cmpi .ne v259 c0_i32_97
  v260

def k0_off36 (i : grid0.Coords) (v1124 : BitVec 32) : Fin 2 → Nat :=
  let c2500_i32_86 : BitVec 32 := 2500#32
  let arg0 : BitVec 32 := BitVec.ofNat 32 (i 0).val
  let c2048_i32 : BitVec 32 := 2048#32
  let v0 : BitVec 32 := Scalar.muli arg0 c2048_i32
  let c320_i32 : BitVec 32 := 320#32
  let v231 : BitVec 32 := Scalar.addi v0 c320_i32
  let v232 : BitVec 32 := Scalar.addi c2500_i32_86 v231
  let v1125 : BitVec 32 := Scalar.subi v232 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk7 (i : grid0.Coords) (v2 : BitVec 32) (v4 : BitVec 32) (v6 : BitVec 32) (v8 : BitVec 32) (v1124 : BitVec 32) : Prop :=
  (∀ (k0_h51 : k0_cond51 i v2 v4 v6 v8 = 1#1), ∀ a, (k0_off36 i v1124) a + S72x512.size a ≤ S5000x512.size a)
theorem k0_off36_inb : ∀ (i : grid0.Coords) (v2 : BitVec 32) (v4 : BitVec 32) (v6 : BitVec 32) (v8 : BitVec 32) (v1124 : BitVec 32) (k0_hw7 : k0_chk7 i v2 v4 v6 v8 v1124), ∀ (k0_h51 : k0_cond51 i v2 v4 v6 v8 = 1#1), ∀ a, (k0_off36 i v1124) a + S72x512.size a ≤ S5000x512.size a := fun i v2 v4 v6 v8 v1124 k0_hw7 k0_h51 => k0_hw7 k0_h51

def k0_off37 (i : grid0.Coords) (v2 : BitVec 32) : Fin 2 → Nat :=
  let c2500_i32_86 : BitVec 32 := 2500#32
  let arg0 : BitVec 32 := BitVec.ofNat 32 (i 0).val
  let c2048_i32 : BitVec 32 := 2048#32
  let v0 : BitVec 32 := Scalar.muli arg0 c2048_i32
  let c320_i32 : BitVec 32 := 320#32
  let v231 : BitVec 32 := Scalar.addi v0 c320_i32
  let v232 : BitVec 32 := Scalar.addi c2500_i32_86 v231
  let v1136 : BitVec 32 := Scalar.subi v232 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond60 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c320_i32 : BitVec 32 := 320#32
  let v231 : BitVec 32 := Scalar.addi v0 c320_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v233 : BitVec 1 := Scalar.cmpi .sge v231 v27
  let v234 : BitVec 32 := Scalar.extui v233
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v235 : BitVec 1 := Scalar.cmpi .sge v231 v46
  let v236 : BitVec 32 := Scalar.extui v235
  let v237 : BitVec 32 := Scalar.addi v234 v236
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v238 : BitVec 1 := Scalar.cmpi .sge v231 v65
  let v239 : BitVec 32 := Scalar.extui v238
  let v240 : BitVec 32 := Scalar.addi v237 v239
  let c64_i32_87 : BitVec 32 := 64#32
  let v241 : BitVec 32 := Scalar.addi v231 c64_i32_87
  let c1_i32_88 : BitVec 32 := 1#32
  let v242 : BitVec 32 := Scalar.subi v241 c1_i32_88
  let v243 : BitVec 1 := Scalar.cmpi .sge v242 v27
  let v244 : BitVec 32 := Scalar.extui v243
  let v245 : BitVec 1 := Scalar.cmpi .sge v242 v46
  let v246 : BitVec 32 := Scalar.extui v245
  let v247 : BitVec 32 := Scalar.addi v244 v246
  let v248 : BitVec 1 := Scalar.cmpi .sge v242 v65
  let v249 : BitVec 32 := Scalar.extui v248
  let v250 : BitVec 32 := Scalar.addi v247 v249
  let v261 : BitVec 1 := Scalar.cmpi .ne v240 v250
  let v262 : BitVec 32 := Scalar.extui v261
  let c0_i32_98 : BitVec 32 := 0#32
  let v263 : BitVec 1 := Scalar.cmpi .ne v262 c0_i32_98
  v263

def k0_off38 (i : grid0.Coords) (v4 : BitVec 32) : Fin 2 → Nat :=
  let c2500_i32_86 : BitVec 32 := 2500#32
  let arg0 : BitVec 32 := BitVec.ofNat 32 (i 0).val
  let c2048_i32 : BitVec 32 := 2048#32
  let v0 : BitVec 32 := Scalar.muli arg0 c2048_i32
  let c320_i32 : BitVec 32 := 320#32
  let v231 : BitVec 32 := Scalar.addi v0 c320_i32
  let v232 : BitVec 32 := Scalar.addi c2500_i32_86 v231
  let v1148 : BitVec 32 := Scalar.subi v232 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off39 (i : grid0.Coords) (v6 : BitVec 32) : Fin 2 → Nat :=
  let c2500_i32_86 : BitVec 32 := 2500#32
  let arg0 : BitVec 32 := BitVec.ofNat 32 (i 0).val
  let c2048_i32 : BitVec 32 := 2048#32
  let v0 : BitVec 32 := Scalar.muli arg0 c2048_i32
  let c320_i32 : BitVec 32 := 320#32
  let v231 : BitVec 32 := Scalar.addi v0 c320_i32
  let v232 : BitVec 32 := Scalar.addi c2500_i32_86 v231
  let v1163 : BitVec 32 := Scalar.subi v232 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off40 (i : grid0.Coords) (v8 : BitVec 32) : Fin 2 → Nat :=
  let c2500_i32_86 : BitVec 32 := 2500#32
  let arg0 : BitVec 32 := BitVec.ofNat 32 (i 0).val
  let c2048_i32 : BitVec 32 := 2048#32
  let v0 : BitVec 32 := Scalar.muli arg0 c2048_i32
  let c320_i32 : BitVec 32 := 320#32
  let v231 : BitVec 32 := Scalar.addi v0 c320_i32
  let v232 : BitVec 32 := Scalar.addi c2500_i32_86 v231
  let v1178 : BitVec 32 := Scalar.subi v232 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off41 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c384_i32 : BitVec 32 := 384#32
  let v264 : BitVec 32 := Scalar.addi v0 c384_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v266 : BitVec 1 := Scalar.cmpi .sge v264 v27
  let v267 : BitVec 32 := Scalar.extui v266
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v268 : BitVec 1 := Scalar.cmpi .sge v264 v46
  let v269 : BitVec 32 := Scalar.extui v268
  let v270 : BitVec 32 := Scalar.addi v267 v269
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v271 : BitVec 1 := Scalar.cmpi .sge v264 v65
  let v272 : BitVec 32 := Scalar.extui v271
  let v273 : BitVec 32 := Scalar.addi v270 v272
  let v1123 : Index := Scalar.indexCast v273
  ![v1122.toNat, v1123.toNat]
def k0_cond61 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c384_i32 : BitVec 32 := 384#32
  let v264 : BitVec 32 := Scalar.addi v0 c384_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v266 : BitVec 1 := Scalar.cmpi .sge v264 v27
  let v267 : BitVec 32 := Scalar.extui v266
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v268 : BitVec 1 := Scalar.cmpi .sge v264 v46
  let v269 : BitVec 32 := Scalar.extui v268
  let v270 : BitVec 32 := Scalar.addi v267 v269
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v271 : BitVec 1 := Scalar.cmpi .sge v264 v65
  let v272 : BitVec 32 := Scalar.extui v271
  let v273 : BitVec 32 := Scalar.addi v270 v272
  let c64_i32_100 : BitVec 32 := 64#32
  let v274 : BitVec 32 := Scalar.addi v264 c64_i32_100
  let c1_i32_101 : BitVec 32 := 1#32
  let v275 : BitVec 32 := Scalar.subi v274 c1_i32_101
  let v276 : BitVec 1 := Scalar.cmpi .sge v275 v27
  let v277 : BitVec 32 := Scalar.extui v276
  let v278 : BitVec 1 := Scalar.cmpi .sge v275 v46
  let v279 : BitVec 32 := Scalar.extui v278
  let v280 : BitVec 32 := Scalar.addi v277 v279
  let v281 : BitVec 1 := Scalar.cmpi .sge v275 v65
  let v282 : BitVec 32 := Scalar.extui v281
  let v283 : BitVec 32 := Scalar.addi v280 v282
  let v291 : BitVec 1 := Scalar.cmpi .eq v273 v283
  let v292 : BitVec 32 := Scalar.extui v291
  let c0_i32_110 : BitVec 32 := 0#32
  let v293 : BitVec 1 := Scalar.cmpi .ne v292 c0_i32_110
  v293

def k0_off42 (i : grid0.Coords) (v1124 : BitVec 32) : Fin 2 → Nat :=
  let c2500_i32_99 : BitVec 32 := 2500#32
  let arg0 : BitVec 32 := BitVec.ofNat 32 (i 0).val
  let c2048_i32 : BitVec 32 := 2048#32
  let v0 : BitVec 32 := Scalar.muli arg0 c2048_i32
  let c384_i32 : BitVec 32 := 384#32
  let v264 : BitVec 32 := Scalar.addi v0 c384_i32
  let v265 : BitVec 32 := Scalar.addi c2500_i32_99 v264
  let v1125 : BitVec 32 := Scalar.subi v265 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk8 (i : grid0.Coords) (v2 : BitVec 32) (v4 : BitVec 32) (v6 : BitVec 32) (v8 : BitVec 32) (v1124 : BitVec 32) : Prop :=
  (∀ (k0_h61 : k0_cond61 i v2 v4 v6 v8 = 1#1), ∀ a, (k0_off42 i v1124) a + S72x512.size a ≤ S5000x512.size a)
theorem k0_off42_inb : ∀ (i : grid0.Coords) (v2 : BitVec 32) (v4 : BitVec 32) (v6 : BitVec 32) (v8 : BitVec 32) (v1124 : BitVec 32) (k0_hw8 : k0_chk8 i v2 v4 v6 v8 v1124), ∀ (k0_h61 : k0_cond61 i v2 v4 v6 v8 = 1#1), ∀ a, (k0_off42 i v1124) a + S72x512.size a ≤ S5000x512.size a := fun i v2 v4 v6 v8 v1124 k0_hw8 k0_h61 => k0_hw8 k0_h61

def k0_off43 (i : grid0.Coords) (v2 : BitVec 32) : Fin 2 → Nat :=
  let c2500_i32_99 : BitVec 32 := 2500#32
  let arg0 : BitVec 32 := BitVec.ofNat 32 (i 0).val
  let c2048_i32 : BitVec 32 := 2048#32
  let v0 : BitVec 32 := Scalar.muli arg0 c2048_i32
  let c384_i32 : BitVec 32 := 384#32
  let v264 : BitVec 32 := Scalar.addi v0 c384_i32
  let v265 : BitVec 32 := Scalar.addi c2500_i32_99 v264
  let v1136 : BitVec 32 := Scalar.subi v265 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond70 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c384_i32 : BitVec 32 := 384#32
  let v264 : BitVec 32 := Scalar.addi v0 c384_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v266 : BitVec 1 := Scalar.cmpi .sge v264 v27
  let v267 : BitVec 32 := Scalar.extui v266
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v268 : BitVec 1 := Scalar.cmpi .sge v264 v46
  let v269 : BitVec 32 := Scalar.extui v268
  let v270 : BitVec 32 := Scalar.addi v267 v269
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v271 : BitVec 1 := Scalar.cmpi .sge v264 v65
  let v272 : BitVec 32 := Scalar.extui v271
  let v273 : BitVec 32 := Scalar.addi v270 v272
  let c64_i32_100 : BitVec 32 := 64#32
  let v274 : BitVec 32 := Scalar.addi v264 c64_i32_100
  let c1_i32_101 : BitVec 32 := 1#32
  let v275 : BitVec 32 := Scalar.subi v274 c1_i32_101
  let v276 : BitVec 1 := Scalar.cmpi .sge v275 v27
  let v277 : BitVec 32 := Scalar.extui v276
  let v278 : BitVec 1 := Scalar.cmpi .sge v275 v46
  let v279 : BitVec 32 := Scalar.extui v278
  let v280 : BitVec 32 := Scalar.addi v277 v279
  let v281 : BitVec 1 := Scalar.cmpi .sge v275 v65
  let v282 : BitVec 32 := Scalar.extui v281
  let v283 : BitVec 32 := Scalar.addi v280 v282
  let v294 : BitVec 1 := Scalar.cmpi .ne v273 v283
  let v295 : BitVec 32 := Scalar.extui v294
  let c0_i32_111 : BitVec 32 := 0#32
  let v296 : BitVec 1 := Scalar.cmpi .ne v295 c0_i32_111
  v296

def k0_off44 (i : grid0.Coords) (v4 : BitVec 32) : Fin 2 → Nat :=
  let c2500_i32_99 : BitVec 32 := 2500#32
  let arg0 : BitVec 32 := BitVec.ofNat 32 (i 0).val
  let c2048_i32 : BitVec 32 := 2048#32
  let v0 : BitVec 32 := Scalar.muli arg0 c2048_i32
  let c384_i32 : BitVec 32 := 384#32
  let v264 : BitVec 32 := Scalar.addi v0 c384_i32
  let v265 : BitVec 32 := Scalar.addi c2500_i32_99 v264
  let v1148 : BitVec 32 := Scalar.subi v265 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off45 (i : grid0.Coords) (v6 : BitVec 32) : Fin 2 → Nat :=
  let c2500_i32_99 : BitVec 32 := 2500#32
  let arg0 : BitVec 32 := BitVec.ofNat 32 (i 0).val
  let c2048_i32 : BitVec 32 := 2048#32
  let v0 : BitVec 32 := Scalar.muli arg0 c2048_i32
  let c384_i32 : BitVec 32 := 384#32
  let v264 : BitVec 32 := Scalar.addi v0 c384_i32
  let v265 : BitVec 32 := Scalar.addi c2500_i32_99 v264
  let v1163 : BitVec 32 := Scalar.subi v265 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off46 (i : grid0.Coords) (v8 : BitVec 32) : Fin 2 → Nat :=
  let c2500_i32_99 : BitVec 32 := 2500#32
  let arg0 : BitVec 32 := BitVec.ofNat 32 (i 0).val
  let c2048_i32 : BitVec 32 := 2048#32
  let v0 : BitVec 32 := Scalar.muli arg0 c2048_i32
  let c384_i32 : BitVec 32 := 384#32
  let v264 : BitVec 32 := Scalar.addi v0 c384_i32
  let v265 : BitVec 32 := Scalar.addi c2500_i32_99 v264
  let v1178 : BitVec 32 := Scalar.subi v265 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off47 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c448_i32 : BitVec 32 := 448#32
  let v297 : BitVec 32 := Scalar.addi v0 c448_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v299 : BitVec 1 := Scalar.cmpi .sge v297 v27
  let v300 : BitVec 32 := Scalar.extui v299
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v301 : BitVec 1 := Scalar.cmpi .sge v297 v46
  let v302 : BitVec 32 := Scalar.extui v301
  let v303 : BitVec 32 := Scalar.addi v300 v302
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v304 : BitVec 1 := Scalar.cmpi .sge v297 v65
  let v305 : BitVec 32 := Scalar.extui v304
  let v306 : BitVec 32 := Scalar.addi v303 v305
  let v1123 : Index := Scalar.indexCast v306
  ![v1122.toNat, v1123.toNat]
def k0_cond71 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c448_i32 : BitVec 32 := 448#32
  let v297 : BitVec 32 := Scalar.addi v0 c448_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v299 : BitVec 1 := Scalar.cmpi .sge v297 v27
  let v300 : BitVec 32 := Scalar.extui v299
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v301 : BitVec 1 := Scalar.cmpi .sge v297 v46
  let v302 : BitVec 32 := Scalar.extui v301
  let v303 : BitVec 32 := Scalar.addi v300 v302
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v304 : BitVec 1 := Scalar.cmpi .sge v297 v65
  let v305 : BitVec 32 := Scalar.extui v304
  let v306 : BitVec 32 := Scalar.addi v303 v305
  let c64_i32_113 : BitVec 32 := 64#32
  let v307 : BitVec 32 := Scalar.addi v297 c64_i32_113
  let c1_i32_114 : BitVec 32 := 1#32
  let v308 : BitVec 32 := Scalar.subi v307 c1_i32_114
  let v309 : BitVec 1 := Scalar.cmpi .sge v308 v27
  let v310 : BitVec 32 := Scalar.extui v309
  let v311 : BitVec 1 := Scalar.cmpi .sge v308 v46
  let v312 : BitVec 32 := Scalar.extui v311
  let v313 : BitVec 32 := Scalar.addi v310 v312
  let v314 : BitVec 1 := Scalar.cmpi .sge v308 v65
  let v315 : BitVec 32 := Scalar.extui v314
  let v316 : BitVec 32 := Scalar.addi v313 v315
  let v324 : BitVec 1 := Scalar.cmpi .eq v306 v316
  let v325 : BitVec 32 := Scalar.extui v324
  let c0_i32_123 : BitVec 32 := 0#32
  let v326 : BitVec 1 := Scalar.cmpi .ne v325 c0_i32_123
  v326

def k0_off48 (i : grid0.Coords) (v1124 : BitVec 32) : Fin 2 → Nat :=
  let c2500_i32_112 : BitVec 32 := 2500#32
  let arg0 : BitVec 32 := BitVec.ofNat 32 (i 0).val
  let c2048_i32 : BitVec 32 := 2048#32
  let v0 : BitVec 32 := Scalar.muli arg0 c2048_i32
  let c448_i32 : BitVec 32 := 448#32
  let v297 : BitVec 32 := Scalar.addi v0 c448_i32
  let v298 : BitVec 32 := Scalar.addi c2500_i32_112 v297
  let v1125 : BitVec 32 := Scalar.subi v298 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk9 (i : grid0.Coords) (v2 : BitVec 32) (v4 : BitVec 32) (v6 : BitVec 32) (v8 : BitVec 32) (v1124 : BitVec 32) : Prop :=
  (∀ (k0_h71 : k0_cond71 i v2 v4 v6 v8 = 1#1), ∀ a, (k0_off48 i v1124) a + S72x512.size a ≤ S5000x512.size a)
theorem k0_off48_inb : ∀ (i : grid0.Coords) (v2 : BitVec 32) (v4 : BitVec 32) (v6 : BitVec 32) (v8 : BitVec 32) (v1124 : BitVec 32) (k0_hw9 : k0_chk9 i v2 v4 v6 v8 v1124), ∀ (k0_h71 : k0_cond71 i v2 v4 v6 v8 = 1#1), ∀ a, (k0_off48 i v1124) a + S72x512.size a ≤ S5000x512.size a := fun i v2 v4 v6 v8 v1124 k0_hw9 k0_h71 => k0_hw9 k0_h71

def k0_off49 (i : grid0.Coords) (v2 : BitVec 32) : Fin 2 → Nat :=
  let c2500_i32_112 : BitVec 32 := 2500#32
  let arg0 : BitVec 32 := BitVec.ofNat 32 (i 0).val
  let c2048_i32 : BitVec 32 := 2048#32
  let v0 : BitVec 32 := Scalar.muli arg0 c2048_i32
  let c448_i32 : BitVec 32 := 448#32
  let v297 : BitVec 32 := Scalar.addi v0 c448_i32
  let v298 : BitVec 32 := Scalar.addi c2500_i32_112 v297
  let v1136 : BitVec 32 := Scalar.subi v298 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond80 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c448_i32 : BitVec 32 := 448#32
  let v297 : BitVec 32 := Scalar.addi v0 c448_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v299 : BitVec 1 := Scalar.cmpi .sge v297 v27
  let v300 : BitVec 32 := Scalar.extui v299
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v301 : BitVec 1 := Scalar.cmpi .sge v297 v46
  let v302 : BitVec 32 := Scalar.extui v301
  let v303 : BitVec 32 := Scalar.addi v300 v302
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v304 : BitVec 1 := Scalar.cmpi .sge v297 v65
  let v305 : BitVec 32 := Scalar.extui v304
  let v306 : BitVec 32 := Scalar.addi v303 v305
  let c64_i32_113 : BitVec 32 := 64#32
  let v307 : BitVec 32 := Scalar.addi v297 c64_i32_113
  let c1_i32_114 : BitVec 32 := 1#32
  let v308 : BitVec 32 := Scalar.subi v307 c1_i32_114
  let v309 : BitVec 1 := Scalar.cmpi .sge v308 v27
  let v310 : BitVec 32 := Scalar.extui v309
  let v311 : BitVec 1 := Scalar.cmpi .sge v308 v46
  let v312 : BitVec 32 := Scalar.extui v311
  let v313 : BitVec 32 := Scalar.addi v310 v312
  let v314 : BitVec 1 := Scalar.cmpi .sge v308 v65
  let v315 : BitVec 32 := Scalar.extui v314
  let v316 : BitVec 32 := Scalar.addi v313 v315
  let v327 : BitVec 1 := Scalar.cmpi .ne v306 v316
  let v328 : BitVec 32 := Scalar.extui v327
  let c0_i32_124 : BitVec 32 := 0#32
  let v329 : BitVec 1 := Scalar.cmpi .ne v328 c0_i32_124
  v329

def k0_off50 (i : grid0.Coords) (v4 : BitVec 32) : Fin 2 → Nat :=
  let c2500_i32_112 : BitVec 32 := 2500#32
  let arg0 : BitVec 32 := BitVec.ofNat 32 (i 0).val
  let c2048_i32 : BitVec 32 := 2048#32
  let v0 : BitVec 32 := Scalar.muli arg0 c2048_i32
  let c448_i32 : BitVec 32 := 448#32
  let v297 : BitVec 32 := Scalar.addi v0 c448_i32
  let v298 : BitVec 32 := Scalar.addi c2500_i32_112 v297
  let v1148 : BitVec 32 := Scalar.subi v298 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off51 (i : grid0.Coords) (v6 : BitVec 32) : Fin 2 → Nat :=
  let c2500_i32_112 : BitVec 32 := 2500#32
  let arg0 : BitVec 32 := BitVec.ofNat 32 (i 0).val
  let c2048_i32 : BitVec 32 := 2048#32
  let v0 : BitVec 32 := Scalar.muli arg0 c2048_i32
  let c448_i32 : BitVec 32 := 448#32
  let v297 : BitVec 32 := Scalar.addi v0 c448_i32
  let v298 : BitVec 32 := Scalar.addi c2500_i32_112 v297
  let v1163 : BitVec 32 := Scalar.subi v298 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off52 (i : grid0.Coords) (v8 : BitVec 32) : Fin 2 → Nat :=
  let c2500_i32_112 : BitVec 32 := 2500#32
  let arg0 : BitVec 32 := BitVec.ofNat 32 (i 0).val
  let c2048_i32 : BitVec 32 := 2048#32
  let v0 : BitVec 32 := Scalar.muli arg0 c2048_i32
  let c448_i32 : BitVec 32 := 448#32
  let v297 : BitVec 32 := Scalar.addi v0 c448_i32
  let v298 : BitVec 32 := Scalar.addi c2500_i32_112 v297
  let v1178 : BitVec 32 := Scalar.subi v298 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off53 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c512_i32 : BitVec 32 := 512#32
  let v330 : BitVec 32 := Scalar.addi v0 c512_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v332 : BitVec 1 := Scalar.cmpi .sge v330 v27
  let v333 : BitVec 32 := Scalar.extui v332
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v334 : BitVec 1 := Scalar.cmpi .sge v330 v46
  let v335 : BitVec 32 := Scalar.extui v334
  let v336 : BitVec 32 := Scalar.addi v333 v335
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v337 : BitVec 1 := Scalar.cmpi .sge v330 v65
  let v338 : BitVec 32 := Scalar.extui v337
  let v339 : BitVec 32 := Scalar.addi v336 v338
  let v1123 : Index := Scalar.indexCast v339
  ![v1122.toNat, v1123.toNat]
def k0_cond81 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c512_i32 : BitVec 32 := 512#32
  let v330 : BitVec 32 := Scalar.addi v0 c512_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v332 : BitVec 1 := Scalar.cmpi .sge v330 v27
  let v333 : BitVec 32 := Scalar.extui v332
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v334 : BitVec 1 := Scalar.cmpi .sge v330 v46
  let v335 : BitVec 32 := Scalar.extui v334
  let v336 : BitVec 32 := Scalar.addi v333 v335
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v337 : BitVec 1 := Scalar.cmpi .sge v330 v65
  let v338 : BitVec 32 := Scalar.extui v337
  let v339 : BitVec 32 := Scalar.addi v336 v338
  let c64_i32_126 : BitVec 32 := 64#32
  let v340 : BitVec 32 := Scalar.addi v330 c64_i32_126
  let c1_i32_127 : BitVec 32 := 1#32
  let v341 : BitVec 32 := Scalar.subi v340 c1_i32_127
  let v342 : BitVec 1 := Scalar.cmpi .sge v341 v27
  let v343 : BitVec 32 := Scalar.extui v342
  let v344 : BitVec 1 := Scalar.cmpi .sge v341 v46
  let v345 : BitVec 32 := Scalar.extui v344
  let v346 : BitVec 32 := Scalar.addi v343 v345
  let v347 : BitVec 1 := Scalar.cmpi .sge v341 v65
  let v348 : BitVec 32 := Scalar.extui v347
  let v349 : BitVec 32 := Scalar.addi v346 v348
  let v357 : BitVec 1 := Scalar.cmpi .eq v339 v349
  let v358 : BitVec 32 := Scalar.extui v357
  let c0_i32_137 : BitVec 32 := 0#32
  let v359 : BitVec 1 := Scalar.cmpi .ne v358 c0_i32_137
  v359

def k0_off54 (i : grid0.Coords) (v1124 : BitVec 32) : Fin 2 → Nat :=
  let c2500_i32_125 : BitVec 32 := 2500#32
  let arg0 : BitVec 32 := BitVec.ofNat 32 (i 0).val
  let c2048_i32 : BitVec 32 := 2048#32
  let v0 : BitVec 32 := Scalar.muli arg0 c2048_i32
  let c512_i32 : BitVec 32 := 512#32
  let v330 : BitVec 32 := Scalar.addi v0 c512_i32
  let v331 : BitVec 32 := Scalar.addi c2500_i32_125 v330
  let v1125 : BitVec 32 := Scalar.subi v331 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk10 (i : grid0.Coords) (v2 : BitVec 32) (v4 : BitVec 32) (v6 : BitVec 32) (v8 : BitVec 32) (v1124 : BitVec 32) : Prop :=
  (∀ (k0_h81 : k0_cond81 i v2 v4 v6 v8 = 1#1), ∀ a, (k0_off54 i v1124) a + S72x512.size a ≤ S5000x512.size a)
theorem k0_off54_inb : ∀ (i : grid0.Coords) (v2 : BitVec 32) (v4 : BitVec 32) (v6 : BitVec 32) (v8 : BitVec 32) (v1124 : BitVec 32) (k0_hw10 : k0_chk10 i v2 v4 v6 v8 v1124), ∀ (k0_h81 : k0_cond81 i v2 v4 v6 v8 = 1#1), ∀ a, (k0_off54 i v1124) a + S72x512.size a ≤ S5000x512.size a := fun i v2 v4 v6 v8 v1124 k0_hw10 k0_h81 => k0_hw10 k0_h81

def k0_off55 (i : grid0.Coords) (v2 : BitVec 32) : Fin 2 → Nat :=
  let c2500_i32_125 : BitVec 32 := 2500#32
  let arg0 : BitVec 32 := BitVec.ofNat 32 (i 0).val
  let c2048_i32 : BitVec 32 := 2048#32
  let v0 : BitVec 32 := Scalar.muli arg0 c2048_i32
  let c512_i32 : BitVec 32 := 512#32
  let v330 : BitVec 32 := Scalar.addi v0 c512_i32
  let v331 : BitVec 32 := Scalar.addi c2500_i32_125 v330
  let v1136 : BitVec 32 := Scalar.subi v331 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond90 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c512_i32 : BitVec 32 := 512#32
  let v330 : BitVec 32 := Scalar.addi v0 c512_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v332 : BitVec 1 := Scalar.cmpi .sge v330 v27
  let v333 : BitVec 32 := Scalar.extui v332
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v334 : BitVec 1 := Scalar.cmpi .sge v330 v46
  let v335 : BitVec 32 := Scalar.extui v334
  let v336 : BitVec 32 := Scalar.addi v333 v335
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v337 : BitVec 1 := Scalar.cmpi .sge v330 v65
  let v338 : BitVec 32 := Scalar.extui v337
  let v339 : BitVec 32 := Scalar.addi v336 v338
  let c64_i32_126 : BitVec 32 := 64#32
  let v340 : BitVec 32 := Scalar.addi v330 c64_i32_126
  let c1_i32_127 : BitVec 32 := 1#32
  let v341 : BitVec 32 := Scalar.subi v340 c1_i32_127
  let v342 : BitVec 1 := Scalar.cmpi .sge v341 v27
  let v343 : BitVec 32 := Scalar.extui v342
  let v344 : BitVec 1 := Scalar.cmpi .sge v341 v46
  let v345 : BitVec 32 := Scalar.extui v344
  let v346 : BitVec 32 := Scalar.addi v343 v345
  let v347 : BitVec 1 := Scalar.cmpi .sge v341 v65
  let v348 : BitVec 32 := Scalar.extui v347
  let v349 : BitVec 32 := Scalar.addi v346 v348
  let v360 : BitVec 1 := Scalar.cmpi .ne v339 v349
  let v361 : BitVec 32 := Scalar.extui v360
  let c0_i32_138 : BitVec 32 := 0#32
  let v362 : BitVec 1 := Scalar.cmpi .ne v361 c0_i32_138
  v362

def k0_off56 (i : grid0.Coords) (v4 : BitVec 32) : Fin 2 → Nat :=
  let c2500_i32_125 : BitVec 32 := 2500#32
  let arg0 : BitVec 32 := BitVec.ofNat 32 (i 0).val
  let c2048_i32 : BitVec 32 := 2048#32
  let v0 : BitVec 32 := Scalar.muli arg0 c2048_i32
  let c512_i32 : BitVec 32 := 512#32
  let v330 : BitVec 32 := Scalar.addi v0 c512_i32
  let v331 : BitVec 32 := Scalar.addi c2500_i32_125 v330
  let v1148 : BitVec 32 := Scalar.subi v331 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off57 (i : grid0.Coords) (v6 : BitVec 32) : Fin 2 → Nat :=
  let c2500_i32_125 : BitVec 32 := 2500#32
  let arg0 : BitVec 32 := BitVec.ofNat 32 (i 0).val
  let c2048_i32 : BitVec 32 := 2048#32
  let v0 : BitVec 32 := Scalar.muli arg0 c2048_i32
  let c512_i32 : BitVec 32 := 512#32
  let v330 : BitVec 32 := Scalar.addi v0 c512_i32
  let v331 : BitVec 32 := Scalar.addi c2500_i32_125 v330
  let v1163 : BitVec 32 := Scalar.subi v331 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off58 (i : grid0.Coords) (v8 : BitVec 32) : Fin 2 → Nat :=
  let c2500_i32_125 : BitVec 32 := 2500#32
  let arg0 : BitVec 32 := BitVec.ofNat 32 (i 0).val
  let c2048_i32 : BitVec 32 := 2048#32
  let v0 : BitVec 32 := Scalar.muli arg0 c2048_i32
  let c512_i32 : BitVec 32 := 512#32
  let v330 : BitVec 32 := Scalar.addi v0 c512_i32
  let v331 : BitVec 32 := Scalar.addi c2500_i32_125 v330
  let v1178 : BitVec 32 := Scalar.subi v331 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off59 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c576_i32 : BitVec 32 := 576#32
  let v363 : BitVec 32 := Scalar.addi v0 c576_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v365 : BitVec 1 := Scalar.cmpi .sge v363 v27
  let v366 : BitVec 32 := Scalar.extui v365
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v367 : BitVec 1 := Scalar.cmpi .sge v363 v46
  let v368 : BitVec 32 := Scalar.extui v367
  let v369 : BitVec 32 := Scalar.addi v366 v368
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v370 : BitVec 1 := Scalar.cmpi .sge v363 v65
  let v371 : BitVec 32 := Scalar.extui v370
  let v372 : BitVec 32 := Scalar.addi v369 v371
  let v1123 : Index := Scalar.indexCast v372
  ![v1122.toNat, v1123.toNat]
def k0_cond91 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c576_i32 : BitVec 32 := 576#32
  let v363 : BitVec 32 := Scalar.addi v0 c576_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v365 : BitVec 1 := Scalar.cmpi .sge v363 v27
  let v366 : BitVec 32 := Scalar.extui v365
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v367 : BitVec 1 := Scalar.cmpi .sge v363 v46
  let v368 : BitVec 32 := Scalar.extui v367
  let v369 : BitVec 32 := Scalar.addi v366 v368
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v370 : BitVec 1 := Scalar.cmpi .sge v363 v65
  let v371 : BitVec 32 := Scalar.extui v370
  let v372 : BitVec 32 := Scalar.addi v369 v371
  let c64_i32_140 : BitVec 32 := 64#32
  let v373 : BitVec 32 := Scalar.addi v363 c64_i32_140
  let c1_i32_141 : BitVec 32 := 1#32
  let v374 : BitVec 32 := Scalar.subi v373 c1_i32_141
  let v375 : BitVec 1 := Scalar.cmpi .sge v374 v27
  let v376 : BitVec 32 := Scalar.extui v375
  let v377 : BitVec 1 := Scalar.cmpi .sge v374 v46
  let v378 : BitVec 32 := Scalar.extui v377
  let v379 : BitVec 32 := Scalar.addi v376 v378
  let v380 : BitVec 1 := Scalar.cmpi .sge v374 v65
  let v381 : BitVec 32 := Scalar.extui v380
  let v382 : BitVec 32 := Scalar.addi v379 v381
  let v390 : BitVec 1 := Scalar.cmpi .eq v372 v382
  let v391 : BitVec 32 := Scalar.extui v390
  let c0_i32_150 : BitVec 32 := 0#32
  let v392 : BitVec 1 := Scalar.cmpi .ne v391 c0_i32_150
  v392

def k0_off60 (i : grid0.Coords) (v1124 : BitVec 32) : Fin 2 → Nat :=
  let c2500_i32_139 : BitVec 32 := 2500#32
  let arg0 : BitVec 32 := BitVec.ofNat 32 (i 0).val
  let c2048_i32 : BitVec 32 := 2048#32
  let v0 : BitVec 32 := Scalar.muli arg0 c2048_i32
  let c576_i32 : BitVec 32 := 576#32
  let v363 : BitVec 32 := Scalar.addi v0 c576_i32
  let v364 : BitVec 32 := Scalar.addi c2500_i32_139 v363
  let v1125 : BitVec 32 := Scalar.subi v364 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk11 (i : grid0.Coords) (v2 : BitVec 32) (v4 : BitVec 32) (v6 : BitVec 32) (v8 : BitVec 32) (v1124 : BitVec 32) : Prop :=
  (∀ (k0_h91 : k0_cond91 i v2 v4 v6 v8 = 1#1), ∀ a, (k0_off60 i v1124) a + S72x512.size a ≤ S5000x512.size a)
theorem k0_off60_inb : ∀ (i : grid0.Coords) (v2 : BitVec 32) (v4 : BitVec 32) (v6 : BitVec 32) (v8 : BitVec 32) (v1124 : BitVec 32) (k0_hw11 : k0_chk11 i v2 v4 v6 v8 v1124), ∀ (k0_h91 : k0_cond91 i v2 v4 v6 v8 = 1#1), ∀ a, (k0_off60 i v1124) a + S72x512.size a ≤ S5000x512.size a := fun i v2 v4 v6 v8 v1124 k0_hw11 k0_h91 => k0_hw11 k0_h91

def k0_off61 (i : grid0.Coords) (v2 : BitVec 32) : Fin 2 → Nat :=
  let c2500_i32_139 : BitVec 32 := 2500#32
  let arg0 : BitVec 32 := BitVec.ofNat 32 (i 0).val
  let c2048_i32 : BitVec 32 := 2048#32
  let v0 : BitVec 32 := Scalar.muli arg0 c2048_i32
  let c576_i32 : BitVec 32 := 576#32
  let v363 : BitVec 32 := Scalar.addi v0 c576_i32
  let v364 : BitVec 32 := Scalar.addi c2500_i32_139 v363
  let v1136 : BitVec 32 := Scalar.subi v364 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond100 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c576_i32 : BitVec 32 := 576#32
  let v363 : BitVec 32 := Scalar.addi v0 c576_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v365 : BitVec 1 := Scalar.cmpi .sge v363 v27
  let v366 : BitVec 32 := Scalar.extui v365
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v367 : BitVec 1 := Scalar.cmpi .sge v363 v46
  let v368 : BitVec 32 := Scalar.extui v367
  let v369 : BitVec 32 := Scalar.addi v366 v368
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v370 : BitVec 1 := Scalar.cmpi .sge v363 v65
  let v371 : BitVec 32 := Scalar.extui v370
  let v372 : BitVec 32 := Scalar.addi v369 v371
  let c64_i32_140 : BitVec 32 := 64#32
  let v373 : BitVec 32 := Scalar.addi v363 c64_i32_140
  let c1_i32_141 : BitVec 32 := 1#32
  let v374 : BitVec 32 := Scalar.subi v373 c1_i32_141
  let v375 : BitVec 1 := Scalar.cmpi .sge v374 v27
  let v376 : BitVec 32 := Scalar.extui v375
  let v377 : BitVec 1 := Scalar.cmpi .sge v374 v46
  let v378 : BitVec 32 := Scalar.extui v377
  let v379 : BitVec 32 := Scalar.addi v376 v378
  let v380 : BitVec 1 := Scalar.cmpi .sge v374 v65
  let v381 : BitVec 32 := Scalar.extui v380
  let v382 : BitVec 32 := Scalar.addi v379 v381
  let v393 : BitVec 1 := Scalar.cmpi .ne v372 v382
  let v394 : BitVec 32 := Scalar.extui v393
  let c0_i32_151 : BitVec 32 := 0#32
  let v395 : BitVec 1 := Scalar.cmpi .ne v394 c0_i32_151
  v395

def k0_off62 (i : grid0.Coords) (v4 : BitVec 32) : Fin 2 → Nat :=
  let c2500_i32_139 : BitVec 32 := 2500#32
  let arg0 : BitVec 32 := BitVec.ofNat 32 (i 0).val
  let c2048_i32 : BitVec 32 := 2048#32
  let v0 : BitVec 32 := Scalar.muli arg0 c2048_i32
  let c576_i32 : BitVec 32 := 576#32
  let v363 : BitVec 32 := Scalar.addi v0 c576_i32
  let v364 : BitVec 32 := Scalar.addi c2500_i32_139 v363
  let v1148 : BitVec 32 := Scalar.subi v364 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off63 (i : grid0.Coords) (v6 : BitVec 32) : Fin 2 → Nat :=
  let c2500_i32_139 : BitVec 32 := 2500#32
  let arg0 : BitVec 32 := BitVec.ofNat 32 (i 0).val
  let c2048_i32 : BitVec 32 := 2048#32
  let v0 : BitVec 32 := Scalar.muli arg0 c2048_i32
  let c576_i32 : BitVec 32 := 576#32
  let v363 : BitVec 32 := Scalar.addi v0 c576_i32
  let v364 : BitVec 32 := Scalar.addi c2500_i32_139 v363
  let v1163 : BitVec 32 := Scalar.subi v364 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off64 (i : grid0.Coords) (v8 : BitVec 32) : Fin 2 → Nat :=
  let c2500_i32_139 : BitVec 32 := 2500#32
  let arg0 : BitVec 32 := BitVec.ofNat 32 (i 0).val
  let c2048_i32 : BitVec 32 := 2048#32
  let v0 : BitVec 32 := Scalar.muli arg0 c2048_i32
  let c576_i32 : BitVec 32 := 576#32
  let v363 : BitVec 32 := Scalar.addi v0 c576_i32
  let v364 : BitVec 32 := Scalar.addi c2500_i32_139 v363
  let v1178 : BitVec 32 := Scalar.subi v364 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off65 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c640_i32 : BitVec 32 := 640#32
  let v396 : BitVec 32 := Scalar.addi v0 c640_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v398 : BitVec 1 := Scalar.cmpi .sge v396 v27
  let v399 : BitVec 32 := Scalar.extui v398
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v400 : BitVec 1 := Scalar.cmpi .sge v396 v46
  let v401 : BitVec 32 := Scalar.extui v400
  let v402 : BitVec 32 := Scalar.addi v399 v401
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v403 : BitVec 1 := Scalar.cmpi .sge v396 v65
  let v404 : BitVec 32 := Scalar.extui v403
  let v405 : BitVec 32 := Scalar.addi v402 v404
  let v1123 : Index := Scalar.indexCast v405
  ![v1122.toNat, v1123.toNat]
def k0_cond101 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c640_i32 : BitVec 32 := 640#32
  let v396 : BitVec 32 := Scalar.addi v0 c640_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v398 : BitVec 1 := Scalar.cmpi .sge v396 v27
  let v399 : BitVec 32 := Scalar.extui v398
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v400 : BitVec 1 := Scalar.cmpi .sge v396 v46
  let v401 : BitVec 32 := Scalar.extui v400
  let v402 : BitVec 32 := Scalar.addi v399 v401
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v403 : BitVec 1 := Scalar.cmpi .sge v396 v65
  let v404 : BitVec 32 := Scalar.extui v403
  let v405 : BitVec 32 := Scalar.addi v402 v404
  let c64_i32_153 : BitVec 32 := 64#32
  let v406 : BitVec 32 := Scalar.addi v396 c64_i32_153
  let c1_i32_154 : BitVec 32 := 1#32
  let v407 : BitVec 32 := Scalar.subi v406 c1_i32_154
  let v408 : BitVec 1 := Scalar.cmpi .sge v407 v27
  let v409 : BitVec 32 := Scalar.extui v408
  let v410 : BitVec 1 := Scalar.cmpi .sge v407 v46
  let v411 : BitVec 32 := Scalar.extui v410
  let v412 : BitVec 32 := Scalar.addi v409 v411
  let v413 : BitVec 1 := Scalar.cmpi .sge v407 v65
  let v414 : BitVec 32 := Scalar.extui v413
  let v415 : BitVec 32 := Scalar.addi v412 v414
  let v423 : BitVec 1 := Scalar.cmpi .eq v405 v415
  let v424 : BitVec 32 := Scalar.extui v423
  let c0_i32_163 : BitVec 32 := 0#32
  let v425 : BitVec 1 := Scalar.cmpi .ne v424 c0_i32_163
  v425

def k0_off66 (i : grid0.Coords) (v1124 : BitVec 32) : Fin 2 → Nat :=
  let c2500_i32_152 : BitVec 32 := 2500#32
  let arg0 : BitVec 32 := BitVec.ofNat 32 (i 0).val
  let c2048_i32 : BitVec 32 := 2048#32
  let v0 : BitVec 32 := Scalar.muli arg0 c2048_i32
  let c640_i32 : BitVec 32 := 640#32
  let v396 : BitVec 32 := Scalar.addi v0 c640_i32
  let v397 : BitVec 32 := Scalar.addi c2500_i32_152 v396
  let v1125 : BitVec 32 := Scalar.subi v397 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk12 (i : grid0.Coords) (v2 : BitVec 32) (v4 : BitVec 32) (v6 : BitVec 32) (v8 : BitVec 32) (v1124 : BitVec 32) : Prop :=
  (∀ (k0_h101 : k0_cond101 i v2 v4 v6 v8 = 1#1), ∀ a, (k0_off66 i v1124) a + S72x512.size a ≤ S5000x512.size a)
theorem k0_off66_inb : ∀ (i : grid0.Coords) (v2 : BitVec 32) (v4 : BitVec 32) (v6 : BitVec 32) (v8 : BitVec 32) (v1124 : BitVec 32) (k0_hw12 : k0_chk12 i v2 v4 v6 v8 v1124), ∀ (k0_h101 : k0_cond101 i v2 v4 v6 v8 = 1#1), ∀ a, (k0_off66 i v1124) a + S72x512.size a ≤ S5000x512.size a := fun i v2 v4 v6 v8 v1124 k0_hw12 k0_h101 => k0_hw12 k0_h101

def k0_off67 (i : grid0.Coords) (v2 : BitVec 32) : Fin 2 → Nat :=
  let c2500_i32_152 : BitVec 32 := 2500#32
  let arg0 : BitVec 32 := BitVec.ofNat 32 (i 0).val
  let c2048_i32 : BitVec 32 := 2048#32
  let v0 : BitVec 32 := Scalar.muli arg0 c2048_i32
  let c640_i32 : BitVec 32 := 640#32
  let v396 : BitVec 32 := Scalar.addi v0 c640_i32
  let v397 : BitVec 32 := Scalar.addi c2500_i32_152 v396
  let v1136 : BitVec 32 := Scalar.subi v397 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond110 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c640_i32 : BitVec 32 := 640#32
  let v396 : BitVec 32 := Scalar.addi v0 c640_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v398 : BitVec 1 := Scalar.cmpi .sge v396 v27
  let v399 : BitVec 32 := Scalar.extui v398
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v400 : BitVec 1 := Scalar.cmpi .sge v396 v46
  let v401 : BitVec 32 := Scalar.extui v400
  let v402 : BitVec 32 := Scalar.addi v399 v401
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v403 : BitVec 1 := Scalar.cmpi .sge v396 v65
  let v404 : BitVec 32 := Scalar.extui v403
  let v405 : BitVec 32 := Scalar.addi v402 v404
  let c64_i32_153 : BitVec 32 := 64#32
  let v406 : BitVec 32 := Scalar.addi v396 c64_i32_153
  let c1_i32_154 : BitVec 32 := 1#32
  let v407 : BitVec 32 := Scalar.subi v406 c1_i32_154
  let v408 : BitVec 1 := Scalar.cmpi .sge v407 v27
  let v409 : BitVec 32 := Scalar.extui v408
  let v410 : BitVec 1 := Scalar.cmpi .sge v407 v46
  let v411 : BitVec 32 := Scalar.extui v410
  let v412 : BitVec 32 := Scalar.addi v409 v411
  let v413 : BitVec 1 := Scalar.cmpi .sge v407 v65
  let v414 : BitVec 32 := Scalar.extui v413
  let v415 : BitVec 32 := Scalar.addi v412 v414
  let v426 : BitVec 1 := Scalar.cmpi .ne v405 v415
  let v427 : BitVec 32 := Scalar.extui v426
  let c0_i32_164 : BitVec 32 := 0#32
  let v428 : BitVec 1 := Scalar.cmpi .ne v427 c0_i32_164
  v428

def k0_off68 (i : grid0.Coords) (v4 : BitVec 32) : Fin 2 → Nat :=
  let c2500_i32_152 : BitVec 32 := 2500#32
  let arg0 : BitVec 32 := BitVec.ofNat 32 (i 0).val
  let c2048_i32 : BitVec 32 := 2048#32
  let v0 : BitVec 32 := Scalar.muli arg0 c2048_i32
  let c640_i32 : BitVec 32 := 640#32
  let v396 : BitVec 32 := Scalar.addi v0 c640_i32
  let v397 : BitVec 32 := Scalar.addi c2500_i32_152 v396
  let v1148 : BitVec 32 := Scalar.subi v397 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off69 (i : grid0.Coords) (v6 : BitVec 32) : Fin 2 → Nat :=
  let c2500_i32_152 : BitVec 32 := 2500#32
  let arg0 : BitVec 32 := BitVec.ofNat 32 (i 0).val
  let c2048_i32 : BitVec 32 := 2048#32
  let v0 : BitVec 32 := Scalar.muli arg0 c2048_i32
  let c640_i32 : BitVec 32 := 640#32
  let v396 : BitVec 32 := Scalar.addi v0 c640_i32
  let v397 : BitVec 32 := Scalar.addi c2500_i32_152 v396
  let v1163 : BitVec 32 := Scalar.subi v397 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off70 (i : grid0.Coords) (v8 : BitVec 32) : Fin 2 → Nat :=
  let c2500_i32_152 : BitVec 32 := 2500#32
  let arg0 : BitVec 32 := BitVec.ofNat 32 (i 0).val
  let c2048_i32 : BitVec 32 := 2048#32
  let v0 : BitVec 32 := Scalar.muli arg0 c2048_i32
  let c640_i32 : BitVec 32 := 640#32
  let v396 : BitVec 32 := Scalar.addi v0 c640_i32
  let v397 : BitVec 32 := Scalar.addi c2500_i32_152 v396
  let v1178 : BitVec 32 := Scalar.subi v397 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off71 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c704_i32 : BitVec 32 := 704#32
  let v429 : BitVec 32 := Scalar.addi v0 c704_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v431 : BitVec 1 := Scalar.cmpi .sge v429 v27
  let v432 : BitVec 32 := Scalar.extui v431
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v433 : BitVec 1 := Scalar.cmpi .sge v429 v46
  let v434 : BitVec 32 := Scalar.extui v433
  let v435 : BitVec 32 := Scalar.addi v432 v434
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v436 : BitVec 1 := Scalar.cmpi .sge v429 v65
  let v437 : BitVec 32 := Scalar.extui v436
  let v438 : BitVec 32 := Scalar.addi v435 v437
  let v1123 : Index := Scalar.indexCast v438
  ![v1122.toNat, v1123.toNat]
def k0_cond111 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c704_i32 : BitVec 32 := 704#32
  let v429 : BitVec 32 := Scalar.addi v0 c704_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v431 : BitVec 1 := Scalar.cmpi .sge v429 v27
  let v432 : BitVec 32 := Scalar.extui v431
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v433 : BitVec 1 := Scalar.cmpi .sge v429 v46
  let v434 : BitVec 32 := Scalar.extui v433
  let v435 : BitVec 32 := Scalar.addi v432 v434
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v436 : BitVec 1 := Scalar.cmpi .sge v429 v65
  let v437 : BitVec 32 := Scalar.extui v436
  let v438 : BitVec 32 := Scalar.addi v435 v437
  let c64_i32_166 : BitVec 32 := 64#32
  let v439 : BitVec 32 := Scalar.addi v429 c64_i32_166
  let c1_i32_167 : BitVec 32 := 1#32
  let v440 : BitVec 32 := Scalar.subi v439 c1_i32_167
  let v441 : BitVec 1 := Scalar.cmpi .sge v440 v27
  let v442 : BitVec 32 := Scalar.extui v441
  let v443 : BitVec 1 := Scalar.cmpi .sge v440 v46
  let v444 : BitVec 32 := Scalar.extui v443
  let v445 : BitVec 32 := Scalar.addi v442 v444
  let v446 : BitVec 1 := Scalar.cmpi .sge v440 v65
  let v447 : BitVec 32 := Scalar.extui v446
  let v448 : BitVec 32 := Scalar.addi v445 v447
  let v456 : BitVec 1 := Scalar.cmpi .eq v438 v448
  let v457 : BitVec 32 := Scalar.extui v456
  let c0_i32_176 : BitVec 32 := 0#32
  let v458 : BitVec 1 := Scalar.cmpi .ne v457 c0_i32_176
  v458

def k0_off72 (i : grid0.Coords) (v1124 : BitVec 32) : Fin 2 → Nat :=
  let c2500_i32_165 : BitVec 32 := 2500#32
  let arg0 : BitVec 32 := BitVec.ofNat 32 (i 0).val
  let c2048_i32 : BitVec 32 := 2048#32
  let v0 : BitVec 32 := Scalar.muli arg0 c2048_i32
  let c704_i32 : BitVec 32 := 704#32
  let v429 : BitVec 32 := Scalar.addi v0 c704_i32
  let v430 : BitVec 32 := Scalar.addi c2500_i32_165 v429
  let v1125 : BitVec 32 := Scalar.subi v430 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk13 (i : grid0.Coords) (v2 : BitVec 32) (v4 : BitVec 32) (v6 : BitVec 32) (v8 : BitVec 32) (v1124 : BitVec 32) : Prop :=
  (∀ (k0_h111 : k0_cond111 i v2 v4 v6 v8 = 1#1), ∀ a, (k0_off72 i v1124) a + S72x512.size a ≤ S5000x512.size a)
theorem k0_off72_inb : ∀ (i : grid0.Coords) (v2 : BitVec 32) (v4 : BitVec 32) (v6 : BitVec 32) (v8 : BitVec 32) (v1124 : BitVec 32) (k0_hw13 : k0_chk13 i v2 v4 v6 v8 v1124), ∀ (k0_h111 : k0_cond111 i v2 v4 v6 v8 = 1#1), ∀ a, (k0_off72 i v1124) a + S72x512.size a ≤ S5000x512.size a := fun i v2 v4 v6 v8 v1124 k0_hw13 k0_h111 => k0_hw13 k0_h111

def k0_off73 (i : grid0.Coords) (v2 : BitVec 32) : Fin 2 → Nat :=
  let c2500_i32_165 : BitVec 32 := 2500#32
  let arg0 : BitVec 32 := BitVec.ofNat 32 (i 0).val
  let c2048_i32 : BitVec 32 := 2048#32
  let v0 : BitVec 32 := Scalar.muli arg0 c2048_i32
  let c704_i32 : BitVec 32 := 704#32
  let v429 : BitVec 32 := Scalar.addi v0 c704_i32
  let v430 : BitVec 32 := Scalar.addi c2500_i32_165 v429
  let v1136 : BitVec 32 := Scalar.subi v430 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond120 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c704_i32 : BitVec 32 := 704#32
  let v429 : BitVec 32 := Scalar.addi v0 c704_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v431 : BitVec 1 := Scalar.cmpi .sge v429 v27
  let v432 : BitVec 32 := Scalar.extui v431
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v433 : BitVec 1 := Scalar.cmpi .sge v429 v46
  let v434 : BitVec 32 := Scalar.extui v433
  let v435 : BitVec 32 := Scalar.addi v432 v434
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v436 : BitVec 1 := Scalar.cmpi .sge v429 v65
  let v437 : BitVec 32 := Scalar.extui v436
  let v438 : BitVec 32 := Scalar.addi v435 v437
  let c64_i32_166 : BitVec 32 := 64#32
  let v439 : BitVec 32 := Scalar.addi v429 c64_i32_166
  let c1_i32_167 : BitVec 32 := 1#32
  let v440 : BitVec 32 := Scalar.subi v439 c1_i32_167
  let v441 : BitVec 1 := Scalar.cmpi .sge v440 v27
  let v442 : BitVec 32 := Scalar.extui v441
  let v443 : BitVec 1 := Scalar.cmpi .sge v440 v46
  let v444 : BitVec 32 := Scalar.extui v443
  let v445 : BitVec 32 := Scalar.addi v442 v444
  let v446 : BitVec 1 := Scalar.cmpi .sge v440 v65
  let v447 : BitVec 32 := Scalar.extui v446
  let v448 : BitVec 32 := Scalar.addi v445 v447
  let v459 : BitVec 1 := Scalar.cmpi .ne v438 v448
  let v460 : BitVec 32 := Scalar.extui v459
  let c0_i32_177 : BitVec 32 := 0#32
  let v461 : BitVec 1 := Scalar.cmpi .ne v460 c0_i32_177
  v461

def k0_off74 (i : grid0.Coords) (v4 : BitVec 32) : Fin 2 → Nat :=
  let c2500_i32_165 : BitVec 32 := 2500#32
  let arg0 : BitVec 32 := BitVec.ofNat 32 (i 0).val
  let c2048_i32 : BitVec 32 := 2048#32
  let v0 : BitVec 32 := Scalar.muli arg0 c2048_i32
  let c704_i32 : BitVec 32 := 704#32
  let v429 : BitVec 32 := Scalar.addi v0 c704_i32
  let v430 : BitVec 32 := Scalar.addi c2500_i32_165 v429
  let v1148 : BitVec 32 := Scalar.subi v430 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off75 (i : grid0.Coords) (v6 : BitVec 32) : Fin 2 → Nat :=
  let c2500_i32_165 : BitVec 32 := 2500#32
  let arg0 : BitVec 32 := BitVec.ofNat 32 (i 0).val
  let c2048_i32 : BitVec 32 := 2048#32
  let v0 : BitVec 32 := Scalar.muli arg0 c2048_i32
  let c704_i32 : BitVec 32 := 704#32
  let v429 : BitVec 32 := Scalar.addi v0 c704_i32
  let v430 : BitVec 32 := Scalar.addi c2500_i32_165 v429
  let v1163 : BitVec 32 := Scalar.subi v430 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off76 (i : grid0.Coords) (v8 : BitVec 32) : Fin 2 → Nat :=
  let c2500_i32_165 : BitVec 32 := 2500#32
  let arg0 : BitVec 32 := BitVec.ofNat 32 (i 0).val
  let c2048_i32 : BitVec 32 := 2048#32
  let v0 : BitVec 32 := Scalar.muli arg0 c2048_i32
  let c704_i32 : BitVec 32 := 704#32
  let v429 : BitVec 32 := Scalar.addi v0 c704_i32
  let v430 : BitVec 32 := Scalar.addi c2500_i32_165 v429
  let v1178 : BitVec 32 := Scalar.subi v430 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off77 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c768_i32 : BitVec 32 := 768#32
  let v462 : BitVec 32 := Scalar.addi v0 c768_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v464 : BitVec 1 := Scalar.cmpi .sge v462 v27
  let v465 : BitVec 32 := Scalar.extui v464
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v466 : BitVec 1 := Scalar.cmpi .sge v462 v46
  let v467 : BitVec 32 := Scalar.extui v466
  let v468 : BitVec 32 := Scalar.addi v465 v467
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v469 : BitVec 1 := Scalar.cmpi .sge v462 v65
  let v470 : BitVec 32 := Scalar.extui v469
  let v471 : BitVec 32 := Scalar.addi v468 v470
  let v1123 : Index := Scalar.indexCast v471
  ![v1122.toNat, v1123.toNat]
def k0_cond121 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c768_i32 : BitVec 32 := 768#32
  let v462 : BitVec 32 := Scalar.addi v0 c768_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v464 : BitVec 1 := Scalar.cmpi .sge v462 v27
  let v465 : BitVec 32 := Scalar.extui v464
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v466 : BitVec 1 := Scalar.cmpi .sge v462 v46
  let v467 : BitVec 32 := Scalar.extui v466
  let v468 : BitVec 32 := Scalar.addi v465 v467
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v469 : BitVec 1 := Scalar.cmpi .sge v462 v65
  let v470 : BitVec 32 := Scalar.extui v469
  let v471 : BitVec 32 := Scalar.addi v468 v470
  let c64_i32_179 : BitVec 32 := 64#32
  let v472 : BitVec 32 := Scalar.addi v462 c64_i32_179
  let c1_i32_180 : BitVec 32 := 1#32
  let v473 : BitVec 32 := Scalar.subi v472 c1_i32_180
  let v474 : BitVec 1 := Scalar.cmpi .sge v473 v27
  let v475 : BitVec 32 := Scalar.extui v474
  let v476 : BitVec 1 := Scalar.cmpi .sge v473 v46
  let v477 : BitVec 32 := Scalar.extui v476
  let v478 : BitVec 32 := Scalar.addi v475 v477
  let v479 : BitVec 1 := Scalar.cmpi .sge v473 v65
  let v480 : BitVec 32 := Scalar.extui v479
  let v481 : BitVec 32 := Scalar.addi v478 v480
  let v489 : BitVec 1 := Scalar.cmpi .eq v471 v481
  let v490 : BitVec 32 := Scalar.extui v489
  let c0_i32_189 : BitVec 32 := 0#32
  let v491 : BitVec 1 := Scalar.cmpi .ne v490 c0_i32_189
  v491

def k0_off78 (i : grid0.Coords) (v1124 : BitVec 32) : Fin 2 → Nat :=
  let c2500_i32_178 : BitVec 32 := 2500#32
  let arg0 : BitVec 32 := BitVec.ofNat 32 (i 0).val
  let c2048_i32 : BitVec 32 := 2048#32
  let v0 : BitVec 32 := Scalar.muli arg0 c2048_i32
  let c768_i32 : BitVec 32 := 768#32
  let v462 : BitVec 32 := Scalar.addi v0 c768_i32
  let v463 : BitVec 32 := Scalar.addi c2500_i32_178 v462
  let v1125 : BitVec 32 := Scalar.subi v463 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk14 (i : grid0.Coords) (v2 : BitVec 32) (v4 : BitVec 32) (v6 : BitVec 32) (v8 : BitVec 32) (v1124 : BitVec 32) : Prop :=
  (∀ (k0_h121 : k0_cond121 i v2 v4 v6 v8 = 1#1), ∀ a, (k0_off78 i v1124) a + S72x512.size a ≤ S5000x512.size a)
theorem k0_off78_inb : ∀ (i : grid0.Coords) (v2 : BitVec 32) (v4 : BitVec 32) (v6 : BitVec 32) (v8 : BitVec 32) (v1124 : BitVec 32) (k0_hw14 : k0_chk14 i v2 v4 v6 v8 v1124), ∀ (k0_h121 : k0_cond121 i v2 v4 v6 v8 = 1#1), ∀ a, (k0_off78 i v1124) a + S72x512.size a ≤ S5000x512.size a := fun i v2 v4 v6 v8 v1124 k0_hw14 k0_h121 => k0_hw14 k0_h121

def k0_off79 (i : grid0.Coords) (v2 : BitVec 32) : Fin 2 → Nat :=
  let c2500_i32_178 : BitVec 32 := 2500#32
  let arg0 : BitVec 32 := BitVec.ofNat 32 (i 0).val
  let c2048_i32 : BitVec 32 := 2048#32
  let v0 : BitVec 32 := Scalar.muli arg0 c2048_i32
  let c768_i32 : BitVec 32 := 768#32
  let v462 : BitVec 32 := Scalar.addi v0 c768_i32
  let v463 : BitVec 32 := Scalar.addi c2500_i32_178 v462
  let v1136 : BitVec 32 := Scalar.subi v463 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond130 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c768_i32 : BitVec 32 := 768#32
  let v462 : BitVec 32 := Scalar.addi v0 c768_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v464 : BitVec 1 := Scalar.cmpi .sge v462 v27
  let v465 : BitVec 32 := Scalar.extui v464
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v466 : BitVec 1 := Scalar.cmpi .sge v462 v46
  let v467 : BitVec 32 := Scalar.extui v466
  let v468 : BitVec 32 := Scalar.addi v465 v467
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v469 : BitVec 1 := Scalar.cmpi .sge v462 v65
  let v470 : BitVec 32 := Scalar.extui v469
  let v471 : BitVec 32 := Scalar.addi v468 v470
  let c64_i32_179 : BitVec 32 := 64#32
  let v472 : BitVec 32 := Scalar.addi v462 c64_i32_179
  let c1_i32_180 : BitVec 32 := 1#32
  let v473 : BitVec 32 := Scalar.subi v472 c1_i32_180
  let v474 : BitVec 1 := Scalar.cmpi .sge v473 v27
  let v475 : BitVec 32 := Scalar.extui v474
  let v476 : BitVec 1 := Scalar.cmpi .sge v473 v46
  let v477 : BitVec 32 := Scalar.extui v476
  let v478 : BitVec 32 := Scalar.addi v475 v477
  let v479 : BitVec 1 := Scalar.cmpi .sge v473 v65
  let v480 : BitVec 32 := Scalar.extui v479
  let v481 : BitVec 32 := Scalar.addi v478 v480
  let v492 : BitVec 1 := Scalar.cmpi .ne v471 v481
  let v493 : BitVec 32 := Scalar.extui v492
  let c0_i32_190 : BitVec 32 := 0#32
  let v494 : BitVec 1 := Scalar.cmpi .ne v493 c0_i32_190
  v494

def k0_off80 (i : grid0.Coords) (v4 : BitVec 32) : Fin 2 → Nat :=
  let c2500_i32_178 : BitVec 32 := 2500#32
  let arg0 : BitVec 32 := BitVec.ofNat 32 (i 0).val
  let c2048_i32 : BitVec 32 := 2048#32
  let v0 : BitVec 32 := Scalar.muli arg0 c2048_i32
  let c768_i32 : BitVec 32 := 768#32
  let v462 : BitVec 32 := Scalar.addi v0 c768_i32
  let v463 : BitVec 32 := Scalar.addi c2500_i32_178 v462
  let v1148 : BitVec 32 := Scalar.subi v463 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off81 (i : grid0.Coords) (v6 : BitVec 32) : Fin 2 → Nat :=
  let c2500_i32_178 : BitVec 32 := 2500#32
  let arg0 : BitVec 32 := BitVec.ofNat 32 (i 0).val
  let c2048_i32 : BitVec 32 := 2048#32
  let v0 : BitVec 32 := Scalar.muli arg0 c2048_i32
  let c768_i32 : BitVec 32 := 768#32
  let v462 : BitVec 32 := Scalar.addi v0 c768_i32
  let v463 : BitVec 32 := Scalar.addi c2500_i32_178 v462
  let v1163 : BitVec 32 := Scalar.subi v463 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off82 (i : grid0.Coords) (v8 : BitVec 32) : Fin 2 → Nat :=
  let c2500_i32_178 : BitVec 32 := 2500#32
  let arg0 : BitVec 32 := BitVec.ofNat 32 (i 0).val
  let c2048_i32 : BitVec 32 := 2048#32
  let v0 : BitVec 32 := Scalar.muli arg0 c2048_i32
  let c768_i32 : BitVec 32 := 768#32
  let v462 : BitVec 32 := Scalar.addi v0 c768_i32
  let v463 : BitVec 32 := Scalar.addi c2500_i32_178 v462
  let v1178 : BitVec 32 := Scalar.subi v463 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off83 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c832_i32 : BitVec 32 := 832#32
  let v495 : BitVec 32 := Scalar.addi v0 c832_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v497 : BitVec 1 := Scalar.cmpi .sge v495 v27
  let v498 : BitVec 32 := Scalar.extui v497
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v499 : BitVec 1 := Scalar.cmpi .sge v495 v46
  let v500 : BitVec 32 := Scalar.extui v499
  let v501 : BitVec 32 := Scalar.addi v498 v500
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v502 : BitVec 1 := Scalar.cmpi .sge v495 v65
  let v503 : BitVec 32 := Scalar.extui v502
  let v504 : BitVec 32 := Scalar.addi v501 v503
  let v1123 : Index := Scalar.indexCast v504
  ![v1122.toNat, v1123.toNat]
def k0_cond131 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c832_i32 : BitVec 32 := 832#32
  let v495 : BitVec 32 := Scalar.addi v0 c832_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v497 : BitVec 1 := Scalar.cmpi .sge v495 v27
  let v498 : BitVec 32 := Scalar.extui v497
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v499 : BitVec 1 := Scalar.cmpi .sge v495 v46
  let v500 : BitVec 32 := Scalar.extui v499
  let v501 : BitVec 32 := Scalar.addi v498 v500
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v502 : BitVec 1 := Scalar.cmpi .sge v495 v65
  let v503 : BitVec 32 := Scalar.extui v502
  let v504 : BitVec 32 := Scalar.addi v501 v503
  let c64_i32_192 : BitVec 32 := 64#32
  let v505 : BitVec 32 := Scalar.addi v495 c64_i32_192
  let c1_i32_193 : BitVec 32 := 1#32
  let v506 : BitVec 32 := Scalar.subi v505 c1_i32_193
  let v507 : BitVec 1 := Scalar.cmpi .sge v506 v27
  let v508 : BitVec 32 := Scalar.extui v507
  let v509 : BitVec 1 := Scalar.cmpi .sge v506 v46
  let v510 : BitVec 32 := Scalar.extui v509
  let v511 : BitVec 32 := Scalar.addi v508 v510
  let v512 : BitVec 1 := Scalar.cmpi .sge v506 v65
  let v513 : BitVec 32 := Scalar.extui v512
  let v514 : BitVec 32 := Scalar.addi v511 v513
  let v522 : BitVec 1 := Scalar.cmpi .eq v504 v514
  let v523 : BitVec 32 := Scalar.extui v522
  let c0_i32_202 : BitVec 32 := 0#32
  let v524 : BitVec 1 := Scalar.cmpi .ne v523 c0_i32_202
  v524

def k0_off84 (i : grid0.Coords) (v1124 : BitVec 32) : Fin 2 → Nat :=
  let c2500_i32_191 : BitVec 32 := 2500#32
  let arg0 : BitVec 32 := BitVec.ofNat 32 (i 0).val
  let c2048_i32 : BitVec 32 := 2048#32
  let v0 : BitVec 32 := Scalar.muli arg0 c2048_i32
  let c832_i32 : BitVec 32 := 832#32
  let v495 : BitVec 32 := Scalar.addi v0 c832_i32
  let v496 : BitVec 32 := Scalar.addi c2500_i32_191 v495
  let v1125 : BitVec 32 := Scalar.subi v496 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk15 (i : grid0.Coords) (v2 : BitVec 32) (v4 : BitVec 32) (v6 : BitVec 32) (v8 : BitVec 32) (v1124 : BitVec 32) : Prop :=
  (∀ (k0_h131 : k0_cond131 i v2 v4 v6 v8 = 1#1), ∀ a, (k0_off84 i v1124) a + S72x512.size a ≤ S5000x512.size a)
theorem k0_off84_inb : ∀ (i : grid0.Coords) (v2 : BitVec 32) (v4 : BitVec 32) (v6 : BitVec 32) (v8 : BitVec 32) (v1124 : BitVec 32) (k0_hw15 : k0_chk15 i v2 v4 v6 v8 v1124), ∀ (k0_h131 : k0_cond131 i v2 v4 v6 v8 = 1#1), ∀ a, (k0_off84 i v1124) a + S72x512.size a ≤ S5000x512.size a := fun i v2 v4 v6 v8 v1124 k0_hw15 k0_h131 => k0_hw15 k0_h131

def k0_off85 (i : grid0.Coords) (v2 : BitVec 32) : Fin 2 → Nat :=
  let c2500_i32_191 : BitVec 32 := 2500#32
  let arg0 : BitVec 32 := BitVec.ofNat 32 (i 0).val
  let c2048_i32 : BitVec 32 := 2048#32
  let v0 : BitVec 32 := Scalar.muli arg0 c2048_i32
  let c832_i32 : BitVec 32 := 832#32
  let v495 : BitVec 32 := Scalar.addi v0 c832_i32
  let v496 : BitVec 32 := Scalar.addi c2500_i32_191 v495
  let v1136 : BitVec 32 := Scalar.subi v496 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond140 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c832_i32 : BitVec 32 := 832#32
  let v495 : BitVec 32 := Scalar.addi v0 c832_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v497 : BitVec 1 := Scalar.cmpi .sge v495 v27
  let v498 : BitVec 32 := Scalar.extui v497
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v499 : BitVec 1 := Scalar.cmpi .sge v495 v46
  let v500 : BitVec 32 := Scalar.extui v499
  let v501 : BitVec 32 := Scalar.addi v498 v500
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v502 : BitVec 1 := Scalar.cmpi .sge v495 v65
  let v503 : BitVec 32 := Scalar.extui v502
  let v504 : BitVec 32 := Scalar.addi v501 v503
  let c64_i32_192 : BitVec 32 := 64#32
  let v505 : BitVec 32 := Scalar.addi v495 c64_i32_192
  let c1_i32_193 : BitVec 32 := 1#32
  let v506 : BitVec 32 := Scalar.subi v505 c1_i32_193
  let v507 : BitVec 1 := Scalar.cmpi .sge v506 v27
  let v508 : BitVec 32 := Scalar.extui v507
  let v509 : BitVec 1 := Scalar.cmpi .sge v506 v46
  let v510 : BitVec 32 := Scalar.extui v509
  let v511 : BitVec 32 := Scalar.addi v508 v510
  let v512 : BitVec 1 := Scalar.cmpi .sge v506 v65
  let v513 : BitVec 32 := Scalar.extui v512
  let v514 : BitVec 32 := Scalar.addi v511 v513
  let v525 : BitVec 1 := Scalar.cmpi .ne v504 v514
  let v526 : BitVec 32 := Scalar.extui v525
  let c0_i32_203 : BitVec 32 := 0#32
  let v527 : BitVec 1 := Scalar.cmpi .ne v526 c0_i32_203
  v527

def k0_off86 (i : grid0.Coords) (v4 : BitVec 32) : Fin 2 → Nat :=
  let c2500_i32_191 : BitVec 32 := 2500#32
  let arg0 : BitVec 32 := BitVec.ofNat 32 (i 0).val
  let c2048_i32 : BitVec 32 := 2048#32
  let v0 : BitVec 32 := Scalar.muli arg0 c2048_i32
  let c832_i32 : BitVec 32 := 832#32
  let v495 : BitVec 32 := Scalar.addi v0 c832_i32
  let v496 : BitVec 32 := Scalar.addi c2500_i32_191 v495
  let v1148 : BitVec 32 := Scalar.subi v496 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off87 (i : grid0.Coords) (v6 : BitVec 32) : Fin 2 → Nat :=
  let c2500_i32_191 : BitVec 32 := 2500#32
  let arg0 : BitVec 32 := BitVec.ofNat 32 (i 0).val
  let c2048_i32 : BitVec 32 := 2048#32
  let v0 : BitVec 32 := Scalar.muli arg0 c2048_i32
  let c832_i32 : BitVec 32 := 832#32
  let v495 : BitVec 32 := Scalar.addi v0 c832_i32
  let v496 : BitVec 32 := Scalar.addi c2500_i32_191 v495
  let v1163 : BitVec 32 := Scalar.subi v496 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off88 (i : grid0.Coords) (v8 : BitVec 32) : Fin 2 → Nat :=
  let c2500_i32_191 : BitVec 32 := 2500#32
  let arg0 : BitVec 32 := BitVec.ofNat 32 (i 0).val
  let c2048_i32 : BitVec 32 := 2048#32
  let v0 : BitVec 32 := Scalar.muli arg0 c2048_i32
  let c832_i32 : BitVec 32 := 832#32
  let v495 : BitVec 32 := Scalar.addi v0 c832_i32
  let v496 : BitVec 32 := Scalar.addi c2500_i32_191 v495
  let v1178 : BitVec 32 := Scalar.subi v496 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off89 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c896_i32 : BitVec 32 := 896#32
  let v528 : BitVec 32 := Scalar.addi v0 c896_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v530 : BitVec 1 := Scalar.cmpi .sge v528 v27
  let v531 : BitVec 32 := Scalar.extui v530
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v532 : BitVec 1 := Scalar.cmpi .sge v528 v46
  let v533 : BitVec 32 := Scalar.extui v532
  let v534 : BitVec 32 := Scalar.addi v531 v533
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v535 : BitVec 1 := Scalar.cmpi .sge v528 v65
  let v536 : BitVec 32 := Scalar.extui v535
  let v537 : BitVec 32 := Scalar.addi v534 v536
  let v1123 : Index := Scalar.indexCast v537
  ![v1122.toNat, v1123.toNat]
def k0_cond141 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c896_i32 : BitVec 32 := 896#32
  let v528 : BitVec 32 := Scalar.addi v0 c896_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v530 : BitVec 1 := Scalar.cmpi .sge v528 v27
  let v531 : BitVec 32 := Scalar.extui v530
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v532 : BitVec 1 := Scalar.cmpi .sge v528 v46
  let v533 : BitVec 32 := Scalar.extui v532
  let v534 : BitVec 32 := Scalar.addi v531 v533
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v535 : BitVec 1 := Scalar.cmpi .sge v528 v65
  let v536 : BitVec 32 := Scalar.extui v535
  let v537 : BitVec 32 := Scalar.addi v534 v536
  let c64_i32_205 : BitVec 32 := 64#32
  let v538 : BitVec 32 := Scalar.addi v528 c64_i32_205
  let c1_i32_206 : BitVec 32 := 1#32
  let v539 : BitVec 32 := Scalar.subi v538 c1_i32_206
  let v540 : BitVec 1 := Scalar.cmpi .sge v539 v27
  let v541 : BitVec 32 := Scalar.extui v540
  let v542 : BitVec 1 := Scalar.cmpi .sge v539 v46
  let v543 : BitVec 32 := Scalar.extui v542
  let v544 : BitVec 32 := Scalar.addi v541 v543
  let v545 : BitVec 1 := Scalar.cmpi .sge v539 v65
  let v546 : BitVec 32 := Scalar.extui v545
  let v547 : BitVec 32 := Scalar.addi v544 v546
  let v555 : BitVec 1 := Scalar.cmpi .eq v537 v547
  let v556 : BitVec 32 := Scalar.extui v555
  let c0_i32_215 : BitVec 32 := 0#32
  let v557 : BitVec 1 := Scalar.cmpi .ne v556 c0_i32_215
  v557

def k0_off90 (i : grid0.Coords) (v1124 : BitVec 32) : Fin 2 → Nat :=
  let c2500_i32_204 : BitVec 32 := 2500#32
  let arg0 : BitVec 32 := BitVec.ofNat 32 (i 0).val
  let c2048_i32 : BitVec 32 := 2048#32
  let v0 : BitVec 32 := Scalar.muli arg0 c2048_i32
  let c896_i32 : BitVec 32 := 896#32
  let v528 : BitVec 32 := Scalar.addi v0 c896_i32
  let v529 : BitVec 32 := Scalar.addi c2500_i32_204 v528
  let v1125 : BitVec 32 := Scalar.subi v529 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk16 (i : grid0.Coords) (v2 : BitVec 32) (v4 : BitVec 32) (v6 : BitVec 32) (v8 : BitVec 32) (v1124 : BitVec 32) : Prop :=
  (∀ (k0_h141 : k0_cond141 i v2 v4 v6 v8 = 1#1), ∀ a, (k0_off90 i v1124) a + S72x512.size a ≤ S5000x512.size a)
theorem k0_off90_inb : ∀ (i : grid0.Coords) (v2 : BitVec 32) (v4 : BitVec 32) (v6 : BitVec 32) (v8 : BitVec 32) (v1124 : BitVec 32) (k0_hw16 : k0_chk16 i v2 v4 v6 v8 v1124), ∀ (k0_h141 : k0_cond141 i v2 v4 v6 v8 = 1#1), ∀ a, (k0_off90 i v1124) a + S72x512.size a ≤ S5000x512.size a := fun i v2 v4 v6 v8 v1124 k0_hw16 k0_h141 => k0_hw16 k0_h141

def k0_off91 (i : grid0.Coords) (v2 : BitVec 32) : Fin 2 → Nat :=
  let c2500_i32_204 : BitVec 32 := 2500#32
  let arg0 : BitVec 32 := BitVec.ofNat 32 (i 0).val
  let c2048_i32 : BitVec 32 := 2048#32
  let v0 : BitVec 32 := Scalar.muli arg0 c2048_i32
  let c896_i32 : BitVec 32 := 896#32
  let v528 : BitVec 32 := Scalar.addi v0 c896_i32
  let v529 : BitVec 32 := Scalar.addi c2500_i32_204 v528
  let v1136 : BitVec 32 := Scalar.subi v529 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond150 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c896_i32 : BitVec 32 := 896#32
  let v528 : BitVec 32 := Scalar.addi v0 c896_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v530 : BitVec 1 := Scalar.cmpi .sge v528 v27
  let v531 : BitVec 32 := Scalar.extui v530
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v532 : BitVec 1 := Scalar.cmpi .sge v528 v46
  let v533 : BitVec 32 := Scalar.extui v532
  let v534 : BitVec 32 := Scalar.addi v531 v533
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v535 : BitVec 1 := Scalar.cmpi .sge v528 v65
  let v536 : BitVec 32 := Scalar.extui v535
  let v537 : BitVec 32 := Scalar.addi v534 v536
  let c64_i32_205 : BitVec 32 := 64#32
  let v538 : BitVec 32 := Scalar.addi v528 c64_i32_205
  let c1_i32_206 : BitVec 32 := 1#32
  let v539 : BitVec 32 := Scalar.subi v538 c1_i32_206
  let v540 : BitVec 1 := Scalar.cmpi .sge v539 v27
  let v541 : BitVec 32 := Scalar.extui v540
  let v542 : BitVec 1 := Scalar.cmpi .sge v539 v46
  let v543 : BitVec 32 := Scalar.extui v542
  let v544 : BitVec 32 := Scalar.addi v541 v543
  let v545 : BitVec 1 := Scalar.cmpi .sge v539 v65
  let v546 : BitVec 32 := Scalar.extui v545
  let v547 : BitVec 32 := Scalar.addi v544 v546
  let v558 : BitVec 1 := Scalar.cmpi .ne v537 v547
  let v559 : BitVec 32 := Scalar.extui v558
  let c0_i32_216 : BitVec 32 := 0#32
  let v560 : BitVec 1 := Scalar.cmpi .ne v559 c0_i32_216
  v560

def k0_off92 (i : grid0.Coords) (v4 : BitVec 32) : Fin 2 → Nat :=
  let c2500_i32_204 : BitVec 32 := 2500#32
  let arg0 : BitVec 32 := BitVec.ofNat 32 (i 0).val
  let c2048_i32 : BitVec 32 := 2048#32
  let v0 : BitVec 32 := Scalar.muli arg0 c2048_i32
  let c896_i32 : BitVec 32 := 896#32
  let v528 : BitVec 32 := Scalar.addi v0 c896_i32
  let v529 : BitVec 32 := Scalar.addi c2500_i32_204 v528
  let v1148 : BitVec 32 := Scalar.subi v529 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off93 (i : grid0.Coords) (v6 : BitVec 32) : Fin 2 → Nat :=
  let c2500_i32_204 : BitVec 32 := 2500#32
  let arg0 : BitVec 32 := BitVec.ofNat 32 (i 0).val
  let c2048_i32 : BitVec 32 := 2048#32
  let v0 : BitVec 32 := Scalar.muli arg0 c2048_i32
  let c896_i32 : BitVec 32 := 896#32
  let v528 : BitVec 32 := Scalar.addi v0 c896_i32
  let v529 : BitVec 32 := Scalar.addi c2500_i32_204 v528
  let v1163 : BitVec 32 := Scalar.subi v529 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off94 (i : grid0.Coords) (v8 : BitVec 32) : Fin 2 → Nat :=
  let c2500_i32_204 : BitVec 32 := 2500#32
  let arg0 : BitVec 32 := BitVec.ofNat 32 (i 0).val
  let c2048_i32 : BitVec 32 := 2048#32
  let v0 : BitVec 32 := Scalar.muli arg0 c2048_i32
  let c896_i32 : BitVec 32 := 896#32
  let v528 : BitVec 32 := Scalar.addi v0 c896_i32
  let v529 : BitVec 32 := Scalar.addi c2500_i32_204 v528
  let v1178 : BitVec 32 := Scalar.subi v529 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off95 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c960_i32 : BitVec 32 := 960#32
  let v561 : BitVec 32 := Scalar.addi v0 c960_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v563 : BitVec 1 := Scalar.cmpi .sge v561 v27
  let v564 : BitVec 32 := Scalar.extui v563
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v565 : BitVec 1 := Scalar.cmpi .sge v561 v46
  let v566 : BitVec 32 := Scalar.extui v565
  let v567 : BitVec 32 := Scalar.addi v564 v566
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v568 : BitVec 1 := Scalar.cmpi .sge v561 v65
  let v569 : BitVec 32 := Scalar.extui v568
  let v570 : BitVec 32 := Scalar.addi v567 v569
  let v1123 : Index := Scalar.indexCast v570
  ![v1122.toNat, v1123.toNat]
def k0_cond151 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c960_i32 : BitVec 32 := 960#32
  let v561 : BitVec 32 := Scalar.addi v0 c960_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v563 : BitVec 1 := Scalar.cmpi .sge v561 v27
  let v564 : BitVec 32 := Scalar.extui v563
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v565 : BitVec 1 := Scalar.cmpi .sge v561 v46
  let v566 : BitVec 32 := Scalar.extui v565
  let v567 : BitVec 32 := Scalar.addi v564 v566
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v568 : BitVec 1 := Scalar.cmpi .sge v561 v65
  let v569 : BitVec 32 := Scalar.extui v568
  let v570 : BitVec 32 := Scalar.addi v567 v569
  let c64_i32_218 : BitVec 32 := 64#32
  let v571 : BitVec 32 := Scalar.addi v561 c64_i32_218
  let c1_i32_219 : BitVec 32 := 1#32
  let v572 : BitVec 32 := Scalar.subi v571 c1_i32_219
  let v573 : BitVec 1 := Scalar.cmpi .sge v572 v27
  let v574 : BitVec 32 := Scalar.extui v573
  let v575 : BitVec 1 := Scalar.cmpi .sge v572 v46
  let v576 : BitVec 32 := Scalar.extui v575
  let v577 : BitVec 32 := Scalar.addi v574 v576
  let v578 : BitVec 1 := Scalar.cmpi .sge v572 v65
  let v579 : BitVec 32 := Scalar.extui v578
  let v580 : BitVec 32 := Scalar.addi v577 v579
  let v588 : BitVec 1 := Scalar.cmpi .eq v570 v580
  let v589 : BitVec 32 := Scalar.extui v588
  let c0_i32_228 : BitVec 32 := 0#32
  let v590 : BitVec 1 := Scalar.cmpi .ne v589 c0_i32_228
  v590

def k0_off96 (i : grid0.Coords) (v1124 : BitVec 32) : Fin 2 → Nat :=
  let c2500_i32_217 : BitVec 32 := 2500#32
  let arg0 : BitVec 32 := BitVec.ofNat 32 (i 0).val
  let c2048_i32 : BitVec 32 := 2048#32
  let v0 : BitVec 32 := Scalar.muli arg0 c2048_i32
  let c960_i32 : BitVec 32 := 960#32
  let v561 : BitVec 32 := Scalar.addi v0 c960_i32
  let v562 : BitVec 32 := Scalar.addi c2500_i32_217 v561
  let v1125 : BitVec 32 := Scalar.subi v562 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk17 (i : grid0.Coords) (v2 : BitVec 32) (v4 : BitVec 32) (v6 : BitVec 32) (v8 : BitVec 32) (v1124 : BitVec 32) : Prop :=
  (∀ (k0_h151 : k0_cond151 i v2 v4 v6 v8 = 1#1), ∀ a, (k0_off96 i v1124) a + S72x512.size a ≤ S5000x512.size a)
theorem k0_off96_inb : ∀ (i : grid0.Coords) (v2 : BitVec 32) (v4 : BitVec 32) (v6 : BitVec 32) (v8 : BitVec 32) (v1124 : BitVec 32) (k0_hw17 : k0_chk17 i v2 v4 v6 v8 v1124), ∀ (k0_h151 : k0_cond151 i v2 v4 v6 v8 = 1#1), ∀ a, (k0_off96 i v1124) a + S72x512.size a ≤ S5000x512.size a := fun i v2 v4 v6 v8 v1124 k0_hw17 k0_h151 => k0_hw17 k0_h151

def k0_off97 (i : grid0.Coords) (v2 : BitVec 32) : Fin 2 → Nat :=
  let c2500_i32_217 : BitVec 32 := 2500#32
  let arg0 : BitVec 32 := BitVec.ofNat 32 (i 0).val
  let c2048_i32 : BitVec 32 := 2048#32
  let v0 : BitVec 32 := Scalar.muli arg0 c2048_i32
  let c960_i32 : BitVec 32 := 960#32
  let v561 : BitVec 32 := Scalar.addi v0 c960_i32
  let v562 : BitVec 32 := Scalar.addi c2500_i32_217 v561
  let v1136 : BitVec 32 := Scalar.subi v562 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond160 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c960_i32 : BitVec 32 := 960#32
  let v561 : BitVec 32 := Scalar.addi v0 c960_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v563 : BitVec 1 := Scalar.cmpi .sge v561 v27
  let v564 : BitVec 32 := Scalar.extui v563
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v565 : BitVec 1 := Scalar.cmpi .sge v561 v46
  let v566 : BitVec 32 := Scalar.extui v565
  let v567 : BitVec 32 := Scalar.addi v564 v566
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v568 : BitVec 1 := Scalar.cmpi .sge v561 v65
  let v569 : BitVec 32 := Scalar.extui v568
  let v570 : BitVec 32 := Scalar.addi v567 v569
  let c64_i32_218 : BitVec 32 := 64#32
  let v571 : BitVec 32 := Scalar.addi v561 c64_i32_218
  let c1_i32_219 : BitVec 32 := 1#32
  let v572 : BitVec 32 := Scalar.subi v571 c1_i32_219
  let v573 : BitVec 1 := Scalar.cmpi .sge v572 v27
  let v574 : BitVec 32 := Scalar.extui v573
  let v575 : BitVec 1 := Scalar.cmpi .sge v572 v46
  let v576 : BitVec 32 := Scalar.extui v575
  let v577 : BitVec 32 := Scalar.addi v574 v576
  let v578 : BitVec 1 := Scalar.cmpi .sge v572 v65
  let v579 : BitVec 32 := Scalar.extui v578
  let v580 : BitVec 32 := Scalar.addi v577 v579
  let v591 : BitVec 1 := Scalar.cmpi .ne v570 v580
  let v592 : BitVec 32 := Scalar.extui v591
  let c0_i32_229 : BitVec 32 := 0#32
  let v593 : BitVec 1 := Scalar.cmpi .ne v592 c0_i32_229
  v593

def k0_off98 (i : grid0.Coords) (v4 : BitVec 32) : Fin 2 → Nat :=
  let c2500_i32_217 : BitVec 32 := 2500#32
  let arg0 : BitVec 32 := BitVec.ofNat 32 (i 0).val
  let c2048_i32 : BitVec 32 := 2048#32
  let v0 : BitVec 32 := Scalar.muli arg0 c2048_i32
  let c960_i32 : BitVec 32 := 960#32
  let v561 : BitVec 32 := Scalar.addi v0 c960_i32
  let v562 : BitVec 32 := Scalar.addi c2500_i32_217 v561
  let v1148 : BitVec 32 := Scalar.subi v562 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off99 (i : grid0.Coords) (v6 : BitVec 32) : Fin 2 → Nat :=
  let c2500_i32_217 : BitVec 32 := 2500#32
  let arg0 : BitVec 32 := BitVec.ofNat 32 (i 0).val
  let c2048_i32 : BitVec 32 := 2048#32
  let v0 : BitVec 32 := Scalar.muli arg0 c2048_i32
  let c960_i32 : BitVec 32 := 960#32
  let v561 : BitVec 32 := Scalar.addi v0 c960_i32
  let v562 : BitVec 32 := Scalar.addi c2500_i32_217 v561
  let v1163 : BitVec 32 := Scalar.subi v562 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off100 (i : grid0.Coords) (v8 : BitVec 32) : Fin 2 → Nat :=
  let c2500_i32_217 : BitVec 32 := 2500#32
  let arg0 : BitVec 32 := BitVec.ofNat 32 (i 0).val
  let c2048_i32 : BitVec 32 := 2048#32
  let v0 : BitVec 32 := Scalar.muli arg0 c2048_i32
  let c960_i32 : BitVec 32 := 960#32
  let v561 : BitVec 32 := Scalar.addi v0 c960_i32
  let v562 : BitVec 32 := Scalar.addi c2500_i32_217 v561
  let v1178 : BitVec 32 := Scalar.subi v562 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off101 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1024_i32 : BitVec 32 := 1024#32
  let v594 : BitVec 32 := Scalar.addi v0 c1024_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v596 : BitVec 1 := Scalar.cmpi .sge v594 v27
  let v597 : BitVec 32 := Scalar.extui v596
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v598 : BitVec 1 := Scalar.cmpi .sge v594 v46
  let v599 : BitVec 32 := Scalar.extui v598
  let v600 : BitVec 32 := Scalar.addi v597 v599
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v601 : BitVec 1 := Scalar.cmpi .sge v594 v65
  let v602 : BitVec 32 := Scalar.extui v601
  let v603 : BitVec 32 := Scalar.addi v600 v602
  let v1123 : Index := Scalar.indexCast v603
  ![v1122.toNat, v1123.toNat]
def k0_cond161 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1024_i32 : BitVec 32 := 1024#32
  let v594 : BitVec 32 := Scalar.addi v0 c1024_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v596 : BitVec 1 := Scalar.cmpi .sge v594 v27
  let v597 : BitVec 32 := Scalar.extui v596
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v598 : BitVec 1 := Scalar.cmpi .sge v594 v46
  let v599 : BitVec 32 := Scalar.extui v598
  let v600 : BitVec 32 := Scalar.addi v597 v599
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v601 : BitVec 1 := Scalar.cmpi .sge v594 v65
  let v602 : BitVec 32 := Scalar.extui v601
  let v603 : BitVec 32 := Scalar.addi v600 v602
  let c64_i32_231 : BitVec 32 := 64#32
  let v604 : BitVec 32 := Scalar.addi v594 c64_i32_231
  let c1_i32_232 : BitVec 32 := 1#32
  let v605 : BitVec 32 := Scalar.subi v604 c1_i32_232
  let v606 : BitVec 1 := Scalar.cmpi .sge v605 v27
  let v607 : BitVec 32 := Scalar.extui v606
  let v608 : BitVec 1 := Scalar.cmpi .sge v605 v46
  let v609 : BitVec 32 := Scalar.extui v608
  let v610 : BitVec 32 := Scalar.addi v607 v609
  let v611 : BitVec 1 := Scalar.cmpi .sge v605 v65
  let v612 : BitVec 32 := Scalar.extui v611
  let v613 : BitVec 32 := Scalar.addi v610 v612
  let v621 : BitVec 1 := Scalar.cmpi .eq v603 v613
  let v622 : BitVec 32 := Scalar.extui v621
  let c0_i32_241 : BitVec 32 := 0#32
  let v623 : BitVec 1 := Scalar.cmpi .ne v622 c0_i32_241
  v623

def k0_off102 (i : grid0.Coords) (v1124 : BitVec 32) : Fin 2 → Nat :=
  let c2500_i32_230 : BitVec 32 := 2500#32
  let arg0 : BitVec 32 := BitVec.ofNat 32 (i 0).val
  let c2048_i32 : BitVec 32 := 2048#32
  let v0 : BitVec 32 := Scalar.muli arg0 c2048_i32
  let c1024_i32 : BitVec 32 := 1024#32
  let v594 : BitVec 32 := Scalar.addi v0 c1024_i32
  let v595 : BitVec 32 := Scalar.addi c2500_i32_230 v594
  let v1125 : BitVec 32 := Scalar.subi v595 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk18 (i : grid0.Coords) (v2 : BitVec 32) (v4 : BitVec 32) (v6 : BitVec 32) (v8 : BitVec 32) (v1124 : BitVec 32) : Prop :=
  (∀ (k0_h161 : k0_cond161 i v2 v4 v6 v8 = 1#1), ∀ a, (k0_off102 i v1124) a + S72x512.size a ≤ S5000x512.size a)
theorem k0_off102_inb : ∀ (i : grid0.Coords) (v2 : BitVec 32) (v4 : BitVec 32) (v6 : BitVec 32) (v8 : BitVec 32) (v1124 : BitVec 32) (k0_hw18 : k0_chk18 i v2 v4 v6 v8 v1124), ∀ (k0_h161 : k0_cond161 i v2 v4 v6 v8 = 1#1), ∀ a, (k0_off102 i v1124) a + S72x512.size a ≤ S5000x512.size a := fun i v2 v4 v6 v8 v1124 k0_hw18 k0_h161 => k0_hw18 k0_h161

def k0_off103 (i : grid0.Coords) (v2 : BitVec 32) : Fin 2 → Nat :=
  let c2500_i32_230 : BitVec 32 := 2500#32
  let arg0 : BitVec 32 := BitVec.ofNat 32 (i 0).val
  let c2048_i32 : BitVec 32 := 2048#32
  let v0 : BitVec 32 := Scalar.muli arg0 c2048_i32
  let c1024_i32 : BitVec 32 := 1024#32
  let v594 : BitVec 32 := Scalar.addi v0 c1024_i32
  let v595 : BitVec 32 := Scalar.addi c2500_i32_230 v594
  let v1136 : BitVec 32 := Scalar.subi v595 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond170 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1024_i32 : BitVec 32 := 1024#32
  let v594 : BitVec 32 := Scalar.addi v0 c1024_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v596 : BitVec 1 := Scalar.cmpi .sge v594 v27
  let v597 : BitVec 32 := Scalar.extui v596
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v598 : BitVec 1 := Scalar.cmpi .sge v594 v46
  let v599 : BitVec 32 := Scalar.extui v598
  let v600 : BitVec 32 := Scalar.addi v597 v599
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v601 : BitVec 1 := Scalar.cmpi .sge v594 v65
  let v602 : BitVec 32 := Scalar.extui v601
  let v603 : BitVec 32 := Scalar.addi v600 v602
  let c64_i32_231 : BitVec 32 := 64#32
  let v604 : BitVec 32 := Scalar.addi v594 c64_i32_231
  let c1_i32_232 : BitVec 32 := 1#32
  let v605 : BitVec 32 := Scalar.subi v604 c1_i32_232
  let v606 : BitVec 1 := Scalar.cmpi .sge v605 v27
  let v607 : BitVec 32 := Scalar.extui v606
  let v608 : BitVec 1 := Scalar.cmpi .sge v605 v46
  let v609 : BitVec 32 := Scalar.extui v608
  let v610 : BitVec 32 := Scalar.addi v607 v609
  let v611 : BitVec 1 := Scalar.cmpi .sge v605 v65
  let v612 : BitVec 32 := Scalar.extui v611
  let v613 : BitVec 32 := Scalar.addi v610 v612
  let v624 : BitVec 1 := Scalar.cmpi .ne v603 v613
  let v625 : BitVec 32 := Scalar.extui v624
  let c0_i32_242 : BitVec 32 := 0#32
  let v626 : BitVec 1 := Scalar.cmpi .ne v625 c0_i32_242
  v626

def k0_off104 (i : grid0.Coords) (v4 : BitVec 32) : Fin 2 → Nat :=
  let c2500_i32_230 : BitVec 32 := 2500#32
  let arg0 : BitVec 32 := BitVec.ofNat 32 (i 0).val
  let c2048_i32 : BitVec 32 := 2048#32
  let v0 : BitVec 32 := Scalar.muli arg0 c2048_i32
  let c1024_i32 : BitVec 32 := 1024#32
  let v594 : BitVec 32 := Scalar.addi v0 c1024_i32
  let v595 : BitVec 32 := Scalar.addi c2500_i32_230 v594
  let v1148 : BitVec 32 := Scalar.subi v595 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off105 (i : grid0.Coords) (v6 : BitVec 32) : Fin 2 → Nat :=
  let c2500_i32_230 : BitVec 32 := 2500#32
  let arg0 : BitVec 32 := BitVec.ofNat 32 (i 0).val
  let c2048_i32 : BitVec 32 := 2048#32
  let v0 : BitVec 32 := Scalar.muli arg0 c2048_i32
  let c1024_i32 : BitVec 32 := 1024#32
  let v594 : BitVec 32 := Scalar.addi v0 c1024_i32
  let v595 : BitVec 32 := Scalar.addi c2500_i32_230 v594
  let v1163 : BitVec 32 := Scalar.subi v595 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off106 (i : grid0.Coords) (v8 : BitVec 32) : Fin 2 → Nat :=
  let c2500_i32_230 : BitVec 32 := 2500#32
  let arg0 : BitVec 32 := BitVec.ofNat 32 (i 0).val
  let c2048_i32 : BitVec 32 := 2048#32
  let v0 : BitVec 32 := Scalar.muli arg0 c2048_i32
  let c1024_i32 : BitVec 32 := 1024#32
  let v594 : BitVec 32 := Scalar.addi v0 c1024_i32
  let v595 : BitVec 32 := Scalar.addi c2500_i32_230 v594
  let v1178 : BitVec 32 := Scalar.subi v595 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off107 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1088_i32 : BitVec 32 := 1088#32
  let v627 : BitVec 32 := Scalar.addi v0 c1088_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v629 : BitVec 1 := Scalar.cmpi .sge v627 v27
  let v630 : BitVec 32 := Scalar.extui v629
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v631 : BitVec 1 := Scalar.cmpi .sge v627 v46
  let v632 : BitVec 32 := Scalar.extui v631
  let v633 : BitVec 32 := Scalar.addi v630 v632
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v634 : BitVec 1 := Scalar.cmpi .sge v627 v65
  let v635 : BitVec 32 := Scalar.extui v634
  let v636 : BitVec 32 := Scalar.addi v633 v635
  let v1123 : Index := Scalar.indexCast v636
  ![v1122.toNat, v1123.toNat]
def k0_cond171 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1088_i32 : BitVec 32 := 1088#32
  let v627 : BitVec 32 := Scalar.addi v0 c1088_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v629 : BitVec 1 := Scalar.cmpi .sge v627 v27
  let v630 : BitVec 32 := Scalar.extui v629
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v631 : BitVec 1 := Scalar.cmpi .sge v627 v46
  let v632 : BitVec 32 := Scalar.extui v631
  let v633 : BitVec 32 := Scalar.addi v630 v632
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v634 : BitVec 1 := Scalar.cmpi .sge v627 v65
  let v635 : BitVec 32 := Scalar.extui v634
  let v636 : BitVec 32 := Scalar.addi v633 v635
  let c64_i32_244 : BitVec 32 := 64#32
  let v637 : BitVec 32 := Scalar.addi v627 c64_i32_244
  let c1_i32_245 : BitVec 32 := 1#32
  let v638 : BitVec 32 := Scalar.subi v637 c1_i32_245
  let v639 : BitVec 1 := Scalar.cmpi .sge v638 v27
  let v640 : BitVec 32 := Scalar.extui v639
  let v641 : BitVec 1 := Scalar.cmpi .sge v638 v46
  let v642 : BitVec 32 := Scalar.extui v641
  let v643 : BitVec 32 := Scalar.addi v640 v642
  let v644 : BitVec 1 := Scalar.cmpi .sge v638 v65
  let v645 : BitVec 32 := Scalar.extui v644
  let v646 : BitVec 32 := Scalar.addi v643 v645
  let v654 : BitVec 1 := Scalar.cmpi .eq v636 v646
  let v655 : BitVec 32 := Scalar.extui v654
  let c0_i32_254 : BitVec 32 := 0#32
  let v656 : BitVec 1 := Scalar.cmpi .ne v655 c0_i32_254
  v656

def k0_off108 (i : grid0.Coords) (v1124 : BitVec 32) : Fin 2 → Nat :=
  let c2500_i32_243 : BitVec 32 := 2500#32
  let arg0 : BitVec 32 := BitVec.ofNat 32 (i 0).val
  let c2048_i32 : BitVec 32 := 2048#32
  let v0 : BitVec 32 := Scalar.muli arg0 c2048_i32
  let c1088_i32 : BitVec 32 := 1088#32
  let v627 : BitVec 32 := Scalar.addi v0 c1088_i32
  let v628 : BitVec 32 := Scalar.addi c2500_i32_243 v627
  let v1125 : BitVec 32 := Scalar.subi v628 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk19 (i : grid0.Coords) (v2 : BitVec 32) (v4 : BitVec 32) (v6 : BitVec 32) (v8 : BitVec 32) (v1124 : BitVec 32) : Prop :=
  (∀ (k0_h171 : k0_cond171 i v2 v4 v6 v8 = 1#1), ∀ a, (k0_off108 i v1124) a + S72x512.size a ≤ S5000x512.size a)
theorem k0_off108_inb : ∀ (i : grid0.Coords) (v2 : BitVec 32) (v4 : BitVec 32) (v6 : BitVec 32) (v8 : BitVec 32) (v1124 : BitVec 32) (k0_hw19 : k0_chk19 i v2 v4 v6 v8 v1124), ∀ (k0_h171 : k0_cond171 i v2 v4 v6 v8 = 1#1), ∀ a, (k0_off108 i v1124) a + S72x512.size a ≤ S5000x512.size a := fun i v2 v4 v6 v8 v1124 k0_hw19 k0_h171 => k0_hw19 k0_h171

def k0_off109 (i : grid0.Coords) (v2 : BitVec 32) : Fin 2 → Nat :=
  let c2500_i32_243 : BitVec 32 := 2500#32
  let arg0 : BitVec 32 := BitVec.ofNat 32 (i 0).val
  let c2048_i32 : BitVec 32 := 2048#32
  let v0 : BitVec 32 := Scalar.muli arg0 c2048_i32
  let c1088_i32 : BitVec 32 := 1088#32
  let v627 : BitVec 32 := Scalar.addi v0 c1088_i32
  let v628 : BitVec 32 := Scalar.addi c2500_i32_243 v627
  let v1136 : BitVec 32 := Scalar.subi v628 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond180 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1088_i32 : BitVec 32 := 1088#32
  let v627 : BitVec 32 := Scalar.addi v0 c1088_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v629 : BitVec 1 := Scalar.cmpi .sge v627 v27
  let v630 : BitVec 32 := Scalar.extui v629
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v631 : BitVec 1 := Scalar.cmpi .sge v627 v46
  let v632 : BitVec 32 := Scalar.extui v631
  let v633 : BitVec 32 := Scalar.addi v630 v632
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v634 : BitVec 1 := Scalar.cmpi .sge v627 v65
  let v635 : BitVec 32 := Scalar.extui v634
  let v636 : BitVec 32 := Scalar.addi v633 v635
  let c64_i32_244 : BitVec 32 := 64#32
  let v637 : BitVec 32 := Scalar.addi v627 c64_i32_244
  let c1_i32_245 : BitVec 32 := 1#32
  let v638 : BitVec 32 := Scalar.subi v637 c1_i32_245
  let v639 : BitVec 1 := Scalar.cmpi .sge v638 v27
  let v640 : BitVec 32 := Scalar.extui v639
  let v641 : BitVec 1 := Scalar.cmpi .sge v638 v46
  let v642 : BitVec 32 := Scalar.extui v641
  let v643 : BitVec 32 := Scalar.addi v640 v642
  let v644 : BitVec 1 := Scalar.cmpi .sge v638 v65
  let v645 : BitVec 32 := Scalar.extui v644
  let v646 : BitVec 32 := Scalar.addi v643 v645
  let v657 : BitVec 1 := Scalar.cmpi .ne v636 v646
  let v658 : BitVec 32 := Scalar.extui v657
  let c0_i32_255 : BitVec 32 := 0#32
  let v659 : BitVec 1 := Scalar.cmpi .ne v658 c0_i32_255
  v659

def k0_off110 (i : grid0.Coords) (v4 : BitVec 32) : Fin 2 → Nat :=
  let c2500_i32_243 : BitVec 32 := 2500#32
  let arg0 : BitVec 32 := BitVec.ofNat 32 (i 0).val
  let c2048_i32 : BitVec 32 := 2048#32
  let v0 : BitVec 32 := Scalar.muli arg0 c2048_i32
  let c1088_i32 : BitVec 32 := 1088#32
  let v627 : BitVec 32 := Scalar.addi v0 c1088_i32
  let v628 : BitVec 32 := Scalar.addi c2500_i32_243 v627
  let v1148 : BitVec 32 := Scalar.subi v628 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off111 (i : grid0.Coords) (v6 : BitVec 32) : Fin 2 → Nat :=
  let c2500_i32_243 : BitVec 32 := 2500#32
  let arg0 : BitVec 32 := BitVec.ofNat 32 (i 0).val
  let c2048_i32 : BitVec 32 := 2048#32
  let v0 : BitVec 32 := Scalar.muli arg0 c2048_i32
  let c1088_i32 : BitVec 32 := 1088#32
  let v627 : BitVec 32 := Scalar.addi v0 c1088_i32
  let v628 : BitVec 32 := Scalar.addi c2500_i32_243 v627
  let v1163 : BitVec 32 := Scalar.subi v628 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off112 (i : grid0.Coords) (v8 : BitVec 32) : Fin 2 → Nat :=
  let c2500_i32_243 : BitVec 32 := 2500#32
  let arg0 : BitVec 32 := BitVec.ofNat 32 (i 0).val
  let c2048_i32 : BitVec 32 := 2048#32
  let v0 : BitVec 32 := Scalar.muli arg0 c2048_i32
  let c1088_i32 : BitVec 32 := 1088#32
  let v627 : BitVec 32 := Scalar.addi v0 c1088_i32
  let v628 : BitVec 32 := Scalar.addi c2500_i32_243 v627
  let v1178 : BitVec 32 := Scalar.subi v628 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off113 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1152_i32 : BitVec 32 := 1152#32
  let v660 : BitVec 32 := Scalar.addi v0 c1152_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v662 : BitVec 1 := Scalar.cmpi .sge v660 v27
  let v663 : BitVec 32 := Scalar.extui v662
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v664 : BitVec 1 := Scalar.cmpi .sge v660 v46
  let v665 : BitVec 32 := Scalar.extui v664
  let v666 : BitVec 32 := Scalar.addi v663 v665
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v667 : BitVec 1 := Scalar.cmpi .sge v660 v65
  let v668 : BitVec 32 := Scalar.extui v667
  let v669 : BitVec 32 := Scalar.addi v666 v668
  let v1123 : Index := Scalar.indexCast v669
  ![v1122.toNat, v1123.toNat]
def k0_cond181 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1152_i32 : BitVec 32 := 1152#32
  let v660 : BitVec 32 := Scalar.addi v0 c1152_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v662 : BitVec 1 := Scalar.cmpi .sge v660 v27
  let v663 : BitVec 32 := Scalar.extui v662
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v664 : BitVec 1 := Scalar.cmpi .sge v660 v46
  let v665 : BitVec 32 := Scalar.extui v664
  let v666 : BitVec 32 := Scalar.addi v663 v665
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v667 : BitVec 1 := Scalar.cmpi .sge v660 v65
  let v668 : BitVec 32 := Scalar.extui v667
  let v669 : BitVec 32 := Scalar.addi v666 v668
  let c64_i32_257 : BitVec 32 := 64#32
  let v670 : BitVec 32 := Scalar.addi v660 c64_i32_257
  let c1_i32_258 : BitVec 32 := 1#32
  let v671 : BitVec 32 := Scalar.subi v670 c1_i32_258
  let v672 : BitVec 1 := Scalar.cmpi .sge v671 v27
  let v673 : BitVec 32 := Scalar.extui v672
  let v674 : BitVec 1 := Scalar.cmpi .sge v671 v46
  let v675 : BitVec 32 := Scalar.extui v674
  let v676 : BitVec 32 := Scalar.addi v673 v675
  let v677 : BitVec 1 := Scalar.cmpi .sge v671 v65
  let v678 : BitVec 32 := Scalar.extui v677
  let v679 : BitVec 32 := Scalar.addi v676 v678
  let v687 : BitVec 1 := Scalar.cmpi .eq v669 v679
  let v688 : BitVec 32 := Scalar.extui v687
  let c0_i32_267 : BitVec 32 := 0#32
  let v689 : BitVec 1 := Scalar.cmpi .ne v688 c0_i32_267
  v689

def k0_off114 (i : grid0.Coords) (v1124 : BitVec 32) : Fin 2 → Nat :=
  let c2500_i32_256 : BitVec 32 := 2500#32
  let arg0 : BitVec 32 := BitVec.ofNat 32 (i 0).val
  let c2048_i32 : BitVec 32 := 2048#32
  let v0 : BitVec 32 := Scalar.muli arg0 c2048_i32
  let c1152_i32 : BitVec 32 := 1152#32
  let v660 : BitVec 32 := Scalar.addi v0 c1152_i32
  let v661 : BitVec 32 := Scalar.addi c2500_i32_256 v660
  let v1125 : BitVec 32 := Scalar.subi v661 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk20 (i : grid0.Coords) (v2 : BitVec 32) (v4 : BitVec 32) (v6 : BitVec 32) (v8 : BitVec 32) (v1124 : BitVec 32) : Prop :=
  (∀ (k0_h181 : k0_cond181 i v2 v4 v6 v8 = 1#1), ∀ a, (k0_off114 i v1124) a + S72x512.size a ≤ S5000x512.size a)
theorem k0_off114_inb : ∀ (i : grid0.Coords) (v2 : BitVec 32) (v4 : BitVec 32) (v6 : BitVec 32) (v8 : BitVec 32) (v1124 : BitVec 32) (k0_hw20 : k0_chk20 i v2 v4 v6 v8 v1124), ∀ (k0_h181 : k0_cond181 i v2 v4 v6 v8 = 1#1), ∀ a, (k0_off114 i v1124) a + S72x512.size a ≤ S5000x512.size a := fun i v2 v4 v6 v8 v1124 k0_hw20 k0_h181 => k0_hw20 k0_h181

def k0_off115 (i : grid0.Coords) (v2 : BitVec 32) : Fin 2 → Nat :=
  let c2500_i32_256 : BitVec 32 := 2500#32
  let arg0 : BitVec 32 := BitVec.ofNat 32 (i 0).val
  let c2048_i32 : BitVec 32 := 2048#32
  let v0 : BitVec 32 := Scalar.muli arg0 c2048_i32
  let c1152_i32 : BitVec 32 := 1152#32
  let v660 : BitVec 32 := Scalar.addi v0 c1152_i32
  let v661 : BitVec 32 := Scalar.addi c2500_i32_256 v660
  let v1136 : BitVec 32 := Scalar.subi v661 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond190 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1152_i32 : BitVec 32 := 1152#32
  let v660 : BitVec 32 := Scalar.addi v0 c1152_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v662 : BitVec 1 := Scalar.cmpi .sge v660 v27
  let v663 : BitVec 32 := Scalar.extui v662
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v664 : BitVec 1 := Scalar.cmpi .sge v660 v46
  let v665 : BitVec 32 := Scalar.extui v664
  let v666 : BitVec 32 := Scalar.addi v663 v665
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v667 : BitVec 1 := Scalar.cmpi .sge v660 v65
  let v668 : BitVec 32 := Scalar.extui v667
  let v669 : BitVec 32 := Scalar.addi v666 v668
  let c64_i32_257 : BitVec 32 := 64#32
  let v670 : BitVec 32 := Scalar.addi v660 c64_i32_257
  let c1_i32_258 : BitVec 32 := 1#32
  let v671 : BitVec 32 := Scalar.subi v670 c1_i32_258
  let v672 : BitVec 1 := Scalar.cmpi .sge v671 v27
  let v673 : BitVec 32 := Scalar.extui v672
  let v674 : BitVec 1 := Scalar.cmpi .sge v671 v46
  let v675 : BitVec 32 := Scalar.extui v674
  let v676 : BitVec 32 := Scalar.addi v673 v675
  let v677 : BitVec 1 := Scalar.cmpi .sge v671 v65
  let v678 : BitVec 32 := Scalar.extui v677
  let v679 : BitVec 32 := Scalar.addi v676 v678
  let v690 : BitVec 1 := Scalar.cmpi .ne v669 v679
  let v691 : BitVec 32 := Scalar.extui v690
  let c0_i32_268 : BitVec 32 := 0#32
  let v692 : BitVec 1 := Scalar.cmpi .ne v691 c0_i32_268
  v692

def k0_off116 (i : grid0.Coords) (v4 : BitVec 32) : Fin 2 → Nat :=
  let c2500_i32_256 : BitVec 32 := 2500#32
  let arg0 : BitVec 32 := BitVec.ofNat 32 (i 0).val
  let c2048_i32 : BitVec 32 := 2048#32
  let v0 : BitVec 32 := Scalar.muli arg0 c2048_i32
  let c1152_i32 : BitVec 32 := 1152#32
  let v660 : BitVec 32 := Scalar.addi v0 c1152_i32
  let v661 : BitVec 32 := Scalar.addi c2500_i32_256 v660
  let v1148 : BitVec 32 := Scalar.subi v661 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off117 (i : grid0.Coords) (v6 : BitVec 32) : Fin 2 → Nat :=
  let c2500_i32_256 : BitVec 32 := 2500#32
  let arg0 : BitVec 32 := BitVec.ofNat 32 (i 0).val
  let c2048_i32 : BitVec 32 := 2048#32
  let v0 : BitVec 32 := Scalar.muli arg0 c2048_i32
  let c1152_i32 : BitVec 32 := 1152#32
  let v660 : BitVec 32 := Scalar.addi v0 c1152_i32
  let v661 : BitVec 32 := Scalar.addi c2500_i32_256 v660
  let v1163 : BitVec 32 := Scalar.subi v661 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off118 (i : grid0.Coords) (v8 : BitVec 32) : Fin 2 → Nat :=
  let c2500_i32_256 : BitVec 32 := 2500#32
  let arg0 : BitVec 32 := BitVec.ofNat 32 (i 0).val
  let c2048_i32 : BitVec 32 := 2048#32
  let v0 : BitVec 32 := Scalar.muli arg0 c2048_i32
  let c1152_i32 : BitVec 32 := 1152#32
  let v660 : BitVec 32 := Scalar.addi v0 c1152_i32
  let v661 : BitVec 32 := Scalar.addi c2500_i32_256 v660
  let v1178 : BitVec 32 := Scalar.subi v661 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off119 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1216_i32 : BitVec 32 := 1216#32
  let v693 : BitVec 32 := Scalar.addi v0 c1216_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v695 : BitVec 1 := Scalar.cmpi .sge v693 v27
  let v696 : BitVec 32 := Scalar.extui v695
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v697 : BitVec 1 := Scalar.cmpi .sge v693 v46
  let v698 : BitVec 32 := Scalar.extui v697
  let v699 : BitVec 32 := Scalar.addi v696 v698
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v700 : BitVec 1 := Scalar.cmpi .sge v693 v65
  let v701 : BitVec 32 := Scalar.extui v700
  let v702 : BitVec 32 := Scalar.addi v699 v701
  let v1123 : Index := Scalar.indexCast v702
  ![v1122.toNat, v1123.toNat]
def k0_cond191 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1216_i32 : BitVec 32 := 1216#32
  let v693 : BitVec 32 := Scalar.addi v0 c1216_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v695 : BitVec 1 := Scalar.cmpi .sge v693 v27
  let v696 : BitVec 32 := Scalar.extui v695
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v697 : BitVec 1 := Scalar.cmpi .sge v693 v46
  let v698 : BitVec 32 := Scalar.extui v697
  let v699 : BitVec 32 := Scalar.addi v696 v698
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v700 : BitVec 1 := Scalar.cmpi .sge v693 v65
  let v701 : BitVec 32 := Scalar.extui v700
  let v702 : BitVec 32 := Scalar.addi v699 v701
  let c64_i32_270 : BitVec 32 := 64#32
  let v703 : BitVec 32 := Scalar.addi v693 c64_i32_270
  let c1_i32_271 : BitVec 32 := 1#32
  let v704 : BitVec 32 := Scalar.subi v703 c1_i32_271
  let v705 : BitVec 1 := Scalar.cmpi .sge v704 v27
  let v706 : BitVec 32 := Scalar.extui v705
  let v707 : BitVec 1 := Scalar.cmpi .sge v704 v46
  let v708 : BitVec 32 := Scalar.extui v707
  let v709 : BitVec 32 := Scalar.addi v706 v708
  let v710 : BitVec 1 := Scalar.cmpi .sge v704 v65
  let v711 : BitVec 32 := Scalar.extui v710
  let v712 : BitVec 32 := Scalar.addi v709 v711
  let v720 : BitVec 1 := Scalar.cmpi .eq v702 v712
  let v721 : BitVec 32 := Scalar.extui v720
  let c0_i32_280 : BitVec 32 := 0#32
  let v722 : BitVec 1 := Scalar.cmpi .ne v721 c0_i32_280
  v722

def k0_off120 (i : grid0.Coords) (v1124 : BitVec 32) : Fin 2 → Nat :=
  let c2500_i32_269 : BitVec 32 := 2500#32
  let arg0 : BitVec 32 := BitVec.ofNat 32 (i 0).val
  let c2048_i32 : BitVec 32 := 2048#32
  let v0 : BitVec 32 := Scalar.muli arg0 c2048_i32
  let c1216_i32 : BitVec 32 := 1216#32
  let v693 : BitVec 32 := Scalar.addi v0 c1216_i32
  let v694 : BitVec 32 := Scalar.addi c2500_i32_269 v693
  let v1125 : BitVec 32 := Scalar.subi v694 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk21 (i : grid0.Coords) (v2 : BitVec 32) (v4 : BitVec 32) (v6 : BitVec 32) (v8 : BitVec 32) (v1124 : BitVec 32) : Prop :=
  (∀ (k0_h191 : k0_cond191 i v2 v4 v6 v8 = 1#1), ∀ a, (k0_off120 i v1124) a + S72x512.size a ≤ S5000x512.size a)
theorem k0_off120_inb : ∀ (i : grid0.Coords) (v2 : BitVec 32) (v4 : BitVec 32) (v6 : BitVec 32) (v8 : BitVec 32) (v1124 : BitVec 32) (k0_hw21 : k0_chk21 i v2 v4 v6 v8 v1124), ∀ (k0_h191 : k0_cond191 i v2 v4 v6 v8 = 1#1), ∀ a, (k0_off120 i v1124) a + S72x512.size a ≤ S5000x512.size a := fun i v2 v4 v6 v8 v1124 k0_hw21 k0_h191 => k0_hw21 k0_h191

def k0_off121 (i : grid0.Coords) (v2 : BitVec 32) : Fin 2 → Nat :=
  let c2500_i32_269 : BitVec 32 := 2500#32
  let arg0 : BitVec 32 := BitVec.ofNat 32 (i 0).val
  let c2048_i32 : BitVec 32 := 2048#32
  let v0 : BitVec 32 := Scalar.muli arg0 c2048_i32
  let c1216_i32 : BitVec 32 := 1216#32
  let v693 : BitVec 32 := Scalar.addi v0 c1216_i32
  let v694 : BitVec 32 := Scalar.addi c2500_i32_269 v693
  let v1136 : BitVec 32 := Scalar.subi v694 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond200 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1216_i32 : BitVec 32 := 1216#32
  let v693 : BitVec 32 := Scalar.addi v0 c1216_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v695 : BitVec 1 := Scalar.cmpi .sge v693 v27
  let v696 : BitVec 32 := Scalar.extui v695
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v697 : BitVec 1 := Scalar.cmpi .sge v693 v46
  let v698 : BitVec 32 := Scalar.extui v697
  let v699 : BitVec 32 := Scalar.addi v696 v698
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v700 : BitVec 1 := Scalar.cmpi .sge v693 v65
  let v701 : BitVec 32 := Scalar.extui v700
  let v702 : BitVec 32 := Scalar.addi v699 v701
  let c64_i32_270 : BitVec 32 := 64#32
  let v703 : BitVec 32 := Scalar.addi v693 c64_i32_270
  let c1_i32_271 : BitVec 32 := 1#32
  let v704 : BitVec 32 := Scalar.subi v703 c1_i32_271
  let v705 : BitVec 1 := Scalar.cmpi .sge v704 v27
  let v706 : BitVec 32 := Scalar.extui v705
  let v707 : BitVec 1 := Scalar.cmpi .sge v704 v46
  let v708 : BitVec 32 := Scalar.extui v707
  let v709 : BitVec 32 := Scalar.addi v706 v708
  let v710 : BitVec 1 := Scalar.cmpi .sge v704 v65
  let v711 : BitVec 32 := Scalar.extui v710
  let v712 : BitVec 32 := Scalar.addi v709 v711
  let v723 : BitVec 1 := Scalar.cmpi .ne v702 v712
  let v724 : BitVec 32 := Scalar.extui v723
  let c0_i32_281 : BitVec 32 := 0#32
  let v725 : BitVec 1 := Scalar.cmpi .ne v724 c0_i32_281
  v725

def k0_off122 (i : grid0.Coords) (v4 : BitVec 32) : Fin 2 → Nat :=
  let c2500_i32_269 : BitVec 32 := 2500#32
  let arg0 : BitVec 32 := BitVec.ofNat 32 (i 0).val
  let c2048_i32 : BitVec 32 := 2048#32
  let v0 : BitVec 32 := Scalar.muli arg0 c2048_i32
  let c1216_i32 : BitVec 32 := 1216#32
  let v693 : BitVec 32 := Scalar.addi v0 c1216_i32
  let v694 : BitVec 32 := Scalar.addi c2500_i32_269 v693
  let v1148 : BitVec 32 := Scalar.subi v694 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off123 (i : grid0.Coords) (v6 : BitVec 32) : Fin 2 → Nat :=
  let c2500_i32_269 : BitVec 32 := 2500#32
  let arg0 : BitVec 32 := BitVec.ofNat 32 (i 0).val
  let c2048_i32 : BitVec 32 := 2048#32
  let v0 : BitVec 32 := Scalar.muli arg0 c2048_i32
  let c1216_i32 : BitVec 32 := 1216#32
  let v693 : BitVec 32 := Scalar.addi v0 c1216_i32
  let v694 : BitVec 32 := Scalar.addi c2500_i32_269 v693
  let v1163 : BitVec 32 := Scalar.subi v694 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off124 (i : grid0.Coords) (v8 : BitVec 32) : Fin 2 → Nat :=
  let c2500_i32_269 : BitVec 32 := 2500#32
  let arg0 : BitVec 32 := BitVec.ofNat 32 (i 0).val
  let c2048_i32 : BitVec 32 := 2048#32
  let v0 : BitVec 32 := Scalar.muli arg0 c2048_i32
  let c1216_i32 : BitVec 32 := 1216#32
  let v693 : BitVec 32 := Scalar.addi v0 c1216_i32
  let v694 : BitVec 32 := Scalar.addi c2500_i32_269 v693
  let v1178 : BitVec 32 := Scalar.subi v694 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off125 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1280_i32 : BitVec 32 := 1280#32
  let v726 : BitVec 32 := Scalar.addi v0 c1280_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v728 : BitVec 1 := Scalar.cmpi .sge v726 v27
  let v729 : BitVec 32 := Scalar.extui v728
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v730 : BitVec 1 := Scalar.cmpi .sge v726 v46
  let v731 : BitVec 32 := Scalar.extui v730
  let v732 : BitVec 32 := Scalar.addi v729 v731
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v733 : BitVec 1 := Scalar.cmpi .sge v726 v65
  let v734 : BitVec 32 := Scalar.extui v733
  let v735 : BitVec 32 := Scalar.addi v732 v734
  let v1123 : Index := Scalar.indexCast v735
  ![v1122.toNat, v1123.toNat]
def k0_cond201 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1280_i32 : BitVec 32 := 1280#32
  let v726 : BitVec 32 := Scalar.addi v0 c1280_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v728 : BitVec 1 := Scalar.cmpi .sge v726 v27
  let v729 : BitVec 32 := Scalar.extui v728
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v730 : BitVec 1 := Scalar.cmpi .sge v726 v46
  let v731 : BitVec 32 := Scalar.extui v730
  let v732 : BitVec 32 := Scalar.addi v729 v731
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v733 : BitVec 1 := Scalar.cmpi .sge v726 v65
  let v734 : BitVec 32 := Scalar.extui v733
  let v735 : BitVec 32 := Scalar.addi v732 v734
  let c64_i32_283 : BitVec 32 := 64#32
  let v736 : BitVec 32 := Scalar.addi v726 c64_i32_283
  let c1_i32_284 : BitVec 32 := 1#32
  let v737 : BitVec 32 := Scalar.subi v736 c1_i32_284
  let v738 : BitVec 1 := Scalar.cmpi .sge v737 v27
  let v739 : BitVec 32 := Scalar.extui v738
  let v740 : BitVec 1 := Scalar.cmpi .sge v737 v46
  let v741 : BitVec 32 := Scalar.extui v740
  let v742 : BitVec 32 := Scalar.addi v739 v741
  let v743 : BitVec 1 := Scalar.cmpi .sge v737 v65
  let v744 : BitVec 32 := Scalar.extui v743
  let v745 : BitVec 32 := Scalar.addi v742 v744
  let v753 : BitVec 1 := Scalar.cmpi .eq v735 v745
  let v754 : BitVec 32 := Scalar.extui v753
  let c0_i32_293 : BitVec 32 := 0#32
  let v755 : BitVec 1 := Scalar.cmpi .ne v754 c0_i32_293
  v755

def k0_off126 (i : grid0.Coords) (v1124 : BitVec 32) : Fin 2 → Nat :=
  let c2500_i32_282 : BitVec 32 := 2500#32
  let arg0 : BitVec 32 := BitVec.ofNat 32 (i 0).val
  let c2048_i32 : BitVec 32 := 2048#32
  let v0 : BitVec 32 := Scalar.muli arg0 c2048_i32
  let c1280_i32 : BitVec 32 := 1280#32
  let v726 : BitVec 32 := Scalar.addi v0 c1280_i32
  let v727 : BitVec 32 := Scalar.addi c2500_i32_282 v726
  let v1125 : BitVec 32 := Scalar.subi v727 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk22 (i : grid0.Coords) (v2 : BitVec 32) (v4 : BitVec 32) (v6 : BitVec 32) (v8 : BitVec 32) (v1124 : BitVec 32) : Prop :=
  (∀ (k0_h201 : k0_cond201 i v2 v4 v6 v8 = 1#1), ∀ a, (k0_off126 i v1124) a + S72x512.size a ≤ S5000x512.size a)
theorem k0_off126_inb : ∀ (i : grid0.Coords) (v2 : BitVec 32) (v4 : BitVec 32) (v6 : BitVec 32) (v8 : BitVec 32) (v1124 : BitVec 32) (k0_hw22 : k0_chk22 i v2 v4 v6 v8 v1124), ∀ (k0_h201 : k0_cond201 i v2 v4 v6 v8 = 1#1), ∀ a, (k0_off126 i v1124) a + S72x512.size a ≤ S5000x512.size a := fun i v2 v4 v6 v8 v1124 k0_hw22 k0_h201 => k0_hw22 k0_h201

def k0_off127 (i : grid0.Coords) (v2 : BitVec 32) : Fin 2 → Nat :=
  let c2500_i32_282 : BitVec 32 := 2500#32
  let arg0 : BitVec 32 := BitVec.ofNat 32 (i 0).val
  let c2048_i32 : BitVec 32 := 2048#32
  let v0 : BitVec 32 := Scalar.muli arg0 c2048_i32
  let c1280_i32 : BitVec 32 := 1280#32
  let v726 : BitVec 32 := Scalar.addi v0 c1280_i32
  let v727 : BitVec 32 := Scalar.addi c2500_i32_282 v726
  let v1136 : BitVec 32 := Scalar.subi v727 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond210 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1280_i32 : BitVec 32 := 1280#32
  let v726 : BitVec 32 := Scalar.addi v0 c1280_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v728 : BitVec 1 := Scalar.cmpi .sge v726 v27
  let v729 : BitVec 32 := Scalar.extui v728
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v730 : BitVec 1 := Scalar.cmpi .sge v726 v46
  let v731 : BitVec 32 := Scalar.extui v730
  let v732 : BitVec 32 := Scalar.addi v729 v731
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v733 : BitVec 1 := Scalar.cmpi .sge v726 v65
  let v734 : BitVec 32 := Scalar.extui v733
  let v735 : BitVec 32 := Scalar.addi v732 v734
  let c64_i32_283 : BitVec 32 := 64#32
  let v736 : BitVec 32 := Scalar.addi v726 c64_i32_283
  let c1_i32_284 : BitVec 32 := 1#32
  let v737 : BitVec 32 := Scalar.subi v736 c1_i32_284
  let v738 : BitVec 1 := Scalar.cmpi .sge v737 v27
  let v739 : BitVec 32 := Scalar.extui v738
  let v740 : BitVec 1 := Scalar.cmpi .sge v737 v46
  let v741 : BitVec 32 := Scalar.extui v740
  let v742 : BitVec 32 := Scalar.addi v739 v741
  let v743 : BitVec 1 := Scalar.cmpi .sge v737 v65
  let v744 : BitVec 32 := Scalar.extui v743
  let v745 : BitVec 32 := Scalar.addi v742 v744
  let v756 : BitVec 1 := Scalar.cmpi .ne v735 v745
  let v757 : BitVec 32 := Scalar.extui v756
  let c0_i32_294 : BitVec 32 := 0#32
  let v758 : BitVec 1 := Scalar.cmpi .ne v757 c0_i32_294
  v758

def k0_off128 (i : grid0.Coords) (v4 : BitVec 32) : Fin 2 → Nat :=
  let c2500_i32_282 : BitVec 32 := 2500#32
  let arg0 : BitVec 32 := BitVec.ofNat 32 (i 0).val
  let c2048_i32 : BitVec 32 := 2048#32
  let v0 : BitVec 32 := Scalar.muli arg0 c2048_i32
  let c1280_i32 : BitVec 32 := 1280#32
  let v726 : BitVec 32 := Scalar.addi v0 c1280_i32
  let v727 : BitVec 32 := Scalar.addi c2500_i32_282 v726
  let v1148 : BitVec 32 := Scalar.subi v727 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off129 (i : grid0.Coords) (v6 : BitVec 32) : Fin 2 → Nat :=
  let c2500_i32_282 : BitVec 32 := 2500#32
  let arg0 : BitVec 32 := BitVec.ofNat 32 (i 0).val
  let c2048_i32 : BitVec 32 := 2048#32
  let v0 : BitVec 32 := Scalar.muli arg0 c2048_i32
  let c1280_i32 : BitVec 32 := 1280#32
  let v726 : BitVec 32 := Scalar.addi v0 c1280_i32
  let v727 : BitVec 32 := Scalar.addi c2500_i32_282 v726
  let v1163 : BitVec 32 := Scalar.subi v727 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off130 (i : grid0.Coords) (v8 : BitVec 32) : Fin 2 → Nat :=
  let c2500_i32_282 : BitVec 32 := 2500#32
  let arg0 : BitVec 32 := BitVec.ofNat 32 (i 0).val
  let c2048_i32 : BitVec 32 := 2048#32
  let v0 : BitVec 32 := Scalar.muli arg0 c2048_i32
  let c1280_i32 : BitVec 32 := 1280#32
  let v726 : BitVec 32 := Scalar.addi v0 c1280_i32
  let v727 : BitVec 32 := Scalar.addi c2500_i32_282 v726
  let v1178 : BitVec 32 := Scalar.subi v727 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off131 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1344_i32 : BitVec 32 := 1344#32
  let v759 : BitVec 32 := Scalar.addi v0 c1344_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v761 : BitVec 1 := Scalar.cmpi .sge v759 v27
  let v762 : BitVec 32 := Scalar.extui v761
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v763 : BitVec 1 := Scalar.cmpi .sge v759 v46
  let v764 : BitVec 32 := Scalar.extui v763
  let v765 : BitVec 32 := Scalar.addi v762 v764
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v766 : BitVec 1 := Scalar.cmpi .sge v759 v65
  let v767 : BitVec 32 := Scalar.extui v766
  let v768 : BitVec 32 := Scalar.addi v765 v767
  let v1123 : Index := Scalar.indexCast v768
  ![v1122.toNat, v1123.toNat]
def k0_cond211 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1344_i32 : BitVec 32 := 1344#32
  let v759 : BitVec 32 := Scalar.addi v0 c1344_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v761 : BitVec 1 := Scalar.cmpi .sge v759 v27
  let v762 : BitVec 32 := Scalar.extui v761
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v763 : BitVec 1 := Scalar.cmpi .sge v759 v46
  let v764 : BitVec 32 := Scalar.extui v763
  let v765 : BitVec 32 := Scalar.addi v762 v764
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v766 : BitVec 1 := Scalar.cmpi .sge v759 v65
  let v767 : BitVec 32 := Scalar.extui v766
  let v768 : BitVec 32 := Scalar.addi v765 v767
  let c64_i32_296 : BitVec 32 := 64#32
  let v769 : BitVec 32 := Scalar.addi v759 c64_i32_296
  let c1_i32_297 : BitVec 32 := 1#32
  let v770 : BitVec 32 := Scalar.subi v769 c1_i32_297
  let v771 : BitVec 1 := Scalar.cmpi .sge v770 v27
  let v772 : BitVec 32 := Scalar.extui v771
  let v773 : BitVec 1 := Scalar.cmpi .sge v770 v46
  let v774 : BitVec 32 := Scalar.extui v773
  let v775 : BitVec 32 := Scalar.addi v772 v774
  let v776 : BitVec 1 := Scalar.cmpi .sge v770 v65
  let v777 : BitVec 32 := Scalar.extui v776
  let v778 : BitVec 32 := Scalar.addi v775 v777
  let v786 : BitVec 1 := Scalar.cmpi .eq v768 v778
  let v787 : BitVec 32 := Scalar.extui v786
  let c0_i32_306 : BitVec 32 := 0#32
  let v788 : BitVec 1 := Scalar.cmpi .ne v787 c0_i32_306
  v788

def k0_off132 (i : grid0.Coords) (v1124 : BitVec 32) : Fin 2 → Nat :=
  let c2500_i32_295 : BitVec 32 := 2500#32
  let arg0 : BitVec 32 := BitVec.ofNat 32 (i 0).val
  let c2048_i32 : BitVec 32 := 2048#32
  let v0 : BitVec 32 := Scalar.muli arg0 c2048_i32
  let c1344_i32 : BitVec 32 := 1344#32
  let v759 : BitVec 32 := Scalar.addi v0 c1344_i32
  let v760 : BitVec 32 := Scalar.addi c2500_i32_295 v759
  let v1125 : BitVec 32 := Scalar.subi v760 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk23 (i : grid0.Coords) (v2 : BitVec 32) (v4 : BitVec 32) (v6 : BitVec 32) (v8 : BitVec 32) (v1124 : BitVec 32) : Prop :=
  (∀ (k0_h211 : k0_cond211 i v2 v4 v6 v8 = 1#1), ∀ a, (k0_off132 i v1124) a + S72x512.size a ≤ S5000x512.size a)
theorem k0_off132_inb : ∀ (i : grid0.Coords) (v2 : BitVec 32) (v4 : BitVec 32) (v6 : BitVec 32) (v8 : BitVec 32) (v1124 : BitVec 32) (k0_hw23 : k0_chk23 i v2 v4 v6 v8 v1124), ∀ (k0_h211 : k0_cond211 i v2 v4 v6 v8 = 1#1), ∀ a, (k0_off132 i v1124) a + S72x512.size a ≤ S5000x512.size a := fun i v2 v4 v6 v8 v1124 k0_hw23 k0_h211 => k0_hw23 k0_h211

def k0_off133 (i : grid0.Coords) (v2 : BitVec 32) : Fin 2 → Nat :=
  let c2500_i32_295 : BitVec 32 := 2500#32
  let arg0 : BitVec 32 := BitVec.ofNat 32 (i 0).val
  let c2048_i32 : BitVec 32 := 2048#32
  let v0 : BitVec 32 := Scalar.muli arg0 c2048_i32
  let c1344_i32 : BitVec 32 := 1344#32
  let v759 : BitVec 32 := Scalar.addi v0 c1344_i32
  let v760 : BitVec 32 := Scalar.addi c2500_i32_295 v759
  let v1136 : BitVec 32 := Scalar.subi v760 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond220 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1344_i32 : BitVec 32 := 1344#32
  let v759 : BitVec 32 := Scalar.addi v0 c1344_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v761 : BitVec 1 := Scalar.cmpi .sge v759 v27
  let v762 : BitVec 32 := Scalar.extui v761
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v763 : BitVec 1 := Scalar.cmpi .sge v759 v46
  let v764 : BitVec 32 := Scalar.extui v763
  let v765 : BitVec 32 := Scalar.addi v762 v764
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v766 : BitVec 1 := Scalar.cmpi .sge v759 v65
  let v767 : BitVec 32 := Scalar.extui v766
  let v768 : BitVec 32 := Scalar.addi v765 v767
  let c64_i32_296 : BitVec 32 := 64#32
  let v769 : BitVec 32 := Scalar.addi v759 c64_i32_296
  let c1_i32_297 : BitVec 32 := 1#32
  let v770 : BitVec 32 := Scalar.subi v769 c1_i32_297
  let v771 : BitVec 1 := Scalar.cmpi .sge v770 v27
  let v772 : BitVec 32 := Scalar.extui v771
  let v773 : BitVec 1 := Scalar.cmpi .sge v770 v46
  let v774 : BitVec 32 := Scalar.extui v773
  let v775 : BitVec 32 := Scalar.addi v772 v774
  let v776 : BitVec 1 := Scalar.cmpi .sge v770 v65
  let v777 : BitVec 32 := Scalar.extui v776
  let v778 : BitVec 32 := Scalar.addi v775 v777
  let v789 : BitVec 1 := Scalar.cmpi .ne v768 v778
  let v790 : BitVec 32 := Scalar.extui v789
  let c0_i32_307 : BitVec 32 := 0#32
  let v791 : BitVec 1 := Scalar.cmpi .ne v790 c0_i32_307
  v791

def k0_off134 (i : grid0.Coords) (v4 : BitVec 32) : Fin 2 → Nat :=
  let c2500_i32_295 : BitVec 32 := 2500#32
  let arg0 : BitVec 32 := BitVec.ofNat 32 (i 0).val
  let c2048_i32 : BitVec 32 := 2048#32
  let v0 : BitVec 32 := Scalar.muli arg0 c2048_i32
  let c1344_i32 : BitVec 32 := 1344#32
  let v759 : BitVec 32 := Scalar.addi v0 c1344_i32
  let v760 : BitVec 32 := Scalar.addi c2500_i32_295 v759
  let v1148 : BitVec 32 := Scalar.subi v760 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off135 (i : grid0.Coords) (v6 : BitVec 32) : Fin 2 → Nat :=
  let c2500_i32_295 : BitVec 32 := 2500#32
  let arg0 : BitVec 32 := BitVec.ofNat 32 (i 0).val
  let c2048_i32 : BitVec 32 := 2048#32
  let v0 : BitVec 32 := Scalar.muli arg0 c2048_i32
  let c1344_i32 : BitVec 32 := 1344#32
  let v759 : BitVec 32 := Scalar.addi v0 c1344_i32
  let v760 : BitVec 32 := Scalar.addi c2500_i32_295 v759
  let v1163 : BitVec 32 := Scalar.subi v760 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off136 (i : grid0.Coords) (v8 : BitVec 32) : Fin 2 → Nat :=
  let c2500_i32_295 : BitVec 32 := 2500#32
  let arg0 : BitVec 32 := BitVec.ofNat 32 (i 0).val
  let c2048_i32 : BitVec 32 := 2048#32
  let v0 : BitVec 32 := Scalar.muli arg0 c2048_i32
  let c1344_i32 : BitVec 32 := 1344#32
  let v759 : BitVec 32 := Scalar.addi v0 c1344_i32
  let v760 : BitVec 32 := Scalar.addi c2500_i32_295 v759
  let v1178 : BitVec 32 := Scalar.subi v760 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off137 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1408_i32 : BitVec 32 := 1408#32
  let v792 : BitVec 32 := Scalar.addi v0 c1408_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v794 : BitVec 1 := Scalar.cmpi .sge v792 v27
  let v795 : BitVec 32 := Scalar.extui v794
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v796 : BitVec 1 := Scalar.cmpi .sge v792 v46
  let v797 : BitVec 32 := Scalar.extui v796
  let v798 : BitVec 32 := Scalar.addi v795 v797
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v799 : BitVec 1 := Scalar.cmpi .sge v792 v65
  let v800 : BitVec 32 := Scalar.extui v799
  let v801 : BitVec 32 := Scalar.addi v798 v800
  let v1123 : Index := Scalar.indexCast v801
  ![v1122.toNat, v1123.toNat]
def k0_cond221 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1408_i32 : BitVec 32 := 1408#32
  let v792 : BitVec 32 := Scalar.addi v0 c1408_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v794 : BitVec 1 := Scalar.cmpi .sge v792 v27
  let v795 : BitVec 32 := Scalar.extui v794
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v796 : BitVec 1 := Scalar.cmpi .sge v792 v46
  let v797 : BitVec 32 := Scalar.extui v796
  let v798 : BitVec 32 := Scalar.addi v795 v797
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v799 : BitVec 1 := Scalar.cmpi .sge v792 v65
  let v800 : BitVec 32 := Scalar.extui v799
  let v801 : BitVec 32 := Scalar.addi v798 v800
  let c64_i32_309 : BitVec 32 := 64#32
  let v802 : BitVec 32 := Scalar.addi v792 c64_i32_309
  let c1_i32_310 : BitVec 32 := 1#32
  let v803 : BitVec 32 := Scalar.subi v802 c1_i32_310
  let v804 : BitVec 1 := Scalar.cmpi .sge v803 v27
  let v805 : BitVec 32 := Scalar.extui v804
  let v806 : BitVec 1 := Scalar.cmpi .sge v803 v46
  let v807 : BitVec 32 := Scalar.extui v806
  let v808 : BitVec 32 := Scalar.addi v805 v807
  let v809 : BitVec 1 := Scalar.cmpi .sge v803 v65
  let v810 : BitVec 32 := Scalar.extui v809
  let v811 : BitVec 32 := Scalar.addi v808 v810
  let v819 : BitVec 1 := Scalar.cmpi .eq v801 v811
  let v820 : BitVec 32 := Scalar.extui v819
  let c0_i32_319 : BitVec 32 := 0#32
  let v821 : BitVec 1 := Scalar.cmpi .ne v820 c0_i32_319
  v821

def k0_off138 (i : grid0.Coords) (v1124 : BitVec 32) : Fin 2 → Nat :=
  let c2500_i32_308 : BitVec 32 := 2500#32
  let arg0 : BitVec 32 := BitVec.ofNat 32 (i 0).val
  let c2048_i32 : BitVec 32 := 2048#32
  let v0 : BitVec 32 := Scalar.muli arg0 c2048_i32
  let c1408_i32 : BitVec 32 := 1408#32
  let v792 : BitVec 32 := Scalar.addi v0 c1408_i32
  let v793 : BitVec 32 := Scalar.addi c2500_i32_308 v792
  let v1125 : BitVec 32 := Scalar.subi v793 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk24 (i : grid0.Coords) (v2 : BitVec 32) (v4 : BitVec 32) (v6 : BitVec 32) (v8 : BitVec 32) (v1124 : BitVec 32) : Prop :=
  (∀ (k0_h221 : k0_cond221 i v2 v4 v6 v8 = 1#1), ∀ a, (k0_off138 i v1124) a + S72x512.size a ≤ S5000x512.size a)
theorem k0_off138_inb : ∀ (i : grid0.Coords) (v2 : BitVec 32) (v4 : BitVec 32) (v6 : BitVec 32) (v8 : BitVec 32) (v1124 : BitVec 32) (k0_hw24 : k0_chk24 i v2 v4 v6 v8 v1124), ∀ (k0_h221 : k0_cond221 i v2 v4 v6 v8 = 1#1), ∀ a, (k0_off138 i v1124) a + S72x512.size a ≤ S5000x512.size a := fun i v2 v4 v6 v8 v1124 k0_hw24 k0_h221 => k0_hw24 k0_h221

def k0_off139 (i : grid0.Coords) (v2 : BitVec 32) : Fin 2 → Nat :=
  let c2500_i32_308 : BitVec 32 := 2500#32
  let arg0 : BitVec 32 := BitVec.ofNat 32 (i 0).val
  let c2048_i32 : BitVec 32 := 2048#32
  let v0 : BitVec 32 := Scalar.muli arg0 c2048_i32
  let c1408_i32 : BitVec 32 := 1408#32
  let v792 : BitVec 32 := Scalar.addi v0 c1408_i32
  let v793 : BitVec 32 := Scalar.addi c2500_i32_308 v792
  let v1136 : BitVec 32 := Scalar.subi v793 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond230 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1408_i32 : BitVec 32 := 1408#32
  let v792 : BitVec 32 := Scalar.addi v0 c1408_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v794 : BitVec 1 := Scalar.cmpi .sge v792 v27
  let v795 : BitVec 32 := Scalar.extui v794
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v796 : BitVec 1 := Scalar.cmpi .sge v792 v46
  let v797 : BitVec 32 := Scalar.extui v796
  let v798 : BitVec 32 := Scalar.addi v795 v797
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v799 : BitVec 1 := Scalar.cmpi .sge v792 v65
  let v800 : BitVec 32 := Scalar.extui v799
  let v801 : BitVec 32 := Scalar.addi v798 v800
  let c64_i32_309 : BitVec 32 := 64#32
  let v802 : BitVec 32 := Scalar.addi v792 c64_i32_309
  let c1_i32_310 : BitVec 32 := 1#32
  let v803 : BitVec 32 := Scalar.subi v802 c1_i32_310
  let v804 : BitVec 1 := Scalar.cmpi .sge v803 v27
  let v805 : BitVec 32 := Scalar.extui v804
  let v806 : BitVec 1 := Scalar.cmpi .sge v803 v46
  let v807 : BitVec 32 := Scalar.extui v806
  let v808 : BitVec 32 := Scalar.addi v805 v807
  let v809 : BitVec 1 := Scalar.cmpi .sge v803 v65
  let v810 : BitVec 32 := Scalar.extui v809
  let v811 : BitVec 32 := Scalar.addi v808 v810
  let v822 : BitVec 1 := Scalar.cmpi .ne v801 v811
  let v823 : BitVec 32 := Scalar.extui v822
  let c0_i32_320 : BitVec 32 := 0#32
  let v824 : BitVec 1 := Scalar.cmpi .ne v823 c0_i32_320
  v824

def k0_off140 (i : grid0.Coords) (v4 : BitVec 32) : Fin 2 → Nat :=
  let c2500_i32_308 : BitVec 32 := 2500#32
  let arg0 : BitVec 32 := BitVec.ofNat 32 (i 0).val
  let c2048_i32 : BitVec 32 := 2048#32
  let v0 : BitVec 32 := Scalar.muli arg0 c2048_i32
  let c1408_i32 : BitVec 32 := 1408#32
  let v792 : BitVec 32 := Scalar.addi v0 c1408_i32
  let v793 : BitVec 32 := Scalar.addi c2500_i32_308 v792
  let v1148 : BitVec 32 := Scalar.subi v793 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off141 (i : grid0.Coords) (v6 : BitVec 32) : Fin 2 → Nat :=
  let c2500_i32_308 : BitVec 32 := 2500#32
  let arg0 : BitVec 32 := BitVec.ofNat 32 (i 0).val
  let c2048_i32 : BitVec 32 := 2048#32
  let v0 : BitVec 32 := Scalar.muli arg0 c2048_i32
  let c1408_i32 : BitVec 32 := 1408#32
  let v792 : BitVec 32 := Scalar.addi v0 c1408_i32
  let v793 : BitVec 32 := Scalar.addi c2500_i32_308 v792
  let v1163 : BitVec 32 := Scalar.subi v793 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off142 (i : grid0.Coords) (v8 : BitVec 32) : Fin 2 → Nat :=
  let c2500_i32_308 : BitVec 32 := 2500#32
  let arg0 : BitVec 32 := BitVec.ofNat 32 (i 0).val
  let c2048_i32 : BitVec 32 := 2048#32
  let v0 : BitVec 32 := Scalar.muli arg0 c2048_i32
  let c1408_i32 : BitVec 32 := 1408#32
  let v792 : BitVec 32 := Scalar.addi v0 c1408_i32
  let v793 : BitVec 32 := Scalar.addi c2500_i32_308 v792
  let v1178 : BitVec 32 := Scalar.subi v793 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off143 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1472_i32 : BitVec 32 := 1472#32
  let v825 : BitVec 32 := Scalar.addi v0 c1472_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v827 : BitVec 1 := Scalar.cmpi .sge v825 v27
  let v828 : BitVec 32 := Scalar.extui v827
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v829 : BitVec 1 := Scalar.cmpi .sge v825 v46
  let v830 : BitVec 32 := Scalar.extui v829
  let v831 : BitVec 32 := Scalar.addi v828 v830
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v832 : BitVec 1 := Scalar.cmpi .sge v825 v65
  let v833 : BitVec 32 := Scalar.extui v832
  let v834 : BitVec 32 := Scalar.addi v831 v833
  let v1123 : Index := Scalar.indexCast v834
  ![v1122.toNat, v1123.toNat]
def k0_cond231 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1472_i32 : BitVec 32 := 1472#32
  let v825 : BitVec 32 := Scalar.addi v0 c1472_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v827 : BitVec 1 := Scalar.cmpi .sge v825 v27
  let v828 : BitVec 32 := Scalar.extui v827
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v829 : BitVec 1 := Scalar.cmpi .sge v825 v46
  let v830 : BitVec 32 := Scalar.extui v829
  let v831 : BitVec 32 := Scalar.addi v828 v830
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v832 : BitVec 1 := Scalar.cmpi .sge v825 v65
  let v833 : BitVec 32 := Scalar.extui v832
  let v834 : BitVec 32 := Scalar.addi v831 v833
  let c64_i32_322 : BitVec 32 := 64#32
  let v835 : BitVec 32 := Scalar.addi v825 c64_i32_322
  let c1_i32_323 : BitVec 32 := 1#32
  let v836 : BitVec 32 := Scalar.subi v835 c1_i32_323
  let v837 : BitVec 1 := Scalar.cmpi .sge v836 v27
  let v838 : BitVec 32 := Scalar.extui v837
  let v839 : BitVec 1 := Scalar.cmpi .sge v836 v46
  let v840 : BitVec 32 := Scalar.extui v839
  let v841 : BitVec 32 := Scalar.addi v838 v840
  let v842 : BitVec 1 := Scalar.cmpi .sge v836 v65
  let v843 : BitVec 32 := Scalar.extui v842
  let v844 : BitVec 32 := Scalar.addi v841 v843
  let v852 : BitVec 1 := Scalar.cmpi .eq v834 v844
  let v853 : BitVec 32 := Scalar.extui v852
  let c0_i32_332 : BitVec 32 := 0#32
  let v854 : BitVec 1 := Scalar.cmpi .ne v853 c0_i32_332
  v854

def k0_off144 (i : grid0.Coords) (v1124 : BitVec 32) : Fin 2 → Nat :=
  let c2500_i32_321 : BitVec 32 := 2500#32
  let arg0 : BitVec 32 := BitVec.ofNat 32 (i 0).val
  let c2048_i32 : BitVec 32 := 2048#32
  let v0 : BitVec 32 := Scalar.muli arg0 c2048_i32
  let c1472_i32 : BitVec 32 := 1472#32
  let v825 : BitVec 32 := Scalar.addi v0 c1472_i32
  let v826 : BitVec 32 := Scalar.addi c2500_i32_321 v825
  let v1125 : BitVec 32 := Scalar.subi v826 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk25 (i : grid0.Coords) (v2 : BitVec 32) (v4 : BitVec 32) (v6 : BitVec 32) (v8 : BitVec 32) (v1124 : BitVec 32) : Prop :=
  (∀ (k0_h231 : k0_cond231 i v2 v4 v6 v8 = 1#1), ∀ a, (k0_off144 i v1124) a + S72x512.size a ≤ S5000x512.size a)
theorem k0_off144_inb : ∀ (i : grid0.Coords) (v2 : BitVec 32) (v4 : BitVec 32) (v6 : BitVec 32) (v8 : BitVec 32) (v1124 : BitVec 32) (k0_hw25 : k0_chk25 i v2 v4 v6 v8 v1124), ∀ (k0_h231 : k0_cond231 i v2 v4 v6 v8 = 1#1), ∀ a, (k0_off144 i v1124) a + S72x512.size a ≤ S5000x512.size a := fun i v2 v4 v6 v8 v1124 k0_hw25 k0_h231 => k0_hw25 k0_h231

def k0_off145 (i : grid0.Coords) (v2 : BitVec 32) : Fin 2 → Nat :=
  let c2500_i32_321 : BitVec 32 := 2500#32
  let arg0 : BitVec 32 := BitVec.ofNat 32 (i 0).val
  let c2048_i32 : BitVec 32 := 2048#32
  let v0 : BitVec 32 := Scalar.muli arg0 c2048_i32
  let c1472_i32 : BitVec 32 := 1472#32
  let v825 : BitVec 32 := Scalar.addi v0 c1472_i32
  let v826 : BitVec 32 := Scalar.addi c2500_i32_321 v825
  let v1136 : BitVec 32 := Scalar.subi v826 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond240 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1472_i32 : BitVec 32 := 1472#32
  let v825 : BitVec 32 := Scalar.addi v0 c1472_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v827 : BitVec 1 := Scalar.cmpi .sge v825 v27
  let v828 : BitVec 32 := Scalar.extui v827
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v829 : BitVec 1 := Scalar.cmpi .sge v825 v46
  let v830 : BitVec 32 := Scalar.extui v829
  let v831 : BitVec 32 := Scalar.addi v828 v830
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v832 : BitVec 1 := Scalar.cmpi .sge v825 v65
  let v833 : BitVec 32 := Scalar.extui v832
  let v834 : BitVec 32 := Scalar.addi v831 v833
  let c64_i32_322 : BitVec 32 := 64#32
  let v835 : BitVec 32 := Scalar.addi v825 c64_i32_322
  let c1_i32_323 : BitVec 32 := 1#32
  let v836 : BitVec 32 := Scalar.subi v835 c1_i32_323
  let v837 : BitVec 1 := Scalar.cmpi .sge v836 v27
  let v838 : BitVec 32 := Scalar.extui v837
  let v839 : BitVec 1 := Scalar.cmpi .sge v836 v46
  let v840 : BitVec 32 := Scalar.extui v839
  let v841 : BitVec 32 := Scalar.addi v838 v840
  let v842 : BitVec 1 := Scalar.cmpi .sge v836 v65
  let v843 : BitVec 32 := Scalar.extui v842
  let v844 : BitVec 32 := Scalar.addi v841 v843
  let v855 : BitVec 1 := Scalar.cmpi .ne v834 v844
  let v856 : BitVec 32 := Scalar.extui v855
  let c0_i32_333 : BitVec 32 := 0#32
  let v857 : BitVec 1 := Scalar.cmpi .ne v856 c0_i32_333
  v857

def k0_off146 (i : grid0.Coords) (v4 : BitVec 32) : Fin 2 → Nat :=
  let c2500_i32_321 : BitVec 32 := 2500#32
  let arg0 : BitVec 32 := BitVec.ofNat 32 (i 0).val
  let c2048_i32 : BitVec 32 := 2048#32
  let v0 : BitVec 32 := Scalar.muli arg0 c2048_i32
  let c1472_i32 : BitVec 32 := 1472#32
  let v825 : BitVec 32 := Scalar.addi v0 c1472_i32
  let v826 : BitVec 32 := Scalar.addi c2500_i32_321 v825
  let v1148 : BitVec 32 := Scalar.subi v826 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off147 (i : grid0.Coords) (v6 : BitVec 32) : Fin 2 → Nat :=
  let c2500_i32_321 : BitVec 32 := 2500#32
  let arg0 : BitVec 32 := BitVec.ofNat 32 (i 0).val
  let c2048_i32 : BitVec 32 := 2048#32
  let v0 : BitVec 32 := Scalar.muli arg0 c2048_i32
  let c1472_i32 : BitVec 32 := 1472#32
  let v825 : BitVec 32 := Scalar.addi v0 c1472_i32
  let v826 : BitVec 32 := Scalar.addi c2500_i32_321 v825
  let v1163 : BitVec 32 := Scalar.subi v826 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off148 (i : grid0.Coords) (v8 : BitVec 32) : Fin 2 → Nat :=
  let c2500_i32_321 : BitVec 32 := 2500#32
  let arg0 : BitVec 32 := BitVec.ofNat 32 (i 0).val
  let c2048_i32 : BitVec 32 := 2048#32
  let v0 : BitVec 32 := Scalar.muli arg0 c2048_i32
  let c1472_i32 : BitVec 32 := 1472#32
  let v825 : BitVec 32 := Scalar.addi v0 c1472_i32
  let v826 : BitVec 32 := Scalar.addi c2500_i32_321 v825
  let v1178 : BitVec 32 := Scalar.subi v826 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off149 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1536_i32 : BitVec 32 := 1536#32
  let v858 : BitVec 32 := Scalar.addi v0 c1536_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v860 : BitVec 1 := Scalar.cmpi .sge v858 v27
  let v861 : BitVec 32 := Scalar.extui v860
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v862 : BitVec 1 := Scalar.cmpi .sge v858 v46
  let v863 : BitVec 32 := Scalar.extui v862
  let v864 : BitVec 32 := Scalar.addi v861 v863
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v865 : BitVec 1 := Scalar.cmpi .sge v858 v65
  let v866 : BitVec 32 := Scalar.extui v865
  let v867 : BitVec 32 := Scalar.addi v864 v866
  let v1123 : Index := Scalar.indexCast v867
  ![v1122.toNat, v1123.toNat]
def k0_cond241 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1536_i32 : BitVec 32 := 1536#32
  let v858 : BitVec 32 := Scalar.addi v0 c1536_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v860 : BitVec 1 := Scalar.cmpi .sge v858 v27
  let v861 : BitVec 32 := Scalar.extui v860
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v862 : BitVec 1 := Scalar.cmpi .sge v858 v46
  let v863 : BitVec 32 := Scalar.extui v862
  let v864 : BitVec 32 := Scalar.addi v861 v863
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v865 : BitVec 1 := Scalar.cmpi .sge v858 v65
  let v866 : BitVec 32 := Scalar.extui v865
  let v867 : BitVec 32 := Scalar.addi v864 v866
  let c64_i32_335 : BitVec 32 := 64#32
  let v868 : BitVec 32 := Scalar.addi v858 c64_i32_335
  let c1_i32_336 : BitVec 32 := 1#32
  let v869 : BitVec 32 := Scalar.subi v868 c1_i32_336
  let v870 : BitVec 1 := Scalar.cmpi .sge v869 v27
  let v871 : BitVec 32 := Scalar.extui v870
  let v872 : BitVec 1 := Scalar.cmpi .sge v869 v46
  let v873 : BitVec 32 := Scalar.extui v872
  let v874 : BitVec 32 := Scalar.addi v871 v873
  let v875 : BitVec 1 := Scalar.cmpi .sge v869 v65
  let v876 : BitVec 32 := Scalar.extui v875
  let v877 : BitVec 32 := Scalar.addi v874 v876
  let v885 : BitVec 1 := Scalar.cmpi .eq v867 v877
  let v886 : BitVec 32 := Scalar.extui v885
  let c0_i32_345 : BitVec 32 := 0#32
  let v887 : BitVec 1 := Scalar.cmpi .ne v886 c0_i32_345
  v887

def k0_off150 (i : grid0.Coords) (v1124 : BitVec 32) : Fin 2 → Nat :=
  let c2500_i32_334 : BitVec 32 := 2500#32
  let arg0 : BitVec 32 := BitVec.ofNat 32 (i 0).val
  let c2048_i32 : BitVec 32 := 2048#32
  let v0 : BitVec 32 := Scalar.muli arg0 c2048_i32
  let c1536_i32 : BitVec 32 := 1536#32
  let v858 : BitVec 32 := Scalar.addi v0 c1536_i32
  let v859 : BitVec 32 := Scalar.addi c2500_i32_334 v858
  let v1125 : BitVec 32 := Scalar.subi v859 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk26 (i : grid0.Coords) (v2 : BitVec 32) (v4 : BitVec 32) (v6 : BitVec 32) (v8 : BitVec 32) (v1124 : BitVec 32) : Prop :=
  (∀ (k0_h241 : k0_cond241 i v2 v4 v6 v8 = 1#1), ∀ a, (k0_off150 i v1124) a + S72x512.size a ≤ S5000x512.size a)
theorem k0_off150_inb : ∀ (i : grid0.Coords) (v2 : BitVec 32) (v4 : BitVec 32) (v6 : BitVec 32) (v8 : BitVec 32) (v1124 : BitVec 32) (k0_hw26 : k0_chk26 i v2 v4 v6 v8 v1124), ∀ (k0_h241 : k0_cond241 i v2 v4 v6 v8 = 1#1), ∀ a, (k0_off150 i v1124) a + S72x512.size a ≤ S5000x512.size a := fun i v2 v4 v6 v8 v1124 k0_hw26 k0_h241 => k0_hw26 k0_h241

def k0_off151 (i : grid0.Coords) (v2 : BitVec 32) : Fin 2 → Nat :=
  let c2500_i32_334 : BitVec 32 := 2500#32
  let arg0 : BitVec 32 := BitVec.ofNat 32 (i 0).val
  let c2048_i32 : BitVec 32 := 2048#32
  let v0 : BitVec 32 := Scalar.muli arg0 c2048_i32
  let c1536_i32 : BitVec 32 := 1536#32
  let v858 : BitVec 32 := Scalar.addi v0 c1536_i32
  let v859 : BitVec 32 := Scalar.addi c2500_i32_334 v858
  let v1136 : BitVec 32 := Scalar.subi v859 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond250 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1536_i32 : BitVec 32 := 1536#32
  let v858 : BitVec 32 := Scalar.addi v0 c1536_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v860 : BitVec 1 := Scalar.cmpi .sge v858 v27
  let v861 : BitVec 32 := Scalar.extui v860
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v862 : BitVec 1 := Scalar.cmpi .sge v858 v46
  let v863 : BitVec 32 := Scalar.extui v862
  let v864 : BitVec 32 := Scalar.addi v861 v863
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v865 : BitVec 1 := Scalar.cmpi .sge v858 v65
  let v866 : BitVec 32 := Scalar.extui v865
  let v867 : BitVec 32 := Scalar.addi v864 v866
  let c64_i32_335 : BitVec 32 := 64#32
  let v868 : BitVec 32 := Scalar.addi v858 c64_i32_335
  let c1_i32_336 : BitVec 32 := 1#32
  let v869 : BitVec 32 := Scalar.subi v868 c1_i32_336
  let v870 : BitVec 1 := Scalar.cmpi .sge v869 v27
  let v871 : BitVec 32 := Scalar.extui v870
  let v872 : BitVec 1 := Scalar.cmpi .sge v869 v46
  let v873 : BitVec 32 := Scalar.extui v872
  let v874 : BitVec 32 := Scalar.addi v871 v873
  let v875 : BitVec 1 := Scalar.cmpi .sge v869 v65
  let v876 : BitVec 32 := Scalar.extui v875
  let v877 : BitVec 32 := Scalar.addi v874 v876
  let v888 : BitVec 1 := Scalar.cmpi .ne v867 v877
  let v889 : BitVec 32 := Scalar.extui v888
  let c0_i32_346 : BitVec 32 := 0#32
  let v890 : BitVec 1 := Scalar.cmpi .ne v889 c0_i32_346
  v890

def k0_off152 (i : grid0.Coords) (v4 : BitVec 32) : Fin 2 → Nat :=
  let c2500_i32_334 : BitVec 32 := 2500#32
  let arg0 : BitVec 32 := BitVec.ofNat 32 (i 0).val
  let c2048_i32 : BitVec 32 := 2048#32
  let v0 : BitVec 32 := Scalar.muli arg0 c2048_i32
  let c1536_i32 : BitVec 32 := 1536#32
  let v858 : BitVec 32 := Scalar.addi v0 c1536_i32
  let v859 : BitVec 32 := Scalar.addi c2500_i32_334 v858
  let v1148 : BitVec 32 := Scalar.subi v859 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off153 (i : grid0.Coords) (v6 : BitVec 32) : Fin 2 → Nat :=
  let c2500_i32_334 : BitVec 32 := 2500#32
  let arg0 : BitVec 32 := BitVec.ofNat 32 (i 0).val
  let c2048_i32 : BitVec 32 := 2048#32
  let v0 : BitVec 32 := Scalar.muli arg0 c2048_i32
  let c1536_i32 : BitVec 32 := 1536#32
  let v858 : BitVec 32 := Scalar.addi v0 c1536_i32
  let v859 : BitVec 32 := Scalar.addi c2500_i32_334 v858
  let v1163 : BitVec 32 := Scalar.subi v859 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off154 (i : grid0.Coords) (v8 : BitVec 32) : Fin 2 → Nat :=
  let c2500_i32_334 : BitVec 32 := 2500#32
  let arg0 : BitVec 32 := BitVec.ofNat 32 (i 0).val
  let c2048_i32 : BitVec 32 := 2048#32
  let v0 : BitVec 32 := Scalar.muli arg0 c2048_i32
  let c1536_i32 : BitVec 32 := 1536#32
  let v858 : BitVec 32 := Scalar.addi v0 c1536_i32
  let v859 : BitVec 32 := Scalar.addi c2500_i32_334 v858
  let v1178 : BitVec 32 := Scalar.subi v859 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off155 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1600_i32 : BitVec 32 := 1600#32
  let v891 : BitVec 32 := Scalar.addi v0 c1600_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v893 : BitVec 1 := Scalar.cmpi .sge v891 v27
  let v894 : BitVec 32 := Scalar.extui v893
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v895 : BitVec 1 := Scalar.cmpi .sge v891 v46
  let v896 : BitVec 32 := Scalar.extui v895
  let v897 : BitVec 32 := Scalar.addi v894 v896
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v898 : BitVec 1 := Scalar.cmpi .sge v891 v65
  let v899 : BitVec 32 := Scalar.extui v898
  let v900 : BitVec 32 := Scalar.addi v897 v899
  let v1123 : Index := Scalar.indexCast v900
  ![v1122.toNat, v1123.toNat]
def k0_cond251 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1600_i32 : BitVec 32 := 1600#32
  let v891 : BitVec 32 := Scalar.addi v0 c1600_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v893 : BitVec 1 := Scalar.cmpi .sge v891 v27
  let v894 : BitVec 32 := Scalar.extui v893
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v895 : BitVec 1 := Scalar.cmpi .sge v891 v46
  let v896 : BitVec 32 := Scalar.extui v895
  let v897 : BitVec 32 := Scalar.addi v894 v896
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v898 : BitVec 1 := Scalar.cmpi .sge v891 v65
  let v899 : BitVec 32 := Scalar.extui v898
  let v900 : BitVec 32 := Scalar.addi v897 v899
  let c64_i32_348 : BitVec 32 := 64#32
  let v901 : BitVec 32 := Scalar.addi v891 c64_i32_348
  let c1_i32_349 : BitVec 32 := 1#32
  let v902 : BitVec 32 := Scalar.subi v901 c1_i32_349
  let v903 : BitVec 1 := Scalar.cmpi .sge v902 v27
  let v904 : BitVec 32 := Scalar.extui v903
  let v905 : BitVec 1 := Scalar.cmpi .sge v902 v46
  let v906 : BitVec 32 := Scalar.extui v905
  let v907 : BitVec 32 := Scalar.addi v904 v906
  let v908 : BitVec 1 := Scalar.cmpi .sge v902 v65
  let v909 : BitVec 32 := Scalar.extui v908
  let v910 : BitVec 32 := Scalar.addi v907 v909
  let v918 : BitVec 1 := Scalar.cmpi .eq v900 v910
  let v919 : BitVec 32 := Scalar.extui v918
  let c0_i32_358 : BitVec 32 := 0#32
  let v920 : BitVec 1 := Scalar.cmpi .ne v919 c0_i32_358
  v920

def k0_off156 (i : grid0.Coords) (v1124 : BitVec 32) : Fin 2 → Nat :=
  let c2500_i32_347 : BitVec 32 := 2500#32
  let arg0 : BitVec 32 := BitVec.ofNat 32 (i 0).val
  let c2048_i32 : BitVec 32 := 2048#32
  let v0 : BitVec 32 := Scalar.muli arg0 c2048_i32
  let c1600_i32 : BitVec 32 := 1600#32
  let v891 : BitVec 32 := Scalar.addi v0 c1600_i32
  let v892 : BitVec 32 := Scalar.addi c2500_i32_347 v891
  let v1125 : BitVec 32 := Scalar.subi v892 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk27 (i : grid0.Coords) (v2 : BitVec 32) (v4 : BitVec 32) (v6 : BitVec 32) (v8 : BitVec 32) (v1124 : BitVec 32) : Prop :=
  (∀ (k0_h251 : k0_cond251 i v2 v4 v6 v8 = 1#1), ∀ a, (k0_off156 i v1124) a + S72x512.size a ≤ S5000x512.size a)
theorem k0_off156_inb : ∀ (i : grid0.Coords) (v2 : BitVec 32) (v4 : BitVec 32) (v6 : BitVec 32) (v8 : BitVec 32) (v1124 : BitVec 32) (k0_hw27 : k0_chk27 i v2 v4 v6 v8 v1124), ∀ (k0_h251 : k0_cond251 i v2 v4 v6 v8 = 1#1), ∀ a, (k0_off156 i v1124) a + S72x512.size a ≤ S5000x512.size a := fun i v2 v4 v6 v8 v1124 k0_hw27 k0_h251 => k0_hw27 k0_h251

def k0_off157 (i : grid0.Coords) (v2 : BitVec 32) : Fin 2 → Nat :=
  let c2500_i32_347 : BitVec 32 := 2500#32
  let arg0 : BitVec 32 := BitVec.ofNat 32 (i 0).val
  let c2048_i32 : BitVec 32 := 2048#32
  let v0 : BitVec 32 := Scalar.muli arg0 c2048_i32
  let c1600_i32 : BitVec 32 := 1600#32
  let v891 : BitVec 32 := Scalar.addi v0 c1600_i32
  let v892 : BitVec 32 := Scalar.addi c2500_i32_347 v891
  let v1136 : BitVec 32 := Scalar.subi v892 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond260 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1600_i32 : BitVec 32 := 1600#32
  let v891 : BitVec 32 := Scalar.addi v0 c1600_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v893 : BitVec 1 := Scalar.cmpi .sge v891 v27
  let v894 : BitVec 32 := Scalar.extui v893
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v895 : BitVec 1 := Scalar.cmpi .sge v891 v46
  let v896 : BitVec 32 := Scalar.extui v895
  let v897 : BitVec 32 := Scalar.addi v894 v896
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v898 : BitVec 1 := Scalar.cmpi .sge v891 v65
  let v899 : BitVec 32 := Scalar.extui v898
  let v900 : BitVec 32 := Scalar.addi v897 v899
  let c64_i32_348 : BitVec 32 := 64#32
  let v901 : BitVec 32 := Scalar.addi v891 c64_i32_348
  let c1_i32_349 : BitVec 32 := 1#32
  let v902 : BitVec 32 := Scalar.subi v901 c1_i32_349
  let v903 : BitVec 1 := Scalar.cmpi .sge v902 v27
  let v904 : BitVec 32 := Scalar.extui v903
  let v905 : BitVec 1 := Scalar.cmpi .sge v902 v46
  let v906 : BitVec 32 := Scalar.extui v905
  let v907 : BitVec 32 := Scalar.addi v904 v906
  let v908 : BitVec 1 := Scalar.cmpi .sge v902 v65
  let v909 : BitVec 32 := Scalar.extui v908
  let v910 : BitVec 32 := Scalar.addi v907 v909
  let v921 : BitVec 1 := Scalar.cmpi .ne v900 v910
  let v922 : BitVec 32 := Scalar.extui v921
  let c0_i32_359 : BitVec 32 := 0#32
  let v923 : BitVec 1 := Scalar.cmpi .ne v922 c0_i32_359
  v923

def k0_off158 (i : grid0.Coords) (v4 : BitVec 32) : Fin 2 → Nat :=
  let c2500_i32_347 : BitVec 32 := 2500#32
  let arg0 : BitVec 32 := BitVec.ofNat 32 (i 0).val
  let c2048_i32 : BitVec 32 := 2048#32
  let v0 : BitVec 32 := Scalar.muli arg0 c2048_i32
  let c1600_i32 : BitVec 32 := 1600#32
  let v891 : BitVec 32 := Scalar.addi v0 c1600_i32
  let v892 : BitVec 32 := Scalar.addi c2500_i32_347 v891
  let v1148 : BitVec 32 := Scalar.subi v892 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off159 (i : grid0.Coords) (v6 : BitVec 32) : Fin 2 → Nat :=
  let c2500_i32_347 : BitVec 32 := 2500#32
  let arg0 : BitVec 32 := BitVec.ofNat 32 (i 0).val
  let c2048_i32 : BitVec 32 := 2048#32
  let v0 : BitVec 32 := Scalar.muli arg0 c2048_i32
  let c1600_i32 : BitVec 32 := 1600#32
  let v891 : BitVec 32 := Scalar.addi v0 c1600_i32
  let v892 : BitVec 32 := Scalar.addi c2500_i32_347 v891
  let v1163 : BitVec 32 := Scalar.subi v892 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off160 (i : grid0.Coords) (v8 : BitVec 32) : Fin 2 → Nat :=
  let c2500_i32_347 : BitVec 32 := 2500#32
  let arg0 : BitVec 32 := BitVec.ofNat 32 (i 0).val
  let c2048_i32 : BitVec 32 := 2048#32
  let v0 : BitVec 32 := Scalar.muli arg0 c2048_i32
  let c1600_i32 : BitVec 32 := 1600#32
  let v891 : BitVec 32 := Scalar.addi v0 c1600_i32
  let v892 : BitVec 32 := Scalar.addi c2500_i32_347 v891
  let v1178 : BitVec 32 := Scalar.subi v892 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off161 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1664_i32 : BitVec 32 := 1664#32
  let v924 : BitVec 32 := Scalar.addi v0 c1664_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v926 : BitVec 1 := Scalar.cmpi .sge v924 v27
  let v927 : BitVec 32 := Scalar.extui v926
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v928 : BitVec 1 := Scalar.cmpi .sge v924 v46
  let v929 : BitVec 32 := Scalar.extui v928
  let v930 : BitVec 32 := Scalar.addi v927 v929
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v931 : BitVec 1 := Scalar.cmpi .sge v924 v65
  let v932 : BitVec 32 := Scalar.extui v931
  let v933 : BitVec 32 := Scalar.addi v930 v932
  let v1123 : Index := Scalar.indexCast v933
  ![v1122.toNat, v1123.toNat]
def k0_cond261 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1664_i32 : BitVec 32 := 1664#32
  let v924 : BitVec 32 := Scalar.addi v0 c1664_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v926 : BitVec 1 := Scalar.cmpi .sge v924 v27
  let v927 : BitVec 32 := Scalar.extui v926
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v928 : BitVec 1 := Scalar.cmpi .sge v924 v46
  let v929 : BitVec 32 := Scalar.extui v928
  let v930 : BitVec 32 := Scalar.addi v927 v929
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v931 : BitVec 1 := Scalar.cmpi .sge v924 v65
  let v932 : BitVec 32 := Scalar.extui v931
  let v933 : BitVec 32 := Scalar.addi v930 v932
  let c64_i32_361 : BitVec 32 := 64#32
  let v934 : BitVec 32 := Scalar.addi v924 c64_i32_361
  let c1_i32_362 : BitVec 32 := 1#32
  let v935 : BitVec 32 := Scalar.subi v934 c1_i32_362
  let v936 : BitVec 1 := Scalar.cmpi .sge v935 v27
  let v937 : BitVec 32 := Scalar.extui v936
  let v938 : BitVec 1 := Scalar.cmpi .sge v935 v46
  let v939 : BitVec 32 := Scalar.extui v938
  let v940 : BitVec 32 := Scalar.addi v937 v939
  let v941 : BitVec 1 := Scalar.cmpi .sge v935 v65
  let v942 : BitVec 32 := Scalar.extui v941
  let v943 : BitVec 32 := Scalar.addi v940 v942
  let v951 : BitVec 1 := Scalar.cmpi .eq v933 v943
  let v952 : BitVec 32 := Scalar.extui v951
  let c0_i32_371 : BitVec 32 := 0#32
  let v953 : BitVec 1 := Scalar.cmpi .ne v952 c0_i32_371
  v953

def k0_off162 (i : grid0.Coords) (v1124 : BitVec 32) : Fin 2 → Nat :=
  let c2500_i32_360 : BitVec 32 := 2500#32
  let arg0 : BitVec 32 := BitVec.ofNat 32 (i 0).val
  let c2048_i32 : BitVec 32 := 2048#32
  let v0 : BitVec 32 := Scalar.muli arg0 c2048_i32
  let c1664_i32 : BitVec 32 := 1664#32
  let v924 : BitVec 32 := Scalar.addi v0 c1664_i32
  let v925 : BitVec 32 := Scalar.addi c2500_i32_360 v924
  let v1125 : BitVec 32 := Scalar.subi v925 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk28 (i : grid0.Coords) (v2 : BitVec 32) (v4 : BitVec 32) (v6 : BitVec 32) (v8 : BitVec 32) (v1124 : BitVec 32) : Prop :=
  (∀ (k0_h261 : k0_cond261 i v2 v4 v6 v8 = 1#1), ∀ a, (k0_off162 i v1124) a + S72x512.size a ≤ S5000x512.size a)
theorem k0_off162_inb : ∀ (i : grid0.Coords) (v2 : BitVec 32) (v4 : BitVec 32) (v6 : BitVec 32) (v8 : BitVec 32) (v1124 : BitVec 32) (k0_hw28 : k0_chk28 i v2 v4 v6 v8 v1124), ∀ (k0_h261 : k0_cond261 i v2 v4 v6 v8 = 1#1), ∀ a, (k0_off162 i v1124) a + S72x512.size a ≤ S5000x512.size a := fun i v2 v4 v6 v8 v1124 k0_hw28 k0_h261 => k0_hw28 k0_h261

def k0_off163 (i : grid0.Coords) (v2 : BitVec 32) : Fin 2 → Nat :=
  let c2500_i32_360 : BitVec 32 := 2500#32
  let arg0 : BitVec 32 := BitVec.ofNat 32 (i 0).val
  let c2048_i32 : BitVec 32 := 2048#32
  let v0 : BitVec 32 := Scalar.muli arg0 c2048_i32
  let c1664_i32 : BitVec 32 := 1664#32
  let v924 : BitVec 32 := Scalar.addi v0 c1664_i32
  let v925 : BitVec 32 := Scalar.addi c2500_i32_360 v924
  let v1136 : BitVec 32 := Scalar.subi v925 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond270 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1664_i32 : BitVec 32 := 1664#32
  let v924 : BitVec 32 := Scalar.addi v0 c1664_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v926 : BitVec 1 := Scalar.cmpi .sge v924 v27
  let v927 : BitVec 32 := Scalar.extui v926
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v928 : BitVec 1 := Scalar.cmpi .sge v924 v46
  let v929 : BitVec 32 := Scalar.extui v928
  let v930 : BitVec 32 := Scalar.addi v927 v929
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v931 : BitVec 1 := Scalar.cmpi .sge v924 v65
  let v932 : BitVec 32 := Scalar.extui v931
  let v933 : BitVec 32 := Scalar.addi v930 v932
  let c64_i32_361 : BitVec 32 := 64#32
  let v934 : BitVec 32 := Scalar.addi v924 c64_i32_361
  let c1_i32_362 : BitVec 32 := 1#32
  let v935 : BitVec 32 := Scalar.subi v934 c1_i32_362
  let v936 : BitVec 1 := Scalar.cmpi .sge v935 v27
  let v937 : BitVec 32 := Scalar.extui v936
  let v938 : BitVec 1 := Scalar.cmpi .sge v935 v46
  let v939 : BitVec 32 := Scalar.extui v938
  let v940 : BitVec 32 := Scalar.addi v937 v939
  let v941 : BitVec 1 := Scalar.cmpi .sge v935 v65
  let v942 : BitVec 32 := Scalar.extui v941
  let v943 : BitVec 32 := Scalar.addi v940 v942
  let v954 : BitVec 1 := Scalar.cmpi .ne v933 v943
  let v955 : BitVec 32 := Scalar.extui v954
  let c0_i32_372 : BitVec 32 := 0#32
  let v956 : BitVec 1 := Scalar.cmpi .ne v955 c0_i32_372
  v956

def k0_off164 (i : grid0.Coords) (v4 : BitVec 32) : Fin 2 → Nat :=
  let c2500_i32_360 : BitVec 32 := 2500#32
  let arg0 : BitVec 32 := BitVec.ofNat 32 (i 0).val
  let c2048_i32 : BitVec 32 := 2048#32
  let v0 : BitVec 32 := Scalar.muli arg0 c2048_i32
  let c1664_i32 : BitVec 32 := 1664#32
  let v924 : BitVec 32 := Scalar.addi v0 c1664_i32
  let v925 : BitVec 32 := Scalar.addi c2500_i32_360 v924
  let v1148 : BitVec 32 := Scalar.subi v925 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off165 (i : grid0.Coords) (v6 : BitVec 32) : Fin 2 → Nat :=
  let c2500_i32_360 : BitVec 32 := 2500#32
  let arg0 : BitVec 32 := BitVec.ofNat 32 (i 0).val
  let c2048_i32 : BitVec 32 := 2048#32
  let v0 : BitVec 32 := Scalar.muli arg0 c2048_i32
  let c1664_i32 : BitVec 32 := 1664#32
  let v924 : BitVec 32 := Scalar.addi v0 c1664_i32
  let v925 : BitVec 32 := Scalar.addi c2500_i32_360 v924
  let v1163 : BitVec 32 := Scalar.subi v925 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off166 (i : grid0.Coords) (v8 : BitVec 32) : Fin 2 → Nat :=
  let c2500_i32_360 : BitVec 32 := 2500#32
  let arg0 : BitVec 32 := BitVec.ofNat 32 (i 0).val
  let c2048_i32 : BitVec 32 := 2048#32
  let v0 : BitVec 32 := Scalar.muli arg0 c2048_i32
  let c1664_i32 : BitVec 32 := 1664#32
  let v924 : BitVec 32 := Scalar.addi v0 c1664_i32
  let v925 : BitVec 32 := Scalar.addi c2500_i32_360 v924
  let v1178 : BitVec 32 := Scalar.subi v925 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off167 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1728_i32 : BitVec 32 := 1728#32
  let v957 : BitVec 32 := Scalar.addi v0 c1728_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v959 : BitVec 1 := Scalar.cmpi .sge v957 v27
  let v960 : BitVec 32 := Scalar.extui v959
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v961 : BitVec 1 := Scalar.cmpi .sge v957 v46
  let v962 : BitVec 32 := Scalar.extui v961
  let v963 : BitVec 32 := Scalar.addi v960 v962
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v964 : BitVec 1 := Scalar.cmpi .sge v957 v65
  let v965 : BitVec 32 := Scalar.extui v964
  let v966 : BitVec 32 := Scalar.addi v963 v965
  let v1123 : Index := Scalar.indexCast v966
  ![v1122.toNat, v1123.toNat]
def k0_cond271 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1728_i32 : BitVec 32 := 1728#32
  let v957 : BitVec 32 := Scalar.addi v0 c1728_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v959 : BitVec 1 := Scalar.cmpi .sge v957 v27
  let v960 : BitVec 32 := Scalar.extui v959
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v961 : BitVec 1 := Scalar.cmpi .sge v957 v46
  let v962 : BitVec 32 := Scalar.extui v961
  let v963 : BitVec 32 := Scalar.addi v960 v962
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v964 : BitVec 1 := Scalar.cmpi .sge v957 v65
  let v965 : BitVec 32 := Scalar.extui v964
  let v966 : BitVec 32 := Scalar.addi v963 v965
  let c64_i32_374 : BitVec 32 := 64#32
  let v967 : BitVec 32 := Scalar.addi v957 c64_i32_374
  let c1_i32_375 : BitVec 32 := 1#32
  let v968 : BitVec 32 := Scalar.subi v967 c1_i32_375
  let v969 : BitVec 1 := Scalar.cmpi .sge v968 v27
  let v970 : BitVec 32 := Scalar.extui v969
  let v971 : BitVec 1 := Scalar.cmpi .sge v968 v46
  let v972 : BitVec 32 := Scalar.extui v971
  let v973 : BitVec 32 := Scalar.addi v970 v972
  let v974 : BitVec 1 := Scalar.cmpi .sge v968 v65
  let v975 : BitVec 32 := Scalar.extui v974
  let v976 : BitVec 32 := Scalar.addi v973 v975
  let v984 : BitVec 1 := Scalar.cmpi .eq v966 v976
  let v985 : BitVec 32 := Scalar.extui v984
  let c0_i32_384 : BitVec 32 := 0#32
  let v986 : BitVec 1 := Scalar.cmpi .ne v985 c0_i32_384
  v986

def k0_off168 (i : grid0.Coords) (v1124 : BitVec 32) : Fin 2 → Nat :=
  let c2500_i32_373 : BitVec 32 := 2500#32
  let arg0 : BitVec 32 := BitVec.ofNat 32 (i 0).val
  let c2048_i32 : BitVec 32 := 2048#32
  let v0 : BitVec 32 := Scalar.muli arg0 c2048_i32
  let c1728_i32 : BitVec 32 := 1728#32
  let v957 : BitVec 32 := Scalar.addi v0 c1728_i32
  let v958 : BitVec 32 := Scalar.addi c2500_i32_373 v957
  let v1125 : BitVec 32 := Scalar.subi v958 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk29 (i : grid0.Coords) (v2 : BitVec 32) (v4 : BitVec 32) (v6 : BitVec 32) (v8 : BitVec 32) (v1124 : BitVec 32) : Prop :=
  (∀ (k0_h271 : k0_cond271 i v2 v4 v6 v8 = 1#1), ∀ a, (k0_off168 i v1124) a + S72x512.size a ≤ S5000x512.size a)
theorem k0_off168_inb : ∀ (i : grid0.Coords) (v2 : BitVec 32) (v4 : BitVec 32) (v6 : BitVec 32) (v8 : BitVec 32) (v1124 : BitVec 32) (k0_hw29 : k0_chk29 i v2 v4 v6 v8 v1124), ∀ (k0_h271 : k0_cond271 i v2 v4 v6 v8 = 1#1), ∀ a, (k0_off168 i v1124) a + S72x512.size a ≤ S5000x512.size a := fun i v2 v4 v6 v8 v1124 k0_hw29 k0_h271 => k0_hw29 k0_h271

def k0_off169 (i : grid0.Coords) (v2 : BitVec 32) : Fin 2 → Nat :=
  let c2500_i32_373 : BitVec 32 := 2500#32
  let arg0 : BitVec 32 := BitVec.ofNat 32 (i 0).val
  let c2048_i32 : BitVec 32 := 2048#32
  let v0 : BitVec 32 := Scalar.muli arg0 c2048_i32
  let c1728_i32 : BitVec 32 := 1728#32
  let v957 : BitVec 32 := Scalar.addi v0 c1728_i32
  let v958 : BitVec 32 := Scalar.addi c2500_i32_373 v957
  let v1136 : BitVec 32 := Scalar.subi v958 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond280 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1728_i32 : BitVec 32 := 1728#32
  let v957 : BitVec 32 := Scalar.addi v0 c1728_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v959 : BitVec 1 := Scalar.cmpi .sge v957 v27
  let v960 : BitVec 32 := Scalar.extui v959
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v961 : BitVec 1 := Scalar.cmpi .sge v957 v46
  let v962 : BitVec 32 := Scalar.extui v961
  let v963 : BitVec 32 := Scalar.addi v960 v962
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v964 : BitVec 1 := Scalar.cmpi .sge v957 v65
  let v965 : BitVec 32 := Scalar.extui v964
  let v966 : BitVec 32 := Scalar.addi v963 v965
  let c64_i32_374 : BitVec 32 := 64#32
  let v967 : BitVec 32 := Scalar.addi v957 c64_i32_374
  let c1_i32_375 : BitVec 32 := 1#32
  let v968 : BitVec 32 := Scalar.subi v967 c1_i32_375
  let v969 : BitVec 1 := Scalar.cmpi .sge v968 v27
  let v970 : BitVec 32 := Scalar.extui v969
  let v971 : BitVec 1 := Scalar.cmpi .sge v968 v46
  let v972 : BitVec 32 := Scalar.extui v971
  let v973 : BitVec 32 := Scalar.addi v970 v972
  let v974 : BitVec 1 := Scalar.cmpi .sge v968 v65
  let v975 : BitVec 32 := Scalar.extui v974
  let v976 : BitVec 32 := Scalar.addi v973 v975
  let v987 : BitVec 1 := Scalar.cmpi .ne v966 v976
  let v988 : BitVec 32 := Scalar.extui v987
  let c0_i32_385 : BitVec 32 := 0#32
  let v989 : BitVec 1 := Scalar.cmpi .ne v988 c0_i32_385
  v989

def k0_off170 (i : grid0.Coords) (v4 : BitVec 32) : Fin 2 → Nat :=
  let c2500_i32_373 : BitVec 32 := 2500#32
  let arg0 : BitVec 32 := BitVec.ofNat 32 (i 0).val
  let c2048_i32 : BitVec 32 := 2048#32
  let v0 : BitVec 32 := Scalar.muli arg0 c2048_i32
  let c1728_i32 : BitVec 32 := 1728#32
  let v957 : BitVec 32 := Scalar.addi v0 c1728_i32
  let v958 : BitVec 32 := Scalar.addi c2500_i32_373 v957
  let v1148 : BitVec 32 := Scalar.subi v958 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off171 (i : grid0.Coords) (v6 : BitVec 32) : Fin 2 → Nat :=
  let c2500_i32_373 : BitVec 32 := 2500#32
  let arg0 : BitVec 32 := BitVec.ofNat 32 (i 0).val
  let c2048_i32 : BitVec 32 := 2048#32
  let v0 : BitVec 32 := Scalar.muli arg0 c2048_i32
  let c1728_i32 : BitVec 32 := 1728#32
  let v957 : BitVec 32 := Scalar.addi v0 c1728_i32
  let v958 : BitVec 32 := Scalar.addi c2500_i32_373 v957
  let v1163 : BitVec 32 := Scalar.subi v958 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off172 (i : grid0.Coords) (v8 : BitVec 32) : Fin 2 → Nat :=
  let c2500_i32_373 : BitVec 32 := 2500#32
  let arg0 : BitVec 32 := BitVec.ofNat 32 (i 0).val
  let c2048_i32 : BitVec 32 := 2048#32
  let v0 : BitVec 32 := Scalar.muli arg0 c2048_i32
  let c1728_i32 : BitVec 32 := 1728#32
  let v957 : BitVec 32 := Scalar.addi v0 c1728_i32
  let v958 : BitVec 32 := Scalar.addi c2500_i32_373 v957
  let v1178 : BitVec 32 := Scalar.subi v958 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off173 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1792_i32 : BitVec 32 := 1792#32
  let v990 : BitVec 32 := Scalar.addi v0 c1792_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v992 : BitVec 1 := Scalar.cmpi .sge v990 v27
  let v993 : BitVec 32 := Scalar.extui v992
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v994 : BitVec 1 := Scalar.cmpi .sge v990 v46
  let v995 : BitVec 32 := Scalar.extui v994
  let v996 : BitVec 32 := Scalar.addi v993 v995
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v997 : BitVec 1 := Scalar.cmpi .sge v990 v65
  let v998 : BitVec 32 := Scalar.extui v997
  let v999 : BitVec 32 := Scalar.addi v996 v998
  let v1123 : Index := Scalar.indexCast v999
  ![v1122.toNat, v1123.toNat]
def k0_cond281 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1792_i32 : BitVec 32 := 1792#32
  let v990 : BitVec 32 := Scalar.addi v0 c1792_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v992 : BitVec 1 := Scalar.cmpi .sge v990 v27
  let v993 : BitVec 32 := Scalar.extui v992
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v994 : BitVec 1 := Scalar.cmpi .sge v990 v46
  let v995 : BitVec 32 := Scalar.extui v994
  let v996 : BitVec 32 := Scalar.addi v993 v995
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v997 : BitVec 1 := Scalar.cmpi .sge v990 v65
  let v998 : BitVec 32 := Scalar.extui v997
  let v999 : BitVec 32 := Scalar.addi v996 v998
  let c64_i32_387 : BitVec 32 := 64#32
  let v1000 : BitVec 32 := Scalar.addi v990 c64_i32_387
  let c1_i32_388 : BitVec 32 := 1#32
  let v1001 : BitVec 32 := Scalar.subi v1000 c1_i32_388
  let v1002 : BitVec 1 := Scalar.cmpi .sge v1001 v27
  let v1003 : BitVec 32 := Scalar.extui v1002
  let v1004 : BitVec 1 := Scalar.cmpi .sge v1001 v46
  let v1005 : BitVec 32 := Scalar.extui v1004
  let v1006 : BitVec 32 := Scalar.addi v1003 v1005
  let v1007 : BitVec 1 := Scalar.cmpi .sge v1001 v65
  let v1008 : BitVec 32 := Scalar.extui v1007
  let v1009 : BitVec 32 := Scalar.addi v1006 v1008
  let v1017 : BitVec 1 := Scalar.cmpi .eq v999 v1009
  let v1018 : BitVec 32 := Scalar.extui v1017
  let c0_i32_397 : BitVec 32 := 0#32
  let v1019 : BitVec 1 := Scalar.cmpi .ne v1018 c0_i32_397
  v1019

def k0_off174 (i : grid0.Coords) (v1124 : BitVec 32) : Fin 2 → Nat :=
  let c2500_i32_386 : BitVec 32 := 2500#32
  let arg0 : BitVec 32 := BitVec.ofNat 32 (i 0).val
  let c2048_i32 : BitVec 32 := 2048#32
  let v0 : BitVec 32 := Scalar.muli arg0 c2048_i32
  let c1792_i32 : BitVec 32 := 1792#32
  let v990 : BitVec 32 := Scalar.addi v0 c1792_i32
  let v991 : BitVec 32 := Scalar.addi c2500_i32_386 v990
  let v1125 : BitVec 32 := Scalar.subi v991 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk30 (i : grid0.Coords) (v2 : BitVec 32) (v4 : BitVec 32) (v6 : BitVec 32) (v8 : BitVec 32) (v1124 : BitVec 32) : Prop :=
  (∀ (k0_h281 : k0_cond281 i v2 v4 v6 v8 = 1#1), ∀ a, (k0_off174 i v1124) a + S72x512.size a ≤ S5000x512.size a)
theorem k0_off174_inb : ∀ (i : grid0.Coords) (v2 : BitVec 32) (v4 : BitVec 32) (v6 : BitVec 32) (v8 : BitVec 32) (v1124 : BitVec 32) (k0_hw30 : k0_chk30 i v2 v4 v6 v8 v1124), ∀ (k0_h281 : k0_cond281 i v2 v4 v6 v8 = 1#1), ∀ a, (k0_off174 i v1124) a + S72x512.size a ≤ S5000x512.size a := fun i v2 v4 v6 v8 v1124 k0_hw30 k0_h281 => k0_hw30 k0_h281

def k0_off175 (i : grid0.Coords) (v2 : BitVec 32) : Fin 2 → Nat :=
  let c2500_i32_386 : BitVec 32 := 2500#32
  let arg0 : BitVec 32 := BitVec.ofNat 32 (i 0).val
  let c2048_i32 : BitVec 32 := 2048#32
  let v0 : BitVec 32 := Scalar.muli arg0 c2048_i32
  let c1792_i32 : BitVec 32 := 1792#32
  let v990 : BitVec 32 := Scalar.addi v0 c1792_i32
  let v991 : BitVec 32 := Scalar.addi c2500_i32_386 v990
  let v1136 : BitVec 32 := Scalar.subi v991 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond290 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1792_i32 : BitVec 32 := 1792#32
  let v990 : BitVec 32 := Scalar.addi v0 c1792_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v992 : BitVec 1 := Scalar.cmpi .sge v990 v27
  let v993 : BitVec 32 := Scalar.extui v992
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v994 : BitVec 1 := Scalar.cmpi .sge v990 v46
  let v995 : BitVec 32 := Scalar.extui v994
  let v996 : BitVec 32 := Scalar.addi v993 v995
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v997 : BitVec 1 := Scalar.cmpi .sge v990 v65
  let v998 : BitVec 32 := Scalar.extui v997
  let v999 : BitVec 32 := Scalar.addi v996 v998
  let c64_i32_387 : BitVec 32 := 64#32
  let v1000 : BitVec 32 := Scalar.addi v990 c64_i32_387
  let c1_i32_388 : BitVec 32 := 1#32
  let v1001 : BitVec 32 := Scalar.subi v1000 c1_i32_388
  let v1002 : BitVec 1 := Scalar.cmpi .sge v1001 v27
  let v1003 : BitVec 32 := Scalar.extui v1002
  let v1004 : BitVec 1 := Scalar.cmpi .sge v1001 v46
  let v1005 : BitVec 32 := Scalar.extui v1004
  let v1006 : BitVec 32 := Scalar.addi v1003 v1005
  let v1007 : BitVec 1 := Scalar.cmpi .sge v1001 v65
  let v1008 : BitVec 32 := Scalar.extui v1007
  let v1009 : BitVec 32 := Scalar.addi v1006 v1008
  let v1020 : BitVec 1 := Scalar.cmpi .ne v999 v1009
  let v1021 : BitVec 32 := Scalar.extui v1020
  let c0_i32_398 : BitVec 32 := 0#32
  let v1022 : BitVec 1 := Scalar.cmpi .ne v1021 c0_i32_398
  v1022

def k0_off176 (i : grid0.Coords) (v4 : BitVec 32) : Fin 2 → Nat :=
  let c2500_i32_386 : BitVec 32 := 2500#32
  let arg0 : BitVec 32 := BitVec.ofNat 32 (i 0).val
  let c2048_i32 : BitVec 32 := 2048#32
  let v0 : BitVec 32 := Scalar.muli arg0 c2048_i32
  let c1792_i32 : BitVec 32 := 1792#32
  let v990 : BitVec 32 := Scalar.addi v0 c1792_i32
  let v991 : BitVec 32 := Scalar.addi c2500_i32_386 v990
  let v1148 : BitVec 32 := Scalar.subi v991 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off177 (i : grid0.Coords) (v6 : BitVec 32) : Fin 2 → Nat :=
  let c2500_i32_386 : BitVec 32 := 2500#32
  let arg0 : BitVec 32 := BitVec.ofNat 32 (i 0).val
  let c2048_i32 : BitVec 32 := 2048#32
  let v0 : BitVec 32 := Scalar.muli arg0 c2048_i32
  let c1792_i32 : BitVec 32 := 1792#32
  let v990 : BitVec 32 := Scalar.addi v0 c1792_i32
  let v991 : BitVec 32 := Scalar.addi c2500_i32_386 v990
  let v1163 : BitVec 32 := Scalar.subi v991 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off178 (i : grid0.Coords) (v8 : BitVec 32) : Fin 2 → Nat :=
  let c2500_i32_386 : BitVec 32 := 2500#32
  let arg0 : BitVec 32 := BitVec.ofNat 32 (i 0).val
  let c2048_i32 : BitVec 32 := 2048#32
  let v0 : BitVec 32 := Scalar.muli arg0 c2048_i32
  let c1792_i32 : BitVec 32 := 1792#32
  let v990 : BitVec 32 := Scalar.addi v0 c1792_i32
  let v991 : BitVec 32 := Scalar.addi c2500_i32_386 v990
  let v1178 : BitVec 32 := Scalar.subi v991 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off179 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1856_i32 : BitVec 32 := 1856#32
  let v1023 : BitVec 32 := Scalar.addi v0 c1856_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v1025 : BitVec 1 := Scalar.cmpi .sge v1023 v27
  let v1026 : BitVec 32 := Scalar.extui v1025
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v1027 : BitVec 1 := Scalar.cmpi .sge v1023 v46
  let v1028 : BitVec 32 := Scalar.extui v1027
  let v1029 : BitVec 32 := Scalar.addi v1026 v1028
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v1030 : BitVec 1 := Scalar.cmpi .sge v1023 v65
  let v1031 : BitVec 32 := Scalar.extui v1030
  let v1032 : BitVec 32 := Scalar.addi v1029 v1031
  let v1123 : Index := Scalar.indexCast v1032
  ![v1122.toNat, v1123.toNat]
def k0_cond291 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1856_i32 : BitVec 32 := 1856#32
  let v1023 : BitVec 32 := Scalar.addi v0 c1856_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v1025 : BitVec 1 := Scalar.cmpi .sge v1023 v27
  let v1026 : BitVec 32 := Scalar.extui v1025
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v1027 : BitVec 1 := Scalar.cmpi .sge v1023 v46
  let v1028 : BitVec 32 := Scalar.extui v1027
  let v1029 : BitVec 32 := Scalar.addi v1026 v1028
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v1030 : BitVec 1 := Scalar.cmpi .sge v1023 v65
  let v1031 : BitVec 32 := Scalar.extui v1030
  let v1032 : BitVec 32 := Scalar.addi v1029 v1031
  let c64_i32_400 : BitVec 32 := 64#32
  let v1033 : BitVec 32 := Scalar.addi v1023 c64_i32_400
  let c1_i32_401 : BitVec 32 := 1#32
  let v1034 : BitVec 32 := Scalar.subi v1033 c1_i32_401
  let v1035 : BitVec 1 := Scalar.cmpi .sge v1034 v27
  let v1036 : BitVec 32 := Scalar.extui v1035
  let v1037 : BitVec 1 := Scalar.cmpi .sge v1034 v46
  let v1038 : BitVec 32 := Scalar.extui v1037
  let v1039 : BitVec 32 := Scalar.addi v1036 v1038
  let v1040 : BitVec 1 := Scalar.cmpi .sge v1034 v65
  let v1041 : BitVec 32 := Scalar.extui v1040
  let v1042 : BitVec 32 := Scalar.addi v1039 v1041
  let v1050 : BitVec 1 := Scalar.cmpi .eq v1032 v1042
  let v1051 : BitVec 32 := Scalar.extui v1050
  let c0_i32_410 : BitVec 32 := 0#32
  let v1052 : BitVec 1 := Scalar.cmpi .ne v1051 c0_i32_410
  v1052

def k0_off180 (i : grid0.Coords) (v1124 : BitVec 32) : Fin 2 → Nat :=
  let c2500_i32_399 : BitVec 32 := 2500#32
  let arg0 : BitVec 32 := BitVec.ofNat 32 (i 0).val
  let c2048_i32 : BitVec 32 := 2048#32
  let v0 : BitVec 32 := Scalar.muli arg0 c2048_i32
  let c1856_i32 : BitVec 32 := 1856#32
  let v1023 : BitVec 32 := Scalar.addi v0 c1856_i32
  let v1024 : BitVec 32 := Scalar.addi c2500_i32_399 v1023
  let v1125 : BitVec 32 := Scalar.subi v1024 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk31 (i : grid0.Coords) (v2 : BitVec 32) (v4 : BitVec 32) (v6 : BitVec 32) (v8 : BitVec 32) (v1124 : BitVec 32) : Prop :=
  (∀ (k0_h291 : k0_cond291 i v2 v4 v6 v8 = 1#1), ∀ a, (k0_off180 i v1124) a + S72x512.size a ≤ S5000x512.size a)
theorem k0_off180_inb : ∀ (i : grid0.Coords) (v2 : BitVec 32) (v4 : BitVec 32) (v6 : BitVec 32) (v8 : BitVec 32) (v1124 : BitVec 32) (k0_hw31 : k0_chk31 i v2 v4 v6 v8 v1124), ∀ (k0_h291 : k0_cond291 i v2 v4 v6 v8 = 1#1), ∀ a, (k0_off180 i v1124) a + S72x512.size a ≤ S5000x512.size a := fun i v2 v4 v6 v8 v1124 k0_hw31 k0_h291 => k0_hw31 k0_h291

def k0_off181 (i : grid0.Coords) (v2 : BitVec 32) : Fin 2 → Nat :=
  let c2500_i32_399 : BitVec 32 := 2500#32
  let arg0 : BitVec 32 := BitVec.ofNat 32 (i 0).val
  let c2048_i32 : BitVec 32 := 2048#32
  let v0 : BitVec 32 := Scalar.muli arg0 c2048_i32
  let c1856_i32 : BitVec 32 := 1856#32
  let v1023 : BitVec 32 := Scalar.addi v0 c1856_i32
  let v1024 : BitVec 32 := Scalar.addi c2500_i32_399 v1023
  let v1136 : BitVec 32 := Scalar.subi v1024 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond300 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1856_i32 : BitVec 32 := 1856#32
  let v1023 : BitVec 32 := Scalar.addi v0 c1856_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v1025 : BitVec 1 := Scalar.cmpi .sge v1023 v27
  let v1026 : BitVec 32 := Scalar.extui v1025
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v1027 : BitVec 1 := Scalar.cmpi .sge v1023 v46
  let v1028 : BitVec 32 := Scalar.extui v1027
  let v1029 : BitVec 32 := Scalar.addi v1026 v1028
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v1030 : BitVec 1 := Scalar.cmpi .sge v1023 v65
  let v1031 : BitVec 32 := Scalar.extui v1030
  let v1032 : BitVec 32 := Scalar.addi v1029 v1031
  let c64_i32_400 : BitVec 32 := 64#32
  let v1033 : BitVec 32 := Scalar.addi v1023 c64_i32_400
  let c1_i32_401 : BitVec 32 := 1#32
  let v1034 : BitVec 32 := Scalar.subi v1033 c1_i32_401
  let v1035 : BitVec 1 := Scalar.cmpi .sge v1034 v27
  let v1036 : BitVec 32 := Scalar.extui v1035
  let v1037 : BitVec 1 := Scalar.cmpi .sge v1034 v46
  let v1038 : BitVec 32 := Scalar.extui v1037
  let v1039 : BitVec 32 := Scalar.addi v1036 v1038
  let v1040 : BitVec 1 := Scalar.cmpi .sge v1034 v65
  let v1041 : BitVec 32 := Scalar.extui v1040
  let v1042 : BitVec 32 := Scalar.addi v1039 v1041
  let v1053 : BitVec 1 := Scalar.cmpi .ne v1032 v1042
  let v1054 : BitVec 32 := Scalar.extui v1053
  let c0_i32_411 : BitVec 32 := 0#32
  let v1055 : BitVec 1 := Scalar.cmpi .ne v1054 c0_i32_411
  v1055

def k0_off182 (i : grid0.Coords) (v4 : BitVec 32) : Fin 2 → Nat :=
  let c2500_i32_399 : BitVec 32 := 2500#32
  let arg0 : BitVec 32 := BitVec.ofNat 32 (i 0).val
  let c2048_i32 : BitVec 32 := 2048#32
  let v0 : BitVec 32 := Scalar.muli arg0 c2048_i32
  let c1856_i32 : BitVec 32 := 1856#32
  let v1023 : BitVec 32 := Scalar.addi v0 c1856_i32
  let v1024 : BitVec 32 := Scalar.addi c2500_i32_399 v1023
  let v1148 : BitVec 32 := Scalar.subi v1024 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off183 (i : grid0.Coords) (v6 : BitVec 32) : Fin 2 → Nat :=
  let c2500_i32_399 : BitVec 32 := 2500#32
  let arg0 : BitVec 32 := BitVec.ofNat 32 (i 0).val
  let c2048_i32 : BitVec 32 := 2048#32
  let v0 : BitVec 32 := Scalar.muli arg0 c2048_i32
  let c1856_i32 : BitVec 32 := 1856#32
  let v1023 : BitVec 32 := Scalar.addi v0 c1856_i32
  let v1024 : BitVec 32 := Scalar.addi c2500_i32_399 v1023
  let v1163 : BitVec 32 := Scalar.subi v1024 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off184 (i : grid0.Coords) (v8 : BitVec 32) : Fin 2 → Nat :=
  let c2500_i32_399 : BitVec 32 := 2500#32
  let arg0 : BitVec 32 := BitVec.ofNat 32 (i 0).val
  let c2048_i32 : BitVec 32 := 2048#32
  let v0 : BitVec 32 := Scalar.muli arg0 c2048_i32
  let c1856_i32 : BitVec 32 := 1856#32
  let v1023 : BitVec 32 := Scalar.addi v0 c1856_i32
  let v1024 : BitVec 32 := Scalar.addi c2500_i32_399 v1023
  let v1178 : BitVec 32 := Scalar.subi v1024 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off185 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1920_i32 : BitVec 32 := 1920#32
  let v1056 : BitVec 32 := Scalar.addi v0 c1920_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v1058 : BitVec 1 := Scalar.cmpi .sge v1056 v27
  let v1059 : BitVec 32 := Scalar.extui v1058
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v1060 : BitVec 1 := Scalar.cmpi .sge v1056 v46
  let v1061 : BitVec 32 := Scalar.extui v1060
  let v1062 : BitVec 32 := Scalar.addi v1059 v1061
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v1063 : BitVec 1 := Scalar.cmpi .sge v1056 v65
  let v1064 : BitVec 32 := Scalar.extui v1063
  let v1065 : BitVec 32 := Scalar.addi v1062 v1064
  let v1123 : Index := Scalar.indexCast v1065
  ![v1122.toNat, v1123.toNat]
def k0_cond301 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1920_i32 : BitVec 32 := 1920#32
  let v1056 : BitVec 32 := Scalar.addi v0 c1920_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v1058 : BitVec 1 := Scalar.cmpi .sge v1056 v27
  let v1059 : BitVec 32 := Scalar.extui v1058
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v1060 : BitVec 1 := Scalar.cmpi .sge v1056 v46
  let v1061 : BitVec 32 := Scalar.extui v1060
  let v1062 : BitVec 32 := Scalar.addi v1059 v1061
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v1063 : BitVec 1 := Scalar.cmpi .sge v1056 v65
  let v1064 : BitVec 32 := Scalar.extui v1063
  let v1065 : BitVec 32 := Scalar.addi v1062 v1064
  let c64_i32_413 : BitVec 32 := 64#32
  let v1066 : BitVec 32 := Scalar.addi v1056 c64_i32_413
  let c1_i32_414 : BitVec 32 := 1#32
  let v1067 : BitVec 32 := Scalar.subi v1066 c1_i32_414
  let v1068 : BitVec 1 := Scalar.cmpi .sge v1067 v27
  let v1069 : BitVec 32 := Scalar.extui v1068
  let v1070 : BitVec 1 := Scalar.cmpi .sge v1067 v46
  let v1071 : BitVec 32 := Scalar.extui v1070
  let v1072 : BitVec 32 := Scalar.addi v1069 v1071
  let v1073 : BitVec 1 := Scalar.cmpi .sge v1067 v65
  let v1074 : BitVec 32 := Scalar.extui v1073
  let v1075 : BitVec 32 := Scalar.addi v1072 v1074
  let v1083 : BitVec 1 := Scalar.cmpi .eq v1065 v1075
  let v1084 : BitVec 32 := Scalar.extui v1083
  let c0_i32_423 : BitVec 32 := 0#32
  let v1085 : BitVec 1 := Scalar.cmpi .ne v1084 c0_i32_423
  v1085

def k0_off186 (i : grid0.Coords) (v1124 : BitVec 32) : Fin 2 → Nat :=
  let c2500_i32_412 : BitVec 32 := 2500#32
  let arg0 : BitVec 32 := BitVec.ofNat 32 (i 0).val
  let c2048_i32 : BitVec 32 := 2048#32
  let v0 : BitVec 32 := Scalar.muli arg0 c2048_i32
  let c1920_i32 : BitVec 32 := 1920#32
  let v1056 : BitVec 32 := Scalar.addi v0 c1920_i32
  let v1057 : BitVec 32 := Scalar.addi c2500_i32_412 v1056
  let v1125 : BitVec 32 := Scalar.subi v1057 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk32 (i : grid0.Coords) (v2 : BitVec 32) (v4 : BitVec 32) (v6 : BitVec 32) (v8 : BitVec 32) (v1124 : BitVec 32) : Prop :=
  (∀ (k0_h301 : k0_cond301 i v2 v4 v6 v8 = 1#1), ∀ a, (k0_off186 i v1124) a + S72x512.size a ≤ S5000x512.size a)
theorem k0_off186_inb : ∀ (i : grid0.Coords) (v2 : BitVec 32) (v4 : BitVec 32) (v6 : BitVec 32) (v8 : BitVec 32) (v1124 : BitVec 32) (k0_hw32 : k0_chk32 i v2 v4 v6 v8 v1124), ∀ (k0_h301 : k0_cond301 i v2 v4 v6 v8 = 1#1), ∀ a, (k0_off186 i v1124) a + S72x512.size a ≤ S5000x512.size a := fun i v2 v4 v6 v8 v1124 k0_hw32 k0_h301 => k0_hw32 k0_h301

def k0_off187 (i : grid0.Coords) (v2 : BitVec 32) : Fin 2 → Nat :=
  let c2500_i32_412 : BitVec 32 := 2500#32
  let arg0 : BitVec 32 := BitVec.ofNat 32 (i 0).val
  let c2048_i32 : BitVec 32 := 2048#32
  let v0 : BitVec 32 := Scalar.muli arg0 c2048_i32
  let c1920_i32 : BitVec 32 := 1920#32
  let v1056 : BitVec 32 := Scalar.addi v0 c1920_i32
  let v1057 : BitVec 32 := Scalar.addi c2500_i32_412 v1056
  let v1136 : BitVec 32 := Scalar.subi v1057 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond310 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1920_i32 : BitVec 32 := 1920#32
  let v1056 : BitVec 32 := Scalar.addi v0 c1920_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v1058 : BitVec 1 := Scalar.cmpi .sge v1056 v27
  let v1059 : BitVec 32 := Scalar.extui v1058
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v1060 : BitVec 1 := Scalar.cmpi .sge v1056 v46
  let v1061 : BitVec 32 := Scalar.extui v1060
  let v1062 : BitVec 32 := Scalar.addi v1059 v1061
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v1063 : BitVec 1 := Scalar.cmpi .sge v1056 v65
  let v1064 : BitVec 32 := Scalar.extui v1063
  let v1065 : BitVec 32 := Scalar.addi v1062 v1064
  let c64_i32_413 : BitVec 32 := 64#32
  let v1066 : BitVec 32 := Scalar.addi v1056 c64_i32_413
  let c1_i32_414 : BitVec 32 := 1#32
  let v1067 : BitVec 32 := Scalar.subi v1066 c1_i32_414
  let v1068 : BitVec 1 := Scalar.cmpi .sge v1067 v27
  let v1069 : BitVec 32 := Scalar.extui v1068
  let v1070 : BitVec 1 := Scalar.cmpi .sge v1067 v46
  let v1071 : BitVec 32 := Scalar.extui v1070
  let v1072 : BitVec 32 := Scalar.addi v1069 v1071
  let v1073 : BitVec 1 := Scalar.cmpi .sge v1067 v65
  let v1074 : BitVec 32 := Scalar.extui v1073
  let v1075 : BitVec 32 := Scalar.addi v1072 v1074
  let v1086 : BitVec 1 := Scalar.cmpi .ne v1065 v1075
  let v1087 : BitVec 32 := Scalar.extui v1086
  let c0_i32_424 : BitVec 32 := 0#32
  let v1088 : BitVec 1 := Scalar.cmpi .ne v1087 c0_i32_424
  v1088

def k0_off188 (i : grid0.Coords) (v4 : BitVec 32) : Fin 2 → Nat :=
  let c2500_i32_412 : BitVec 32 := 2500#32
  let arg0 : BitVec 32 := BitVec.ofNat 32 (i 0).val
  let c2048_i32 : BitVec 32 := 2048#32
  let v0 : BitVec 32 := Scalar.muli arg0 c2048_i32
  let c1920_i32 : BitVec 32 := 1920#32
  let v1056 : BitVec 32 := Scalar.addi v0 c1920_i32
  let v1057 : BitVec 32 := Scalar.addi c2500_i32_412 v1056
  let v1148 : BitVec 32 := Scalar.subi v1057 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off189 (i : grid0.Coords) (v6 : BitVec 32) : Fin 2 → Nat :=
  let c2500_i32_412 : BitVec 32 := 2500#32
  let arg0 : BitVec 32 := BitVec.ofNat 32 (i 0).val
  let c2048_i32 : BitVec 32 := 2048#32
  let v0 : BitVec 32 := Scalar.muli arg0 c2048_i32
  let c1920_i32 : BitVec 32 := 1920#32
  let v1056 : BitVec 32 := Scalar.addi v0 c1920_i32
  let v1057 : BitVec 32 := Scalar.addi c2500_i32_412 v1056
  let v1163 : BitVec 32 := Scalar.subi v1057 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off190 (i : grid0.Coords) (v8 : BitVec 32) : Fin 2 → Nat :=
  let c2500_i32_412 : BitVec 32 := 2500#32
  let arg0 : BitVec 32 := BitVec.ofNat 32 (i 0).val
  let c2048_i32 : BitVec 32 := 2048#32
  let v0 : BitVec 32 := Scalar.muli arg0 c2048_i32
  let c1920_i32 : BitVec 32 := 1920#32
  let v1056 : BitVec 32 := Scalar.addi v0 c1920_i32
  let v1057 : BitVec 32 := Scalar.addi c2500_i32_412 v1056
  let v1178 : BitVec 32 := Scalar.subi v1057 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]
def k0_off191 (i : grid0.Coords) (v2 : BitVec 32) (v4 : BitVec 32) (v6 : BitVec 32) (v8 : BitVec 32) : Fin 2 → Nat :=
  let arg1 : BitVec 32 := BitVec.ofNat 32 (i 1).val
  let v1122 : Index := Scalar.indexCast arg1
  let arg0 : BitVec 32 := BitVec.ofNat 32 (i 0).val
  let c2048_i32 : BitVec 32 := 2048#32
  let v0 : BitVec 32 := Scalar.muli arg0 c2048_i32
  let c1984_i32 : BitVec 32 := 1984#32
  let v1089 : BitVec 32 := Scalar.addi v0 c1984_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v1091 : BitVec 1 := Scalar.cmpi .sge v1089 v27
  let v1092 : BitVec 32 := Scalar.extui v1091
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v1093 : BitVec 1 := Scalar.cmpi .sge v1089 v46
  let v1094 : BitVec 32 := Scalar.extui v1093
  let v1095 : BitVec 32 := Scalar.addi v1092 v1094
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v1096 : BitVec 1 := Scalar.cmpi .sge v1089 v65
  let v1097 : BitVec 32 := Scalar.extui v1096
  let v1098 : BitVec 32 := Scalar.addi v1095 v1097
  let v1123 : Index := Scalar.indexCast v1098
  ![v1122.toNat, v1123.toNat]
def k0_cond311 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1984_i32 : BitVec 32 := 1984#32
  let v1089 : BitVec 32 := Scalar.addi v0 c1984_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v1091 : BitVec 1 := Scalar.cmpi .sge v1089 v27
  let v1092 : BitVec 32 := Scalar.extui v1091
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v1093 : BitVec 1 := Scalar.cmpi .sge v1089 v46
  let v1094 : BitVec 32 := Scalar.extui v1093
  let v1095 : BitVec 32 := Scalar.addi v1092 v1094
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v1096 : BitVec 1 := Scalar.cmpi .sge v1089 v65
  let v1097 : BitVec 32 := Scalar.extui v1096
  let v1098 : BitVec 32 := Scalar.addi v1095 v1097
  let c64_i32_426 : BitVec 32 := 64#32
  let v1099 : BitVec 32 := Scalar.addi v1089 c64_i32_426
  let c1_i32_427 : BitVec 32 := 1#32
  let v1100 : BitVec 32 := Scalar.subi v1099 c1_i32_427
  let v1101 : BitVec 1 := Scalar.cmpi .sge v1100 v27
  let v1102 : BitVec 32 := Scalar.extui v1101
  let v1103 : BitVec 1 := Scalar.cmpi .sge v1100 v46
  let v1104 : BitVec 32 := Scalar.extui v1103
  let v1105 : BitVec 32 := Scalar.addi v1102 v1104
  let v1106 : BitVec 1 := Scalar.cmpi .sge v1100 v65
  let v1107 : BitVec 32 := Scalar.extui v1106
  let v1108 : BitVec 32 := Scalar.addi v1105 v1107
  let v1116 : BitVec 1 := Scalar.cmpi .eq v1098 v1108
  let v1117 : BitVec 32 := Scalar.extui v1116
  let c0_i32_436 : BitVec 32 := 0#32
  let v1118 : BitVec 1 := Scalar.cmpi .ne v1117 c0_i32_436
  v1118

def k0_off192 (i : grid0.Coords) (v1124 : BitVec 32) : Fin 2 → Nat :=
  let c2500_i32_425 : BitVec 32 := 2500#32
  let arg0 : BitVec 32 := BitVec.ofNat 32 (i 0).val
  let c2048_i32 : BitVec 32 := 2048#32
  let v0 : BitVec 32 := Scalar.muli arg0 c2048_i32
  let c1984_i32 : BitVec 32 := 1984#32
  let v1089 : BitVec 32 := Scalar.addi v0 c1984_i32
  let v1090 : BitVec 32 := Scalar.addi c2500_i32_425 v1089
  let v1125 : BitVec 32 := Scalar.subi v1090 v1124
  let c8_i32 : BitVec 32 := 8#32
  let v1126 : BitVec 32 := Scalar.divsi v1125 c8_i32
  let c8_i32_438 : BitVec 32 := 8#32
  let v1127 : BitVec 32 := Scalar.muli v1126 c8_i32_438
  let v1128 : Index := Scalar.indexCast v1127
  let c0_439 : Index := 0#32
  ![v1128.toNat, 0]

def k0_chk33 (i : grid0.Coords) (v2 : BitVec 32) (v4 : BitVec 32) (v6 : BitVec 32) (v8 : BitVec 32) (v1124 : BitVec 32) : Prop :=
  (∀ (k0_h311 : k0_cond311 i v2 v4 v6 v8 = 1#1), ∀ a, (k0_off192 i v1124) a + S72x512.size a ≤ S5000x512.size a)
theorem k0_off192_inb : ∀ (i : grid0.Coords) (v2 : BitVec 32) (v4 : BitVec 32) (v6 : BitVec 32) (v8 : BitVec 32) (v1124 : BitVec 32) (k0_hw33 : k0_chk33 i v2 v4 v6 v8 v1124), ∀ (k0_h311 : k0_cond311 i v2 v4 v6 v8 = 1#1), ∀ a, (k0_off192 i v1124) a + S72x512.size a ≤ S5000x512.size a := fun i v2 v4 v6 v8 v1124 k0_hw33 k0_h311 => k0_hw33 k0_h311

def k0_off193 (i : grid0.Coords) (v2 : BitVec 32) : Fin 2 → Nat :=
  let c2500_i32_425 : BitVec 32 := 2500#32
  let arg0 : BitVec 32 := BitVec.ofNat 32 (i 0).val
  let c2048_i32 : BitVec 32 := 2048#32
  let v0 : BitVec 32 := Scalar.muli arg0 c2048_i32
  let c1984_i32 : BitVec 32 := 1984#32
  let v1089 : BitVec 32 := Scalar.addi v0 c1984_i32
  let v1090 : BitVec 32 := Scalar.addi c2500_i32_425 v1089
  let v1136 : BitVec 32 := Scalar.subi v1090 v2
  let c8_i32 : BitVec 32 := 8#32
  let v1137 : BitVec 32 := Scalar.divsi v1136 c8_i32
  let c8_i32_438 : BitVec 32 := 8#32
  let v1138 : BitVec 32 := Scalar.muli v1137 c8_i32_438
  let v1139 : Index := Scalar.indexCast v1138
  let c0_439 : Index := 0#32
  ![v1139.toNat, 0]
def k0_cond320 (i : grid0.Coords) (v2 : BitVec 32) (v4 : BitVec 32) (v6 : BitVec 32) (v8 : BitVec 32) : BitVec 1 :=
  let arg0 : BitVec 32 := BitVec.ofNat 32 (i 0).val
  let c2048_i32 : BitVec 32 := 2048#32
  let v0 : BitVec 32 := Scalar.muli arg0 c2048_i32
  let c1984_i32 : BitVec 32 := 1984#32
  let v1089 : BitVec 32 := Scalar.addi v0 c1984_i32
  let v9 : BitVec 32 := Scalar.addi v2 v4
  let c0_i32 : BitVec 32 := 0#32
  let v11 : BitVec 1 := Scalar.cmpi .sgt v9 c0_i32
  let v12 : BitVec 32 := Scalar.extui v11
  let c0_i32_0 : BitVec 32 := 0#32
  let v13 : BitVec 1 := Scalar.cmpi .slt v9 c0_i32_0
  let v14 : BitVec 32 := Scalar.extui v13
  let v15 : BitVec 32 := Scalar.subi v12 v14
  let c2_i32 : BitVec 32 := 2#32
  let c0_i32_1 : BitVec 32 := 0#32
  let v16 : BitVec 1 := Scalar.cmpi .sgt c2_i32 c0_i32_1
  let v17 : BitVec 32 := Scalar.extui v16
  let c0_i32_2 : BitVec 32 := 0#32
  let v18 : BitVec 1 := Scalar.cmpi .slt c2_i32 c0_i32_2
  let v19 : BitVec 32 := Scalar.extui v18
  let v20 : BitVec 32 := Scalar.subi v17 v19
  let v21 : BitVec 1 := Scalar.cmpi .ne v15 v20
  let v22 : BitVec 32 := Scalar.remsi v9 c2_i32
  let c0_i32_3 : BitVec 32 := 0#32
  let v23 : BitVec 1 := Scalar.cmpi .ne v22 c0_i32_3
  let v24 : BitVec 1 := Scalar.andi v21 v23
  let v10 : BitVec 32 := Scalar.divsi v9 c2_i32
  let c1_i32 : BitVec 32 := 1#32
  let v25 : BitVec 32 := Scalar.subi v10 c1_i32
  let v26 : BitVec 32 := Scalar.select v24 v25 v10
  let c1_i32_4 : BitVec 32 := 1#32
  let v27 : BitVec 32 := Scalar.addi v26 c1_i32_4
  let v1091 : BitVec 1 := Scalar.cmpi .sge v1089 v27
  let v1092 : BitVec 32 := Scalar.extui v1091
  let v28 : BitVec 32 := Scalar.addi v4 v6
  let c0_i32_6 : BitVec 32 := 0#32
  let v30 : BitVec 1 := Scalar.cmpi .sgt v28 c0_i32_6
  let v31 : BitVec 32 := Scalar.extui v30
  let c0_i32_7 : BitVec 32 := 0#32
  let v32 : BitVec 1 := Scalar.cmpi .slt v28 c0_i32_7
  let v33 : BitVec 32 := Scalar.extui v32
  let v34 : BitVec 32 := Scalar.subi v31 v33
  let c2_i32_5 : BitVec 32 := 2#32
  let c0_i32_8 : BitVec 32 := 0#32
  let v35 : BitVec 1 := Scalar.cmpi .sgt c2_i32_5 c0_i32_8
  let v36 : BitVec 32 := Scalar.extui v35
  let c0_i32_9 : BitVec 32 := 0#32
  let v37 : BitVec 1 := Scalar.cmpi .slt c2_i32_5 c0_i32_9
  let v38 : BitVec 32 := Scalar.extui v37
  let v39 : BitVec 32 := Scalar.subi v36 v38
  let v40 : BitVec 1 := Scalar.cmpi .ne v34 v39
  let v41 : BitVec 32 := Scalar.remsi v28 c2_i32_5
  let c0_i32_10 : BitVec 32 := 0#32
  let v42 : BitVec 1 := Scalar.cmpi .ne v41 c0_i32_10
  let v43 : BitVec 1 := Scalar.andi v40 v42
  let v29 : BitVec 32 := Scalar.divsi v28 c2_i32_5
  let c1_i32_11 : BitVec 32 := 1#32
  let v44 : BitVec 32 := Scalar.subi v29 c1_i32_11
  let v45 : BitVec 32 := Scalar.select v43 v44 v29
  let c1_i32_12 : BitVec 32 := 1#32
  let v46 : BitVec 32 := Scalar.addi v45 c1_i32_12
  let v1093 : BitVec 1 := Scalar.cmpi .sge v1089 v46
  let v1094 : BitVec 32 := Scalar.extui v1093
  let v1095 : BitVec 32 := Scalar.addi v1092 v1094
  let v47 : BitVec 32 := Scalar.addi v6 v8
  let c0_i32_14 : BitVec 32 := 0#32
  let v49 : BitVec 1 := Scalar.cmpi .sgt v47 c0_i32_14
  let v50 : BitVec 32 := Scalar.extui v49
  let c0_i32_15 : BitVec 32 := 0#32
  let v51 : BitVec 1 := Scalar.cmpi .slt v47 c0_i32_15
  let v52 : BitVec 32 := Scalar.extui v51
  let v53 : BitVec 32 := Scalar.subi v50 v52
  let c2_i32_13 : BitVec 32 := 2#32
  let c0_i32_16 : BitVec 32 := 0#32
  let v54 : BitVec 1 := Scalar.cmpi .sgt c2_i32_13 c0_i32_16
  let v55 : BitVec 32 := Scalar.extui v54
  let c0_i32_17 : BitVec 32 := 0#32
  let v56 : BitVec 1 := Scalar.cmpi .slt c2_i32_13 c0_i32_17
  let v57 : BitVec 32 := Scalar.extui v56
  let v58 : BitVec 32 := Scalar.subi v55 v57
  let v59 : BitVec 1 := Scalar.cmpi .ne v53 v58
  let v60 : BitVec 32 := Scalar.remsi v47 c2_i32_13
  let c0_i32_18 : BitVec 32 := 0#32
  let v61 : BitVec 1 := Scalar.cmpi .ne v60 c0_i32_18
  let v62 : BitVec 1 := Scalar.andi v59 v61
  let v48 : BitVec 32 := Scalar.divsi v47 c2_i32_13
  let c1_i32_19 : BitVec 32 := 1#32
  let v63 : BitVec 32 := Scalar.subi v48 c1_i32_19
  let v64 : BitVec 32 := Scalar.select v62 v63 v48
  let c1_i32_20 : BitVec 32 := 1#32
  let v65 : BitVec 32 := Scalar.addi v64 c1_i32_20
  let v1096 : BitVec 1 := Scalar.cmpi .sge v1089 v65
  let v1097 : BitVec 32 := Scalar.extui v1096
  let v1098 : BitVec 32 := Scalar.addi v1095 v1097
  let c64_i32_426 : BitVec 32 := 64#32
  let v1099 : BitVec 32 := Scalar.addi v1089 c64_i32_426
  let c1_i32_427 : BitVec 32 := 1#32
  let v1100 : BitVec 32 := Scalar.subi v1099 c1_i32_427
  let v1101 : BitVec 1 := Scalar.cmpi .sge v1100 v27
  let v1102 : BitVec 32 := Scalar.extui v1101
  let v1103 : BitVec 1 := Scalar.cmpi .sge v1100 v46
  let v1104 : BitVec 32 := Scalar.extui v1103
  let v1105 : BitVec 32 := Scalar.addi v1102 v1104
  let v1106 : BitVec 1 := Scalar.cmpi .sge v1100 v65
  let v1107 : BitVec 32 := Scalar.extui v1106
  let v1108 : BitVec 32 := Scalar.addi v1105 v1107
  let v1119 : BitVec 1 := Scalar.cmpi .ne v1098 v1108
  let v1120 : BitVec 32 := Scalar.extui v1119
  let c0_i32_437 : BitVec 32 := 0#32
  let v1121 : BitVec 1 := Scalar.cmpi .ne v1120 c0_i32_437
  v1121

def k0_off194 (i : grid0.Coords) (v4 : BitVec 32) : Fin 2 → Nat :=
  let c2500_i32_425 : BitVec 32 := 2500#32
  let arg0 : BitVec 32 := BitVec.ofNat 32 (i 0).val
  let c2048_i32 : BitVec 32 := 2048#32
  let v0 : BitVec 32 := Scalar.muli arg0 c2048_i32
  let c1984_i32 : BitVec 32 := 1984#32
  let v1089 : BitVec 32 := Scalar.addi v0 c1984_i32
  let v1090 : BitVec 32 := Scalar.addi c2500_i32_425 v1089
  let v1148 : BitVec 32 := Scalar.subi v1090 v4
  let c8_i32_442 : BitVec 32 := 8#32
  let v1149 : BitVec 32 := Scalar.divsi v1148 c8_i32_442
  let c8_i32_443 : BitVec 32 := 8#32
  let v1150 : BitVec 32 := Scalar.muli v1149 c8_i32_443
  let v1151 : Index := Scalar.indexCast v1150
  let c0_444 : Index := 0#32
  ![v1151.toNat, 0]
def k0_off195 (i : grid0.Coords) (v6 : BitVec 32) : Fin 2 → Nat :=
  let c2500_i32_425 : BitVec 32 := 2500#32
  let arg0 : BitVec 32 := BitVec.ofNat 32 (i 0).val
  let c2048_i32 : BitVec 32 := 2048#32
  let v0 : BitVec 32 := Scalar.muli arg0 c2048_i32
  let c1984_i32 : BitVec 32 := 1984#32
  let v1089 : BitVec 32 := Scalar.addi v0 c1984_i32
  let v1090 : BitVec 32 := Scalar.addi c2500_i32_425 v1089
  let v1163 : BitVec 32 := Scalar.subi v1090 v6
  let c8_i32_448 : BitVec 32 := 8#32
  let v1164 : BitVec 32 := Scalar.divsi v1163 c8_i32_448
  let c8_i32_449 : BitVec 32 := 8#32
  let v1165 : BitVec 32 := Scalar.muli v1164 c8_i32_449
  let v1166 : Index := Scalar.indexCast v1165
  let c0_450 : Index := 0#32
  ![v1166.toNat, 0]
def k0_off196 (i : grid0.Coords) (v8 : BitVec 32) : Fin 2 → Nat :=
  let c2500_i32_425 : BitVec 32 := 2500#32
  let arg0 : BitVec 32 := BitVec.ofNat 32 (i 0).val
  let c2048_i32 : BitVec 32 := 2048#32
  let v0 : BitVec 32 := Scalar.muli arg0 c2048_i32
  let c1984_i32 : BitVec 32 := 1984#32
  let v1089 : BitVec 32 := Scalar.addi v0 c1984_i32
  let v1090 : BitVec 32 := Scalar.addi c2500_i32_425 v1089
  let v1178 : BitVec 32 := Scalar.subi v1090 v8
  let c8_i32_453 : BitVec 32 := 8#32
  let v1179 : BitVec 32 := Scalar.divsi v1178 c8_i32_453
  let c8_i32_454 : BitVec 32 := 8#32
  let v1180 : BitVec 32 := Scalar.muli v1179 c8_i32_454
  let v1181 : Index := Scalar.indexCast v1180
  let c0_455 : Index := 0#32
  ![v1181.toNat, 0]

def k0_chk1_0 (i : grid0.Coords) (v2 : BitVec 32) (v4 : BitVec 32) (v6 : BitVec 32) (v8 : BitVec 32) : Prop :=
  (∀ (k0_h1 : k0_cond1 i v2 v4 v6 v8 = 1#1), ∀ a, (k0_off5 i v2 v4 v6 v8) a + S1x1.size a ≤ S8x4.size a) ∧
  (∀ (k0_h10 : k0_cond10 i v2 v4 v6 v8 = 1#1), ∀ a, (k0_off7 i v2) a + S72x512.size a ≤ S5000x512.size a) ∧
  (∀ (k0_h10 : k0_cond10 i v2 v4 v6 v8 = 1#1), ∀ a, (k0_off8 i v4) a + S72x512.size a ≤ S5000x512.size a) ∧
  (∀ (k0_h10 : k0_cond10 i v2 v4 v6 v8 = 1#1), ∀ a, (k0_off9 i v6) a + S72x512.size a ≤ S5000x512.size a) ∧
  (∀ (k0_h10 : k0_cond10 i v2 v4 v6 v8 = 1#1), ∀ a, (k0_off10 i v8) a + S72x512.size a ≤ S5000x512.size a) ∧
  (∀ (k0_h11 : k0_cond11 i v2 v4 v6 v8 = 1#1), ∀ a, (k0_off11 i v2 v4 v6 v8) a + S1x1.size a ≤ S8x4.size a) ∧
  (∀ (k0_h20 : k0_cond20 i v2 v4 v6 v8 = 1#1), ∀ a, (k0_off13 i v2) a + S72x512.size a ≤ S5000x512.size a) ∧
  (∀ (k0_h20 : k0_cond20 i v2 v4 v6 v8 = 1#1), ∀ a, (k0_off14 i v4) a + S72x512.size a ≤ S5000x512.size a) ∧
  (∀ (k0_h20 : k0_cond20 i v2 v4 v6 v8 = 1#1), ∀ a, (k0_off15 i v6) a + S72x512.size a ≤ S5000x512.size a) ∧
  (∀ (k0_h20 : k0_cond20 i v2 v4 v6 v8 = 1#1), ∀ a, (k0_off16 i v8) a + S72x512.size a ≤ S5000x512.size a) ∧
  (∀ (k0_h21 : k0_cond21 i v2 v4 v6 v8 = 1#1), ∀ a, (k0_off17 i v2 v4 v6 v8) a + S1x1.size a ≤ S8x4.size a) ∧
  (∀ (k0_h30 : k0_cond30 i v2 v4 v6 v8 = 1#1), ∀ a, (k0_off19 i v2) a + S72x512.size a ≤ S5000x512.size a) ∧
  (∀ (k0_h30 : k0_cond30 i v2 v4 v6 v8 = 1#1), ∀ a, (k0_off20 i v4) a + S72x512.size a ≤ S5000x512.size a) ∧
  (∀ (k0_h30 : k0_cond30 i v2 v4 v6 v8 = 1#1), ∀ a, (k0_off21 i v6) a + S72x512.size a ≤ S5000x512.size a) ∧
  (∀ (k0_h30 : k0_cond30 i v2 v4 v6 v8 = 1#1), ∀ a, (k0_off22 i v8) a + S72x512.size a ≤ S5000x512.size a) ∧
  (∀ (k0_h31 : k0_cond31 i v2 v4 v6 v8 = 1#1), ∀ a, (k0_off23 i v2 v4 v6 v8) a + S1x1.size a ≤ S8x4.size a) ∧
  (∀ (k0_h40 : k0_cond40 i v2 v4 v6 v8 = 1#1), ∀ a, (k0_off25 i v2) a + S72x512.size a ≤ S5000x512.size a) ∧
  (∀ (k0_h40 : k0_cond40 i v2 v4 v6 v8 = 1#1), ∀ a, (k0_off26 i v4) a + S72x512.size a ≤ S5000x512.size a) ∧
  (∀ (k0_h40 : k0_cond40 i v2 v4 v6 v8 = 1#1), ∀ a, (k0_off27 i v6) a + S72x512.size a ≤ S5000x512.size a) ∧
  (∀ (k0_h40 : k0_cond40 i v2 v4 v6 v8 = 1#1), ∀ a, (k0_off28 i v8) a + S72x512.size a ≤ S5000x512.size a) ∧
  (∀ (k0_h41 : k0_cond41 i v2 v4 v6 v8 = 1#1), ∀ a, (k0_off29 i v2 v4 v6 v8) a + S1x1.size a ≤ S8x4.size a) ∧
  (∀ (k0_h50 : k0_cond50 i v2 v4 v6 v8 = 1#1), ∀ a, (k0_off31 i v2) a + S72x512.size a ≤ S5000x512.size a) ∧
  (∀ (k0_h50 : k0_cond50 i v2 v4 v6 v8 = 1#1), ∀ a, (k0_off32 i v4) a + S72x512.size a ≤ S5000x512.size a) ∧
  (∀ (k0_h50 : k0_cond50 i v2 v4 v6 v8 = 1#1), ∀ a, (k0_off33 i v6) a + S72x512.size a ≤ S5000x512.size a) ∧
  (∀ (k0_h50 : k0_cond50 i v2 v4 v6 v8 = 1#1), ∀ a, (k0_off34 i v8) a + S72x512.size a ≤ S5000x512.size a) ∧
  (∀ (k0_h51 : k0_cond51 i v2 v4 v6 v8 = 1#1), ∀ a, (k0_off35 i v2 v4 v6 v8) a + S1x1.size a ≤ S8x4.size a) ∧
  (∀ (k0_h60 : k0_cond60 i v2 v4 v6 v8 = 1#1), ∀ a, (k0_off37 i v2) a + S72x512.size a ≤ S5000x512.size a) ∧
  (∀ (k0_h60 : k0_cond60 i v2 v4 v6 v8 = 1#1), ∀ a, (k0_off38 i v4) a + S72x512.size a ≤ S5000x512.size a) ∧
  (∀ (k0_h60 : k0_cond60 i v2 v4 v6 v8 = 1#1), ∀ a, (k0_off39 i v6) a + S72x512.size a ≤ S5000x512.size a) ∧
  (∀ (k0_h60 : k0_cond60 i v2 v4 v6 v8 = 1#1), ∀ a, (k0_off40 i v8) a + S72x512.size a ≤ S5000x512.size a) ∧
  (∀ (k0_h61 : k0_cond61 i v2 v4 v6 v8 = 1#1), ∀ a, (k0_off41 i v2 v4 v6 v8) a + S1x1.size a ≤ S8x4.size a) ∧
  (∀ (k0_h70 : k0_cond70 i v2 v4 v6 v8 = 1#1), ∀ a, (k0_off43 i v2) a + S72x512.size a ≤ S5000x512.size a)
def k0_chk1_1 (i : grid0.Coords) (v2 : BitVec 32) (v4 : BitVec 32) (v6 : BitVec 32) (v8 : BitVec 32) : Prop :=
  (∀ (k0_h70 : k0_cond70 i v2 v4 v6 v8 = 1#1), ∀ a, (k0_off44 i v4) a + S72x512.size a ≤ S5000x512.size a) ∧
  (∀ (k0_h70 : k0_cond70 i v2 v4 v6 v8 = 1#1), ∀ a, (k0_off45 i v6) a + S72x512.size a ≤ S5000x512.size a) ∧
  (∀ (k0_h70 : k0_cond70 i v2 v4 v6 v8 = 1#1), ∀ a, (k0_off46 i v8) a + S72x512.size a ≤ S5000x512.size a) ∧
  (∀ (k0_h71 : k0_cond71 i v2 v4 v6 v8 = 1#1), ∀ a, (k0_off47 i v2 v4 v6 v8) a + S1x1.size a ≤ S8x4.size a) ∧
  (∀ (k0_h80 : k0_cond80 i v2 v4 v6 v8 = 1#1), ∀ a, (k0_off49 i v2) a + S72x512.size a ≤ S5000x512.size a) ∧
  (∀ (k0_h80 : k0_cond80 i v2 v4 v6 v8 = 1#1), ∀ a, (k0_off50 i v4) a + S72x512.size a ≤ S5000x512.size a) ∧
  (∀ (k0_h80 : k0_cond80 i v2 v4 v6 v8 = 1#1), ∀ a, (k0_off51 i v6) a + S72x512.size a ≤ S5000x512.size a) ∧
  (∀ (k0_h80 : k0_cond80 i v2 v4 v6 v8 = 1#1), ∀ a, (k0_off52 i v8) a + S72x512.size a ≤ S5000x512.size a) ∧
  (∀ (k0_h81 : k0_cond81 i v2 v4 v6 v8 = 1#1), ∀ a, (k0_off53 i v2 v4 v6 v8) a + S1x1.size a ≤ S8x4.size a) ∧
  (∀ (k0_h90 : k0_cond90 i v2 v4 v6 v8 = 1#1), ∀ a, (k0_off55 i v2) a + S72x512.size a ≤ S5000x512.size a) ∧
  (∀ (k0_h90 : k0_cond90 i v2 v4 v6 v8 = 1#1), ∀ a, (k0_off56 i v4) a + S72x512.size a ≤ S5000x512.size a) ∧
  (∀ (k0_h90 : k0_cond90 i v2 v4 v6 v8 = 1#1), ∀ a, (k0_off57 i v6) a + S72x512.size a ≤ S5000x512.size a) ∧
  (∀ (k0_h90 : k0_cond90 i v2 v4 v6 v8 = 1#1), ∀ a, (k0_off58 i v8) a + S72x512.size a ≤ S5000x512.size a) ∧
  (∀ (k0_h91 : k0_cond91 i v2 v4 v6 v8 = 1#1), ∀ a, (k0_off59 i v2 v4 v6 v8) a + S1x1.size a ≤ S8x4.size a) ∧
  (∀ (k0_h100 : k0_cond100 i v2 v4 v6 v8 = 1#1), ∀ a, (k0_off61 i v2) a + S72x512.size a ≤ S5000x512.size a) ∧
  (∀ (k0_h100 : k0_cond100 i v2 v4 v6 v8 = 1#1), ∀ a, (k0_off62 i v4) a + S72x512.size a ≤ S5000x512.size a) ∧
  (∀ (k0_h100 : k0_cond100 i v2 v4 v6 v8 = 1#1), ∀ a, (k0_off63 i v6) a + S72x512.size a ≤ S5000x512.size a) ∧
  (∀ (k0_h100 : k0_cond100 i v2 v4 v6 v8 = 1#1), ∀ a, (k0_off64 i v8) a + S72x512.size a ≤ S5000x512.size a) ∧
  (∀ (k0_h101 : k0_cond101 i v2 v4 v6 v8 = 1#1), ∀ a, (k0_off65 i v2 v4 v6 v8) a + S1x1.size a ≤ S8x4.size a) ∧
  (∀ (k0_h110 : k0_cond110 i v2 v4 v6 v8 = 1#1), ∀ a, (k0_off67 i v2) a + S72x512.size a ≤ S5000x512.size a) ∧
  (∀ (k0_h110 : k0_cond110 i v2 v4 v6 v8 = 1#1), ∀ a, (k0_off68 i v4) a + S72x512.size a ≤ S5000x512.size a) ∧
  (∀ (k0_h110 : k0_cond110 i v2 v4 v6 v8 = 1#1), ∀ a, (k0_off69 i v6) a + S72x512.size a ≤ S5000x512.size a) ∧
  (∀ (k0_h110 : k0_cond110 i v2 v4 v6 v8 = 1#1), ∀ a, (k0_off70 i v8) a + S72x512.size a ≤ S5000x512.size a) ∧
  (∀ (k0_h111 : k0_cond111 i v2 v4 v6 v8 = 1#1), ∀ a, (k0_off71 i v2 v4 v6 v8) a + S1x1.size a ≤ S8x4.size a) ∧
  (∀ (k0_h120 : k0_cond120 i v2 v4 v6 v8 = 1#1), ∀ a, (k0_off73 i v2) a + S72x512.size a ≤ S5000x512.size a) ∧
  (∀ (k0_h120 : k0_cond120 i v2 v4 v6 v8 = 1#1), ∀ a, (k0_off74 i v4) a + S72x512.size a ≤ S5000x512.size a) ∧
  (∀ (k0_h120 : k0_cond120 i v2 v4 v6 v8 = 1#1), ∀ a, (k0_off75 i v6) a + S72x512.size a ≤ S5000x512.size a) ∧
  (∀ (k0_h120 : k0_cond120 i v2 v4 v6 v8 = 1#1), ∀ a, (k0_off76 i v8) a + S72x512.size a ≤ S5000x512.size a) ∧
  (∀ (k0_h121 : k0_cond121 i v2 v4 v6 v8 = 1#1), ∀ a, (k0_off77 i v2 v4 v6 v8) a + S1x1.size a ≤ S8x4.size a) ∧
  (∀ (k0_h130 : k0_cond130 i v2 v4 v6 v8 = 1#1), ∀ a, (k0_off79 i v2) a + S72x512.size a ≤ S5000x512.size a) ∧
  (∀ (k0_h130 : k0_cond130 i v2 v4 v6 v8 = 1#1), ∀ a, (k0_off80 i v4) a + S72x512.size a ≤ S5000x512.size a) ∧
  (∀ (k0_h130 : k0_cond130 i v2 v4 v6 v8 = 1#1), ∀ a, (k0_off81 i v6) a + S72x512.size a ≤ S5000x512.size a)
def k0_chk1_2 (i : grid0.Coords) (v2 : BitVec 32) (v4 : BitVec 32) (v6 : BitVec 32) (v8 : BitVec 32) : Prop :=
  (∀ (k0_h130 : k0_cond130 i v2 v4 v6 v8 = 1#1), ∀ a, (k0_off82 i v8) a + S72x512.size a ≤ S5000x512.size a) ∧
  (∀ (k0_h131 : k0_cond131 i v2 v4 v6 v8 = 1#1), ∀ a, (k0_off83 i v2 v4 v6 v8) a + S1x1.size a ≤ S8x4.size a) ∧
  (∀ (k0_h140 : k0_cond140 i v2 v4 v6 v8 = 1#1), ∀ a, (k0_off85 i v2) a + S72x512.size a ≤ S5000x512.size a) ∧
  (∀ (k0_h140 : k0_cond140 i v2 v4 v6 v8 = 1#1), ∀ a, (k0_off86 i v4) a + S72x512.size a ≤ S5000x512.size a) ∧
  (∀ (k0_h140 : k0_cond140 i v2 v4 v6 v8 = 1#1), ∀ a, (k0_off87 i v6) a + S72x512.size a ≤ S5000x512.size a) ∧
  (∀ (k0_h140 : k0_cond140 i v2 v4 v6 v8 = 1#1), ∀ a, (k0_off88 i v8) a + S72x512.size a ≤ S5000x512.size a) ∧
  (∀ (k0_h141 : k0_cond141 i v2 v4 v6 v8 = 1#1), ∀ a, (k0_off89 i v2 v4 v6 v8) a + S1x1.size a ≤ S8x4.size a) ∧
  (∀ (k0_h150 : k0_cond150 i v2 v4 v6 v8 = 1#1), ∀ a, (k0_off91 i v2) a + S72x512.size a ≤ S5000x512.size a) ∧
  (∀ (k0_h150 : k0_cond150 i v2 v4 v6 v8 = 1#1), ∀ a, (k0_off92 i v4) a + S72x512.size a ≤ S5000x512.size a) ∧
  (∀ (k0_h150 : k0_cond150 i v2 v4 v6 v8 = 1#1), ∀ a, (k0_off93 i v6) a + S72x512.size a ≤ S5000x512.size a) ∧
  (∀ (k0_h150 : k0_cond150 i v2 v4 v6 v8 = 1#1), ∀ a, (k0_off94 i v8) a + S72x512.size a ≤ S5000x512.size a) ∧
  (∀ (k0_h151 : k0_cond151 i v2 v4 v6 v8 = 1#1), ∀ a, (k0_off95 i v2 v4 v6 v8) a + S1x1.size a ≤ S8x4.size a) ∧
  (∀ (k0_h160 : k0_cond160 i v2 v4 v6 v8 = 1#1), ∀ a, (k0_off97 i v2) a + S72x512.size a ≤ S5000x512.size a) ∧
  (∀ (k0_h160 : k0_cond160 i v2 v4 v6 v8 = 1#1), ∀ a, (k0_off98 i v4) a + S72x512.size a ≤ S5000x512.size a) ∧
  (∀ (k0_h160 : k0_cond160 i v2 v4 v6 v8 = 1#1), ∀ a, (k0_off99 i v6) a + S72x512.size a ≤ S5000x512.size a) ∧
  (∀ (k0_h160 : k0_cond160 i v2 v4 v6 v8 = 1#1), ∀ a, (k0_off100 i v8) a + S72x512.size a ≤ S5000x512.size a) ∧
  (∀ (k0_h161 : k0_cond161 i v2 v4 v6 v8 = 1#1), ∀ a, (k0_off101 i v2 v4 v6 v8) a + S1x1.size a ≤ S8x4.size a) ∧
  (∀ (k0_h170 : k0_cond170 i v2 v4 v6 v8 = 1#1), ∀ a, (k0_off103 i v2) a + S72x512.size a ≤ S5000x512.size a) ∧
  (∀ (k0_h170 : k0_cond170 i v2 v4 v6 v8 = 1#1), ∀ a, (k0_off104 i v4) a + S72x512.size a ≤ S5000x512.size a) ∧
  (∀ (k0_h170 : k0_cond170 i v2 v4 v6 v8 = 1#1), ∀ a, (k0_off105 i v6) a + S72x512.size a ≤ S5000x512.size a) ∧
  (∀ (k0_h170 : k0_cond170 i v2 v4 v6 v8 = 1#1), ∀ a, (k0_off106 i v8) a + S72x512.size a ≤ S5000x512.size a) ∧
  (∀ (k0_h171 : k0_cond171 i v2 v4 v6 v8 = 1#1), ∀ a, (k0_off107 i v2 v4 v6 v8) a + S1x1.size a ≤ S8x4.size a) ∧
  (∀ (k0_h180 : k0_cond180 i v2 v4 v6 v8 = 1#1), ∀ a, (k0_off109 i v2) a + S72x512.size a ≤ S5000x512.size a) ∧
  (∀ (k0_h180 : k0_cond180 i v2 v4 v6 v8 = 1#1), ∀ a, (k0_off110 i v4) a + S72x512.size a ≤ S5000x512.size a) ∧
  (∀ (k0_h180 : k0_cond180 i v2 v4 v6 v8 = 1#1), ∀ a, (k0_off111 i v6) a + S72x512.size a ≤ S5000x512.size a) ∧
  (∀ (k0_h180 : k0_cond180 i v2 v4 v6 v8 = 1#1), ∀ a, (k0_off112 i v8) a + S72x512.size a ≤ S5000x512.size a) ∧
  (∀ (k0_h181 : k0_cond181 i v2 v4 v6 v8 = 1#1), ∀ a, (k0_off113 i v2 v4 v6 v8) a + S1x1.size a ≤ S8x4.size a) ∧
  (∀ (k0_h190 : k0_cond190 i v2 v4 v6 v8 = 1#1), ∀ a, (k0_off115 i v2) a + S72x512.size a ≤ S5000x512.size a) ∧
  (∀ (k0_h190 : k0_cond190 i v2 v4 v6 v8 = 1#1), ∀ a, (k0_off116 i v4) a + S72x512.size a ≤ S5000x512.size a) ∧
  (∀ (k0_h190 : k0_cond190 i v2 v4 v6 v8 = 1#1), ∀ a, (k0_off117 i v6) a + S72x512.size a ≤ S5000x512.size a) ∧
  (∀ (k0_h190 : k0_cond190 i v2 v4 v6 v8 = 1#1), ∀ a, (k0_off118 i v8) a + S72x512.size a ≤ S5000x512.size a) ∧
  (∀ (k0_h191 : k0_cond191 i v2 v4 v6 v8 = 1#1), ∀ a, (k0_off119 i v2 v4 v6 v8) a + S1x1.size a ≤ S8x4.size a)
def k0_chk1_3 (i : grid0.Coords) (v2 : BitVec 32) (v4 : BitVec 32) (v6 : BitVec 32) (v8 : BitVec 32) : Prop :=
  (∀ (k0_h200 : k0_cond200 i v2 v4 v6 v8 = 1#1), ∀ a, (k0_off121 i v2) a + S72x512.size a ≤ S5000x512.size a) ∧
  (∀ (k0_h200 : k0_cond200 i v2 v4 v6 v8 = 1#1), ∀ a, (k0_off122 i v4) a + S72x512.size a ≤ S5000x512.size a) ∧
  (∀ (k0_h200 : k0_cond200 i v2 v4 v6 v8 = 1#1), ∀ a, (k0_off123 i v6) a + S72x512.size a ≤ S5000x512.size a) ∧
  (∀ (k0_h200 : k0_cond200 i v2 v4 v6 v8 = 1#1), ∀ a, (k0_off124 i v8) a + S72x512.size a ≤ S5000x512.size a) ∧
  (∀ (k0_h201 : k0_cond201 i v2 v4 v6 v8 = 1#1), ∀ a, (k0_off125 i v2 v4 v6 v8) a + S1x1.size a ≤ S8x4.size a) ∧
  (∀ (k0_h210 : k0_cond210 i v2 v4 v6 v8 = 1#1), ∀ a, (k0_off127 i v2) a + S72x512.size a ≤ S5000x512.size a) ∧
  (∀ (k0_h210 : k0_cond210 i v2 v4 v6 v8 = 1#1), ∀ a, (k0_off128 i v4) a + S72x512.size a ≤ S5000x512.size a) ∧
  (∀ (k0_h210 : k0_cond210 i v2 v4 v6 v8 = 1#1), ∀ a, (k0_off129 i v6) a + S72x512.size a ≤ S5000x512.size a) ∧
  (∀ (k0_h210 : k0_cond210 i v2 v4 v6 v8 = 1#1), ∀ a, (k0_off130 i v8) a + S72x512.size a ≤ S5000x512.size a) ∧
  (∀ (k0_h211 : k0_cond211 i v2 v4 v6 v8 = 1#1), ∀ a, (k0_off131 i v2 v4 v6 v8) a + S1x1.size a ≤ S8x4.size a) ∧
  (∀ (k0_h220 : k0_cond220 i v2 v4 v6 v8 = 1#1), ∀ a, (k0_off133 i v2) a + S72x512.size a ≤ S5000x512.size a) ∧
  (∀ (k0_h220 : k0_cond220 i v2 v4 v6 v8 = 1#1), ∀ a, (k0_off134 i v4) a + S72x512.size a ≤ S5000x512.size a) ∧
  (∀ (k0_h220 : k0_cond220 i v2 v4 v6 v8 = 1#1), ∀ a, (k0_off135 i v6) a + S72x512.size a ≤ S5000x512.size a) ∧
  (∀ (k0_h220 : k0_cond220 i v2 v4 v6 v8 = 1#1), ∀ a, (k0_off136 i v8) a + S72x512.size a ≤ S5000x512.size a) ∧
  (∀ (k0_h221 : k0_cond221 i v2 v4 v6 v8 = 1#1), ∀ a, (k0_off137 i v2 v4 v6 v8) a + S1x1.size a ≤ S8x4.size a) ∧
  (∀ (k0_h230 : k0_cond230 i v2 v4 v6 v8 = 1#1), ∀ a, (k0_off139 i v2) a + S72x512.size a ≤ S5000x512.size a) ∧
  (∀ (k0_h230 : k0_cond230 i v2 v4 v6 v8 = 1#1), ∀ a, (k0_off140 i v4) a + S72x512.size a ≤ S5000x512.size a) ∧
  (∀ (k0_h230 : k0_cond230 i v2 v4 v6 v8 = 1#1), ∀ a, (k0_off141 i v6) a + S72x512.size a ≤ S5000x512.size a) ∧
  (∀ (k0_h230 : k0_cond230 i v2 v4 v6 v8 = 1#1), ∀ a, (k0_off142 i v8) a + S72x512.size a ≤ S5000x512.size a) ∧
  (∀ (k0_h231 : k0_cond231 i v2 v4 v6 v8 = 1#1), ∀ a, (k0_off143 i v2 v4 v6 v8) a + S1x1.size a ≤ S8x4.size a) ∧
  (∀ (k0_h240 : k0_cond240 i v2 v4 v6 v8 = 1#1), ∀ a, (k0_off145 i v2) a + S72x512.size a ≤ S5000x512.size a) ∧
  (∀ (k0_h240 : k0_cond240 i v2 v4 v6 v8 = 1#1), ∀ a, (k0_off146 i v4) a + S72x512.size a ≤ S5000x512.size a) ∧
  (∀ (k0_h240 : k0_cond240 i v2 v4 v6 v8 = 1#1), ∀ a, (k0_off147 i v6) a + S72x512.size a ≤ S5000x512.size a) ∧
  (∀ (k0_h240 : k0_cond240 i v2 v4 v6 v8 = 1#1), ∀ a, (k0_off148 i v8) a + S72x512.size a ≤ S5000x512.size a) ∧
  (∀ (k0_h241 : k0_cond241 i v2 v4 v6 v8 = 1#1), ∀ a, (k0_off149 i v2 v4 v6 v8) a + S1x1.size a ≤ S8x4.size a) ∧
  (∀ (k0_h250 : k0_cond250 i v2 v4 v6 v8 = 1#1), ∀ a, (k0_off151 i v2) a + S72x512.size a ≤ S5000x512.size a) ∧
  (∀ (k0_h250 : k0_cond250 i v2 v4 v6 v8 = 1#1), ∀ a, (k0_off152 i v4) a + S72x512.size a ≤ S5000x512.size a) ∧
  (∀ (k0_h250 : k0_cond250 i v2 v4 v6 v8 = 1#1), ∀ a, (k0_off153 i v6) a + S72x512.size a ≤ S5000x512.size a) ∧
  (∀ (k0_h250 : k0_cond250 i v2 v4 v6 v8 = 1#1), ∀ a, (k0_off154 i v8) a + S72x512.size a ≤ S5000x512.size a) ∧
  (∀ (k0_h251 : k0_cond251 i v2 v4 v6 v8 = 1#1), ∀ a, (k0_off155 i v2 v4 v6 v8) a + S1x1.size a ≤ S8x4.size a) ∧
  (∀ (k0_h260 : k0_cond260 i v2 v4 v6 v8 = 1#1), ∀ a, (k0_off157 i v2) a + S72x512.size a ≤ S5000x512.size a) ∧
  (∀ (k0_h260 : k0_cond260 i v2 v4 v6 v8 = 1#1), ∀ a, (k0_off158 i v4) a + S72x512.size a ≤ S5000x512.size a)
def k0_chk1_4 (i : grid0.Coords) (v2 : BitVec 32) (v4 : BitVec 32) (v6 : BitVec 32) (v8 : BitVec 32) : Prop :=
  (∀ (k0_h260 : k0_cond260 i v2 v4 v6 v8 = 1#1), ∀ a, (k0_off159 i v6) a + S72x512.size a ≤ S5000x512.size a) ∧
  (∀ (k0_h260 : k0_cond260 i v2 v4 v6 v8 = 1#1), ∀ a, (k0_off160 i v8) a + S72x512.size a ≤ S5000x512.size a) ∧
  (∀ (k0_h261 : k0_cond261 i v2 v4 v6 v8 = 1#1), ∀ a, (k0_off161 i v2 v4 v6 v8) a + S1x1.size a ≤ S8x4.size a) ∧
  (∀ (k0_h270 : k0_cond270 i v2 v4 v6 v8 = 1#1), ∀ a, (k0_off163 i v2) a + S72x512.size a ≤ S5000x512.size a) ∧
  (∀ (k0_h270 : k0_cond270 i v2 v4 v6 v8 = 1#1), ∀ a, (k0_off164 i v4) a + S72x512.size a ≤ S5000x512.size a) ∧
  (∀ (k0_h270 : k0_cond270 i v2 v4 v6 v8 = 1#1), ∀ a, (k0_off165 i v6) a + S72x512.size a ≤ S5000x512.size a) ∧
  (∀ (k0_h270 : k0_cond270 i v2 v4 v6 v8 = 1#1), ∀ a, (k0_off166 i v8) a + S72x512.size a ≤ S5000x512.size a) ∧
  (∀ (k0_h271 : k0_cond271 i v2 v4 v6 v8 = 1#1), ∀ a, (k0_off167 i v2 v4 v6 v8) a + S1x1.size a ≤ S8x4.size a) ∧
  (∀ (k0_h280 : k0_cond280 i v2 v4 v6 v8 = 1#1), ∀ a, (k0_off169 i v2) a + S72x512.size a ≤ S5000x512.size a) ∧
  (∀ (k0_h280 : k0_cond280 i v2 v4 v6 v8 = 1#1), ∀ a, (k0_off170 i v4) a + S72x512.size a ≤ S5000x512.size a) ∧
  (∀ (k0_h280 : k0_cond280 i v2 v4 v6 v8 = 1#1), ∀ a, (k0_off171 i v6) a + S72x512.size a ≤ S5000x512.size a) ∧
  (∀ (k0_h280 : k0_cond280 i v2 v4 v6 v8 = 1#1), ∀ a, (k0_off172 i v8) a + S72x512.size a ≤ S5000x512.size a) ∧
  (∀ (k0_h281 : k0_cond281 i v2 v4 v6 v8 = 1#1), ∀ a, (k0_off173 i v2 v4 v6 v8) a + S1x1.size a ≤ S8x4.size a) ∧
  (∀ (k0_h290 : k0_cond290 i v2 v4 v6 v8 = 1#1), ∀ a, (k0_off175 i v2) a + S72x512.size a ≤ S5000x512.size a) ∧
  (∀ (k0_h290 : k0_cond290 i v2 v4 v6 v8 = 1#1), ∀ a, (k0_off176 i v4) a + S72x512.size a ≤ S5000x512.size a) ∧
  (∀ (k0_h290 : k0_cond290 i v2 v4 v6 v8 = 1#1), ∀ a, (k0_off177 i v6) a + S72x512.size a ≤ S5000x512.size a) ∧
  (∀ (k0_h290 : k0_cond290 i v2 v4 v6 v8 = 1#1), ∀ a, (k0_off178 i v8) a + S72x512.size a ≤ S5000x512.size a) ∧
  (∀ (k0_h291 : k0_cond291 i v2 v4 v6 v8 = 1#1), ∀ a, (k0_off179 i v2 v4 v6 v8) a + S1x1.size a ≤ S8x4.size a) ∧
  (∀ (k0_h300 : k0_cond300 i v2 v4 v6 v8 = 1#1), ∀ a, (k0_off181 i v2) a + S72x512.size a ≤ S5000x512.size a) ∧
  (∀ (k0_h300 : k0_cond300 i v2 v4 v6 v8 = 1#1), ∀ a, (k0_off182 i v4) a + S72x512.size a ≤ S5000x512.size a) ∧
  (∀ (k0_h300 : k0_cond300 i v2 v4 v6 v8 = 1#1), ∀ a, (k0_off183 i v6) a + S72x512.size a ≤ S5000x512.size a) ∧
  (∀ (k0_h300 : k0_cond300 i v2 v4 v6 v8 = 1#1), ∀ a, (k0_off184 i v8) a + S72x512.size a ≤ S5000x512.size a) ∧
  (∀ (k0_h301 : k0_cond301 i v2 v4 v6 v8 = 1#1), ∀ a, (k0_off185 i v2 v4 v6 v8) a + S1x1.size a ≤ S8x4.size a) ∧
  (∀ (k0_h310 : k0_cond310 i v2 v4 v6 v8 = 1#1), ∀ a, (k0_off187 i v2) a + S72x512.size a ≤ S5000x512.size a) ∧
  (∀ (k0_h310 : k0_cond310 i v2 v4 v6 v8 = 1#1), ∀ a, (k0_off188 i v4) a + S72x512.size a ≤ S5000x512.size a) ∧
  (∀ (k0_h310 : k0_cond310 i v2 v4 v6 v8 = 1#1), ∀ a, (k0_off189 i v6) a + S72x512.size a ≤ S5000x512.size a) ∧
  (∀ (k0_h310 : k0_cond310 i v2 v4 v6 v8 = 1#1), ∀ a, (k0_off190 i v8) a + S72x512.size a ≤ S5000x512.size a) ∧
  (∀ (k0_h311 : k0_cond311 i v2 v4 v6 v8 = 1#1), ∀ a, (k0_off191 i v2 v4 v6 v8) a + S1x1.size a ≤ S8x4.size a) ∧
  (∀ (k0_h320 : k0_cond320 i v2 v4 v6 v8 = 1#1), ∀ a, (k0_off193 i v2) a + S72x512.size a ≤ S5000x512.size a) ∧
  (∀ (k0_h320 : k0_cond320 i v2 v4 v6 v8 = 1#1), ∀ a, (k0_off194 i v4) a + S72x512.size a ≤ S5000x512.size a) ∧
  (∀ (k0_h320 : k0_cond320 i v2 v4 v6 v8 = 1#1), ∀ a, (k0_off195 i v6) a + S72x512.size a ≤ S5000x512.size a) ∧
  (∀ (k0_h320 : k0_cond320 i v2 v4 v6 v8 = 1#1), ∀ a, (k0_off196 i v8) a + S72x512.size a ≤ S5000x512.size a)
def k0_chk1 (i : grid0.Coords) (v2 : BitVec 32) (v4 : BitVec 32) (v6 : BitVec 32) (v8 : BitVec 32) : Prop :=
  k0_chk1_0 i v2 v4 v6 v8 ∧
  k0_chk1_1 i v2 v4 v6 v8 ∧
  k0_chk1_2 i v2 v4 v6 v8 ∧
  k0_chk1_3 i v2 v4 v6 v8 ∧
  k0_chk1_4 i v2 v4 v6 v8
theorem k0_off5_inb : ∀ (i : grid0.Coords) (v2 : BitVec 32) (v4 : BitVec 32) (v6 : BitVec 32) (v8 : BitVec 32) (k0_hw1 : k0_chk1 i v2 v4 v6 v8), ∀ (k0_h1 : k0_cond1 i v2 v4 v6 v8 = 1#1), ∀ a, (k0_off5 i v2 v4 v6 v8) a + S1x1.size a ≤ S8x4.size a := fun i v2 v4 v6 v8 k0_hw1 k0_h1 => k0_hw1.1.1 k0_h1
theorem k0_off7_inb : ∀ (i : grid0.Coords) (v2 : BitVec 32) (v4 : BitVec 32) (v6 : BitVec 32) (v8 : BitVec 32) (k0_hw1 : k0_chk1 i v2 v4 v6 v8), ∀ (k0_h10 : k0_cond10 i v2 v4 v6 v8 = 1#1), ∀ a, (k0_off7 i v2) a + S72x512.size a ≤ S5000x512.size a := fun i v2 v4 v6 v8 k0_hw1 k0_h10 => k0_hw1.1.2.1 k0_h10
theorem k0_off8_inb : ∀ (i : grid0.Coords) (v2 : BitVec 32) (v4 : BitVec 32) (v6 : BitVec 32) (v8 : BitVec 32) (k0_hw1 : k0_chk1 i v2 v4 v6 v8), ∀ (k0_h10 : k0_cond10 i v2 v4 v6 v8 = 1#1), ∀ a, (k0_off8 i v4) a + S72x512.size a ≤ S5000x512.size a := fun i v2 v4 v6 v8 k0_hw1 k0_h10 => k0_hw1.1.2.2.1 k0_h10
theorem k0_off9_inb : ∀ (i : grid0.Coords) (v2 : BitVec 32) (v4 : BitVec 32) (v6 : BitVec 32) (v8 : BitVec 32) (k0_hw1 : k0_chk1 i v2 v4 v6 v8), ∀ (k0_h10 : k0_cond10 i v2 v4 v6 v8 = 1#1), ∀ a, (k0_off9 i v6) a + S72x512.size a ≤ S5000x512.size a := fun i v2 v4 v6 v8 k0_hw1 k0_h10 => k0_hw1.1.2.2.2.1 k0_h10
theorem k0_off10_inb : ∀ (i : grid0.Coords) (v2 : BitVec 32) (v4 : BitVec 32) (v6 : BitVec 32) (v8 : BitVec 32) (k0_hw1 : k0_chk1 i v2 v4 v6 v8), ∀ (k0_h10 : k0_cond10 i v2 v4 v6 v8 = 1#1), ∀ a, (k0_off10 i v8) a + S72x512.size a ≤ S5000x512.size a := fun i v2 v4 v6 v8 k0_hw1 k0_h10 => k0_hw1.1.2.2.2.2.1 k0_h10
theorem k0_off11_inb : ∀ (i : grid0.Coords) (v2 : BitVec 32) (v4 : BitVec 32) (v6 : BitVec 32) (v8 : BitVec 32) (k0_hw1 : k0_chk1 i v2 v4 v6 v8), ∀ (k0_h11 : k0_cond11 i v2 v4 v6 v8 = 1#1), ∀ a, (k0_off11 i v2 v4 v6 v8) a + S1x1.size a ≤ S8x4.size a := fun i v2 v4 v6 v8 k0_hw1 k0_h11 => k0_hw1.1.2.2.2.2.2.1 k0_h11
theorem k0_off13_inb : ∀ (i : grid0.Coords) (v2 : BitVec 32) (v4 : BitVec 32) (v6 : BitVec 32) (v8 : BitVec 32) (k0_hw1 : k0_chk1 i v2 v4 v6 v8), ∀ (k0_h20 : k0_cond20 i v2 v4 v6 v8 = 1#1), ∀ a, (k0_off13 i v2) a + S72x512.size a ≤ S5000x512.size a := fun i v2 v4 v6 v8 k0_hw1 k0_h20 => k0_hw1.1.2.2.2.2.2.2.1 k0_h20
theorem k0_off14_inb : ∀ (i : grid0.Coords) (v2 : BitVec 32) (v4 : BitVec 32) (v6 : BitVec 32) (v8 : BitVec 32) (k0_hw1 : k0_chk1 i v2 v4 v6 v8), ∀ (k0_h20 : k0_cond20 i v2 v4 v6 v8 = 1#1), ∀ a, (k0_off14 i v4) a + S72x512.size a ≤ S5000x512.size a := fun i v2 v4 v6 v8 k0_hw1 k0_h20 => k0_hw1.1.2.2.2.2.2.2.2.1 k0_h20
theorem k0_off15_inb : ∀ (i : grid0.Coords) (v2 : BitVec 32) (v4 : BitVec 32) (v6 : BitVec 32) (v8 : BitVec 32) (k0_hw1 : k0_chk1 i v2 v4 v6 v8), ∀ (k0_h20 : k0_cond20 i v2 v4 v6 v8 = 1#1), ∀ a, (k0_off15 i v6) a + S72x512.size a ≤ S5000x512.size a := fun i v2 v4 v6 v8 k0_hw1 k0_h20 => k0_hw1.1.2.2.2.2.2.2.2.2.1 k0_h20
theorem k0_off16_inb : ∀ (i : grid0.Coords) (v2 : BitVec 32) (v4 : BitVec 32) (v6 : BitVec 32) (v8 : BitVec 32) (k0_hw1 : k0_chk1 i v2 v4 v6 v8), ∀ (k0_h20 : k0_cond20 i v2 v4 v6 v8 = 1#1), ∀ a, (k0_off16 i v8) a + S72x512.size a ≤ S5000x512.size a := fun i v2 v4 v6 v8 k0_hw1 k0_h20 => k0_hw1.1.2.2.2.2.2.2.2.2.2.1 k0_h20
theorem k0_off17_inb : ∀ (i : grid0.Coords) (v2 : BitVec 32) (v4 : BitVec 32) (v6 : BitVec 32) (v8 : BitVec 32) (k0_hw1 : k0_chk1 i v2 v4 v6 v8), ∀ (k0_h21 : k0_cond21 i v2 v4 v6 v8 = 1#1), ∀ a, (k0_off17 i v2 v4 v6 v8) a + S1x1.size a ≤ S8x4.size a := fun i v2 v4 v6 v8 k0_hw1 k0_h21 => k0_hw1.1.2.2.2.2.2.2.2.2.2.2.1 k0_h21
theorem k0_off19_inb : ∀ (i : grid0.Coords) (v2 : BitVec 32) (v4 : BitVec 32) (v6 : BitVec 32) (v8 : BitVec 32) (k0_hw1 : k0_chk1 i v2 v4 v6 v8), ∀ (k0_h30 : k0_cond30 i v2 v4 v6 v8 = 1#1), ∀ a, (k0_off19 i v2) a + S72x512.size a ≤ S5000x512.size a := fun i v2 v4 v6 v8 k0_hw1 k0_h30 => k0_hw1.1.2.2.2.2.2.2.2.2.2.2.2.1 k0_h30
theorem k0_off20_inb : ∀ (i : grid0.Coords) (v2 : BitVec 32) (v4 : BitVec 32) (v6 : BitVec 32) (v8 : BitVec 32) (k0_hw1 : k0_chk1 i v2 v4 v6 v8), ∀ (k0_h30 : k0_cond30 i v2 v4 v6 v8 = 1#1), ∀ a, (k0_off20 i v4) a + S72x512.size a ≤ S5000x512.size a := fun i v2 v4 v6 v8 k0_hw1 k0_h30 => k0_hw1.1.2.2.2.2.2.2.2.2.2.2.2.2.1 k0_h30
theorem k0_off21_inb : ∀ (i : grid0.Coords) (v2 : BitVec 32) (v4 : BitVec 32) (v6 : BitVec 32) (v8 : BitVec 32) (k0_hw1 : k0_chk1 i v2 v4 v6 v8), ∀ (k0_h30 : k0_cond30 i v2 v4 v6 v8 = 1#1), ∀ a, (k0_off21 i v6) a + S72x512.size a ≤ S5000x512.size a := fun i v2 v4 v6 v8 k0_hw1 k0_h30 => k0_hw1.1.2.2.2.2.2.2.2.2.2.2.2.2.2.1 k0_h30
theorem k0_off22_inb : ∀ (i : grid0.Coords) (v2 : BitVec 32) (v4 : BitVec 32) (v6 : BitVec 32) (v8 : BitVec 32) (k0_hw1 : k0_chk1 i v2 v4 v6 v8), ∀ (k0_h30 : k0_cond30 i v2 v4 v6 v8 = 1#1), ∀ a, (k0_off22 i v8) a + S72x512.size a ≤ S5000x512.size a := fun i v2 v4 v6 v8 k0_hw1 k0_h30 => k0_hw1.1.2.2.2.2.2.2.2.2.2.2.2.2.2.2.1 k0_h30
theorem k0_off23_inb : ∀ (i : grid0.Coords) (v2 : BitVec 32) (v4 : BitVec 32) (v6 : BitVec 32) (v8 : BitVec 32) (k0_hw1 : k0_chk1 i v2 v4 v6 v8), ∀ (k0_h31 : k0_cond31 i v2 v4 v6 v8 = 1#1), ∀ a, (k0_off23 i v2 v4 v6 v8) a + S1x1.size a ≤ S8x4.size a := fun i v2 v4 v6 v8 k0_hw1 k0_h31 => k0_hw1.1.2.2.2.2.2.2.2.2.2.2.2.2.2.2.2.1 k0_h31
theorem k0_off25_inb : ∀ (i : grid0.Coords) (v2 : BitVec 32) (v4 : BitVec 32) (v6 : BitVec 32) (v8 : BitVec 32) (k0_hw1 : k0_chk1 i v2 v4 v6 v8), ∀ (k0_h40 : k0_cond40 i v2 v4 v6 v8 = 1#1), ∀ a, (k0_off25 i v2) a + S72x512.size a ≤ S5000x512.size a := fun i v2 v4 v6 v8 k0_hw1 k0_h40 => k0_hw1.1.2.2.2.2.2.2.2.2.2.2.2.2.2.2.2.2.1 k0_h40
theorem k0_off26_inb : ∀ (i : grid0.Coords) (v2 : BitVec 32) (v4 : BitVec 32) (v6 : BitVec 32) (v8 : BitVec 32) (k0_hw1 : k0_chk1 i v2 v4 v6 v8), ∀ (k0_h40 : k0_cond40 i v2 v4 v6 v8 = 1#1), ∀ a, (k0_off26 i v4) a + S72x512.size a ≤ S5000x512.size a := fun i v2 v4 v6 v8 k0_hw1 k0_h40 => k0_hw1.1.2.2.2.2.2.2.2.2.2.2.2.2.2.2.2.2.2.1 k0_h40
theorem k0_off27_inb : ∀ (i : grid0.Coords) (v2 : BitVec 32) (v4 : BitVec 32) (v6 : BitVec 32) (v8 : BitVec 32) (k0_hw1 : k0_chk1 i v2 v4 v6 v8), ∀ (k0_h40 : k0_cond40 i v2 v4 v6 v8 = 1#1), ∀ a, (k0_off27 i v6) a + S72x512.size a ≤ S5000x512.size a := fun i v2 v4 v6 v8 k0_hw1 k0_h40 => k0_hw1.1.2.2.2.2.2.2.2.2.2.2.2.2.2.2.2.2.2.2.1 k0_h40
theorem k0_off28_inb : ∀ (i : grid0.Coords) (v2 : BitVec 32) (v4 : BitVec 32) (v6 : BitVec 32) (v8 : BitVec 32) (k0_hw1 : k0_chk1 i v2 v4 v6 v8), ∀ (k0_h40 : k0_cond40 i v2 v4 v6 v8 = 1#1), ∀ a, (k0_off28 i v8) a + S72x512.size a ≤ S5000x512.size a := fun i v2 v4 v6 v8 k0_hw1 k0_h40 => k0_hw1.1.2.2.2.2.2.2.2.2.2.2.2.2.2.2.2.2.2.2.2.1 k0_h40
theorem k0_off29_inb : ∀ (i : grid0.Coords) (v2 : BitVec 32) (v4 : BitVec 32) (v6 : BitVec 32) (v8 : BitVec 32) (k0_hw1 : k0_chk1 i v2 v4 v6 v8), ∀ (k0_h41 : k0_cond41 i v2 v4 v6 v8 = 1#1), ∀ a, (k0_off29 i v2 v4 v6 v8) a + S1x1.size a ≤ S8x4.size a := fun i v2 v4 v6 v8 k0_hw1 k0_h41 => k0_hw1.1.2.2.2.2.2.2.2.2.2.2.2.2.2.2.2.2.2.2.2.2.1 k0_h41
theorem k0_off31_inb : ∀ (i : grid0.Coords) (v2 : BitVec 32) (v4 : BitVec 32) (v6 : BitVec 32) (v8 : BitVec 32) (k0_hw1 : k0_chk1 i v2 v4 v6 v8), ∀ (k0_h50 : k0_cond50 i v2 v4 v6 v8 = 1#1), ∀ a, (k0_off31 i v2) a + S72x512.size a ≤ S5000x512.size a := fun i v2 v4 v6 v8 k0_hw1 k0_h50 => k0_hw1.1.2.2.2.2.2.2.2.2.2.2.2.2.2.2.2.2.2.2.2.2.2.1 k0_h50
theorem k0_off32_inb : ∀ (i : grid0.Coords) (v2 : BitVec 32) (v4 : BitVec 32) (v6 : BitVec 32) (v8 : BitVec 32) (k0_hw1 : k0_chk1 i v2 v4 v6 v8), ∀ (k0_h50 : k0_cond50 i v2 v4 v6 v8 = 1#1), ∀ a, (k0_off32 i v4) a + S72x512.size a ≤ S5000x512.size a := fun i v2 v4 v6 v8 k0_hw1 k0_h50 => k0_hw1.1.2.2.2.2.2.2.2.2.2.2.2.2.2.2.2.2.2.2.2.2.2.2.1 k0_h50
theorem k0_off33_inb : ∀ (i : grid0.Coords) (v2 : BitVec 32) (v4 : BitVec 32) (v6 : BitVec 32) (v8 : BitVec 32) (k0_hw1 : k0_chk1 i v2 v4 v6 v8), ∀ (k0_h50 : k0_cond50 i v2 v4 v6 v8 = 1#1), ∀ a, (k0_off33 i v6) a + S72x512.size a ≤ S5000x512.size a := fun i v2 v4 v6 v8 k0_hw1 k0_h50 => k0_hw1.1.2.2.2.2.2.2.2.2.2.2.2.2.2.2.2.2.2.2.2.2.2.2.2.1 k0_h50
theorem k0_off34_inb : ∀ (i : grid0.Coords) (v2 : BitVec 32) (v4 : BitVec 32) (v6 : BitVec 32) (v8 : BitVec 32) (k0_hw1 : k0_chk1 i v2 v4 v6 v8), ∀ (k0_h50 : k0_cond50 i v2 v4 v6 v8 = 1#1), ∀ a, (k0_off34 i v8) a + S72x512.size a ≤ S5000x512.size a := fun i v2 v4 v6 v8 k0_hw1 k0_h50 => k0_hw1.1.2.2.2.2.2.2.2.2.2.2.2.2.2.2.2.2.2.2.2.2.2.2.2.2.1 k0_h50
theorem k0_off35_inb : ∀ (i : grid0.Coords) (v2 : BitVec 32) (v4 : BitVec 32) (v6 : BitVec 32) (v8 : BitVec 32) (k0_hw1 : k0_chk1 i v2 v4 v6 v8), ∀ (k0_h51 : k0_cond51 i v2 v4 v6 v8 = 1#1), ∀ a, (k0_off35 i v2 v4 v6 v8) a + S1x1.size a ≤ S8x4.size a := fun i v2 v4 v6 v8 k0_hw1 k0_h51 => k0_hw1.1.2.2.2.2.2.2.2.2.2.2.2.2.2.2.2.2.2.2.2.2.2.2.2.2.2.1 k0_h51
theorem k0_off37_inb : ∀ (i : grid0.Coords) (v2 : BitVec 32) (v4 : BitVec 32) (v6 : BitVec 32) (v8 : BitVec 32) (k0_hw1 : k0_chk1 i v2 v4 v6 v8), ∀ (k0_h60 : k0_cond60 i v2 v4 v6 v8 = 1#1), ∀ a, (k0_off37 i v2) a + S72x512.size a ≤ S5000x512.size a := fun i v2 v4 v6 v8 k0_hw1 k0_h60 => k0_hw1.1.2.2.2.2.2.2.2.2.2.2.2.2.2.2.2.2.2.2.2.2.2.2.2.2.2.2.1 k0_h60
theorem k0_off38_inb : ∀ (i : grid0.Coords) (v2 : BitVec 32) (v4 : BitVec 32) (v6 : BitVec 32) (v8 : BitVec 32) (k0_hw1 : k0_chk1 i v2 v4 v6 v8), ∀ (k0_h60 : k0_cond60 i v2 v4 v6 v8 = 1#1), ∀ a, (k0_off38 i v4) a + S72x512.size a ≤ S5000x512.size a := fun i v2 v4 v6 v8 k0_hw1 k0_h60 => k0_hw1.1.2.2.2.2.2.2.2.2.2.2.2.2.2.2.2.2.2.2.2.2.2.2.2.2.2.2.2.1 k0_h60
theorem k0_off39_inb : ∀ (i : grid0.Coords) (v2 : BitVec 32) (v4 : BitVec 32) (v6 : BitVec 32) (v8 : BitVec 32) (k0_hw1 : k0_chk1 i v2 v4 v6 v8), ∀ (k0_h60 : k0_cond60 i v2 v4 v6 v8 = 1#1), ∀ a, (k0_off39 i v6) a + S72x512.size a ≤ S5000x512.size a := fun i v2 v4 v6 v8 k0_hw1 k0_h60 => k0_hw1.1.2.2.2.2.2.2.2.2.2.2.2.2.2.2.2.2.2.2.2.2.2.2.2.2.2.2.2.2.1 k0_h60
theorem k0_off40_inb : ∀ (i : grid0.Coords) (v2 : BitVec 32) (v4 : BitVec 32) (v6 : BitVec 32) (v8 : BitVec 32) (k0_hw1 : k0_chk1 i v2 v4 v6 v8), ∀ (k0_h60 : k0_cond60 i v2 v4 v6 v8 = 1#1), ∀ a, (k0_off40 i v8) a + S72x512.size a ≤ S5000x512.size a := fun i v2 v4 v6 v8 k0_hw1 k0_h60 => k0_hw1.1.2.2.2.2.2.2.2.2.2.2.2.2.2.2.2.2.2.2.2.2.2.2.2.2.2.2.2.2.2.1 k0_h60
theorem k0_off41_inb : ∀ (i : grid0.Coords) (v2 : BitVec 32) (v4 : BitVec 32) (v6 : BitVec 32) (v8 : BitVec 32) (k0_hw1 : k0_chk1 i v2 v4 v6 v8), ∀ (k0_h61 : k0_cond61 i v2 v4 v6 v8 = 1#1), ∀ a, (k0_off41 i v2 v4 v6 v8) a + S1x1.size a ≤ S8x4.size a := fun i v2 v4 v6 v8 k0_hw1 k0_h61 => k0_hw1.1.2.2.2.2.2.2.2.2.2.2.2.2.2.2.2.2.2.2.2.2.2.2.2.2.2.2.2.2.2.2.1 k0_h61
theorem k0_off43_inb : ∀ (i : grid0.Coords) (v2 : BitVec 32) (v4 : BitVec 32) (v6 : BitVec 32) (v8 : BitVec 32) (k0_hw1 : k0_chk1 i v2 v4 v6 v8), ∀ (k0_h70 : k0_cond70 i v2 v4 v6 v8 = 1#1), ∀ a, (k0_off43 i v2) a + S72x512.size a ≤ S5000x512.size a := fun i v2 v4 v6 v8 k0_hw1 k0_h70 => k0_hw1.1.2.2.2.2.2.2.2.2.2.2.2.2.2.2.2.2.2.2.2.2.2.2.2.2.2.2.2.2.2.2.2 k0_h70
theorem k0_off44_inb : ∀ (i : grid0.Coords) (v2 : BitVec 32) (v4 : BitVec 32) (v6 : BitVec 32) (v8 : BitVec 32) (k0_hw1 : k0_chk1 i v2 v4 v6 v8), ∀ (k0_h70 : k0_cond70 i v2 v4 v6 v8 = 1#1), ∀ a, (k0_off44 i v4) a + S72x512.size a ≤ S5000x512.size a := fun i v2 v4 v6 v8 k0_hw1 k0_h70 => k0_hw1.2.1.1 k0_h70
theorem k0_off45_inb : ∀ (i : grid0.Coords) (v2 : BitVec 32) (v4 : BitVec 32) (v6 : BitVec 32) (v8 : BitVec 32) (k0_hw1 : k0_chk1 i v2 v4 v6 v8), ∀ (k0_h70 : k0_cond70 i v2 v4 v6 v8 = 1#1), ∀ a, (k0_off45 i v6) a + S72x512.size a ≤ S5000x512.size a := fun i v2 v4 v6 v8 k0_hw1 k0_h70 => k0_hw1.2.1.2.1 k0_h70
theorem k0_off46_inb : ∀ (i : grid0.Coords) (v2 : BitVec 32) (v4 : BitVec 32) (v6 : BitVec 32) (v8 : BitVec 32) (k0_hw1 : k0_chk1 i v2 v4 v6 v8), ∀ (k0_h70 : k0_cond70 i v2 v4 v6 v8 = 1#1), ∀ a, (k0_off46 i v8) a + S72x512.size a ≤ S5000x512.size a := fun i v2 v4 v6 v8 k0_hw1 k0_h70 => k0_hw1.2.1.2.2.1 k0_h70
theorem k0_off47_inb : ∀ (i : grid0.Coords) (v2 : BitVec 32) (v4 : BitVec 32) (v6 : BitVec 32) (v8 : BitVec 32) (k0_hw1 : k0_chk1 i v2 v4 v6 v8), ∀ (k0_h71 : k0_cond71 i v2 v4 v6 v8 = 1#1), ∀ a, (k0_off47 i v2 v4 v6 v8) a + S1x1.size a ≤ S8x4.size a := fun i v2 v4 v6 v8 k0_hw1 k0_h71 => k0_hw1.2.1.2.2.2.1 k0_h71
theorem k0_off49_inb : ∀ (i : grid0.Coords) (v2 : BitVec 32) (v4 : BitVec 32) (v6 : BitVec 32) (v8 : BitVec 32) (k0_hw1 : k0_chk1 i v2 v4 v6 v8), ∀ (k0_h80 : k0_cond80 i v2 v4 v6 v8 = 1#1), ∀ a, (k0_off49 i v2) a + S72x512.size a ≤ S5000x512.size a := fun i v2 v4 v6 v8 k0_hw1 k0_h80 => k0_hw1.2.1.2.2.2.2.1 k0_h80
theorem k0_off50_inb : ∀ (i : grid0.Coords) (v2 : BitVec 32) (v4 : BitVec 32) (v6 : BitVec 32) (v8 : BitVec 32) (k0_hw1 : k0_chk1 i v2 v4 v6 v8), ∀ (k0_h80 : k0_cond80 i v2 v4 v6 v8 = 1#1), ∀ a, (k0_off50 i v4) a + S72x512.size a ≤ S5000x512.size a := fun i v2 v4 v6 v8 k0_hw1 k0_h80 => k0_hw1.2.1.2.2.2.2.2.1 k0_h80
theorem k0_off51_inb : ∀ (i : grid0.Coords) (v2 : BitVec 32) (v4 : BitVec 32) (v6 : BitVec 32) (v8 : BitVec 32) (k0_hw1 : k0_chk1 i v2 v4 v6 v8), ∀ (k0_h80 : k0_cond80 i v2 v4 v6 v8 = 1#1), ∀ a, (k0_off51 i v6) a + S72x512.size a ≤ S5000x512.size a := fun i v2 v4 v6 v8 k0_hw1 k0_h80 => k0_hw1.2.1.2.2.2.2.2.2.1 k0_h80
theorem k0_off52_inb : ∀ (i : grid0.Coords) (v2 : BitVec 32) (v4 : BitVec 32) (v6 : BitVec 32) (v8 : BitVec 32) (k0_hw1 : k0_chk1 i v2 v4 v6 v8), ∀ (k0_h80 : k0_cond80 i v2 v4 v6 v8 = 1#1), ∀ a, (k0_off52 i v8) a + S72x512.size a ≤ S5000x512.size a := fun i v2 v4 v6 v8 k0_hw1 k0_h80 => k0_hw1.2.1.2.2.2.2.2.2.2.1 k0_h80
theorem k0_off53_inb : ∀ (i : grid0.Coords) (v2 : BitVec 32) (v4 : BitVec 32) (v6 : BitVec 32) (v8 : BitVec 32) (k0_hw1 : k0_chk1 i v2 v4 v6 v8), ∀ (k0_h81 : k0_cond81 i v2 v4 v6 v8 = 1#1), ∀ a, (k0_off53 i v2 v4 v6 v8) a + S1x1.size a ≤ S8x4.size a := fun i v2 v4 v6 v8 k0_hw1 k0_h81 => k0_hw1.2.1.2.2.2.2.2.2.2.2.1 k0_h81
theorem k0_off55_inb : ∀ (i : grid0.Coords) (v2 : BitVec 32) (v4 : BitVec 32) (v6 : BitVec 32) (v8 : BitVec 32) (k0_hw1 : k0_chk1 i v2 v4 v6 v8), ∀ (k0_h90 : k0_cond90 i v2 v4 v6 v8 = 1#1), ∀ a, (k0_off55 i v2) a + S72x512.size a ≤ S5000x512.size a := fun i v2 v4 v6 v8 k0_hw1 k0_h90 => k0_hw1.2.1.2.2.2.2.2.2.2.2.2.1 k0_h90
theorem k0_off56_inb : ∀ (i : grid0.Coords) (v2 : BitVec 32) (v4 : BitVec 32) (v6 : BitVec 32) (v8 : BitVec 32) (k0_hw1 : k0_chk1 i v2 v4 v6 v8), ∀ (k0_h90 : k0_cond90 i v2 v4 v6 v8 = 1#1), ∀ a, (k0_off56 i v4) a + S72x512.size a ≤ S5000x512.size a := fun i v2 v4 v6 v8 k0_hw1 k0_h90 => k0_hw1.2.1.2.2.2.2.2.2.2.2.2.2.1 k0_h90
theorem k0_off57_inb : ∀ (i : grid0.Coords) (v2 : BitVec 32) (v4 : BitVec 32) (v6 : BitVec 32) (v8 : BitVec 32) (k0_hw1 : k0_chk1 i v2 v4 v6 v8), ∀ (k0_h90 : k0_cond90 i v2 v4 v6 v8 = 1#1), ∀ a, (k0_off57 i v6) a + S72x512.size a ≤ S5000x512.size a := fun i v2 v4 v6 v8 k0_hw1 k0_h90 => k0_hw1.2.1.2.2.2.2.2.2.2.2.2.2.2.1 k0_h90
theorem k0_off58_inb : ∀ (i : grid0.Coords) (v2 : BitVec 32) (v4 : BitVec 32) (v6 : BitVec 32) (v8 : BitVec 32) (k0_hw1 : k0_chk1 i v2 v4 v6 v8), ∀ (k0_h90 : k0_cond90 i v2 v4 v6 v8 = 1#1), ∀ a, (k0_off58 i v8) a + S72x512.size a ≤ S5000x512.size a := fun i v2 v4 v6 v8 k0_hw1 k0_h90 => k0_hw1.2.1.2.2.2.2.2.2.2.2.2.2.2.2.1 k0_h90
theorem k0_off59_inb : ∀ (i : grid0.Coords) (v2 : BitVec 32) (v4 : BitVec 32) (v6 : BitVec 32) (v8 : BitVec 32) (k0_hw1 : k0_chk1 i v2 v4 v6 v8), ∀ (k0_h91 : k0_cond91 i v2 v4 v6 v8 = 1#1), ∀ a, (k0_off59 i v2 v4 v6 v8) a + S1x1.size a ≤ S8x4.size a := fun i v2 v4 v6 v8 k0_hw1 k0_h91 => k0_hw1.2.1.2.2.2.2.2.2.2.2.2.2.2.2.2.1 k0_h91
theorem k0_off61_inb : ∀ (i : grid0.Coords) (v2 : BitVec 32) (v4 : BitVec 32) (v6 : BitVec 32) (v8 : BitVec 32) (k0_hw1 : k0_chk1 i v2 v4 v6 v8), ∀ (k0_h100 : k0_cond100 i v2 v4 v6 v8 = 1#1), ∀ a, (k0_off61 i v2) a + S72x512.size a ≤ S5000x512.size a := fun i v2 v4 v6 v8 k0_hw1 k0_h100 => k0_hw1.2.1.2.2.2.2.2.2.2.2.2.2.2.2.2.2.1 k0_h100
theorem k0_off62_inb : ∀ (i : grid0.Coords) (v2 : BitVec 32) (v4 : BitVec 32) (v6 : BitVec 32) (v8 : BitVec 32) (k0_hw1 : k0_chk1 i v2 v4 v6 v8), ∀ (k0_h100 : k0_cond100 i v2 v4 v6 v8 = 1#1), ∀ a, (k0_off62 i v4) a + S72x512.size a ≤ S5000x512.size a := fun i v2 v4 v6 v8 k0_hw1 k0_h100 => k0_hw1.2.1.2.2.2.2.2.2.2.2.2.2.2.2.2.2.2.1 k0_h100
theorem k0_off63_inb : ∀ (i : grid0.Coords) (v2 : BitVec 32) (v4 : BitVec 32) (v6 : BitVec 32) (v8 : BitVec 32) (k0_hw1 : k0_chk1 i v2 v4 v6 v8), ∀ (k0_h100 : k0_cond100 i v2 v4 v6 v8 = 1#1), ∀ a, (k0_off63 i v6) a + S72x512.size a ≤ S5000x512.size a := fun i v2 v4 v6 v8 k0_hw1 k0_h100 => k0_hw1.2.1.2.2.2.2.2.2.2.2.2.2.2.2.2.2.2.2.1 k0_h100
theorem k0_off64_inb : ∀ (i : grid0.Coords) (v2 : BitVec 32) (v4 : BitVec 32) (v6 : BitVec 32) (v8 : BitVec 32) (k0_hw1 : k0_chk1 i v2 v4 v6 v8), ∀ (k0_h100 : k0_cond100 i v2 v4 v6 v8 = 1#1), ∀ a, (k0_off64 i v8) a + S72x512.size a ≤ S5000x512.size a := fun i v2 v4 v6 v8 k0_hw1 k0_h100 => k0_hw1.2.1.2.2.2.2.2.2.2.2.2.2.2.2.2.2.2.2.2.1 k0_h100
theorem k0_off65_inb : ∀ (i : grid0.Coords) (v2 : BitVec 32) (v4 : BitVec 32) (v6 : BitVec 32) (v8 : BitVec 32) (k0_hw1 : k0_chk1 i v2 v4 v6 v8), ∀ (k0_h101 : k0_cond101 i v2 v4 v6 v8 = 1#1), ∀ a, (k0_off65 i v2 v4 v6 v8) a + S1x1.size a ≤ S8x4.size a := fun i v2 v4 v6 v8 k0_hw1 k0_h101 => k0_hw1.2.1.2.2.2.2.2.2.2.2.2.2.2.2.2.2.2.2.2.2.1 k0_h101
theorem k0_off67_inb : ∀ (i : grid0.Coords) (v2 : BitVec 32) (v4 : BitVec 32) (v6 : BitVec 32) (v8 : BitVec 32) (k0_hw1 : k0_chk1 i v2 v4 v6 v8), ∀ (k0_h110 : k0_cond110 i v2 v4 v6 v8 = 1#1), ∀ a, (k0_off67 i v2) a + S72x512.size a ≤ S5000x512.size a := fun i v2 v4 v6 v8 k0_hw1 k0_h110 => k0_hw1.2.1.2.2.2.2.2.2.2.2.2.2.2.2.2.2.2.2.2.2.2.1 k0_h110
theorem k0_off68_inb : ∀ (i : grid0.Coords) (v2 : BitVec 32) (v4 : BitVec 32) (v6 : BitVec 32) (v8 : BitVec 32) (k0_hw1 : k0_chk1 i v2 v4 v6 v8), ∀ (k0_h110 : k0_cond110 i v2 v4 v6 v8 = 1#1), ∀ a, (k0_off68 i v4) a + S72x512.size a ≤ S5000x512.size a := fun i v2 v4 v6 v8 k0_hw1 k0_h110 => k0_hw1.2.1.2.2.2.2.2.2.2.2.2.2.2.2.2.2.2.2.2.2.2.2.1 k0_h110
theorem k0_off69_inb : ∀ (i : grid0.Coords) (v2 : BitVec 32) (v4 : BitVec 32) (v6 : BitVec 32) (v8 : BitVec 32) (k0_hw1 : k0_chk1 i v2 v4 v6 v8), ∀ (k0_h110 : k0_cond110 i v2 v4 v6 v8 = 1#1), ∀ a, (k0_off69 i v6) a + S72x512.size a ≤ S5000x512.size a := fun i v2 v4 v6 v8 k0_hw1 k0_h110 => k0_hw1.2.1.2.2.2.2.2.2.2.2.2.2.2.2.2.2.2.2.2.2.2.2.2.1 k0_h110
theorem k0_off70_inb : ∀ (i : grid0.Coords) (v2 : BitVec 32) (v4 : BitVec 32) (v6 : BitVec 32) (v8 : BitVec 32) (k0_hw1 : k0_chk1 i v2 v4 v6 v8), ∀ (k0_h110 : k0_cond110 i v2 v4 v6 v8 = 1#1), ∀ a, (k0_off70 i v8) a + S72x512.size a ≤ S5000x512.size a := fun i v2 v4 v6 v8 k0_hw1 k0_h110 => k0_hw1.2.1.2.2.2.2.2.2.2.2.2.2.2.2.2.2.2.2.2.2.2.2.2.2.1 k0_h110
theorem k0_off71_inb : ∀ (i : grid0.Coords) (v2 : BitVec 32) (v4 : BitVec 32) (v6 : BitVec 32) (v8 : BitVec 32) (k0_hw1 : k0_chk1 i v2 v4 v6 v8), ∀ (k0_h111 : k0_cond111 i v2 v4 v6 v8 = 1#1), ∀ a, (k0_off71 i v2 v4 v6 v8) a + S1x1.size a ≤ S8x4.size a := fun i v2 v4 v6 v8 k0_hw1 k0_h111 => k0_hw1.2.1.2.2.2.2.2.2.2.2.2.2.2.2.2.2.2.2.2.2.2.2.2.2.2.1 k0_h111
theorem k0_off73_inb : ∀ (i : grid0.Coords) (v2 : BitVec 32) (v4 : BitVec 32) (v6 : BitVec 32) (v8 : BitVec 32) (k0_hw1 : k0_chk1 i v2 v4 v6 v8), ∀ (k0_h120 : k0_cond120 i v2 v4 v6 v8 = 1#1), ∀ a, (k0_off73 i v2) a + S72x512.size a ≤ S5000x512.size a := fun i v2 v4 v6 v8 k0_hw1 k0_h120 => k0_hw1.2.1.2.2.2.2.2.2.2.2.2.2.2.2.2.2.2.2.2.2.2.2.2.2.2.2.1 k0_h120
theorem k0_off74_inb : ∀ (i : grid0.Coords) (v2 : BitVec 32) (v4 : BitVec 32) (v6 : BitVec 32) (v8 : BitVec 32) (k0_hw1 : k0_chk1 i v2 v4 v6 v8), ∀ (k0_h120 : k0_cond120 i v2 v4 v6 v8 = 1#1), ∀ a, (k0_off74 i v4) a + S72x512.size a ≤ S5000x512.size a := fun i v2 v4 v6 v8 k0_hw1 k0_h120 => k0_hw1.2.1.2.2.2.2.2.2.2.2.2.2.2.2.2.2.2.2.2.2.2.2.2.2.2.2.2.1 k0_h120
theorem k0_off75_inb : ∀ (i : grid0.Coords) (v2 : BitVec 32) (v4 : BitVec 32) (v6 : BitVec 32) (v8 : BitVec 32) (k0_hw1 : k0_chk1 i v2 v4 v6 v8), ∀ (k0_h120 : k0_cond120 i v2 v4 v6 v8 = 1#1), ∀ a, (k0_off75 i v6) a + S72x512.size a ≤ S5000x512.size a := fun i v2 v4 v6 v8 k0_hw1 k0_h120 => k0_hw1.2.1.2.2.2.2.2.2.2.2.2.2.2.2.2.2.2.2.2.2.2.2.2.2.2.2.2.2.1 k0_h120
theorem k0_off76_inb : ∀ (i : grid0.Coords) (v2 : BitVec 32) (v4 : BitVec 32) (v6 : BitVec 32) (v8 : BitVec 32) (k0_hw1 : k0_chk1 i v2 v4 v6 v8), ∀ (k0_h120 : k0_cond120 i v2 v4 v6 v8 = 1#1), ∀ a, (k0_off76 i v8) a + S72x512.size a ≤ S5000x512.size a := fun i v2 v4 v6 v8 k0_hw1 k0_h120 => k0_hw1.2.1.2.2.2.2.2.2.2.2.2.2.2.2.2.2.2.2.2.2.2.2.2.2.2.2.2.2.2.1 k0_h120
theorem k0_off77_inb : ∀ (i : grid0.Coords) (v2 : BitVec 32) (v4 : BitVec 32) (v6 : BitVec 32) (v8 : BitVec 32) (k0_hw1 : k0_chk1 i v2 v4 v6 v8), ∀ (k0_h121 : k0_cond121 i v2 v4 v6 v8 = 1#1), ∀ a, (k0_off77 i v2 v4 v6 v8) a + S1x1.size a ≤ S8x4.size a := fun i v2 v4 v6 v8 k0_hw1 k0_h121 => k0_hw1.2.1.2.2.2.2.2.2.2.2.2.2.2.2.2.2.2.2.2.2.2.2.2.2.2.2.2.2.2.2.1 k0_h121
theorem k0_off79_inb : ∀ (i : grid0.Coords) (v2 : BitVec 32) (v4 : BitVec 32) (v6 : BitVec 32) (v8 : BitVec 32) (k0_hw1 : k0_chk1 i v2 v4 v6 v8), ∀ (k0_h130 : k0_cond130 i v2 v4 v6 v8 = 1#1), ∀ a, (k0_off79 i v2) a + S72x512.size a ≤ S5000x512.size a := fun i v2 v4 v6 v8 k0_hw1 k0_h130 => k0_hw1.2.1.2.2.2.2.2.2.2.2.2.2.2.2.2.2.2.2.2.2.2.2.2.2.2.2.2.2.2.2.2.1 k0_h130
theorem k0_off80_inb : ∀ (i : grid0.Coords) (v2 : BitVec 32) (v4 : BitVec 32) (v6 : BitVec 32) (v8 : BitVec 32) (k0_hw1 : k0_chk1 i v2 v4 v6 v8), ∀ (k0_h130 : k0_cond130 i v2 v4 v6 v8 = 1#1), ∀ a, (k0_off80 i v4) a + S72x512.size a ≤ S5000x512.size a := fun i v2 v4 v6 v8 k0_hw1 k0_h130 => k0_hw1.2.1.2.2.2.2.2.2.2.2.2.2.2.2.2.2.2.2.2.2.2.2.2.2.2.2.2.2.2.2.2.2.1 k0_h130
theorem k0_off81_inb : ∀ (i : grid0.Coords) (v2 : BitVec 32) (v4 : BitVec 32) (v6 : BitVec 32) (v8 : BitVec 32) (k0_hw1 : k0_chk1 i v2 v4 v6 v8), ∀ (k0_h130 : k0_cond130 i v2 v4 v6 v8 = 1#1), ∀ a, (k0_off81 i v6) a + S72x512.size a ≤ S5000x512.size a := fun i v2 v4 v6 v8 k0_hw1 k0_h130 => k0_hw1.2.1.2.2.2.2.2.2.2.2.2.2.2.2.2.2.2.2.2.2.2.2.2.2.2.2.2.2.2.2.2.2.2 k0_h130
theorem k0_off82_inb : ∀ (i : grid0.Coords) (v2 : BitVec 32) (v4 : BitVec 32) (v6 : BitVec 32) (v8 : BitVec 32) (k0_hw1 : k0_chk1 i v2 v4 v6 v8), ∀ (k0_h130 : k0_cond130 i v2 v4 v6 v8 = 1#1), ∀ a, (k0_off82 i v8) a + S72x512.size a ≤ S5000x512.size a := fun i v2 v4 v6 v8 k0_hw1 k0_h130 => k0_hw1.2.2.1.1 k0_h130
theorem k0_off83_inb : ∀ (i : grid0.Coords) (v2 : BitVec 32) (v4 : BitVec 32) (v6 : BitVec 32) (v8 : BitVec 32) (k0_hw1 : k0_chk1 i v2 v4 v6 v8), ∀ (k0_h131 : k0_cond131 i v2 v4 v6 v8 = 1#1), ∀ a, (k0_off83 i v2 v4 v6 v8) a + S1x1.size a ≤ S8x4.size a := fun i v2 v4 v6 v8 k0_hw1 k0_h131 => k0_hw1.2.2.1.2.1 k0_h131
theorem k0_off85_inb : ∀ (i : grid0.Coords) (v2 : BitVec 32) (v4 : BitVec 32) (v6 : BitVec 32) (v8 : BitVec 32) (k0_hw1 : k0_chk1 i v2 v4 v6 v8), ∀ (k0_h140 : k0_cond140 i v2 v4 v6 v8 = 1#1), ∀ a, (k0_off85 i v2) a + S72x512.size a ≤ S5000x512.size a := fun i v2 v4 v6 v8 k0_hw1 k0_h140 => k0_hw1.2.2.1.2.2.1 k0_h140
theorem k0_off86_inb : ∀ (i : grid0.Coords) (v2 : BitVec 32) (v4 : BitVec 32) (v6 : BitVec 32) (v8 : BitVec 32) (k0_hw1 : k0_chk1 i v2 v4 v6 v8), ∀ (k0_h140 : k0_cond140 i v2 v4 v6 v8 = 1#1), ∀ a, (k0_off86 i v4) a + S72x512.size a ≤ S5000x512.size a := fun i v2 v4 v6 v8 k0_hw1 k0_h140 => k0_hw1.2.2.1.2.2.2.1 k0_h140
theorem k0_off87_inb : ∀ (i : grid0.Coords) (v2 : BitVec 32) (v4 : BitVec 32) (v6 : BitVec 32) (v8 : BitVec 32) (k0_hw1 : k0_chk1 i v2 v4 v6 v8), ∀ (k0_h140 : k0_cond140 i v2 v4 v6 v8 = 1#1), ∀ a, (k0_off87 i v6) a + S72x512.size a ≤ S5000x512.size a := fun i v2 v4 v6 v8 k0_hw1 k0_h140 => k0_hw1.2.2.1.2.2.2.2.1 k0_h140
theorem k0_off88_inb : ∀ (i : grid0.Coords) (v2 : BitVec 32) (v4 : BitVec 32) (v6 : BitVec 32) (v8 : BitVec 32) (k0_hw1 : k0_chk1 i v2 v4 v6 v8), ∀ (k0_h140 : k0_cond140 i v2 v4 v6 v8 = 1#1), ∀ a, (k0_off88 i v8) a + S72x512.size a ≤ S5000x512.size a := fun i v2 v4 v6 v8 k0_hw1 k0_h140 => k0_hw1.2.2.1.2.2.2.2.2.1 k0_h140
theorem k0_off89_inb : ∀ (i : grid0.Coords) (v2 : BitVec 32) (v4 : BitVec 32) (v6 : BitVec 32) (v8 : BitVec 32) (k0_hw1 : k0_chk1 i v2 v4 v6 v8), ∀ (k0_h141 : k0_cond141 i v2 v4 v6 v8 = 1#1), ∀ a, (k0_off89 i v2 v4 v6 v8) a + S1x1.size a ≤ S8x4.size a := fun i v2 v4 v6 v8 k0_hw1 k0_h141 => k0_hw1.2.2.1.2.2.2.2.2.2.1 k0_h141
theorem k0_off91_inb : ∀ (i : grid0.Coords) (v2 : BitVec 32) (v4 : BitVec 32) (v6 : BitVec 32) (v8 : BitVec 32) (k0_hw1 : k0_chk1 i v2 v4 v6 v8), ∀ (k0_h150 : k0_cond150 i v2 v4 v6 v8 = 1#1), ∀ a, (k0_off91 i v2) a + S72x512.size a ≤ S5000x512.size a := fun i v2 v4 v6 v8 k0_hw1 k0_h150 => k0_hw1.2.2.1.2.2.2.2.2.2.2.1 k0_h150
theorem k0_off92_inb : ∀ (i : grid0.Coords) (v2 : BitVec 32) (v4 : BitVec 32) (v6 : BitVec 32) (v8 : BitVec 32) (k0_hw1 : k0_chk1 i v2 v4 v6 v8), ∀ (k0_h150 : k0_cond150 i v2 v4 v6 v8 = 1#1), ∀ a, (k0_off92 i v4) a + S72x512.size a ≤ S5000x512.size a := fun i v2 v4 v6 v8 k0_hw1 k0_h150 => k0_hw1.2.2.1.2.2.2.2.2.2.2.2.1 k0_h150
theorem k0_off93_inb : ∀ (i : grid0.Coords) (v2 : BitVec 32) (v4 : BitVec 32) (v6 : BitVec 32) (v8 : BitVec 32) (k0_hw1 : k0_chk1 i v2 v4 v6 v8), ∀ (k0_h150 : k0_cond150 i v2 v4 v6 v8 = 1#1), ∀ a, (k0_off93 i v6) a + S72x512.size a ≤ S5000x512.size a := fun i v2 v4 v6 v8 k0_hw1 k0_h150 => k0_hw1.2.2.1.2.2.2.2.2.2.2.2.2.1 k0_h150
theorem k0_off94_inb : ∀ (i : grid0.Coords) (v2 : BitVec 32) (v4 : BitVec 32) (v6 : BitVec 32) (v8 : BitVec 32) (k0_hw1 : k0_chk1 i v2 v4 v6 v8), ∀ (k0_h150 : k0_cond150 i v2 v4 v6 v8 = 1#1), ∀ a, (k0_off94 i v8) a + S72x512.size a ≤ S5000x512.size a := fun i v2 v4 v6 v8 k0_hw1 k0_h150 => k0_hw1.2.2.1.2.2.2.2.2.2.2.2.2.2.1 k0_h150
theorem k0_off95_inb : ∀ (i : grid0.Coords) (v2 : BitVec 32) (v4 : BitVec 32) (v6 : BitVec 32) (v8 : BitVec 32) (k0_hw1 : k0_chk1 i v2 v4 v6 v8), ∀ (k0_h151 : k0_cond151 i v2 v4 v6 v8 = 1#1), ∀ a, (k0_off95 i v2 v4 v6 v8) a + S1x1.size a ≤ S8x4.size a := fun i v2 v4 v6 v8 k0_hw1 k0_h151 => k0_hw1.2.2.1.2.2.2.2.2.2.2.2.2.2.2.1 k0_h151
theorem k0_off97_inb : ∀ (i : grid0.Coords) (v2 : BitVec 32) (v4 : BitVec 32) (v6 : BitVec 32) (v8 : BitVec 32) (k0_hw1 : k0_chk1 i v2 v4 v6 v8), ∀ (k0_h160 : k0_cond160 i v2 v4 v6 v8 = 1#1), ∀ a, (k0_off97 i v2) a + S72x512.size a ≤ S5000x512.size a := fun i v2 v4 v6 v8 k0_hw1 k0_h160 => k0_hw1.2.2.1.2.2.2.2.2.2.2.2.2.2.2.2.1 k0_h160
theorem k0_off98_inb : ∀ (i : grid0.Coords) (v2 : BitVec 32) (v4 : BitVec 32) (v6 : BitVec 32) (v8 : BitVec 32) (k0_hw1 : k0_chk1 i v2 v4 v6 v8), ∀ (k0_h160 : k0_cond160 i v2 v4 v6 v8 = 1#1), ∀ a, (k0_off98 i v4) a + S72x512.size a ≤ S5000x512.size a := fun i v2 v4 v6 v8 k0_hw1 k0_h160 => k0_hw1.2.2.1.2.2.2.2.2.2.2.2.2.2.2.2.2.1 k0_h160
theorem k0_off99_inb : ∀ (i : grid0.Coords) (v2 : BitVec 32) (v4 : BitVec 32) (v6 : BitVec 32) (v8 : BitVec 32) (k0_hw1 : k0_chk1 i v2 v4 v6 v8), ∀ (k0_h160 : k0_cond160 i v2 v4 v6 v8 = 1#1), ∀ a, (k0_off99 i v6) a + S72x512.size a ≤ S5000x512.size a := fun i v2 v4 v6 v8 k0_hw1 k0_h160 => k0_hw1.2.2.1.2.2.2.2.2.2.2.2.2.2.2.2.2.2.1 k0_h160
theorem k0_off100_inb : ∀ (i : grid0.Coords) (v2 : BitVec 32) (v4 : BitVec 32) (v6 : BitVec 32) (v8 : BitVec 32) (k0_hw1 : k0_chk1 i v2 v4 v6 v8), ∀ (k0_h160 : k0_cond160 i v2 v4 v6 v8 = 1#1), ∀ a, (k0_off100 i v8) a + S72x512.size a ≤ S5000x512.size a := fun i v2 v4 v6 v8 k0_hw1 k0_h160 => k0_hw1.2.2.1.2.2.2.2.2.2.2.2.2.2.2.2.2.2.2.1 k0_h160
theorem k0_off101_inb : ∀ (i : grid0.Coords) (v2 : BitVec 32) (v4 : BitVec 32) (v6 : BitVec 32) (v8 : BitVec 32) (k0_hw1 : k0_chk1 i v2 v4 v6 v8), ∀ (k0_h161 : k0_cond161 i v2 v4 v6 v8 = 1#1), ∀ a, (k0_off101 i v2 v4 v6 v8) a + S1x1.size a ≤ S8x4.size a := fun i v2 v4 v6 v8 k0_hw1 k0_h161 => k0_hw1.2.2.1.2.2.2.2.2.2.2.2.2.2.2.2.2.2.2.2.1 k0_h161
theorem k0_off103_inb : ∀ (i : grid0.Coords) (v2 : BitVec 32) (v4 : BitVec 32) (v6 : BitVec 32) (v8 : BitVec 32) (k0_hw1 : k0_chk1 i v2 v4 v6 v8), ∀ (k0_h170 : k0_cond170 i v2 v4 v6 v8 = 1#1), ∀ a, (k0_off103 i v2) a + S72x512.size a ≤ S5000x512.size a := fun i v2 v4 v6 v8 k0_hw1 k0_h170 => k0_hw1.2.2.1.2.2.2.2.2.2.2.2.2.2.2.2.2.2.2.2.2.1 k0_h170
theorem k0_off104_inb : ∀ (i : grid0.Coords) (v2 : BitVec 32) (v4 : BitVec 32) (v6 : BitVec 32) (v8 : BitVec 32) (k0_hw1 : k0_chk1 i v2 v4 v6 v8), ∀ (k0_h170 : k0_cond170 i v2 v4 v6 v8 = 1#1), ∀ a, (k0_off104 i v4) a + S72x512.size a ≤ S5000x512.size a := fun i v2 v4 v6 v8 k0_hw1 k0_h170 => k0_hw1.2.2.1.2.2.2.2.2.2.2.2.2.2.2.2.2.2.2.2.2.2.1 k0_h170
theorem k0_off105_inb : ∀ (i : grid0.Coords) (v2 : BitVec 32) (v4 : BitVec 32) (v6 : BitVec 32) (v8 : BitVec 32) (k0_hw1 : k0_chk1 i v2 v4 v6 v8), ∀ (k0_h170 : k0_cond170 i v2 v4 v6 v8 = 1#1), ∀ a, (k0_off105 i v6) a + S72x512.size a ≤ S5000x512.size a := fun i v2 v4 v6 v8 k0_hw1 k0_h170 => k0_hw1.2.2.1.2.2.2.2.2.2.2.2.2.2.2.2.2.2.2.2.2.2.2.1 k0_h170
theorem k0_off106_inb : ∀ (i : grid0.Coords) (v2 : BitVec 32) (v4 : BitVec 32) (v6 : BitVec 32) (v8 : BitVec 32) (k0_hw1 : k0_chk1 i v2 v4 v6 v8), ∀ (k0_h170 : k0_cond170 i v2 v4 v6 v8 = 1#1), ∀ a, (k0_off106 i v8) a + S72x512.size a ≤ S5000x512.size a := fun i v2 v4 v6 v8 k0_hw1 k0_h170 => k0_hw1.2.2.1.2.2.2.2.2.2.2.2.2.2.2.2.2.2.2.2.2.2.2.2.1 k0_h170
theorem k0_off107_inb : ∀ (i : grid0.Coords) (v2 : BitVec 32) (v4 : BitVec 32) (v6 : BitVec 32) (v8 : BitVec 32) (k0_hw1 : k0_chk1 i v2 v4 v6 v8), ∀ (k0_h171 : k0_cond171 i v2 v4 v6 v8 = 1#1), ∀ a, (k0_off107 i v2 v4 v6 v8) a + S1x1.size a ≤ S8x4.size a := fun i v2 v4 v6 v8 k0_hw1 k0_h171 => k0_hw1.2.2.1.2.2.2.2.2.2.2.2.2.2.2.2.2.2.2.2.2.2.2.2.2.1 k0_h171
theorem k0_off109_inb : ∀ (i : grid0.Coords) (v2 : BitVec 32) (v4 : BitVec 32) (v6 : BitVec 32) (v8 : BitVec 32) (k0_hw1 : k0_chk1 i v2 v4 v6 v8), ∀ (k0_h180 : k0_cond180 i v2 v4 v6 v8 = 1#1), ∀ a, (k0_off109 i v2) a + S72x512.size a ≤ S5000x512.size a := fun i v2 v4 v6 v8 k0_hw1 k0_h180 => k0_hw1.2.2.1.2.2.2.2.2.2.2.2.2.2.2.2.2.2.2.2.2.2.2.2.2.2.1 k0_h180
theorem k0_off110_inb : ∀ (i : grid0.Coords) (v2 : BitVec 32) (v4 : BitVec 32) (v6 : BitVec 32) (v8 : BitVec 32) (k0_hw1 : k0_chk1 i v2 v4 v6 v8), ∀ (k0_h180 : k0_cond180 i v2 v4 v6 v8 = 1#1), ∀ a, (k0_off110 i v4) a + S72x512.size a ≤ S5000x512.size a := fun i v2 v4 v6 v8 k0_hw1 k0_h180 => k0_hw1.2.2.1.2.2.2.2.2.2.2.2.2.2.2.2.2.2.2.2.2.2.2.2.2.2.2.1 k0_h180
theorem k0_off111_inb : ∀ (i : grid0.Coords) (v2 : BitVec 32) (v4 : BitVec 32) (v6 : BitVec 32) (v8 : BitVec 32) (k0_hw1 : k0_chk1 i v2 v4 v6 v8), ∀ (k0_h180 : k0_cond180 i v2 v4 v6 v8 = 1#1), ∀ a, (k0_off111 i v6) a + S72x512.size a ≤ S5000x512.size a := fun i v2 v4 v6 v8 k0_hw1 k0_h180 => k0_hw1.2.2.1.2.2.2.2.2.2.2.2.2.2.2.2.2.2.2.2.2.2.2.2.2.2.2.2.1 k0_h180
theorem k0_off112_inb : ∀ (i : grid0.Coords) (v2 : BitVec 32) (v4 : BitVec 32) (v6 : BitVec 32) (v8 : BitVec 32) (k0_hw1 : k0_chk1 i v2 v4 v6 v8), ∀ (k0_h180 : k0_cond180 i v2 v4 v6 v8 = 1#1), ∀ a, (k0_off112 i v8) a + S72x512.size a ≤ S5000x512.size a := fun i v2 v4 v6 v8 k0_hw1 k0_h180 => k0_hw1.2.2.1.2.2.2.2.2.2.2.2.2.2.2.2.2.2.2.2.2.2.2.2.2.2.2.2.2.1 k0_h180
theorem k0_off113_inb : ∀ (i : grid0.Coords) (v2 : BitVec 32) (v4 : BitVec 32) (v6 : BitVec 32) (v8 : BitVec 32) (k0_hw1 : k0_chk1 i v2 v4 v6 v8), ∀ (k0_h181 : k0_cond181 i v2 v4 v6 v8 = 1#1), ∀ a, (k0_off113 i v2 v4 v6 v8) a + S1x1.size a ≤ S8x4.size a := fun i v2 v4 v6 v8 k0_hw1 k0_h181 => k0_hw1.2.2.1.2.2.2.2.2.2.2.2.2.2.2.2.2.2.2.2.2.2.2.2.2.2.2.2.2.2.1 k0_h181
theorem k0_off115_inb : ∀ (i : grid0.Coords) (v2 : BitVec 32) (v4 : BitVec 32) (v6 : BitVec 32) (v8 : BitVec 32) (k0_hw1 : k0_chk1 i v2 v4 v6 v8), ∀ (k0_h190 : k0_cond190 i v2 v4 v6 v8 = 1#1), ∀ a, (k0_off115 i v2) a + S72x512.size a ≤ S5000x512.size a := fun i v2 v4 v6 v8 k0_hw1 k0_h190 => k0_hw1.2.2.1.2.2.2.2.2.2.2.2.2.2.2.2.2.2.2.2.2.2.2.2.2.2.2.2.2.2.2.1 k0_h190
theorem k0_off116_inb : ∀ (i : grid0.Coords) (v2 : BitVec 32) (v4 : BitVec 32) (v6 : BitVec 32) (v8 : BitVec 32) (k0_hw1 : k0_chk1 i v2 v4 v6 v8), ∀ (k0_h190 : k0_cond190 i v2 v4 v6 v8 = 1#1), ∀ a, (k0_off116 i v4) a + S72x512.size a ≤ S5000x512.size a := fun i v2 v4 v6 v8 k0_hw1 k0_h190 => k0_hw1.2.2.1.2.2.2.2.2.2.2.2.2.2.2.2.2.2.2.2.2.2.2.2.2.2.2.2.2.2.2.2.1 k0_h190
theorem k0_off117_inb : ∀ (i : grid0.Coords) (v2 : BitVec 32) (v4 : BitVec 32) (v6 : BitVec 32) (v8 : BitVec 32) (k0_hw1 : k0_chk1 i v2 v4 v6 v8), ∀ (k0_h190 : k0_cond190 i v2 v4 v6 v8 = 1#1), ∀ a, (k0_off117 i v6) a + S72x512.size a ≤ S5000x512.size a := fun i v2 v4 v6 v8 k0_hw1 k0_h190 => k0_hw1.2.2.1.2.2.2.2.2.2.2.2.2.2.2.2.2.2.2.2.2.2.2.2.2.2.2.2.2.2.2.2.2.1 k0_h190
theorem k0_off118_inb : ∀ (i : grid0.Coords) (v2 : BitVec 32) (v4 : BitVec 32) (v6 : BitVec 32) (v8 : BitVec 32) (k0_hw1 : k0_chk1 i v2 v4 v6 v8), ∀ (k0_h190 : k0_cond190 i v2 v4 v6 v8 = 1#1), ∀ a, (k0_off118 i v8) a + S72x512.size a ≤ S5000x512.size a := fun i v2 v4 v6 v8 k0_hw1 k0_h190 => k0_hw1.2.2.1.2.2.2.2.2.2.2.2.2.2.2.2.2.2.2.2.2.2.2.2.2.2.2.2.2.2.2.2.2.2.1 k0_h190
theorem k0_off119_inb : ∀ (i : grid0.Coords) (v2 : BitVec 32) (v4 : BitVec 32) (v6 : BitVec 32) (v8 : BitVec 32) (k0_hw1 : k0_chk1 i v2 v4 v6 v8), ∀ (k0_h191 : k0_cond191 i v2 v4 v6 v8 = 1#1), ∀ a, (k0_off119 i v2 v4 v6 v8) a + S1x1.size a ≤ S8x4.size a := fun i v2 v4 v6 v8 k0_hw1 k0_h191 => k0_hw1.2.2.1.2.2.2.2.2.2.2.2.2.2.2.2.2.2.2.2.2.2.2.2.2.2.2.2.2.2.2.2.2.2.2 k0_h191
theorem k0_off121_inb : ∀ (i : grid0.Coords) (v2 : BitVec 32) (v4 : BitVec 32) (v6 : BitVec 32) (v8 : BitVec 32) (k0_hw1 : k0_chk1 i v2 v4 v6 v8), ∀ (k0_h200 : k0_cond200 i v2 v4 v6 v8 = 1#1), ∀ a, (k0_off121 i v2) a + S72x512.size a ≤ S5000x512.size a := fun i v2 v4 v6 v8 k0_hw1 k0_h200 => k0_hw1.2.2.2.1.1 k0_h200
theorem k0_off122_inb : ∀ (i : grid0.Coords) (v2 : BitVec 32) (v4 : BitVec 32) (v6 : BitVec 32) (v8 : BitVec 32) (k0_hw1 : k0_chk1 i v2 v4 v6 v8), ∀ (k0_h200 : k0_cond200 i v2 v4 v6 v8 = 1#1), ∀ a, (k0_off122 i v4) a + S72x512.size a ≤ S5000x512.size a := fun i v2 v4 v6 v8 k0_hw1 k0_h200 => k0_hw1.2.2.2.1.2.1 k0_h200
theorem k0_off123_inb : ∀ (i : grid0.Coords) (v2 : BitVec 32) (v4 : BitVec 32) (v6 : BitVec 32) (v8 : BitVec 32) (k0_hw1 : k0_chk1 i v2 v4 v6 v8), ∀ (k0_h200 : k0_cond200 i v2 v4 v6 v8 = 1#1), ∀ a, (k0_off123 i v6) a + S72x512.size a ≤ S5000x512.size a := fun i v2 v4 v6 v8 k0_hw1 k0_h200 => k0_hw1.2.2.2.1.2.2.1 k0_h200
theorem k0_off124_inb : ∀ (i : grid0.Coords) (v2 : BitVec 32) (v4 : BitVec 32) (v6 : BitVec 32) (v8 : BitVec 32) (k0_hw1 : k0_chk1 i v2 v4 v6 v8), ∀ (k0_h200 : k0_cond200 i v2 v4 v6 v8 = 1#1), ∀ a, (k0_off124 i v8) a + S72x512.size a ≤ S5000x512.size a := fun i v2 v4 v6 v8 k0_hw1 k0_h200 => k0_hw1.2.2.2.1.2.2.2.1 k0_h200
theorem k0_off125_inb : ∀ (i : grid0.Coords) (v2 : BitVec 32) (v4 : BitVec 32) (v6 : BitVec 32) (v8 : BitVec 32) (k0_hw1 : k0_chk1 i v2 v4 v6 v8), ∀ (k0_h201 : k0_cond201 i v2 v4 v6 v8 = 1#1), ∀ a, (k0_off125 i v2 v4 v6 v8) a + S1x1.size a ≤ S8x4.size a := fun i v2 v4 v6 v8 k0_hw1 k0_h201 => k0_hw1.2.2.2.1.2.2.2.2.1 k0_h201
theorem k0_off127_inb : ∀ (i : grid0.Coords) (v2 : BitVec 32) (v4 : BitVec 32) (v6 : BitVec 32) (v8 : BitVec 32) (k0_hw1 : k0_chk1 i v2 v4 v6 v8), ∀ (k0_h210 : k0_cond210 i v2 v4 v6 v8 = 1#1), ∀ a, (k0_off127 i v2) a + S72x512.size a ≤ S5000x512.size a := fun i v2 v4 v6 v8 k0_hw1 k0_h210 => k0_hw1.2.2.2.1.2.2.2.2.2.1 k0_h210
theorem k0_off128_inb : ∀ (i : grid0.Coords) (v2 : BitVec 32) (v4 : BitVec 32) (v6 : BitVec 32) (v8 : BitVec 32) (k0_hw1 : k0_chk1 i v2 v4 v6 v8), ∀ (k0_h210 : k0_cond210 i v2 v4 v6 v8 = 1#1), ∀ a, (k0_off128 i v4) a + S72x512.size a ≤ S5000x512.size a := fun i v2 v4 v6 v8 k0_hw1 k0_h210 => k0_hw1.2.2.2.1.2.2.2.2.2.2.1 k0_h210
theorem k0_off129_inb : ∀ (i : grid0.Coords) (v2 : BitVec 32) (v4 : BitVec 32) (v6 : BitVec 32) (v8 : BitVec 32) (k0_hw1 : k0_chk1 i v2 v4 v6 v8), ∀ (k0_h210 : k0_cond210 i v2 v4 v6 v8 = 1#1), ∀ a, (k0_off129 i v6) a + S72x512.size a ≤ S5000x512.size a := fun i v2 v4 v6 v8 k0_hw1 k0_h210 => k0_hw1.2.2.2.1.2.2.2.2.2.2.2.1 k0_h210
theorem k0_off130_inb : ∀ (i : grid0.Coords) (v2 : BitVec 32) (v4 : BitVec 32) (v6 : BitVec 32) (v8 : BitVec 32) (k0_hw1 : k0_chk1 i v2 v4 v6 v8), ∀ (k0_h210 : k0_cond210 i v2 v4 v6 v8 = 1#1), ∀ a, (k0_off130 i v8) a + S72x512.size a ≤ S5000x512.size a := fun i v2 v4 v6 v8 k0_hw1 k0_h210 => k0_hw1.2.2.2.1.2.2.2.2.2.2.2.2.1 k0_h210
theorem k0_off131_inb : ∀ (i : grid0.Coords) (v2 : BitVec 32) (v4 : BitVec 32) (v6 : BitVec 32) (v8 : BitVec 32) (k0_hw1 : k0_chk1 i v2 v4 v6 v8), ∀ (k0_h211 : k0_cond211 i v2 v4 v6 v8 = 1#1), ∀ a, (k0_off131 i v2 v4 v6 v8) a + S1x1.size a ≤ S8x4.size a := fun i v2 v4 v6 v8 k0_hw1 k0_h211 => k0_hw1.2.2.2.1.2.2.2.2.2.2.2.2.2.1 k0_h211
theorem k0_off133_inb : ∀ (i : grid0.Coords) (v2 : BitVec 32) (v4 : BitVec 32) (v6 : BitVec 32) (v8 : BitVec 32) (k0_hw1 : k0_chk1 i v2 v4 v6 v8), ∀ (k0_h220 : k0_cond220 i v2 v4 v6 v8 = 1#1), ∀ a, (k0_off133 i v2) a + S72x512.size a ≤ S5000x512.size a := fun i v2 v4 v6 v8 k0_hw1 k0_h220 => k0_hw1.2.2.2.1.2.2.2.2.2.2.2.2.2.2.1 k0_h220
theorem k0_off134_inb : ∀ (i : grid0.Coords) (v2 : BitVec 32) (v4 : BitVec 32) (v6 : BitVec 32) (v8 : BitVec 32) (k0_hw1 : k0_chk1 i v2 v4 v6 v8), ∀ (k0_h220 : k0_cond220 i v2 v4 v6 v8 = 1#1), ∀ a, (k0_off134 i v4) a + S72x512.size a ≤ S5000x512.size a := fun i v2 v4 v6 v8 k0_hw1 k0_h220 => k0_hw1.2.2.2.1.2.2.2.2.2.2.2.2.2.2.2.1 k0_h220
theorem k0_off135_inb : ∀ (i : grid0.Coords) (v2 : BitVec 32) (v4 : BitVec 32) (v6 : BitVec 32) (v8 : BitVec 32) (k0_hw1 : k0_chk1 i v2 v4 v6 v8), ∀ (k0_h220 : k0_cond220 i v2 v4 v6 v8 = 1#1), ∀ a, (k0_off135 i v6) a + S72x512.size a ≤ S5000x512.size a := fun i v2 v4 v6 v8 k0_hw1 k0_h220 => k0_hw1.2.2.2.1.2.2.2.2.2.2.2.2.2.2.2.2.1 k0_h220
theorem k0_off136_inb : ∀ (i : grid0.Coords) (v2 : BitVec 32) (v4 : BitVec 32) (v6 : BitVec 32) (v8 : BitVec 32) (k0_hw1 : k0_chk1 i v2 v4 v6 v8), ∀ (k0_h220 : k0_cond220 i v2 v4 v6 v8 = 1#1), ∀ a, (k0_off136 i v8) a + S72x512.size a ≤ S5000x512.size a := fun i v2 v4 v6 v8 k0_hw1 k0_h220 => k0_hw1.2.2.2.1.2.2.2.2.2.2.2.2.2.2.2.2.2.1 k0_h220
theorem k0_off137_inb : ∀ (i : grid0.Coords) (v2 : BitVec 32) (v4 : BitVec 32) (v6 : BitVec 32) (v8 : BitVec 32) (k0_hw1 : k0_chk1 i v2 v4 v6 v8), ∀ (k0_h221 : k0_cond221 i v2 v4 v6 v8 = 1#1), ∀ a, (k0_off137 i v2 v4 v6 v8) a + S1x1.size a ≤ S8x4.size a := fun i v2 v4 v6 v8 k0_hw1 k0_h221 => k0_hw1.2.2.2.1.2.2.2.2.2.2.2.2.2.2.2.2.2.2.1 k0_h221
theorem k0_off139_inb : ∀ (i : grid0.Coords) (v2 : BitVec 32) (v4 : BitVec 32) (v6 : BitVec 32) (v8 : BitVec 32) (k0_hw1 : k0_chk1 i v2 v4 v6 v8), ∀ (k0_h230 : k0_cond230 i v2 v4 v6 v8 = 1#1), ∀ a, (k0_off139 i v2) a + S72x512.size a ≤ S5000x512.size a := fun i v2 v4 v6 v8 k0_hw1 k0_h230 => k0_hw1.2.2.2.1.2.2.2.2.2.2.2.2.2.2.2.2.2.2.2.1 k0_h230
theorem k0_off140_inb : ∀ (i : grid0.Coords) (v2 : BitVec 32) (v4 : BitVec 32) (v6 : BitVec 32) (v8 : BitVec 32) (k0_hw1 : k0_chk1 i v2 v4 v6 v8), ∀ (k0_h230 : k0_cond230 i v2 v4 v6 v8 = 1#1), ∀ a, (k0_off140 i v4) a + S72x512.size a ≤ S5000x512.size a := fun i v2 v4 v6 v8 k0_hw1 k0_h230 => k0_hw1.2.2.2.1.2.2.2.2.2.2.2.2.2.2.2.2.2.2.2.2.1 k0_h230
theorem k0_off141_inb : ∀ (i : grid0.Coords) (v2 : BitVec 32) (v4 : BitVec 32) (v6 : BitVec 32) (v8 : BitVec 32) (k0_hw1 : k0_chk1 i v2 v4 v6 v8), ∀ (k0_h230 : k0_cond230 i v2 v4 v6 v8 = 1#1), ∀ a, (k0_off141 i v6) a + S72x512.size a ≤ S5000x512.size a := fun i v2 v4 v6 v8 k0_hw1 k0_h230 => k0_hw1.2.2.2.1.2.2.2.2.2.2.2.2.2.2.2.2.2.2.2.2.2.1 k0_h230
theorem k0_off142_inb : ∀ (i : grid0.Coords) (v2 : BitVec 32) (v4 : BitVec 32) (v6 : BitVec 32) (v8 : BitVec 32) (k0_hw1 : k0_chk1 i v2 v4 v6 v8), ∀ (k0_h230 : k0_cond230 i v2 v4 v6 v8 = 1#1), ∀ a, (k0_off142 i v8) a + S72x512.size a ≤ S5000x512.size a := fun i v2 v4 v6 v8 k0_hw1 k0_h230 => k0_hw1.2.2.2.1.2.2.2.2.2.2.2.2.2.2.2.2.2.2.2.2.2.2.1 k0_h230
theorem k0_off143_inb : ∀ (i : grid0.Coords) (v2 : BitVec 32) (v4 : BitVec 32) (v6 : BitVec 32) (v8 : BitVec 32) (k0_hw1 : k0_chk1 i v2 v4 v6 v8), ∀ (k0_h231 : k0_cond231 i v2 v4 v6 v8 = 1#1), ∀ a, (k0_off143 i v2 v4 v6 v8) a + S1x1.size a ≤ S8x4.size a := fun i v2 v4 v6 v8 k0_hw1 k0_h231 => k0_hw1.2.2.2.1.2.2.2.2.2.2.2.2.2.2.2.2.2.2.2.2.2.2.2.1 k0_h231
theorem k0_off145_inb : ∀ (i : grid0.Coords) (v2 : BitVec 32) (v4 : BitVec 32) (v6 : BitVec 32) (v8 : BitVec 32) (k0_hw1 : k0_chk1 i v2 v4 v6 v8), ∀ (k0_h240 : k0_cond240 i v2 v4 v6 v8 = 1#1), ∀ a, (k0_off145 i v2) a + S72x512.size a ≤ S5000x512.size a := fun i v2 v4 v6 v8 k0_hw1 k0_h240 => k0_hw1.2.2.2.1.2.2.2.2.2.2.2.2.2.2.2.2.2.2.2.2.2.2.2.2.1 k0_h240
theorem k0_off146_inb : ∀ (i : grid0.Coords) (v2 : BitVec 32) (v4 : BitVec 32) (v6 : BitVec 32) (v8 : BitVec 32) (k0_hw1 : k0_chk1 i v2 v4 v6 v8), ∀ (k0_h240 : k0_cond240 i v2 v4 v6 v8 = 1#1), ∀ a, (k0_off146 i v4) a + S72x512.size a ≤ S5000x512.size a := fun i v2 v4 v6 v8 k0_hw1 k0_h240 => k0_hw1.2.2.2.1.2.2.2.2.2.2.2.2.2.2.2.2.2.2.2.2.2.2.2.2.2.1 k0_h240
theorem k0_off147_inb : ∀ (i : grid0.Coords) (v2 : BitVec 32) (v4 : BitVec 32) (v6 : BitVec 32) (v8 : BitVec 32) (k0_hw1 : k0_chk1 i v2 v4 v6 v8), ∀ (k0_h240 : k0_cond240 i v2 v4 v6 v8 = 1#1), ∀ a, (k0_off147 i v6) a + S72x512.size a ≤ S5000x512.size a := fun i v2 v4 v6 v8 k0_hw1 k0_h240 => k0_hw1.2.2.2.1.2.2.2.2.2.2.2.2.2.2.2.2.2.2.2.2.2.2.2.2.2.2.1 k0_h240
theorem k0_off148_inb : ∀ (i : grid0.Coords) (v2 : BitVec 32) (v4 : BitVec 32) (v6 : BitVec 32) (v8 : BitVec 32) (k0_hw1 : k0_chk1 i v2 v4 v6 v8), ∀ (k0_h240 : k0_cond240 i v2 v4 v6 v8 = 1#1), ∀ a, (k0_off148 i v8) a + S72x512.size a ≤ S5000x512.size a := fun i v2 v4 v6 v8 k0_hw1 k0_h240 => k0_hw1.2.2.2.1.2.2.2.2.2.2.2.2.2.2.2.2.2.2.2.2.2.2.2.2.2.2.2.1 k0_h240
theorem k0_off149_inb : ∀ (i : grid0.Coords) (v2 : BitVec 32) (v4 : BitVec 32) (v6 : BitVec 32) (v8 : BitVec 32) (k0_hw1 : k0_chk1 i v2 v4 v6 v8), ∀ (k0_h241 : k0_cond241 i v2 v4 v6 v8 = 1#1), ∀ a, (k0_off149 i v2 v4 v6 v8) a + S1x1.size a ≤ S8x4.size a := fun i v2 v4 v6 v8 k0_hw1 k0_h241 => k0_hw1.2.2.2.1.2.2.2.2.2.2.2.2.2.2.2.2.2.2.2.2.2.2.2.2.2.2.2.2.1 k0_h241
theorem k0_off151_inb : ∀ (i : grid0.Coords) (v2 : BitVec 32) (v4 : BitVec 32) (v6 : BitVec 32) (v8 : BitVec 32) (k0_hw1 : k0_chk1 i v2 v4 v6 v8), ∀ (k0_h250 : k0_cond250 i v2 v4 v6 v8 = 1#1), ∀ a, (k0_off151 i v2) a + S72x512.size a ≤ S5000x512.size a := fun i v2 v4 v6 v8 k0_hw1 k0_h250 => k0_hw1.2.2.2.1.2.2.2.2.2.2.2.2.2.2.2.2.2.2.2.2.2.2.2.2.2.2.2.2.2.1 k0_h250
theorem k0_off152_inb : ∀ (i : grid0.Coords) (v2 : BitVec 32) (v4 : BitVec 32) (v6 : BitVec 32) (v8 : BitVec 32) (k0_hw1 : k0_chk1 i v2 v4 v6 v8), ∀ (k0_h250 : k0_cond250 i v2 v4 v6 v8 = 1#1), ∀ a, (k0_off152 i v4) a + S72x512.size a ≤ S5000x512.size a := fun i v2 v4 v6 v8 k0_hw1 k0_h250 => k0_hw1.2.2.2.1.2.2.2.2.2.2.2.2.2.2.2.2.2.2.2.2.2.2.2.2.2.2.2.2.2.2.1 k0_h250
theorem k0_off153_inb : ∀ (i : grid0.Coords) (v2 : BitVec 32) (v4 : BitVec 32) (v6 : BitVec 32) (v8 : BitVec 32) (k0_hw1 : k0_chk1 i v2 v4 v6 v8), ∀ (k0_h250 : k0_cond250 i v2 v4 v6 v8 = 1#1), ∀ a, (k0_off153 i v6) a + S72x512.size a ≤ S5000x512.size a := fun i v2 v4 v6 v8 k0_hw1 k0_h250 => k0_hw1.2.2.2.1.2.2.2.2.2.2.2.2.2.2.2.2.2.2.2.2.2.2.2.2.2.2.2.2.2.2.2.1 k0_h250
theorem k0_off154_inb : ∀ (i : grid0.Coords) (v2 : BitVec 32) (v4 : BitVec 32) (v6 : BitVec 32) (v8 : BitVec 32) (k0_hw1 : k0_chk1 i v2 v4 v6 v8), ∀ (k0_h250 : k0_cond250 i v2 v4 v6 v8 = 1#1), ∀ a, (k0_off154 i v8) a + S72x512.size a ≤ S5000x512.size a := fun i v2 v4 v6 v8 k0_hw1 k0_h250 => k0_hw1.2.2.2.1.2.2.2.2.2.2.2.2.2.2.2.2.2.2.2.2.2.2.2.2.2.2.2.2.2.2.2.2.1 k0_h250
theorem k0_off155_inb : ∀ (i : grid0.Coords) (v2 : BitVec 32) (v4 : BitVec 32) (v6 : BitVec 32) (v8 : BitVec 32) (k0_hw1 : k0_chk1 i v2 v4 v6 v8), ∀ (k0_h251 : k0_cond251 i v2 v4 v6 v8 = 1#1), ∀ a, (k0_off155 i v2 v4 v6 v8) a + S1x1.size a ≤ S8x4.size a := fun i v2 v4 v6 v8 k0_hw1 k0_h251 => k0_hw1.2.2.2.1.2.2.2.2.2.2.2.2.2.2.2.2.2.2.2.2.2.2.2.2.2.2.2.2.2.2.2.2.2.1 k0_h251
theorem k0_off157_inb : ∀ (i : grid0.Coords) (v2 : BitVec 32) (v4 : BitVec 32) (v6 : BitVec 32) (v8 : BitVec 32) (k0_hw1 : k0_chk1 i v2 v4 v6 v8), ∀ (k0_h260 : k0_cond260 i v2 v4 v6 v8 = 1#1), ∀ a, (k0_off157 i v2) a + S72x512.size a ≤ S5000x512.size a := fun i v2 v4 v6 v8 k0_hw1 k0_h260 => k0_hw1.2.2.2.1.2.2.2.2.2.2.2.2.2.2.2.2.2.2.2.2.2.2.2.2.2.2.2.2.2.2.2.2.2.2.1 k0_h260
theorem k0_off158_inb : ∀ (i : grid0.Coords) (v2 : BitVec 32) (v4 : BitVec 32) (v6 : BitVec 32) (v8 : BitVec 32) (k0_hw1 : k0_chk1 i v2 v4 v6 v8), ∀ (k0_h260 : k0_cond260 i v2 v4 v6 v8 = 1#1), ∀ a, (k0_off158 i v4) a + S72x512.size a ≤ S5000x512.size a := fun i v2 v4 v6 v8 k0_hw1 k0_h260 => k0_hw1.2.2.2.1.2.2.2.2.2.2.2.2.2.2.2.2.2.2.2.2.2.2.2.2.2.2.2.2.2.2.2.2.2.2.2 k0_h260
theorem k0_off159_inb : ∀ (i : grid0.Coords) (v2 : BitVec 32) (v4 : BitVec 32) (v6 : BitVec 32) (v8 : BitVec 32) (k0_hw1 : k0_chk1 i v2 v4 v6 v8), ∀ (k0_h260 : k0_cond260 i v2 v4 v6 v8 = 1#1), ∀ a, (k0_off159 i v6) a + S72x512.size a ≤ S5000x512.size a := fun i v2 v4 v6 v8 k0_hw1 k0_h260 => k0_hw1.2.2.2.2.1 k0_h260
theorem k0_off160_inb : ∀ (i : grid0.Coords) (v2 : BitVec 32) (v4 : BitVec 32) (v6 : BitVec 32) (v8 : BitVec 32) (k0_hw1 : k0_chk1 i v2 v4 v6 v8), ∀ (k0_h260 : k0_cond260 i v2 v4 v6 v8 = 1#1), ∀ a, (k0_off160 i v8) a + S72x512.size a ≤ S5000x512.size a := fun i v2 v4 v6 v8 k0_hw1 k0_h260 => k0_hw1.2.2.2.2.2.1 k0_h260
theorem k0_off161_inb : ∀ (i : grid0.Coords) (v2 : BitVec 32) (v4 : BitVec 32) (v6 : BitVec 32) (v8 : BitVec 32) (k0_hw1 : k0_chk1 i v2 v4 v6 v8), ∀ (k0_h261 : k0_cond261 i v2 v4 v6 v8 = 1#1), ∀ a, (k0_off161 i v2 v4 v6 v8) a + S1x1.size a ≤ S8x4.size a := fun i v2 v4 v6 v8 k0_hw1 k0_h261 => k0_hw1.2.2.2.2.2.2.1 k0_h261
theorem k0_off163_inb : ∀ (i : grid0.Coords) (v2 : BitVec 32) (v4 : BitVec 32) (v6 : BitVec 32) (v8 : BitVec 32) (k0_hw1 : k0_chk1 i v2 v4 v6 v8), ∀ (k0_h270 : k0_cond270 i v2 v4 v6 v8 = 1#1), ∀ a, (k0_off163 i v2) a + S72x512.size a ≤ S5000x512.size a := fun i v2 v4 v6 v8 k0_hw1 k0_h270 => k0_hw1.2.2.2.2.2.2.2.1 k0_h270
theorem k0_off164_inb : ∀ (i : grid0.Coords) (v2 : BitVec 32) (v4 : BitVec 32) (v6 : BitVec 32) (v8 : BitVec 32) (k0_hw1 : k0_chk1 i v2 v4 v6 v8), ∀ (k0_h270 : k0_cond270 i v2 v4 v6 v8 = 1#1), ∀ a, (k0_off164 i v4) a + S72x512.size a ≤ S5000x512.size a := fun i v2 v4 v6 v8 k0_hw1 k0_h270 => k0_hw1.2.2.2.2.2.2.2.2.1 k0_h270
theorem k0_off165_inb : ∀ (i : grid0.Coords) (v2 : BitVec 32) (v4 : BitVec 32) (v6 : BitVec 32) (v8 : BitVec 32) (k0_hw1 : k0_chk1 i v2 v4 v6 v8), ∀ (k0_h270 : k0_cond270 i v2 v4 v6 v8 = 1#1), ∀ a, (k0_off165 i v6) a + S72x512.size a ≤ S5000x512.size a := fun i v2 v4 v6 v8 k0_hw1 k0_h270 => k0_hw1.2.2.2.2.2.2.2.2.2.1 k0_h270
theorem k0_off166_inb : ∀ (i : grid0.Coords) (v2 : BitVec 32) (v4 : BitVec 32) (v6 : BitVec 32) (v8 : BitVec 32) (k0_hw1 : k0_chk1 i v2 v4 v6 v8), ∀ (k0_h270 : k0_cond270 i v2 v4 v6 v8 = 1#1), ∀ a, (k0_off166 i v8) a + S72x512.size a ≤ S5000x512.size a := fun i v2 v4 v6 v8 k0_hw1 k0_h270 => k0_hw1.2.2.2.2.2.2.2.2.2.2.1 k0_h270
theorem k0_off167_inb : ∀ (i : grid0.Coords) (v2 : BitVec 32) (v4 : BitVec 32) (v6 : BitVec 32) (v8 : BitVec 32) (k0_hw1 : k0_chk1 i v2 v4 v6 v8), ∀ (k0_h271 : k0_cond271 i v2 v4 v6 v8 = 1#1), ∀ a, (k0_off167 i v2 v4 v6 v8) a + S1x1.size a ≤ S8x4.size a := fun i v2 v4 v6 v8 k0_hw1 k0_h271 => k0_hw1.2.2.2.2.2.2.2.2.2.2.2.1 k0_h271
theorem k0_off169_inb : ∀ (i : grid0.Coords) (v2 : BitVec 32) (v4 : BitVec 32) (v6 : BitVec 32) (v8 : BitVec 32) (k0_hw1 : k0_chk1 i v2 v4 v6 v8), ∀ (k0_h280 : k0_cond280 i v2 v4 v6 v8 = 1#1), ∀ a, (k0_off169 i v2) a + S72x512.size a ≤ S5000x512.size a := fun i v2 v4 v6 v8 k0_hw1 k0_h280 => k0_hw1.2.2.2.2.2.2.2.2.2.2.2.2.1 k0_h280
theorem k0_off170_inb : ∀ (i : grid0.Coords) (v2 : BitVec 32) (v4 : BitVec 32) (v6 : BitVec 32) (v8 : BitVec 32) (k0_hw1 : k0_chk1 i v2 v4 v6 v8), ∀ (k0_h280 : k0_cond280 i v2 v4 v6 v8 = 1#1), ∀ a, (k0_off170 i v4) a + S72x512.size a ≤ S5000x512.size a := fun i v2 v4 v6 v8 k0_hw1 k0_h280 => k0_hw1.2.2.2.2.2.2.2.2.2.2.2.2.2.1 k0_h280
theorem k0_off171_inb : ∀ (i : grid0.Coords) (v2 : BitVec 32) (v4 : BitVec 32) (v6 : BitVec 32) (v8 : BitVec 32) (k0_hw1 : k0_chk1 i v2 v4 v6 v8), ∀ (k0_h280 : k0_cond280 i v2 v4 v6 v8 = 1#1), ∀ a, (k0_off171 i v6) a + S72x512.size a ≤ S5000x512.size a := fun i v2 v4 v6 v8 k0_hw1 k0_h280 => k0_hw1.2.2.2.2.2.2.2.2.2.2.2.2.2.2.1 k0_h280
theorem k0_off172_inb : ∀ (i : grid0.Coords) (v2 : BitVec 32) (v4 : BitVec 32) (v6 : BitVec 32) (v8 : BitVec 32) (k0_hw1 : k0_chk1 i v2 v4 v6 v8), ∀ (k0_h280 : k0_cond280 i v2 v4 v6 v8 = 1#1), ∀ a, (k0_off172 i v8) a + S72x512.size a ≤ S5000x512.size a := fun i v2 v4 v6 v8 k0_hw1 k0_h280 => k0_hw1.2.2.2.2.2.2.2.2.2.2.2.2.2.2.2.1 k0_h280
theorem k0_off173_inb : ∀ (i : grid0.Coords) (v2 : BitVec 32) (v4 : BitVec 32) (v6 : BitVec 32) (v8 : BitVec 32) (k0_hw1 : k0_chk1 i v2 v4 v6 v8), ∀ (k0_h281 : k0_cond281 i v2 v4 v6 v8 = 1#1), ∀ a, (k0_off173 i v2 v4 v6 v8) a + S1x1.size a ≤ S8x4.size a := fun i v2 v4 v6 v8 k0_hw1 k0_h281 => k0_hw1.2.2.2.2.2.2.2.2.2.2.2.2.2.2.2.2.1 k0_h281
theorem k0_off175_inb : ∀ (i : grid0.Coords) (v2 : BitVec 32) (v4 : BitVec 32) (v6 : BitVec 32) (v8 : BitVec 32) (k0_hw1 : k0_chk1 i v2 v4 v6 v8), ∀ (k0_h290 : k0_cond290 i v2 v4 v6 v8 = 1#1), ∀ a, (k0_off175 i v2) a + S72x512.size a ≤ S5000x512.size a := fun i v2 v4 v6 v8 k0_hw1 k0_h290 => k0_hw1.2.2.2.2.2.2.2.2.2.2.2.2.2.2.2.2.2.1 k0_h290
theorem k0_off176_inb : ∀ (i : grid0.Coords) (v2 : BitVec 32) (v4 : BitVec 32) (v6 : BitVec 32) (v8 : BitVec 32) (k0_hw1 : k0_chk1 i v2 v4 v6 v8), ∀ (k0_h290 : k0_cond290 i v2 v4 v6 v8 = 1#1), ∀ a, (k0_off176 i v4) a + S72x512.size a ≤ S5000x512.size a := fun i v2 v4 v6 v8 k0_hw1 k0_h290 => k0_hw1.2.2.2.2.2.2.2.2.2.2.2.2.2.2.2.2.2.2.1 k0_h290
theorem k0_off177_inb : ∀ (i : grid0.Coords) (v2 : BitVec 32) (v4 : BitVec 32) (v6 : BitVec 32) (v8 : BitVec 32) (k0_hw1 : k0_chk1 i v2 v4 v6 v8), ∀ (k0_h290 : k0_cond290 i v2 v4 v6 v8 = 1#1), ∀ a, (k0_off177 i v6) a + S72x512.size a ≤ S5000x512.size a := fun i v2 v4 v6 v8 k0_hw1 k0_h290 => k0_hw1.2.2.2.2.2.2.2.2.2.2.2.2.2.2.2.2.2.2.2.1 k0_h290
theorem k0_off178_inb : ∀ (i : grid0.Coords) (v2 : BitVec 32) (v4 : BitVec 32) (v6 : BitVec 32) (v8 : BitVec 32) (k0_hw1 : k0_chk1 i v2 v4 v6 v8), ∀ (k0_h290 : k0_cond290 i v2 v4 v6 v8 = 1#1), ∀ a, (k0_off178 i v8) a + S72x512.size a ≤ S5000x512.size a := fun i v2 v4 v6 v8 k0_hw1 k0_h290 => k0_hw1.2.2.2.2.2.2.2.2.2.2.2.2.2.2.2.2.2.2.2.2.1 k0_h290
theorem k0_off179_inb : ∀ (i : grid0.Coords) (v2 : BitVec 32) (v4 : BitVec 32) (v6 : BitVec 32) (v8 : BitVec 32) (k0_hw1 : k0_chk1 i v2 v4 v6 v8), ∀ (k0_h291 : k0_cond291 i v2 v4 v6 v8 = 1#1), ∀ a, (k0_off179 i v2 v4 v6 v8) a + S1x1.size a ≤ S8x4.size a := fun i v2 v4 v6 v8 k0_hw1 k0_h291 => k0_hw1.2.2.2.2.2.2.2.2.2.2.2.2.2.2.2.2.2.2.2.2.2.1 k0_h291
theorem k0_off181_inb : ∀ (i : grid0.Coords) (v2 : BitVec 32) (v4 : BitVec 32) (v6 : BitVec 32) (v8 : BitVec 32) (k0_hw1 : k0_chk1 i v2 v4 v6 v8), ∀ (k0_h300 : k0_cond300 i v2 v4 v6 v8 = 1#1), ∀ a, (k0_off181 i v2) a + S72x512.size a ≤ S5000x512.size a := fun i v2 v4 v6 v8 k0_hw1 k0_h300 => k0_hw1.2.2.2.2.2.2.2.2.2.2.2.2.2.2.2.2.2.2.2.2.2.2.1 k0_h300
theorem k0_off182_inb : ∀ (i : grid0.Coords) (v2 : BitVec 32) (v4 : BitVec 32) (v6 : BitVec 32) (v8 : BitVec 32) (k0_hw1 : k0_chk1 i v2 v4 v6 v8), ∀ (k0_h300 : k0_cond300 i v2 v4 v6 v8 = 1#1), ∀ a, (k0_off182 i v4) a + S72x512.size a ≤ S5000x512.size a := fun i v2 v4 v6 v8 k0_hw1 k0_h300 => k0_hw1.2.2.2.2.2.2.2.2.2.2.2.2.2.2.2.2.2.2.2.2.2.2.2.1 k0_h300
theorem k0_off183_inb : ∀ (i : grid0.Coords) (v2 : BitVec 32) (v4 : BitVec 32) (v6 : BitVec 32) (v8 : BitVec 32) (k0_hw1 : k0_chk1 i v2 v4 v6 v8), ∀ (k0_h300 : k0_cond300 i v2 v4 v6 v8 = 1#1), ∀ a, (k0_off183 i v6) a + S72x512.size a ≤ S5000x512.size a := fun i v2 v4 v6 v8 k0_hw1 k0_h300 => k0_hw1.2.2.2.2.2.2.2.2.2.2.2.2.2.2.2.2.2.2.2.2.2.2.2.2.1 k0_h300
theorem k0_off184_inb : ∀ (i : grid0.Coords) (v2 : BitVec 32) (v4 : BitVec 32) (v6 : BitVec 32) (v8 : BitVec 32) (k0_hw1 : k0_chk1 i v2 v4 v6 v8), ∀ (k0_h300 : k0_cond300 i v2 v4 v6 v8 = 1#1), ∀ a, (k0_off184 i v8) a + S72x512.size a ≤ S5000x512.size a := fun i v2 v4 v6 v8 k0_hw1 k0_h300 => k0_hw1.2.2.2.2.2.2.2.2.2.2.2.2.2.2.2.2.2.2.2.2.2.2.2.2.2.1 k0_h300
theorem k0_off185_inb : ∀ (i : grid0.Coords) (v2 : BitVec 32) (v4 : BitVec 32) (v6 : BitVec 32) (v8 : BitVec 32) (k0_hw1 : k0_chk1 i v2 v4 v6 v8), ∀ (k0_h301 : k0_cond301 i v2 v4 v6 v8 = 1#1), ∀ a, (k0_off185 i v2 v4 v6 v8) a + S1x1.size a ≤ S8x4.size a := fun i v2 v4 v6 v8 k0_hw1 k0_h301 => k0_hw1.2.2.2.2.2.2.2.2.2.2.2.2.2.2.2.2.2.2.2.2.2.2.2.2.2.2.1 k0_h301
theorem k0_off187_inb : ∀ (i : grid0.Coords) (v2 : BitVec 32) (v4 : BitVec 32) (v6 : BitVec 32) (v8 : BitVec 32) (k0_hw1 : k0_chk1 i v2 v4 v6 v8), ∀ (k0_h310 : k0_cond310 i v2 v4 v6 v8 = 1#1), ∀ a, (k0_off187 i v2) a + S72x512.size a ≤ S5000x512.size a := fun i v2 v4 v6 v8 k0_hw1 k0_h310 => k0_hw1.2.2.2.2.2.2.2.2.2.2.2.2.2.2.2.2.2.2.2.2.2.2.2.2.2.2.2.1 k0_h310
theorem k0_off188_inb : ∀ (i : grid0.Coords) (v2 : BitVec 32) (v4 : BitVec 32) (v6 : BitVec 32) (v8 : BitVec 32) (k0_hw1 : k0_chk1 i v2 v4 v6 v8), ∀ (k0_h310 : k0_cond310 i v2 v4 v6 v8 = 1#1), ∀ a, (k0_off188 i v4) a + S72x512.size a ≤ S5000x512.size a := fun i v2 v4 v6 v8 k0_hw1 k0_h310 => k0_hw1.2.2.2.2.2.2.2.2.2.2.2.2.2.2.2.2.2.2.2.2.2.2.2.2.2.2.2.2.1 k0_h310
theorem k0_off189_inb : ∀ (i : grid0.Coords) (v2 : BitVec 32) (v4 : BitVec 32) (v6 : BitVec 32) (v8 : BitVec 32) (k0_hw1 : k0_chk1 i v2 v4 v6 v8), ∀ (k0_h310 : k0_cond310 i v2 v4 v6 v8 = 1#1), ∀ a, (k0_off189 i v6) a + S72x512.size a ≤ S5000x512.size a := fun i v2 v4 v6 v8 k0_hw1 k0_h310 => k0_hw1.2.2.2.2.2.2.2.2.2.2.2.2.2.2.2.2.2.2.2.2.2.2.2.2.2.2.2.2.2.1 k0_h310
theorem k0_off190_inb : ∀ (i : grid0.Coords) (v2 : BitVec 32) (v4 : BitVec 32) (v6 : BitVec 32) (v8 : BitVec 32) (k0_hw1 : k0_chk1 i v2 v4 v6 v8), ∀ (k0_h310 : k0_cond310 i v2 v4 v6 v8 = 1#1), ∀ a, (k0_off190 i v8) a + S72x512.size a ≤ S5000x512.size a := fun i v2 v4 v6 v8 k0_hw1 k0_h310 => k0_hw1.2.2.2.2.2.2.2.2.2.2.2.2.2.2.2.2.2.2.2.2.2.2.2.2.2.2.2.2.2.2.1 k0_h310
theorem k0_off191_inb : ∀ (i : grid0.Coords) (v2 : BitVec 32) (v4 : BitVec 32) (v6 : BitVec 32) (v8 : BitVec 32) (k0_hw1 : k0_chk1 i v2 v4 v6 v8), ∀ (k0_h311 : k0_cond311 i v2 v4 v6 v8 = 1#1), ∀ a, (k0_off191 i v2 v4 v6 v8) a + S1x1.size a ≤ S8x4.size a := fun i v2 v4 v6 v8 k0_hw1 k0_h311 => k0_hw1.2.2.2.2.2.2.2.2.2.2.2.2.2.2.2.2.2.2.2.2.2.2.2.2.2.2.2.2.2.2.2.1 k0_h311
theorem k0_off193_inb : ∀ (i : grid0.Coords) (v2 : BitVec 32) (v4 : BitVec 32) (v6 : BitVec 32) (v8 : BitVec 32) (k0_hw1 : k0_chk1 i v2 v4 v6 v8), ∀ (k0_h320 : k0_cond320 i v2 v4 v6 v8 = 1#1), ∀ a, (k0_off193 i v2) a + S72x512.size a ≤ S5000x512.size a := fun i v2 v4 v6 v8 k0_hw1 k0_h320 => k0_hw1.2.2.2.2.2.2.2.2.2.2.2.2.2.2.2.2.2.2.2.2.2.2.2.2.2.2.2.2.2.2.2.2.1 k0_h320
theorem k0_off194_inb : ∀ (i : grid0.Coords) (v2 : BitVec 32) (v4 : BitVec 32) (v6 : BitVec 32) (v8 : BitVec 32) (k0_hw1 : k0_chk1 i v2 v4 v6 v8), ∀ (k0_h320 : k0_cond320 i v2 v4 v6 v8 = 1#1), ∀ a, (k0_off194 i v4) a + S72x512.size a ≤ S5000x512.size a := fun i v2 v4 v6 v8 k0_hw1 k0_h320 => k0_hw1.2.2.2.2.2.2.2.2.2.2.2.2.2.2.2.2.2.2.2.2.2.2.2.2.2.2.2.2.2.2.2.2.2.1 k0_h320
theorem k0_off195_inb : ∀ (i : grid0.Coords) (v2 : BitVec 32) (v4 : BitVec 32) (v6 : BitVec 32) (v8 : BitVec 32) (k0_hw1 : k0_chk1 i v2 v4 v6 v8), ∀ (k0_h320 : k0_cond320 i v2 v4 v6 v8 = 1#1), ∀ a, (k0_off195 i v6) a + S72x512.size a ≤ S5000x512.size a := fun i v2 v4 v6 v8 k0_hw1 k0_h320 => k0_hw1.2.2.2.2.2.2.2.2.2.2.2.2.2.2.2.2.2.2.2.2.2.2.2.2.2.2.2.2.2.2.2.2.2.2.1 k0_h320
theorem k0_off196_inb : ∀ (i : grid0.Coords) (v2 : BitVec 32) (v4 : BitVec 32) (v6 : BitVec 32) (v8 : BitVec 32) (k0_hw1 : k0_chk1 i v2 v4 v6 v8), ∀ (k0_h320 : k0_cond320 i v2 v4 v6 v8 = 1#1), ∀ a, (k0_off196 i v8) a + S72x512.size a ≤ S5000x512.size a := fun i v2 v4 v6 v8 k0_hw1 k0_h320 => k0_hw1.2.2.2.2.2.2.2.2.2.2.2.2.2.2.2.2.2.2.2.2.2.2.2.2.2.2.2.2.2.2.2.2.2.2.2 k0_h320

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .smem S8x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S5000x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x1024 : Shape := ⟨3, ![8, 2048, 1024]⟩
abbrev S8x4 : Shape := ⟨2, ![8, 4]⟩
abbrev S5000x512 : Shape := ⟨2, ![5000, 512]⟩
abbrev S1x5000x512 : Shape := ⟨3, ![1, 5000, 512]⟩
abbrev S8x3 : Shape := ⟨2, ![8, 3]⟩
abbrev S_ : Shape := ⟨0, ![]⟩
abbrev S2048 : Shape := ⟨1, ![2048]⟩
abbrev S8x1x3 : Shape := ⟨3, ![8, 1, 3]⟩
abbrev S1x2048x1 : Shape := ⟨3, ![1, 2048, 1]⟩
abbrev S8x2048x3 : Shape := ⟨3, ![8, 2048, 3]⟩
abbrev S8x2048 : Shape := ⟨2, ![8, 2048]⟩
abbrev S8x2048x1 : Shape := ⟨3, ![8, 2048, 1]⟩
abbrev S1 : Shape := ⟨1, ![1]⟩
abbrev S1x1x1 : Shape := ⟨3, ![1, 1, 1]⟩
abbrev S1x2048 : Shape := ⟨2, ![1, 2048]⟩
abbrev S8x2048x512 : Shape := ⟨3, ![8, 2048, 512]⟩
abbrev S1x2048x512 : Shape := ⟨3, ![1, 2048, 512]⟩

abbrev nBuf : Space → Nat
  | .hbm => 92
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4, .i32⟩
  | .hbm, ⟨2, _⟩ => ⟨S5000x512, .f32⟩
  | .hbm, ⟨3, _⟩ => ⟨S1x5000x512, .f32⟩
  | .hbm, ⟨4, _⟩ => ⟨S8x3, .i32⟩
  | .hbm, ⟨5, _⟩ => ⟨S8x3, .i32⟩
  | .hbm, ⟨6, _⟩ => ⟨S8x3, .i32⟩
  | .hbm, ⟨7, _⟩ => ⟨S_, .i32⟩
  | .hbm, ⟨8, _⟩ => ⟨S_, .i32⟩
  | .hbm, ⟨9, _⟩ => ⟨S8x3, .i32⟩
  | .hbm, ⟨10, _⟩ => ⟨S8x3, .i32⟩
  | .hbm, ⟨11, _⟩ => ⟨S8x3, .i32⟩
  | .hbm, ⟨12, _⟩ => ⟨S_, .i32⟩
  | .hbm, ⟨13, _⟩ => ⟨S8x3, .i32⟩
  | .hbm, ⟨14, _⟩ => ⟨S8x3, .i1⟩
  | .hbm, ⟨15, _⟩ => ⟨S8x3, .i32⟩
  | .hbm, ⟨16, _⟩ => ⟨S8x3, .i32⟩
  | .hbm, ⟨17, _⟩ => ⟨S_, .i32⟩
  | .hbm, ⟨18, _⟩ => ⟨S8x3, .i32⟩
  | .hbm, ⟨19, _⟩ => ⟨S8x3, .i1⟩
  | .hbm, ⟨20, _⟩ => ⟨S8x3, .i1⟩
  | .hbm, ⟨21, _⟩ => ⟨S_, .i32⟩
  | .hbm, ⟨22, _⟩ => ⟨S8x3, .i32⟩
  | .hbm, ⟨23, _⟩ => ⟨S8x3, .i32⟩
  | .hbm, ⟨24, _⟩ => ⟨S8x3, .i32⟩
  | .hbm, ⟨25, _⟩ => ⟨S_, .i32⟩
  | .hbm, ⟨26, _⟩ => ⟨S8x3, .i32⟩
  | .hbm, ⟨27, _⟩ => ⟨S8x3, .i32⟩
  | .hbm, ⟨28, _⟩ => ⟨S2048, .i32⟩
  | .hbm, ⟨29, _⟩ => ⟨S8x1x3, .i32⟩
  | .hbm, ⟨30, _⟩ => ⟨S1x2048x1, .i32⟩
  | .hbm, ⟨31, _⟩ => ⟨S8x2048x3, .i32⟩
  | .hbm, ⟨32, _⟩ => ⟨S8x2048x3, .i32⟩
  | .hbm, ⟨33, _⟩ => ⟨S8x2048x3, .i1⟩
  | .hbm, ⟨34, _⟩ => ⟨S8x2048x3, .i32⟩
  | .hbm, ⟨35, _⟩ => ⟨S_, .i32⟩
  | .hbm, ⟨36, _⟩ => ⟨S8x2048, .i32⟩
  | .hbm, ⟨37, _⟩ => ⟨S_, .i32⟩
  | .hbm, ⟨38, _⟩ => ⟨S8x2048, .i32⟩
  | .hbm, ⟨39, _⟩ => ⟨S8x2048, .i1⟩
  | .hbm, ⟨40, _⟩ => ⟨S_, .i32⟩
  | .hbm, ⟨41, _⟩ => ⟨S8x2048, .i32⟩
  | .hbm, ⟨42, _⟩ => ⟨S8x2048, .i32⟩
  | .hbm, ⟨43, _⟩ => ⟨S8x2048, .i32⟩
  | .hbm, ⟨44, _⟩ => ⟨S8x2048x1, .i32⟩
  | .hbm, ⟨45, _⟩ => ⟨S1, .i32⟩
  | .hbm, ⟨46, _⟩ => ⟨S_, .i32⟩
  | .hbm, ⟨47, _⟩ => ⟨S8x2048x1, .i32⟩
  | .hbm, ⟨48, _⟩ => ⟨S8x2048x1, .i1⟩
  | .hbm, ⟨49, _⟩ => ⟨S1x1x1, .i32⟩
  | .hbm, ⟨50, _⟩ => ⟨S8x2048x1, .i32⟩
  | .hbm, ⟨51, _⟩ => ⟨S8x2048x1, .i1⟩
  | .hbm, ⟨52, _⟩ => ⟨S8x2048x1, .i1⟩
  | .hbm, ⟨53, _⟩ => ⟨S_, .i1⟩
  | .hbm, ⟨54, _⟩ => ⟨S8x2048, .i1⟩
  | .hbm, ⟨55, _⟩ => ⟨S8x2048, .i32⟩
  | .hbm, ⟨56, _⟩ => ⟨S_, .i32⟩
  | .hbm, ⟨57, _⟩ => ⟨S8x2048, .i32⟩
  | .hbm, ⟨58, _⟩ => ⟨S8x2048, .i32⟩
  | .hbm, ⟨59, _⟩ => ⟨S1x2048, .i32⟩
  | .hbm, ⟨60, _⟩ => ⟨S_, .i32⟩
  | .hbm, ⟨61, _⟩ => ⟨S1x2048, .i32⟩
  | .hbm, ⟨62, _⟩ => ⟨S1x2048, .i32⟩
  | .hbm, ⟨63, _⟩ => ⟨S8x2048, .i32⟩
  | .hbm, ⟨64, _⟩ => ⟨S8x2048, .i32⟩
  | .hbm, ⟨65, _⟩ => ⟨S_, .i32⟩
  | .hbm, ⟨66, _⟩ => ⟨S8x2048, .i32⟩
  | .hbm, ⟨67, _⟩ => ⟨S8x2048, .i1⟩
  | .hbm, ⟨68, _⟩ => ⟨S_, .i32⟩
  | .hbm, ⟨69, _⟩ => ⟨S8x2048, .i32⟩
  | .hbm, ⟨70, _⟩ => ⟨S8x2048, .i32⟩
  | .hbm, ⟨71, _⟩ => ⟨S8x2048, .i32⟩
  | .hbm, ⟨72, _⟩ => ⟨S8x2048x1, .i32⟩
  | .hbm, ⟨73, _⟩ => ⟨S1, .i32⟩
  | .hbm, ⟨74, _⟩ => ⟨S_, .i32⟩
  | .hbm, ⟨75, _⟩ => ⟨S8x2048x1, .i32⟩
  | .hbm, ⟨76, _⟩ => ⟨S8x2048x1, .i1⟩
  | .hbm, ⟨77, _⟩ => ⟨S1x1x1, .i32⟩
  | .hbm, ⟨78, _⟩ => ⟨S8x2048x1, .i32⟩
  | .hbm, ⟨79, _⟩ => ⟨S8x2048x1, .i1⟩
  | .hbm, ⟨80, _⟩ => ⟨S8x2048x1, .i1⟩
  | .hbm, ⟨81, _⟩ => ⟨S_, .i1⟩
  | .hbm, ⟨82, _⟩ => ⟨S8x2048, .i1⟩
  | .hbm, ⟨83, _⟩ => ⟨S8x2048x512, .f32⟩
  | .hbm, ⟨84, _⟩ => ⟨S8x2048x512, .i1⟩
  | .hbm, ⟨85, _⟩ => ⟨S_, .f32⟩
  | .hbm, ⟨86, _⟩ => ⟨S8x2048x512, .f32⟩
  | .hbm, ⟨87, _⟩ => ⟨S8x2048x512, .f32⟩
  | .hbm, ⟨88, _⟩ => ⟨S1x2048x512, .f32⟩
  | .hbm, ⟨89, _⟩ => ⟨S8x2048x512, .f32⟩
  | .hbm, ⟨90, _⟩ => ⟨S8x2048x1024, .f32⟩
  | .hbm, ⟨91, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_c_0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_c_4 : Ref sig .tc := ⟨.hbm, 56, rfl⟩
abbrev main_call1_v14 : Ref sig .tc := ⟨.hbm, 57, rfl⟩
abbrev main_v14 : Ref sig .tc := ⟨.hbm, 58, rfl⟩
abbrev main_v15 : Ref sig .tc := ⟨.hbm, 59, rfl⟩
abbrev main_c_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩

abbrev nD : Nat := 1
abbrev τ : Topo := Topo.v7x

variable {F : FTy → Type} [FloatOps F]
-- ==== Proof.Words.lean ====
/-
  The kernel's index arithmetic on 32-bit words, and what natural numbers it computes. Four shifts per batch are words
  below 2048. The boundary between two neighbouring segments is the rounded-down mean of their shifts plus one (`mid`);
  a position's segment is the number of boundaries at or below it (`segOf`). Sub-block `off` holds the 64 positions
  from `off` on.
-/
module

public import Idealize.ShloMosaic.Lib.Routing.Words
public import Idealize.ShloMosaic.Lib.WordCmp

@[expose] public section

namespace Cert.PE

open Idealize.ShloMosaic

/-! ## The words, as the kernel computes them -/

/-- The sign of a word: one, zero or minus one. -/
def sgnW (x : BitVec 32) : BitVec 32 :=
  Scalar.subi (Scalar.extui (Scalar.cmpi .sgt x 0#32)) (Scalar.extui (Scalar.cmpi .slt x 0#32))

/-- The boundary of two segments: the floor of half the sum of their shifts, plus one. The kernel corrects the
truncating division when the signs of the operands differ and the remainder is not zero. -/
def mid (a b : BitVec 32) : BitVec 32 :=
  Scalar.addi (Scalar.select
    (Scalar.andi (Scalar.cmpi .ne (sgnW (Scalar.addi a b)) (sgnW 2#32)) (Scalar.cmpi .ne (Scalar.remsi (Scalar.addi a b) 2#32) 0#32))
    (Scalar.subi (Scalar.divsi (Scalar.addi a b) 2#32) 1#32) (Scalar.divsi (Scalar.addi a b) 2#32)) 1#32

/-- The segment of position `p`, the three boundaries given. -/
def segOf (p m₁ m₂ m₃ : BitVec 32) : BitVec 32 :=
  Scalar.addi (Scalar.addi (Scalar.extui (Scalar.cmpi .sge p m₁)) (Scalar.extui (Scalar.cmpi .sge p m₂)))
    (Scalar.extui (Scalar.cmpi .sge p m₃))

/-- The first position of sub-block `off`, `b` the block's number. -/
def startW (b : BitVec 32) (off : ℕ) : BitVec 32 := Scalar.addi (Scalar.muli b 2048#32) (BitVec.ofNat 32 off)

/-- The row of the relative encodings' table that belongs to the first position at shift zero. -/
def baseW (b : BitVec 32) (off : ℕ) : BitVec 32 := Scalar.addi 2500#32 (startW b off)

/-- The segments of the sub-block's first and last positions. -/
def loW (b : BitVec 32) (off : ℕ) (w₀ w₁ w₂ w₃ : BitVec 32) : BitVec 32 :=
  segOf (startW b off) (mid w₀ w₁) (mid w₁ w₂) (mid w₂ w₃)
def hiW (b : BitVec 32) (off : ℕ) (w₀ w₁ w₂ w₃ : BitVec 32) : BitVec 32 :=
  segOf (Scalar.subi (Scalar.addi (startW b off) 64#32) 1#32) (mid w₀ w₁) (mid w₁ w₂) (mid w₂ w₃)

/-- Whether the sub-block lies in one segment, and whether it lies in several. -/
def condS (b : BitVec 32) (off : ℕ) (w₀ w₁ w₂ w₃ : BitVec 32) : BitVec 1 :=
  Scalar.cmpi .ne (Scalar.extui (Scalar.cmpi .eq (loW b off w₀ w₁ w₂ w₃) (hiW b off w₀ w₁ w₂ w₃))) 0#32
def condM (b : BitVec 32) (off : ℕ) (w₀ w₁ w₂ w₃ : BitVec 32) : BitVec 1 :=
  Scalar.cmpi .ne (Scalar.extui (Scalar.cmpi .ne (loW b off w₀ w₁ w₂ w₃) (hiW b off w₀ w₁ w₂ w₃))) 0#32

/-- The eighth of a row number, rounded down to a multiple of eight, and what is left. -/
def rowOf (a : BitVec 32) : BitVec 32 := Scalar.muli (Scalar.divsi a 8#32) 8#32
def restOf (a : BitVec 32) : BitVec 32 := Scalar.subi a (rowOf a)

/-- Where the sub-block reads the shift of its segment (`g` the batch), and where it reads the table at shift `s`. -/
def offS (g b : BitVec 32) (off : ℕ) (w₀ w₁ w₂ w₃ : BitVec 32) : Fin 2 → ℕ :=
  ![(Scalar.indexCast g).toNat, (Scalar.indexCast (loW b off w₀ w₁ w₂ w₃)).toNat]
def offT (b : BitVec 32) (off : ℕ) (s : BitVec 32) : Fin 2 → ℕ :=
  ![(Scalar.indexCast (rowOf (Scalar.subi (baseW b off) s))).toNat, 0]

/-- Whether what is left is `r`. -/
def caseOf (a : BitVec 32) (r : ℕ) : BitVec 1 :=
  Scalar.cmpi .ne (Scalar.extui (Scalar.cmpi .eq (restOf a) (BitVec.ofNat 32 r))) 0#32

/-- The distance the loaded rows are rotated by. -/
def rotOf (a : BitVec 32) : BitVec 32 := Scalar.remsi (Scalar.subi 72#32 (restOf a)) 72#32

/-! ## The natural numbers they are -/

/-- The boundary of two segments, the shifts natural numbers. -/
def midN (a b : ℕ) : ℕ := (a + b) / 2 + 1

/-- The segment of position `p`: how many boundaries are at or below it. -/
def segN (s₀ s₁ s₂ s₃ p : ℕ) : ℕ :=
  (if midN s₀ s₁ ≤ p then 1 else 0) + (if midN s₁ s₂ ≤ p then 1 else 0) + (if midN s₂ s₃ ≤ p then 1 else 0)

theorem segN_lt (s₀ s₁ s₂ s₃ p : ℕ) : segN s₀ s₁ s₂ s₃ p < 4 := by
  unfold segN; split <;> split <;> split <;> omega

/-- A later position is in no earlier segment. -/
theorem segN_mono (s₀ s₁ s₂ s₃ : ℕ) {p q : ℕ} (h : p ≤ q) : segN s₀ s₁ s₂ s₃ p ≤ segN s₀ s₁ s₂ s₃ q := by
  unfold segN
  have h1 : (if midN s₀ s₁ ≤ p then 1 else 0) ≤ (if midN s₀ s₁ ≤ q then 1 else 0) := by split <;> split <;> omega
  have h2 : (if midN s₁ s₂ ≤ p then 1 else 0) ≤ (if midN s₁ s₂ ≤ q then 1 else 0) := by split <;> split <;> omega
  have h3 : (if midN s₂ s₃ ≤ p then 1 else 0) ≤ (if midN s₂ s₃ ≤ q then 1 else 0) := by split <;> split <;> omega
  omega

/-- A word is the word of its number. -/
theorem eq_word (x : BitVec 32) : x = BitVec.ofNat 32 x.toNat := by simp

theorem addi_word (a b : ℕ) : Scalar.addi (BitVec.ofNat 32 a) (BitVec.ofNat 32 b) = BitVec.ofNat 32 (a + b) :=
  (BitVec.ofNat_add a b).symm

theorem muli_word (a b : ℕ) : Scalar.muli (BitVec.ofNat 32 a) (BitVec.ofNat 32 b) = BitVec.ofNat 32 (a * b) :=
  (BitVec.ofNat_mul a b).symm

theorem subi_word {a b : ℕ} (h : b ≤ a) (ha : a < 2 ^ 32) :
    Scalar.subi (BitVec.ofNat 32 a) (BitVec.ofNat 32 b) = BitVec.ofNat 32 (a - b) := by
  apply BitVec.eq_of_toNat_eq
  show (BitVec.ofNat 32 a - BitVec.ofNat 32 b).toNat = _
  rw [BitVec.toNat_sub, BitVec.toNat_ofNat, BitVec.toNat_ofNat, BitVec.toNat_ofNat]
  omega

theorem divsi_word {a b : ℕ} (ha : a < 2 ^ 31) (h0 : 0 < b) (hb : b < 2 ^ 31) :
    Scalar.divsi (BitVec.ofNat 32 a) (BitVec.ofNat 32 b) = BitVec.ofNat 32 (a / b) :=
  Routing.divsi_word .scalar ha h0 hb

theorem remsi_word {a b : ℕ} (ha : a < 2 ^ 31) (h0 : 0 < b) (hb : b < 2 ^ 31) :
    Scalar.remsi (BitVec.ofNat 32 a) (BitVec.ofNat 32 b) = BitVec.ofNat 32 (a % b) :=
  Routing.remsi_word .scalar ha h0 hb

/-- Two small words are equal exactly when their numbers are. -/
theorem word_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A bit widened and compared with zero is the bit. -/
theorem ne_extui (c : BitVec 1) : Scalar.cmpi .ne (Scalar.extui c) 0#32 = c := by revert c; decide

theorem cmpi_sge_word {a b : ℕ} (ha : a < 2 ^ 31) (hb : b < 2 ^ 31) :
    Scalar.extui (Scalar.cmpi .sge (BitVec.ofNat 32 a) (BitVec.ofNat 32 b)) = BitVec.ofNat 32 (if b ≤ a then 1 else 0) := by
  have h : Scalar.cmpi .sge (BitVec.ofNat 32 a) (BitVec.ofNat 32 b) = BitVec.ofBool (decide (b ≤ a)) :=
    WordCmp.cmpi_sge_ofNat (w := 32) (by omega) (by omega)
  rw [h]
  by_cases hba : b ≤ a
  · rw [if_pos hba, decide_eq_true hba]; decide
  · rw [if_neg hba, decide_eq_false hba]; decide

/-- The sign of a small non-negative word. -/
theorem sgnW_word {a : ℕ} (ha : a < 2 ^ 31) : sgnW (BitVec.ofNat 32 a) = BitVec.ofNat 32 (if a = 0 then 0 else 1) := by
  unfold sgnW
  have h1 : Scalar.cmpi .sgt (BitVec.ofNat 32 a) 0#32 = BitVec.ofBool (decide (0 < a)) :=
    WordCmp.cmpi_sgt_ofNat (w := 32) (by omega) (by omega)
  have h2 : Scalar.cmpi .slt (BitVec.ofNat 32 a) 0#32 = BitVec.ofBool (decide (a < 0)) :=
    WordCmp.cmpi_slt_ofNat (w := 32) (by omega) (by omega)
  rw [h1, h2, decide_eq_false (Nat.not_lt_zero a)]
  by_cases h0 : a = 0
  · subst h0; decide
  · rw [if_neg h0, decide_eq_true (Nat.pos_of_ne_zero h0)]; decide

/-- The boundary word is the boundary. -/
theorem mid_word {a b : ℕ} (ha : a < 2048) (hb : b < 2048) :
    mid (BitVec.ofNat 32 a) (BitVec.ofNat 32 b) = BitVec.ofNat 32 (midN a b) := by
  have h2 : sgnW 2#32 = BitVec.ofNat 32 1 := by decide
  have hsel : Scalar.andi (Scalar.cmpi .ne (sgnW (BitVec.ofNat 32 (a + b))) (sgnW 2#32))
      (Scalar.cmpi .ne (BitVec.ofNat 32 ((a + b) % 2)) 0#32) = 0#1 := by
    rw [sgnW_word (by omega), h2]
    by_cases h0 : a + b = 0
    · rw [if_pos h0, h0]; decide
    · rw [if_neg h0]
      have : Scalar.cmpi .ne (BitVec.ofNat 32 1) (BitVec.ofNat 32 1) = 0#1 := by decide
      rw [this]
      generalize Scalar.cmpi .ne (BitVec.ofNat 32 ((a + b) % 2)) 0#32 = c
      revert c; decide
  unfold mid midN
  rw [addi_word, remsi_word (a := a + b) (b := 2) (by omega) (by omega) (by omega),
    divsi_word (a := a + b) (b := 2) (by omega) (by omega) (by omega), hsel]
  exact addi_word _ 1

/-- The segment word is the segment. -/
theorem segOf_word {p m₁ m₂ m₃ : ℕ} (hp : p < 2 ^ 31) (h₁ : m₁ < 2 ^ 31) (h₂ : m₂ < 2 ^ 31) (h₃ : m₃ < 2 ^ 31) :
    segOf (BitVec.ofNat 32 p) (BitVec.ofNat 32 m₁) (BitVec.ofNat 32 m₂) (BitVec.ofNat 32 m₃)
      = BitVec.ofNat 32 ((if m₁ ≤ p then 1 else 0) + (if m₂ ≤ p then 1 else 0) + (if m₃ ≤ p then 1 else 0)) := by
  unfold segOf
  rw [cmpi_sge_word hp h₁, cmpi_sge_word hp h₂, cmpi_sge_word hp h₃, addi_word, addi_word]

theorem startW_word (off : ℕ) : startW 0#32 off = BitVec.ofNat 32 off := by
  unfold startW
  rw [show Scalar.muli 0#32 2048#32 = BitVec.ofNat 32 0 from by decide, addi_word, Nat.zero_add]

/-! ## A batch's four shifts -/

/-- Four words below 2048. -/
structure Small (w₀ w₁ w₂ w₃ : BitVec 32) : Prop where
  h₀ : w₀.toNat < 2048
  h₁ : w₁.toNat < 2048
  h₂ : w₂.toNat < 2048
  h₃ : w₃.toNat < 2048

/-- The segment of position `p`, the shifts words. -/
def seg (w₀ w₁ w₂ w₃ : BitVec 32) (p : ℕ) : ℕ := segN w₀.toNat w₁.toNat w₂.toNat w₃.toNat p

/-- The `k`-th of four words. -/
def pick (w₀ w₁ w₂ w₃ : BitVec 32) (k : ℕ) : BitVec 32 :=
  if k = 0 then w₀ else if k = 1 then w₁ else if k = 2 then w₂ else w₃

variable {w₀ w₁ w₂ w₃ : BitVec 32}

theorem Small.pick (h : Small w₀ w₁ w₂ w₃) (k : ℕ) : (pick w₀ w₁ w₂ w₃ k).toNat < 2048 := by
  unfold PE.pick
  split
  · exact h.h₀
  · split
    · exact h.h₁
    · split
      · exact h.h₂
      · exact h.h₃

/-- A position's segment word, the boundaries computed from the shifts. -/
theorem segOf_mids (h : Small w₀ w₁ w₂ w₃) {p : ℕ} (hp : p < 2 ^ 31) :
    segOf (BitVec.ofNat 32 p) (mid w₀ w₁) (mid w₁ w₂) (mid w₂ w₃) = BitVec.ofNat 32 (seg w₀ w₁ w₂ w₃ p) := by
  obtain ⟨h₀, h₁, h₂, h₃⟩ := h
  rw [eq_word w₀, eq_word w₁, eq_word w₂, eq_word w₃, mid_word h₀ h₁, mid_word h₁ h₂, mid_word h₂ h₃,
    segOf_word hp (by unfold midN; omega) (by unfold midN; omega) (by unfold midN; omega)]
  unfold seg segN
  simp only [← eq_word]

theorem loW_word (h : Small w₀ w₁ w₂ w₃) {off : ℕ} (hoff : off + 64 ≤ 2048) :
    loW 0#32 off w₀ w₁ w₂ w₃ = BitVec.ofNat 32 (seg w₀ w₁ w₂ w₃ off) := by
  unfold loW; rw [startW_word, segOf_mids h (by omega)]

theorem hiW_word (h : Small w₀ w₁ w₂ w₃) {off : ℕ} (hoff : off + 64 ≤ 2048) :
    hiW 0#32 off w₀ w₁ w₂ w₃ = BitVec.ofNat 32 (seg w₀ w₁ w₂ w₃ (off + 63)) := by
  unfold hiW
  rw [startW_word, addi_word, subi_word (b := 1) (by omega) (by omega), segOf_mids h (by omega)]
  rfl

/-- The sub-block lies in one segment when its first and last positions do, -/
theorem condS_iff (h : Small w₀ w₁ w₂ w₃) {off : ℕ} (hoff : off + 64 ≤ 2048) :
    condS 0#32 off w₀ w₁ w₂ w₃ = 1#1 ↔ seg w₀ w₁ w₂ w₃ off = seg w₀ w₁ w₂ w₃ (off + 63) := by
  unfold condS
  rw [ne_extui, loW_word h hoff, hiW_word h hoff]
  show IntOp.cmpi .eq _ _ = 1#1 ↔ _
  rw [WordCmp.cmpi_eq_eq, WordCmp.ofBool_decide_eq_one_iff]
  have := segN_lt w₀.toNat w₁.toNat w₂.toNat w₃.toNat
  exact word_inj (lt_trans (this _) (by omega)) (lt_trans (this _) (by omega))

/-- and in several otherwise. -/
theorem condM_iff (h : Small w₀ w₁ w₂ w₃) {off : ℕ} (hoff : off + 64 ≤ 2048) :
    condM 0#32 off w₀ w₁ w₂ w₃ = 1#1 ↔ ¬ condS 0#32 off w₀ w₁ w₂ w₃ = 1#1 := by
  unfold condM condS
  rw [ne_extui, ne_extui]
  show IntOp.cmpi .ne _ _ = 1#1 ↔ ¬ IntOp.cmpi .eq _ _ = 1#1
  rw [WordCmp.cmpi_ne_eq, WordCmp.cmpi_eq_eq, WordCmp.ofBool_decide_eq_one_iff, WordCmp.ofBool_decide_eq_one_iff]

/-- In a sub-block of one segment every position has the first one's segment. -/
theorem seg_const {off : ℕ} (h : seg w₀ w₁ w₂ w₃ off = seg w₀ w₁ w₂ w₃ (off + 63)) {r : ℕ} (hr : r < 64) :
    seg w₀ w₁ w₂ w₃ (off + r) = seg w₀ w₁ w₂ w₃ off := by
  unfold seg at *
  have h1 := segN_mono w₀.toNat w₁.toNat w₂.toNat w₃.toNat (show off ≤ off + r by omega)
  have h2 := segN_mono w₀.toNat w₁.toNat w₂.toNat w₃.toNat (show off + r ≤ off + 63 by omega)
  omega

/-! ## The table's rows -/

/-- The row at shift `s`. -/
theorem base_sub_word {s : BitVec 32} (hs : s.toNat < 2048) {off : ℕ} (hoff : off + 64 ≤ 2048) :
    Scalar.subi (baseW 0#32 off) s = BitVec.ofNat 32 (2500 + off - s.toNat) := by
  unfold baseW
  rw [startW_word, addi_word]
  conv_lhs => rw [eq_word s]
  exact subi_word (by omega) (by omega)

theorem rowOf_word {a : ℕ} (ha : a < 2 ^ 31) : rowOf (BitVec.ofNat 32 a) = BitVec.ofNat 32 (a / 8 * 8) := by
  unfold rowOf
  rw [divsi_word (b := 8) ha (by omega) (by omega), muli_word]

theorem restOf_word {a : ℕ} (ha : a < 2 ^ 31) : restOf (BitVec.ofNat 32 a) = BitVec.ofNat 32 (a % 8) := by
  unfold restOf
  rw [rowOf_word ha, subi_word (by omega) (by omega)]
  congr 1; omega

theorem offT_eq {s : BitVec 32} (hs : s.toNat < 2048) {off : ℕ} (hoff : off + 64 ≤ 2048) :
    offT 0#32 off s = ![(2500 + off - s.toNat) / 8 * 8, 0] := by
  unfold offT
  rw [base_sub_word hs hoff, rowOf_word (by omega)]
  show ![(BitVec.ofNat 32 _).toNat, 0] = _
  rw [BitVec.toNat_ofNat, Nat.mod_eq_of_lt (by omega)]

theorem offS_eq (h : Small w₀ w₁ w₂ w₃) (g : BitVec 32) {off : ℕ} (hoff : off + 64 ≤ 2048) :
    offS g 0#32 off w₀ w₁ w₂ w₃ = ![g.toNat, seg w₀ w₁ w₂ w₃ off] := by
  unfold offS
  rw [loW_word h hoff]
  show ![g.toNat, (BitVec.ofNat 32 _).toNat] = _
  have := segN_lt w₀.toNat w₁.toNat w₂.toNat w₃.toNat off
  rw [BitVec.toNat_ofNat, Nat.mod_eq_of_lt (by unfold seg; omega)]

/-- Exactly the case of the remainder by eight holds. -/
theorem caseOf_iff {a r : ℕ} (ha : a < 2 ^ 31) (hr : r < 8) : caseOf (BitVec.ofNat 32 a) r = 1#1 ↔ a % 8 = r := by
  unfold caseOf
  rw [ne_extui, restOf_word ha]
  show IntOp.cmpi .eq _ _ = 1#1 ↔ _
  rw [WordCmp.cmpi_eq_eq, WordCmp.ofBool_decide_eq_one_iff]
  exact word_inj (by omega) (by omega)

/-- The rotation distance. -/
theorem rotOf_toNat {a : ℕ} (ha : a < 2 ^ 31) : (rotOf (BitVec.ofNat 32 a)).toNat = (72 - a % 8) % 72 := by
  unfold rotOf
  rw [restOf_word ha, subi_word (by omega) (by omega), remsi_word (b := 72) (by omega) (by omega) (by omega),
    BitVec.toNat_ofNat, Nat.mod_eq_of_lt (by omega)]

end Cert.PE
-- ==== Proof.Values.lean ====
/-
  The values the kernel's vector operations compute in one sub-block of 64 rows, entry by entry: the two halves of the
  embeddings' rows, the table rows loaded at a multiple of eight and shifted by the rest, the selection of a row's
  segment, and the stored piece. `tgt` is what an entry of the output is to be.
-/
module

public import proofs.«01_k».proof.Proof.Words
public import Idealize.ShloMosaic.Lib.Pipeline.Value
public import Idealize.ShloMosaic.Lib.KernelVsHost

@[expose] public section

noncomputable section

namespace Cert.PE

open Idealize.ShloMosaic

abbrev ShEmb : Shape := ⟨3, ![1, 2048, 1024]⟩
abbrev ShDpe : Shape := ⟨2, ![5000, 512]⟩
abbrev ShApe : Shape := ⟨3, ![1, 2048, 512]⟩
abbrev ShShift : Shape := ⟨2, ![8, 4]⟩
/-- One word, 64 half rows (with and without the leading unit axis), 72 table rows, 64 full rows, a column of 64. -/
abbrev Sh11 : Shape := ⟨2, ![1, 1]⟩
abbrev ShHalf1 : Shape := ⟨3, ![1, 64, 512]⟩
abbrev ShHalf : Shape := ⟨2, ![64, 512]⟩
abbrev ShBig : Shape := ⟨2, ![72, 512]⟩
abbrev ShFull : Shape := ⟨2, ![64, 1024]⟩
abbrev ShFull1 : Shape := ⟨3, ![1, 64, 1024]⟩
abbrev ShCol : Shape := ⟨2, ![64, 1]⟩

/-- A multi-index of rank three from its coordinates, -/
def ix3 {d₀ d₁ d₂ : ℕ} (a : Fin d₀) (b : Fin d₁) (c : Fin d₂) : (⟨3, ![d₀, d₁, d₂]⟩ : Shape).Idx :=
  Fin.cons a (Shape.pair (d := ![d₁, d₂]) b c)

@[simp] theorem ix3_zero {d₀ d₁ d₂ : ℕ} (a : Fin d₀) (b : Fin d₁) (c : Fin d₂) : ix3 a b c 0 = a := rfl
@[simp] theorem ix3_one {d₀ d₁ d₂ : ℕ} (a : Fin d₀) (b : Fin d₁) (c : Fin d₂) : ix3 a b c 1 = b := rfl
@[simp] theorem ix3_two {d₀ d₁ d₂ : ℕ} (a : Fin d₀) (b : Fin d₁) (c : Fin d₂) : ix3 a b c 2 = c := rfl

/-- and two multi-indices of rank three with equal coordinates are equal. -/
theorem idx_ext₃ {d : Fin 3 → ℕ} {x y : (⟨3, d⟩ : Shape).Idx} (h0 : (x 0 : ℕ) = y 0) (h1 : (x 1 : ℕ) = y 1)
    (h2 : (x 2 : ℕ) = y 2) : x = y := by
  funext a
  apply Fin.ext
  fin_cases a
  · exact h0
  · exact h1
  · exact h2

variable {F : FTy → Type} [FloatOps F]

/-- What entry `x` of a block's output is to be: in the left half of a row, the embedding plus the table's row at the
position's distance to its segment's shift; in the right half, the embedding plus the position's absolute encoding. -/
def tgt (emb : ShEmb.Idx → F .f32) (dpe : ShDpe.Idx → F .f32) (ape : ShApe.Idx → F .f32) (w₀ w₁ w₂ w₃ : BitVec 32)
    (x : ShEmb.Idx) : F .f32 :=
  if h : (x 2).val < 512 then
    FloatOps.addf (emb x) (dpe (Shape.pair (d := ![5000, 512])
      (Fin.ofNat 5000 (2500 + (x 1).val - (pick w₀ w₁ w₂ w₃ (seg w₀ w₁ w₂ w₃ (x 1).val)).toNat)) ⟨(x 2).val, h⟩))
  else
    FloatOps.addf (emb x) (ape (ix3 0 (x 1) ⟨(x 2).val - 512, by
      have h2 : (x 2).val < 1024 := (x 2).isLt
      omega⟩))

/-- Adding the leading unit axis. -/
theorem addUnit_at (v : ShFull.Idx → F .f32) (h : ShFull.ShapeCasts ShFull1) (x : ShFull1.Idx) :
    shapeCast ShFull1 v h x = v (Shape.pair (d := ![64, 1024]) (x 1) (x 2)) := by
  refine (shapeCast_addUnit_apply ![64, 1024] v h x).trans (congrArg v (funext fun a => ?_))
  fin_cases a <;> rfl

/-- The stored piece: the left half plus the selected table rows, beside the right half. -/
def pieceV (e s pe : ShHalf.Idx → F .f32) (hc : Shape.Concatenates [ShHalf, ShHalf] ShFull 1) (hs : ShFull.ShapeCasts ShFull1) :
    ShFull1.Idx → F .f32 :=
  shapeCast ShFull1 (concatenate ShFull 1 [⟨ShHalf, addf e pe⟩, ⟨ShHalf, s⟩] hc) hs

/-- The piece in its left half, -/
theorem pieceV_left (e s pe : ShHalf.Idx → F .f32) (hc : Shape.Concatenates [ShHalf, ShHalf] ShFull 1)
    (hs : ShFull.ShapeCasts ShFull1) (x : ShFull1.Idx) (h : (x 2).val < 512) :
    pieceV e s pe hc hs x = FloatOps.addf (e (Shape.pair (d := ![64, 512]) (x 1) ⟨(x 2).val, h⟩))
      (pe (Shape.pair (d := ![64, 512]) (x 1) ⟨(x 2).val, h⟩)) := by
  unfold pieceV
  rw [addUnit_at _ hs x]
  rw [concatenate_pair_apply_left (t := ShFull) (s₁ := ShHalf) (s₂ := ShHalf) 1 _ _ hc _ rfl
    (Shape.pair (d := ![64, 512]) (x 1) ⟨(x 2).val, h⟩)]
  · rfl
  · intro b
    fin_cases b <;> rfl

/-- and in its right half. -/
theorem pieceV_right (e s pe : ShHalf.Idx → F .f32) (hc : Shape.Concatenates [ShHalf, ShHalf] ShFull 1)
    (hs : ShFull.ShapeCasts ShFull1) (x : ShFull1.Idx) (h : ¬ (x 2).val < 512) :
    pieceV e s pe hc hs x = s (Shape.pair (d := ![64, 512]) (x 1) ⟨(x 2).val - 512, by
      have h2 : (x 2).val < 1024 := (x 2).isLt
      show _ < 512
      omega⟩) := by
  unfold pieceV
  rw [addUnit_at _ hs x]
  rw [concatenate_pair_apply_right (t := ShFull) (s₁ := ShHalf) (s₂ := ShHalf) 1 _ _ hc _ rfl rfl
    (Shape.pair (d := ![64, 512]) (x 1) ⟨(x 2).val - 512, by
      have h2 : (x 2).val < 1024 := (x 2).isLt
      show _ < 512
      omega⟩)]
  · intro b hb
    fin_cases b
    · rfl
    · exact absurd rfl hb
  · show (x 2).val - 512 + 512 = (x 2).val
    omega

/-- Dropping the leading unit axis. -/
theorem dropUnit_at (v : ShHalf1.Idx → F .f32) (h : ShHalf1.ShapeCasts ShHalf) (j : ShHalf.Idx) :
    shapeCast ShHalf v h j = v (ix3 0 (j 0) (j 1)) := by
  rw [shapeCast_dropUnit_apply ![64, 512] v h j]
  congr 1
  funext a
  fin_cases a <;> rfl

/-- Rows cut out of the loaded ones from row `r` on. -/
theorem slice_at (big : ShBig.Idx → F .f32) (r : ℕ) (h : ShBig.Slices ![r, 0] ShHalf) (j : ShHalf.Idx) (hr : r < 8) :
    extractStridedSlice ShHalf ![r, 0] big h j
      = big (Shape.pair (d := ![72, 512]) ⟨r + (j 0).val, by
          have h0 : (j 0).val < 64 := (j 0).isLt
          show _ < 72
          omega⟩ (j 1)) := by
  refine extractStridedSlice_apply _ _ _ _ _ fun a => ?_
  fin_cases a
  · rfl
  · show (j 1).val = 0 + (j 1).val
    omega

/-- Rows rotated so that row `a mod 8` comes first, and the first 64 of them cut out. -/
theorem rotate_at (big : ShBig.Idx → F .f32) {a : ℕ} (ha : a < 2 ^ 31) (hR : ShBig.Rotates 0 none)
    (h : ShBig.Slices ![0, 0] ShHalf) (j : ShHalf.Idx) :
    extractStridedSlice ShHalf ![0, 0] (dynamicRotate 0 (rotOf (BitVec.ofNat 32 a)) none big hR) h j
      = big (Shape.pair (d := ![72, 512]) ⟨a % 8 + (j 0).val, by
          have h0 : (j 0).val < 64 := (j 0).isLt
          show _ < 72
          omega⟩ (j 1)) := by
  rw [slice_at _ 0 h j (by omega)]
  refine dynamicRotate_apply _ _ _ _ _ _ fun b => ?_
  have h0 : (j 0).val < 64 := (j 0).isLt
  fin_cases b
  · show a % 8 + (j 0).val = (0 + (j 0).val + 72 - (rotOf (BitVec.ofNat 32 a)).toNat % 72) % 72
    rw [rotOf_toNat ha]
    omega
  · rfl

/-- A row's mask spread over the row. -/
theorem mask_at (v : ShCol.Idx → BitVec 1) (hs : ShCol.ShapeCasts ShCol) (hb : ShCol.Broadcasts ShHalf) (j : ShHalf.Idx) :
    broadcastTo ShHalf (shapeCast ShCol v hs) hb j = v (Shape.pair (d := ![64, 1]) (j 0) (0 : Fin 1)) := by
  rw [shapeCast_self]
  refine broadcastTo_apply _ _ _ _ fun a => ?_
  fin_cases a <;> rfl

end Cert.PE
-- ==== Proof.Result.lean ====
/-
  The result array as one function of the argument arrays, and a block of it as a function of the argument arrays' blocks.
-/
module

public import proofs.«01_k».proof.Proof.Values

@[expose] public section

noncomputable section

namespace Cert.PE

open Idealize.ShloMosaic

variable {F : FTy → Type} [FloatOps F]

/-- The arrays of embeddings and of absolute encodings. -/
abbrev ShEmbs : Shape := ⟨3, ![8, 2048, 1024]⟩
abbrev ShApes : Shape := ⟨3, ![1, 5000, 512]⟩

/-- Batch `n`'s embeddings, as a block. -/
def embBlock (emb : ShEmbs.Idx → F .f32) (n : Fin 8) : ShEmb.Idx → F .f32 := fun x => emb (ix3 n (x 1) (x 2))

/-- The absolute encodings of the positions there are, as a block. -/
def apeBlock (ape : ShApes.Idx → F .f32) : ShApe.Idx → F .f32 := fun x =>
  ape (ix3 0 ⟨(x 1).val, (show (x 1).val < 2048 from (x 1).isLt).trans (by decide)⟩ (x 2))

/-- Batch `n`'s shift `k`. -/
def word (shift : ShShift.Idx → BitVec 32) (n : Fin 8) (k : Fin 4) : BitVec 32 := shift (Shape.pair (d := ![8, 4]) n k)

/-- Batch `n`'s block of the result. -/
def block (emb : ShEmbs.Idx → F .f32) (shift : ShShift.Idx → BitVec 32) (dpe : ShDpe.Idx → F .f32) (ape : ShApes.Idx → F .f32)
    (n : Fin 8) : ShEmb.Idx → F .f32 :=
  tgt (embBlock emb n) dpe (apeBlock ape) (word shift n 0) (word shift n 1) (word shift n 2) (word shift n 3)

/-- The result array. -/
def G (emb : ShEmbs.Idx → F .f32) (shift : ShShift.Idx → BitVec 32) (dpe : ShDpe.Idx → F .f32) (ape : ShApes.Idx → F .f32) :
    ShEmbs.Idx → F .f32 := fun y => block emb shift dpe ape (y 0) (ix3 0 (y 1) (y 2))

/-- Every shift is at least zero and below 2048. -/
def InRange (shift : ShShift.Idx → BitVec 32) : Prop := ∀ j, (shift j).toNat < 2048

theorem InRange.small {shift : ShShift.Idx → BitVec 32} (h : InRange shift) (n : Fin 8) :
    Small (word shift n 0) (word shift n 1) (word shift n 2) (word shift n 3) :=
  ⟨h _, h _, h _, h _⟩

/-- The four words name the batch's shifts. -/
theorem pick_word (shift : ShShift.Idx → BitVec 32) (n : Fin 8) : ∀ k : Fin 4,
    shift (Shape.pair (d := ![8, 4]) n k) = pick (word shift n 0) (word shift n 1) (word shift n 2) (word shift n 3) k.val
  | 0 => rfl
  | 1 => rfl
  | 2 => rfl
  | 3 => rfl

/-- An index of a block, its leading coordinate the only one. -/
theorem ix3_block (x : ShEmb.Idx) : (ix3 0 (x 1) (x 2) : ShEmb.Idx) = x :=
  idx_ext₃ (by have h : (x 0).val < 1 := (x 0).isLt; show 0 = (x 0).val; omega) rfl rfl

end Cert.PE

end
-- ==== Proof.Range.lean ====
/- What the claims' precondition says of the shifts: each is at least zero and below 2048. -/
module

public import proofs.«01_k».proof.Proof.Result
public import proofs.«01_k».proof.Pre_in_range
public import Idealize.ShloMosaic.Lib.StableHlo.Predicate

@[expose] public section

noncomputable section

namespace Cert.PE

open Idealize.ShloMosaic

/-- A chain of one-bit ands gives one exactly when it starts at one and every bit in it is one. -/
theorem foldl_andi_one {ι : Type} (x : ι → BitVec 1) : ∀ (l : List ι) (b : BitVec 1),
    l.foldl (fun r i => IntOp.andi r (x i)) b = 1#1 ↔ b = 1#1 ∧ ∀ i ∈ l, x i = 1#1
  | [], b => by simp
  | i :: l, b => by
    have hand : ∀ u v : BitVec 1, IntOp.andi u v = 1#1 ↔ u = 1#1 ∧ v = 1#1 := by decide
    rw [List.foldl_cons, foldl_andi_one x l, hand, List.forall_mem_cons, and_assoc]

/-- A reduction by and gives one exactly when every element reduced to the place is one. -/
theorem reduce_andi_one {s t u : Shape} {axes : List (Fin s.rank)} (x : s.Idx → BitVec 1) (h : s.ReducesTo axes t)
    (hu : 0 < u.numel) (j : t.Idx) :
    Host.reduce IntOp.andi x (constantI u 1 1#1) h hu j = 1#1 ↔ ∀ i, h.drop i = j → x i = 1#1 := by
  rw [Host.reduce_eq_foldl, foldl_andi_one]
  constructor
  · intro H i hi
    refine H.2 i (List.mem_filter.mpr ⟨List.mem_map.mpr ⟨s.rowMajor i, List.mem_finRange _, s.rowMajor.symm_apply_apply i⟩, ?_⟩)
    exact decide_eq_true hi
  · intro H
    exact ⟨rfl, fun i hi => H i (of_decide_eq_true (List.mem_filter.mp hi).2)⟩

/-- A word that is at least zero and below 2048, read signed, is below 2048. -/
theorem word_in_range (w : BitVec 32) (h : IntOp.andi (IntOp.cmpi .sge w 0#32) (IntOp.cmpi .slt w 2048#32) = 1#1) :
    w.toNat < 2048 := by
  have hand : ∀ u v : BitVec 1, IntOp.andi u v = 1#1 → u = 1#1 ∧ v = 1#1 := by decide
  obtain ⟨h0, h1⟩ := hand _ _ h
  simp only [IntOp.cmpi, BitVec.sle, BitVec.slt, WordCmp.ofBool_eq_one_iff, decide_eq_true_eq] at h0 h1
  have e0 : (0#32).toInt = 0 := by decide
  have e1 : (2048#32).toInt = 2048 := by decide
  have hw := w.isLt
  rw [e0] at h0
  rw [e1] at h1
  rw [BitVec.toInt_eq_toNat_cond] at h0 h1
  split at h0 <;> rename_i hh <;> simp only [hh, if_true, if_false] at h1 <;> omega

/-- The precondition bounds every shift. -/
theorem inRange_of_pre {F : FTy → Type} [FloatOps F] [Cert.Pre_in_range.Facts] {emb : ShEmbs.Idx → F .f32} {shift : ShShift.Idx → BitVec 32}
    {dpe : ShDpe.Idx → F .f32} {ape : ShApes.Idx → F .f32}
    (h : Cert.Pre_in_range.fn (F := F) emb shift dpe ape = fun _ => 1#1) : InRange shift := fun j => by
  have e := congrFun h (fun a => a.elim0)
  refine word_in_range _ ((reduce_andi_one _ _ _ _).mp e j ?_)
  funext a; exact a.elim0

end Cert.PE

end
-- ==== Proof.Runs.lean ====
/-
  Running the kernel's body on five memrefs of which only the last is written. `held X` says that one core owns the
  five, that the four read-only ones have fixed contents and that the output has contents `X`; `Runs p X Post` says
  that the program `p`, started from `held X`, ends only in results `a` and output contents `X'` with `Post a X'`, the
  read-only contents unchanged. The rules below are one per operation of the body.
-/
module

public import proofs.«01_k».proof.Proof.Values
public import Idealize.ShloMosaic.Lib.Pipeline.KitQuiescent
public import Idealize.ShloMosaic.Lib.Tactic

@[expose] public section

noncomputable section

namespace Cert.PE

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {nD : Nat} {τ : Topo} {sig : RefSig} {Λ : Labels} {U : Type} [URA U]

/-- The five memrefs the body is called with, and the contents of the four it only reads. -/
structure Env (F : FTy → Type) [FloatOps F] (sig : RefSig) where
  a2 : Memref sig .tc .smem ShShift .i32
  a3 : Memref sig .tc .vmem ShEmb .f32
  a4 : Memref sig .tc .vmem ShDpe .f32
  a5 : Memref sig .tc .vmem ShApe .f32
  a6 : Memref sig .tc .vmem ShEmb .f32
  shift : ShShift.Idx → Elt F .i32
  emb : ShEmb.Idx → Elt F .f32
  dpe : ShDpe.Idx → Elt F .f32
  ape : ShApe.Idx → Elt F .f32

local notation "𝕄" => MT nD τ sig Unit (Elt F) ℕ U ℕ

variable (U) in
/-- What the core holds between two operations: the four inputs with their contents, the output with contents `X`. -/
def held (𝓔 : Env F sig) (c : Dev nD) (X : ShEmb.Idx → Elt F .f32) : sProp 𝕄 :=
  iprop(owns (c : Thread nD τ) 𝓔.a2 fullShare 𝓔.shift ∗ owns (c : Thread nD τ) 𝓔.a3 fullShare 𝓔.emb
    ∗ owns (c : Thread nD τ) 𝓔.a4 fullShare 𝓔.dpe ∗ owns (c : Thread nD τ) 𝓔.a5 fullShare 𝓔.ape
    ∗ owns (c : Thread nD τ) 𝓔.a6 fullShare X)

variable (U) in
/-- From output contents `X`, the program ends only with a result and output contents that `Post` accepts. -/
def Runs (𝓔 : Env F sig) (defs : Defs nD τ sig (Elt F) Λ) (𝒱 : Variants) (c : Dev nD) {α : Type} (p : Prog (TpuEff nD τ sig (Elt F) Λ .tc) α)
    (X : ShEmb.Idx → Elt F .f32) (Post : α → (ShEmb.Idx → Elt F .f32) → Prop) : Prop :=
  ∀ Q : α → sProp 𝕄, (∀ a X', Post a X' → held U 𝓔 c X' ⊢ Q a) →
    held U 𝓔 c X ⊢ wp frame (wpE (Ix := Unit) (Name := ℕ) (U := U) (Lvl := ℕ) defs 𝒱 (c : Thread nD τ) none) Set.univ p Q

variable {𝓔 : Env F sig} {defs : Defs nD τ sig (Elt F) Λ} {𝒱 : Variants} {c : Dev nD} {α β : Type}
  {X : ShEmb.Idx → Elt F .f32} {Post : α → (ShEmb.Idx → Elt F .f32) → Prop}

namespace Runs

/-- A finished program. -/
theorem ret {a : α} (h : Post a X) : Runs U 𝓔 defs 𝒱 c (.ret a) X Post := fun Q hQ =>
  (hQ a X h).trans (le_wp_ret _ _ _ _ _)

/-- One program after another. -/
theorem bind {p : Prog (TpuEff nD τ sig (Elt F) Λ .tc) β} {K : β → Prog (TpuEff nD τ sig (Elt F) Λ .tc) α}
    (h : Runs U 𝓔 defs 𝒱 c p X fun a X' => Runs U 𝓔 defs 𝒱 c (K a) X' Post) : Runs U 𝓔 defs 𝒱 c (p >>= K) X Post := fun Q hQ => by
  rw [wp_bind]
  exact h _ fun a X' h' => h' Q hQ

/-- A weaker postcondition. -/
theorem mono {p : Prog (TpuEff nD τ sig (Elt F) Λ .tc) α} {Post' : α → (ShEmb.Idx → Elt F .f32) → Prop}
    (h : Runs U 𝓔 defs 𝒱 c p X Post') (hp : ∀ a X', Post' a X' → Post a X') : Runs U 𝓔 defs 𝒱 c p X Post := fun Q hQ =>
  h Q fun a X' h' => hQ a X' (hp a X' h')

/-- The program checks a proposition that holds. -/
theorem assume {P : Prop} {d : Decidable P} {k : PLift P → Prog (TpuEff nD τ sig (Elt F) Λ .tc) α} (h : P)
    (hk : Runs U 𝓔 defs 𝒱 c (k ⟨h⟩) X Post) : Runs U 𝓔 defs 𝒱 c (.op (.assume P d) k) X Post := fun Q hQ =>
  (hk Q hQ).trans (wp_assume 𝒱 (c : Thread nD τ) none Set.univ h)

/-- A load from an owned memref: the program continues with the contents at the rectangle. -/
theorem wp_load_owns {sp : CoreSpace} {s : Shape} {e : EltTy} {m : Memref sig .tc sp s e} {r : LoadRect s} {hl : m.view.LoadsAt r}
    {Y : s.Idx → Elt F e} {k : (r.shape.Idx → Elt F e) → Prog (TpuEff nD τ sig (Elt F) Λ .tc) α} {Q : α → sProp 𝕄} :
    (owns (c : Thread nD τ) m fullShare Y : sProp 𝕄) ⊢ iprop((owns (c : Thread nD τ) m fullShare Y
        -∗ wp frame (wpE (Ix := Unit) (Name := ℕ) (U := U) (Lvl := ℕ) defs 𝒱 (c : Thread nD τ) none) Set.univ (k fun x => Y (r.idx x)) Q)
      -∗ wp frame (wpE (Ix := Unit) (Name := ℕ) (U := U) (Lvl := ℕ) defs 𝒱 (c : Thread nD τ) none) Set.univ (.op (.load m r hl) k) Q) := by
  unfold owns
  iintro ⟨%f, %hf, Hf⟩ Hk
  subst hf
  iapply (wp_load 𝒱 (c : Thread nD τ) none Set.univ (S := m.view.set) (f := f) (hl := hl) (k := k) ((View.setOn_subset_set _ _))) $$ Hf
  iintro Hf
  iapply Hk
  iexists f
  isplitr
  · ipureintro; rfl
  · iexact Hf

/-- A load from the shifts. -/
theorem load2 {r : LoadRect ShShift} {hl : 𝓔.a2.view.LoadsAt r} {k : (r.shape.Idx → Elt F .i32) → Prog (TpuEff nD τ sig (Elt F) Λ .tc) α}
    (h : Runs U 𝓔 defs 𝒱 c (k fun x => 𝓔.shift (r.idx x)) X Post) : Runs U 𝓔 defs 𝒱 c (.op (.load 𝓔.a2 r hl) k) X Post := fun Q hQ => by
  have h' := h Q hQ
  unfold held at h' ⊢
  iintro ⟨H2, H3, H4, H5, H6⟩
  iapply (wp_load_owns (hl := hl) (k := k)) $$ H2
  iintro H2
  iapply h'
  isplitl [H2]; · iexact H2
  isplitl [H3]; · iexact H3
  isplitl [H4]; · iexact H4
  isplitl [H5]; · iexact H5
  iexact H6

/-- A load from the shifts where they all are one word. -/
theorem load2_const {r : LoadRect ShShift} {hl : 𝓔.a2.view.LoadsAt r} {k : (r.shape.Idx → Elt F .i32) → Prog (TpuEff nD τ sig (Elt F) Λ .tc) α}
    {v : Elt F .i32} (hv : ∀ x, 𝓔.shift (r.idx x) = v) (h : Runs U 𝓔 defs 𝒱 c (k fun _ => v) X Post) :
    Runs U 𝓔 defs 𝒱 c (.op (.load 𝓔.a2 r hl) k) X Post :=
  load2 (by rw [show (fun x => 𝓔.shift (r.idx x)) = fun _ => v from funext hv]; exact h)

/-- A load from the embeddings. -/
theorem load3 {r : LoadRect ShEmb} {hl : 𝓔.a3.view.LoadsAt r} {k : (r.shape.Idx → Elt F .f32) → Prog (TpuEff nD τ sig (Elt F) Λ .tc) α}
    (h : Runs U 𝓔 defs 𝒱 c (k fun x => 𝓔.emb (r.idx x)) X Post) : Runs U 𝓔 defs 𝒱 c (.op (.load 𝓔.a3 r hl) k) X Post := fun Q hQ => by
  have h' := h Q hQ
  unfold held at h' ⊢
  iintro ⟨H2, H3, H4, H5, H6⟩
  iapply (wp_load_owns (hl := hl) (k := k)) $$ H3
  iintro H3
  iapply h'
  isplitl [H2]; · iexact H2
  isplitl [H3]; · iexact H3
  isplitl [H4]; · iexact H4
  isplitl [H5]; · iexact H5
  iexact H6

/-- A load from the relative encodings. -/
theorem load4 {r : LoadRect ShDpe} {hl : 𝓔.a4.view.LoadsAt r} {k : (r.shape.Idx → Elt F .f32) → Prog (TpuEff nD τ sig (Elt F) Λ .tc) α}
    (h : Runs U 𝓔 defs 𝒱 c (k fun x => 𝓔.dpe (r.idx x)) X Post) : Runs U 𝓔 defs 𝒱 c (.op (.load 𝓔.a4 r hl) k) X Post := fun Q hQ => by
  have h' := h Q hQ
  unfold held at h' ⊢
  iintro ⟨H2, H3, H4, H5, H6⟩
  iapply (wp_load_owns (hl := hl) (k := k)) $$ H4
  iintro H4
  iapply h'
  isplitl [H2]; · iexact H2
  isplitl [H3]; · iexact H3
  isplitl [H4]; · iexact H4
  isplitl [H5]; · iexact H5
  iexact H6

/-- A load from the absolute encodings. -/
theorem load5 {r : LoadRect ShApe} {hl : 𝓔.a5.view.LoadsAt r} {k : (r.shape.Idx → Elt F .f32) → Prog (TpuEff nD τ sig (Elt F) Λ .tc) α}
    (h : Runs U 𝓔 defs 𝒱 c (k fun x => 𝓔.ape (r.idx x)) X Post) : Runs U 𝓔 defs 𝒱 c (.op (.load 𝓔.a5 r hl) k) X Post := fun Q hQ => by
  have h' := h Q hQ
  unfold held at h' ⊢
  iintro ⟨H2, H3, H4, H5, H6⟩
  iapply (wp_load_owns (hl := hl) (k := k)) $$ H5
  iintro H5
  iapply h'
  isplitl [H2]; · iexact H2
  isplitl [H3]; · iexact H3
  isplitl [H4]; · iexact H4
  isplitl [H5]; · iexact H5
  iexact H6

/-- A load from the output's buffer (the body reads it before a store and drops what it read). -/
theorem load6 {r : LoadRect ShEmb} {hl : 𝓔.a6.view.LoadsAt r} {k : (r.shape.Idx → Elt F .f32) → Prog (TpuEff nD τ sig (Elt F) Λ .tc) α}
    (h : Runs U 𝓔 defs 𝒱 c (k fun x => X (r.idx x)) X Post) : Runs U 𝓔 defs 𝒱 c (.op (.load 𝓔.a6 r hl) k) X Post := fun Q hQ => by
  have h' := h Q hQ
  unfold held at h' ⊢
  iintro ⟨H2, H3, H4, H5, H6⟩
  iapply (wp_load_owns (hl := hl) (k := k)) $$ H6
  iintro H6
  iapply h'
  isplitl [H2]; · iexact H2
  isplitl [H3]; · iexact H3
  isplitl [H4]; · iexact H4
  isplitl [H5]; · iexact H5
  iexact H6

/-- A store of a whole rectangle into the output: inside the rectangle the new contents are the stored ones, outside
it they are the old ones. -/
theorem store6 {r : Rect ShEmb} {w : r.shape.Idx → Elt F .f32} {hx : (𝓔.a6.access r).Stores Finset.univ}
    {hm : Finset.univ = Finset.univ ∨ ∀ a, r.stride a = 1} {k : PUnit → Prog (TpuEff nD τ sig (Elt F) Λ .tc) α}
    (h : ∀ X' : ShEmb.Idx → Elt F .f32, (∀ x, X' (r.emb x) = w x) → (∀ i, (∀ x, r.emb x ≠ i) → X' i = X i) →
      Runs U 𝓔 defs 𝒱 c (k ⟨⟩) X' Post) : Runs U 𝓔 defs 𝒱 c (.op (.store 𝓔.a6 r w Finset.univ hx hm) k) X Post := fun Q hQ => by
  unfold held owns
  iintro ⟨H2, H3, H4, H5, ⟨%f, %hf, H6⟩⟩
  have h' := h (𝓔.a6.view.read (Elt F) ((𝓔.a6.access r).write (Elt F) f w Finset.univ))
    (fun x => View.read_write_of_mem (v := 𝓔.a6.access r) (Val := Elt F) f w (Finset.mem_univ x))
    (fun i hi => by
      subst hf
      rw [View.read_apply, View.read_apply]
      refine congrArg _ (View.write_of_not_mem (v := 𝓔.a6.access r) (Val := Elt F) f w _ ?_)
      intro hmem
      rw [View.setOn_univ] at hmem
      obtain ⟨x, -, hx⟩ := Finset.mem_map.1 hmem
      exact hi x (𝓔.a6.view.emb.injective hx)) Q hQ
  unfold held owns at h'
  iapply (wp_store 𝒱 (c : Thread nD τ) none Set.univ (m := 𝓔.a6) (r := r) (w := w) (hx := hx) (hm := hm) (k := k) (S := 𝓔.a6.view.set) (f := f)
    ((View.setOn_subset_set _ _).trans (View.set_slice_subset _ _))) $$ H6
  iintro H6
  iapply h'
  isplitl [H2]; · iexact H2
  isplitl [H3]; · iexact H3
  isplitl [H4]; · iexact H4
  isplitl [H5]; · iexact H5
  iexists ((𝓔.a6.access r).write (Elt F) f w Finset.univ)
  isplitr
  · ipureintro; rfl
  · iexact H6

end Runs

end Cert.PE
-- ==== Proof.Programs.lean ====
/-
  The two ways the kernel fills a sub-block, as programs with the sub-block's offset a parameter and the rest of the
  body a program `K` to continue with: `single` when the 64 rows lie in one segment (one shift read, one load of 72 table
  rows, and a store under the one of eight cases that names the rest of the row number by eight), `multi` when they lie
  in several (the 72 rows of each of the four shifts, rotated, and for each row its segment's chosen).
-/
module

public import proofs.«01_k».proof.Proof.Runs

@[expose] public section

noncomputable section

namespace Cert.PE

open Idealize.ShloMosaic Idealize.ShloMosaic.TcCoe
open Idealize.SL Idealize.SL.Sem

variable {F : FTy → Type} [FloatOps F]
variable {nD : Nat} {τ : Topo} {sig : RefSig} {Λ : Labels} {α : Type}

/-- The rectangle of the output that sub-block `off` stores to. -/
abbrev rectO (off : ℕ) (hO : ∀ a, (![0, off, 0] : Fin 3 → ℕ) a + ShFull1.size a ≤ ShEmb.size a) : Rect ShEmb :=
  Rect.unit (s := ShEmb) ![0, off, 0] ShFull1.size hO

theorem numel_full : 0 < ShFull1.numel := by decide
theorem numel_big : 0 < ShBig.numel := by decide
theorem numel_one : Sh11.numel = 1 := by decide
theorem conc : Shape.Concatenates [ShHalf, ShHalf] ShFull 1 := by decide
theorem casts_full : ShFull.ShapeCasts ShFull1 := by decide
theorem casts_col : ShCol.ShapeCasts ShCol := by decide
theorem bcast_col : ShCol.Broadcasts ShHalf := by decide
theorem rot_big : ShBig.Rotates 0 none := by decide
theorem iota_col : ShCol.Iotas .tc 32 [0] := by decide
theorem slices (r : ℕ) (hr : r < 8) : ShBig.Slices ![r, 0] ShHalf :=
  ⟨rfl, fun a => by
    fin_cases a
    · show r + 64 ≤ 72
      omega
    · show 0 + 512 ≤ 512
      omega⟩

/-- The store of the sub-block's rows, followed by `K`. The kernel loads the rows first and drops them. -/
def storeRows (a6 : Memref sig .tc .vmem ShEmb .f32) (off : ℕ)
    (hO : ∀ a, (![0, off, 0] : Fin 3 → ℕ) a + ShFull1.size a ≤ ShEmb.size a) (w : ShFull1.Idx → F .f32)
    (K : Prog (TpuEff nD τ sig (Elt F) Λ .tc) α) : Prog (TpuEff nD τ sig (Elt F) Λ .tc) α :=
  .op (.load a6 (rectO off hO).toLoadRect (View.loadsAt_vmem numel_full)) fun _ =>
    .op (.store a6 (rectO off hO) w Finset.univ (View.stores_vmem_bits_univ numel_full rfl) (.inl rfl)) fun _ => K

/-- The store under a condition. -/
def caseStore (a6 : Memref sig .tc .vmem ShEmb .f32) (off : ℕ)
    (hO : ∀ a, (![0, off, 0] : Fin 3 → ℕ) a + ShFull1.size a ≤ ShEmb.size a) (c : BitVec 1) (w : ShFull1.Idx → F .f32)
    (K : Prog (TpuEff nD τ sig (Elt F) Λ .tc) α) : Prog (TpuEff nD τ sig (Elt F) Λ .tc) α :=
  if c = 1#1 then storeRows a6 off hO w K else K

/-- The piece that case `r` stores. -/
def pieceR (e s : ShHalf.Idx → F .f32) (big : ShBig.Idx → F .f32) (r : ℕ) (hr : r < 8) : ShFull1.Idx → F .f32 :=
  pieceV e s (extractStridedSlice ShHalf ![r, 0] big (slices r hr)) conc casts_full

/-- The loaded shift `s` puts the 72 rows inside the table. -/
abbrev ChkT (b : BitVec 32) (off : ℕ) (w₀ w₁ w₂ w₃ s : BitVec 32) : Prop :=
  condS b off w₀ w₁ w₂ w₃ = 1#1 → ∀ a, offT b off s a + ShBig.size a ≤ ShDpe.size a

/-- One segment whose shift is `v`, up to the last of the eight cases: the loaded rows and whether the last case holds. -/
def singleTail (a4 : Memref sig .tc .vmem ShDpe .f32) (a6 : Memref sig .tc .vmem ShEmb .f32) (off : ℕ)
    (hO : ∀ a, (![0, off, 0] : Fin 3 → ℕ) a + ShFull1.size a ≤ ShEmb.size a)
    (b w₀ w₁ w₂ w₃ : BitVec 32) (h : condS b off w₀ w₁ w₂ w₃ = 1#1)
    (dec : ∀ s, Decidable (ChkT b off w₀ w₁ w₂ w₃ s)) (e s : ShHalf.Idx → F .f32) (v : BitVec 32) :
    Prog (TpuEff nD τ sig (Elt F) Λ .tc) (Σ' (_ : Vec F ShBig .f32), BitVec 1) := do
  let hp ← Prog.lift (.assume (ChkT b off w₀ w₁ w₂ w₃ v) (dec v))
  let big : Vec F ShBig .f32 ← Prog.lift (.load a4 (Rect.unit (s := ShDpe) (offT b off v) ShBig.size (hp.down h)).toLoadRect (View.loadsAt_vmem numel_big))
  caseStore a6 off hO (caseOf (Scalar.subi (baseW b off) v) 0) (pieceR e s big 0 (by omega)) <|
  caseStore a6 off hO (caseOf (Scalar.subi (baseW b off) v) 1) (pieceR e s big 1 (by omega)) <|
  caseStore a6 off hO (caseOf (Scalar.subi (baseW b off) v) 2) (pieceR e s big 2 (by omega)) <|
  caseStore a6 off hO (caseOf (Scalar.subi (baseW b off) v) 3) (pieceR e s big 3 (by omega)) <|
  caseStore a6 off hO (caseOf (Scalar.subi (baseW b off) v) 4) (pieceR e s big 4 (by omega)) <|
  caseStore a6 off hO (caseOf (Scalar.subi (baseW b off) v) 5) (pieceR e s big 5 (by omega)) <|
  caseStore a6 off hO (caseOf (Scalar.subi (baseW b off) v) 6) (pieceR e s big 6 (by omega)) <|
  .ret ⟨big, caseOf (Scalar.subi (baseW b off) v) 7⟩

/-- One segment: the shift is read first. -/
def singleHead (a2 : Memref sig .tc .smem ShShift .i32) (a4 : Memref sig .tc .vmem ShDpe .f32)
    (a6 : Memref sig .tc .vmem ShEmb .f32) (off : ℕ)
    (hO : ∀ a, (![0, off, 0] : Fin 3 → ℕ) a + ShFull1.size a ≤ ShEmb.size a)
    (b g w₀ w₁ w₂ w₃ : BitVec 32) (h : condS b off w₀ w₁ w₂ w₃ = 1#1)
    (dec : ∀ s, Decidable (ChkT b off w₀ w₁ w₂ w₃ s))
    (hS : ∀ a, offS g b off w₀ w₁ w₂ w₃ a + Sh11.size a ≤ ShShift.size a) (e s : ShHalf.Idx → F .f32) :
    Prog (TpuEff nD τ sig (Elt F) Λ .tc) (Σ' (_ : Vec F ShBig .f32), BitVec 1) := do
  let v ← smemLoad a2 (Rect.unit (s := ShShift) (offS g b off w₀ w₁ w₂ w₃) Sh11.size hS) numel_one rfl
  singleTail a4 a6 off hO b w₀ w₁ w₂ w₃ h dec e s v

/-- A sub-block of one segment, followed by `K`. -/
def single (a2 : Memref sig .tc .smem ShShift .i32) (a4 : Memref sig .tc .vmem ShDpe .f32)
    (a6 : Memref sig .tc .vmem ShEmb .f32) (off : ℕ)
    (hO : ∀ a, (![0, off, 0] : Fin 3 → ℕ) a + ShFull1.size a ≤ ShEmb.size a)
    (b g w₀ w₁ w₂ w₃ : BitVec 32) (dec : ∀ s, Decidable (ChkT b off w₀ w₁ w₂ w₃ s))
    (hS : condS b off w₀ w₁ w₂ w₃ = 1#1 → ∀ a, offS g b off w₀ w₁ w₂ w₃ a + Sh11.size a ≤ ShShift.size a)
    (e s : ShHalf.Idx → F .f32) (K : Prog (TpuEff nD τ sig (Elt F) Λ .tc) α) : Prog (TpuEff nD τ sig (Elt F) Λ .tc) α :=
  if h : condS b off w₀ w₁ w₂ w₃ = 1#1 then
    singleHead a2 a4 a6 off hO b g w₀ w₁ w₂ w₃ h dec (hS h) e s >>= fun p =>
      match p with
      | ⟨big, c⟩ => caseStore a6 off hO c (pieceR e s big 7 (by omega)) K
  else K

/-- The segments of the 64 rows, as the vector unit computes them from the row numbers and the three boundaries. -/
def segV (b : BitVec 32) (off : ℕ) (m₁ m₂ m₃ : BitVec 32) : IVec ShCol 32 :=
  let p : IVec ShCol 32 := addi (broadcast ShCol (startW b off)) (iota .tc ShCol 32 [0] iota_col)
  addi (addi (extui 32 (cmpi .sge p (broadcast ShCol m₁)) (by decide)) (extui 32 (cmpi .sge p (broadcast ShCol m₂)) (by decide)))
    (extui 32 (cmpi .sge p (broadcast ShCol m₃)) (by decide))

/-- The rows of the table at word `a`, rotated and cut. -/
def chunkV (a : BitVec 32) (big : ShBig.Idx → F .f32) : ShHalf.Idx → F .f32 :=
  extractStridedSlice ShHalf ![0, 0] (dynamicRotate 0 (rotOf a) none big rot_big) (slices 0 (by omega))

/-- Where the row's segment is the masked one, the new rows; elsewhere the old. -/
def selV (m : IVec ShCol 1) (new old : ShHalf.Idx → F .f32) : ShHalf.Idx → F .f32 :=
  select (broadcastTo ShHalf (shapeCast ShCol m casts_col) bcast_col) new old

/-- Several segments, up to the third load: the rows' segments, the selection among the first two segments, the mask
of the third, and the third's row number with the multiple of eight below it. -/
def multiHead (a4 : Memref sig .tc .vmem ShDpe .f32) (off : ℕ)
    (b w₀ w₁ m₁ m₂ m₃ w₂ : BitVec 32)
    (hT₀ : ∀ a, offT b off w₀ a + ShBig.size a ≤ ShDpe.size a) (hT₁ : ∀ a, offT b off w₁ a + ShBig.size a ≤ ShDpe.size a) :
    Prog (TpuEff nD τ sig (Elt F) Λ .tc)
      (Σ' (_ : IVec ShCol 32) (_ : FVec F ShHalf .f32) (_ : IVec ShCol 1) (_ : BitVec 32), BitVec 32) := do
  let big₀ : Vec F ShBig .f32 ← Prog.lift (.load a4 (Rect.unit (s := ShDpe) (offT b off w₀) ShBig.size hT₀).toLoadRect (View.loadsAt_vmem numel_big))
  let big₁ : Vec F ShBig .f32 ← Prog.lift (.load a4 (Rect.unit (s := ShDpe) (offT b off w₁) ShBig.size hT₁).toLoadRect (View.loadsAt_vmem numel_big))
  .ret ⟨segV b off m₁ m₂ m₃,
    selV (cmpi .eq (segV b off m₁ m₂ m₃) (broadcast ShCol 1#32)) (chunkV (Scalar.subi (baseW b off) w₁) big₁)
      (chunkV (Scalar.subi (baseW b off) w₀) big₀),
    cmpi .eq (segV b off m₁ m₂ m₃) (broadcast ShCol 2#32), Scalar.subi (baseW b off) w₂, rowOf (Scalar.subi (baseW b off) w₂)⟩

/-- A sub-block of several segments, followed by `K`. -/
def multi (a4 : Memref sig .tc .vmem ShDpe .f32) (a6 : Memref sig .tc .vmem ShEmb .f32) (off : ℕ)
    (hO : ∀ a, (![0, off, 0] : Fin 3 → ℕ) a + ShFull1.size a ≤ ShEmb.size a)
    (b w₀ w₁ w₂ w₃ m₁ m₂ m₃ : BitVec 32)
    (hT₀ : condM b off w₀ w₁ w₂ w₃ = 1#1 → ∀ a, offT b off w₀ a + ShBig.size a ≤ ShDpe.size a)
    (hT₁ : condM b off w₀ w₁ w₂ w₃ = 1#1 → ∀ a, offT b off w₁ a + ShBig.size a ≤ ShDpe.size a)
    (hT₂ : condM b off w₀ w₁ w₂ w₃ = 1#1 → ∀ a, offT b off w₂ a + ShBig.size a ≤ ShDpe.size a)
    (hT₃ : condM b off w₀ w₁ w₂ w₃ = 1#1 → ∀ a, offT b off w₃ a + ShBig.size a ≤ ShDpe.size a)
    (e s : ShHalf.Idx → F .f32) (K : Prog (TpuEff nD τ sig (Elt F) Λ .tc) α) : Prog (TpuEff nD τ sig (Elt F) Λ .tc) α :=
  if h : condM b off w₀ w₁ w₂ w₃ = 1#1 then
    multiHead a4 off b w₀ w₁ m₁ m₂ m₃ w₂ (hT₀ h) (hT₁ h) >>= fun p =>
      match p with
      | ⟨sv, sel, mask, a, q⟩ => do
        let big₂ : Vec F ShBig .f32 ← Prog.lift (.load a4 (Rect.unit (s := ShDpe) (offT b off w₂) ShBig.size (hT₂ h)).toLoadRect (View.loadsAt_vmem numel_big))
        let big₃ : Vec F ShBig .f32 ← Prog.lift (.load a4 (Rect.unit (s := ShDpe) (offT b off w₃) ShBig.size (hT₃ h)).toLoadRect (View.loadsAt_vmem numel_big))
        storeRows a6 off hO (pieceV e s (selV (cmpi .eq sv (broadcast ShCol 3#32)) (chunkV (Scalar.subi (baseW b off) w₃) big₃)
          (selV mask (extractStridedSlice ShHalf ![0, 0]
            (dynamicRotate 0 (Scalar.remsi (Scalar.subi 72#32 (Scalar.subi a q)) 72#32) none big₂ rot_big) (slices 0 (by omega))) sel))
          conc casts_full) K
  else K

end Cert.PE
-- ==== Proof.Blocks.lean ====
/-
  What filling a sub-block does to the output. `Inv off X`: the rows before `off` hold their values. From `Inv off X`,
  `single` followed by `multi` ends with `Inv (off + 64) X'`: `single` where the 64 rows lie in one segment, `multi`
  elsewhere.
-/
module

public import proofs.«01_k».proof.Proof.Programs

@[expose] public section

noncomputable section

namespace Cert.PE

open Idealize.ShloMosaic Idealize.ShloMosaic.TcCoe
open Idealize.SL Idealize.SL.RA Idealize.SL.BI Idealize.SL.Sem

variable {F : FTy → Type} [FloatOps F]
variable {nD : Nat} {τ : Topo} {sig : RefSig} {Λ : Labels} {α : Type} {U : Type} [URA U]
variable {𝓔 : Env F sig} {defs : Defs nD τ sig (Elt F) Λ} {𝒱 : Variants} {c : Dev nD}
  {X : ShEmb.Idx → Elt F .f32} {Post : α → (ShEmb.Idx → Elt F .f32) → Prop} {K : Prog (TpuEff nD τ sig (Elt F) Λ .tc) α}
variable {w₀ w₁ w₂ w₃ : BitVec 32}

/-- The block is the only one along the sequence, `g` is the batch's number, and the four words are the batch's shifts. -/
structure Ctx (𝓔 : Env F sig) (b g w₀ w₁ w₂ w₃ : BitVec 32) (n : Fin 8) : Prop where
  hb : b = 0#32
  hg : g.toNat = n.val
  sm : Small w₀ w₁ w₂ w₃
  hw : ∀ k : Fin 4, 𝓔.shift (Shape.pair (d := ![8, 4]) n k) = pick w₀ w₁ w₂ w₃ k.val

/-- The rows before `off` hold their values. -/
def Inv (𝓔 : Env F sig) (w₀ w₁ w₂ w₃ : BitVec 32) (off : ℕ) (X : ShEmb.Idx → Elt F .f32) : Prop :=
  ∀ x : ShEmb.Idx, (x 1).val < off → X x = tgt 𝓔.emb 𝓔.dpe 𝓔.ape w₀ w₁ w₂ w₃ x

/-- The table's row of position `p` at shift `s`. -/
def rowAt (dpe : ShDpe.Idx → Elt F .f32) (p : ℕ) (s : BitVec 32) (j : Fin 512) : Elt F .f32 :=
  dpe (Shape.pair (d := ![5000, 512]) (Fin.ofNat 5000 (2500 + p - s.toNat)) j)

/-! ## What is read -/

/-- The 72 loaded table rows. -/
theorem big_at (dpe : ShDpe.Idx → Elt F .f32) {s : BitVec 32} (hs : s.toNat < 2048) {off : ℕ} (hoff : off + 64 ≤ 2048)
    (h : ∀ a, offT 0#32 off s a + ShBig.size a ≤ ShDpe.size a) (r : ℕ) (hr : (2500 + off - s.toNat) % 8 + r < 72) (hr' : r < 64) (j : Fin 512) :
    dpe ((Rect.unit (s := ShDpe) (offT 0#32 off s) ShBig.size h).toLoadRect.idx
      (Shape.pair (d := ![72, 512]) ⟨(2500 + off - s.toNat) % 8 + r, hr⟩ j)) = rowAt dpe (off + r) s j := by
  unfold rowAt
  refine congrArg dpe (Shape.idx_ext₂ ?_ ?_)
  · show offT 0#32 off s 0 + 1 * ((2500 + off - s.toNat) % 8 + r) = (2500 + (off + r) - s.toNat) % 5000
    rw [offT_eq hs hoff]
    show (2500 + off - s.toNat) / 8 * 8 + 1 * ((2500 + off - s.toNat) % 8 + r) = _
    omega
  · show offT 0#32 off s 1 + 1 * j.val = j.val
    rw [offT_eq hs hoff]
    show 0 + 1 * j.val = _
    omega

/-- The offsets of a table load are in bounds. -/
theorem offT_inb {s : BitVec 32} (hs : s.toNat < 2048) {off : ℕ} (hoff : off + 64 ≤ 2048) (a : Fin 2) :
    offT 0#32 off s a + ShBig.size a ≤ ShDpe.size a := by
  rw [offT_eq hs hoff]
  fin_cases a
  · show (2500 + off - s.toNat) / 8 * 8 + 72 ≤ 5000
    omega
  · show 0 + 512 ≤ 512
    omega

/-- The offsets of a shift's load are in bounds. -/
theorem offS_inb (h : Small w₀ w₁ w₂ w₃) {g : BitVec 32} (hg : g.toNat < 8) {off : ℕ} (hoff : off + 64 ≤ 2048) (a : Fin 2) :
    offS g 0#32 off w₀ w₁ w₂ w₃ a + Sh11.size a ≤ ShShift.size a := by
  rw [offS_eq h g hoff]
  have := segN_lt w₀.toNat w₁.toNat w₂.toNat w₃.toNat off
  fin_cases a
  · show g.toNat + 1 ≤ 8
    omega
  · show segN _ _ _ _ off + 1 ≤ 4
    omega

/-- Both for the block's and the batch's words. -/
theorem Ctx.table_inb {b g : BitVec 32} {n : Fin 8} (C : Ctx 𝓔 b g w₀ w₁ w₂ w₃ n) {off : ℕ} {s : BitVec 32}
    (hs : s.toNat < 2048) (hoff : off + 64 ≤ 2048) (a : Fin 2) : offT b off s a + ShBig.size a ≤ ShDpe.size a := by
  rw [C.hb]; exact offT_inb hs hoff a
theorem Ctx.shift_inb {b g : BitVec 32} {n : Fin 8} (C : Ctx 𝓔 b g w₀ w₁ w₂ w₃ n) {off : ℕ}
    (hoff : off + 64 ≤ 2048) (a : Fin 2) : offS g b off w₀ w₁ w₂ w₃ a + Sh11.size a ≤ ShShift.size a := by
  rw [C.hb]; exact offS_inb C.sm (by rw [C.hg]; exact n.isLt) hoff a

/-- The rows of the table at shift `s`, rotated and cut: row `j` is the position's. -/
theorem chunk_at (dpe : ShDpe.Idx → Elt F .f32) {s : BitVec 32} (hs : s.toNat < 2048) {off : ℕ} (hoff : off + 64 ≤ 2048)
    (h : ∀ a, offT 0#32 off s a + ShBig.size a ≤ ShDpe.size a) (j : ShHalf.Idx) :
    chunkV (Scalar.subi (baseW 0#32 off) s)
      (fun x => dpe ((Rect.unit (s := ShDpe) (offT 0#32 off s) ShBig.size h).toLoadRect.idx x)) j
      = rowAt dpe (off + (j 0).val) s (j 1) := by
  unfold chunkV
  have h0 : (j 0).val < 64 := (j 0).isLt
  rw [base_sub_word hs hoff, rotate_at _ (by omega) rot_big (slices 0 (by omega)) j]
  exact big_at dpe hs hoff h (j 0).val (by omega) h0 (j 1)

/-- The segments the vector unit computes. -/
theorem segV_at (h : Small w₀ w₁ w₂ w₃) {off : ℕ} (hoff : off + 64 ≤ 2048) (j : Fin 64) :
    segV 0#32 off (mid w₀ w₁) (mid w₁ w₂) (mid w₂ w₃) (Shape.pair (d := ![64, 1]) j (0 : Fin 1))
      = BitVec.ofNat 32 (seg w₀ w₁ w₂ w₃ (off + j.val)) := by
  have hi : iota .tc ShCol 32 [0] iota_col (Shape.pair (d := ![64, 1]) j (0 : Fin 1)) = BitVec.ofNat 32 j.val := by
    rw [iota_single_apply]; rfl
  have hp : IntOp.addi (startW 0#32 off) (iota .tc ShCol 32 [0] iota_col (Shape.pair (d := ![64, 1]) j (0 : Fin 1)))
      = BitVec.ofNat 32 (off + j.val) := by
    rw [hi, startW_word]
    exact addi_word off j.val
  rw [← segOf_mids h (show off + j.val < 2 ^ 31 by omega), ← hp]
  rfl

/-- A selection by a segment's mask. -/
theorem selV_at (v : IVec ShCol 32) {p k : ℕ} (hp : p < 4) (hk : k < 4) (new old : ShHalf.Idx → F .f32) (j : ShHalf.Idx)
    (hv : v (Shape.pair (d := ![64, 1]) (j 0) (0 : Fin 1)) = BitVec.ofNat 32 p) :
    selV (cmpi .eq v (broadcast ShCol (BitVec.ofNat 32 k))) new old j = if p = k then new j else old j := by
  unfold selV
  show Scalar.select (broadcastTo ShHalf (shapeCast ShCol _ casts_col) bcast_col j) (new j) (old j) = _
  rw [mask_at]
  show Scalar.select (IntOp.cmpi .eq (v (Shape.pair (d := ![64, 1]) (j 0) (0 : Fin 1))) (BitVec.ofNat 32 k)) (new j) (old j) = _
  rw [hv, WordCmp.cmpi_eq_eq]
  by_cases hpk : p = k
  · subst hpk
    rw [if_pos rfl, decide_eq_true rfl]; rfl
  · rw [if_neg hpk, decide_eq_false fun e => hpk ((word_inj (by omega) (by omega)).1 e)]; rfl

/-- The three selections one after another: the rows of the position's segment. -/
theorem select3_at (v : IVec ShCol 32) {p : ℕ} (hp : p < 4) (c₃ c₂ c₁ c₀ : ShHalf.Idx → F .f32) (j : ShHalf.Idx)
    (hv : v (Shape.pair (d := ![64, 1]) (j 0) (0 : Fin 1)) = BitVec.ofNat 32 p) :
    selV (cmpi .eq v (broadcast ShCol 3#32)) c₃ (selV (cmpi .eq v (broadcast ShCol 2#32)) c₂
        (selV (cmpi .eq v (broadcast ShCol 1#32)) c₁ c₀)) j
      = if p = 3 then c₃ j else if p = 2 then c₂ j else if p = 1 then c₁ j else c₀ j := by
  rw [selV_at v hp (k := 3) (by omega) _ _ j hv, selV_at v hp (k := 2) (by omega) _ _ j hv,
    selV_at v hp (k := 1) (by omega) _ _ j hv]

/-! ## The stored piece -/

/-- What the two loaded halves are. -/
structure Halves (𝓔 : Env F sig) (off : ℕ) (hoff : off + 64 ≤ 2048) (e s : ShHalf.Idx → F .f32) : Prop where
  he : ∀ j : ShHalf.Idx, e j = 𝓔.emb (ix3 0 ⟨off + (j 0).val, by have h0 : (j 0).val < 64 := (j 0).isLt; omega⟩
    ⟨(j 1).val, by have h1 : (j 1).val < 512 := (j 1).isLt; omega⟩)
  hs : ∀ j : ShHalf.Idx, s j = FloatOps.addf
    (𝓔.emb (ix3 0 ⟨off + (j 0).val, by have h0 : (j 0).val < 64 := (j 0).isLt; omega⟩
      ⟨512 + (j 1).val, by have h1 : (j 1).val < 512 := (j 1).isLt; omega⟩))
    (𝓔.ape (ix3 0 ⟨off + (j 0).val, by have h0 : (j 0).val < 64 := (j 0).isLt; omega⟩ (j 1)))

/-- With the positions' table rows selected, the piece holds the rows' values. -/
theorem piece_tgt {off : ℕ} {hoff : off + 64 ≤ 2048} {hO : ∀ a, (![0, off, 0] : Fin 3 → ℕ) a + ShFull1.size a ≤ ShEmb.size a}
    {e s pe : ShHalf.Idx → F .f32} (H : Halves 𝓔 off hoff e s)
    (hpe : ∀ j : ShHalf.Idx, pe j = rowAt 𝓔.dpe (off + (j 0).val) (pick w₀ w₁ w₂ w₃ (seg w₀ w₁ w₂ w₃ (off + (j 0).val))) (j 1))
    (y : ShFull1.Idx) : pieceV e s pe conc casts_full y = tgt 𝓔.emb 𝓔.dpe 𝓔.ape w₀ w₁ w₂ w₃ ((rectO off hO).emb y) := by
  have e0 : (y 0).val = 0 := by have h0 : (y 0).val < 1 := (y 0).isLt; omega
  have e1 : (((rectO off hO).emb y) 1).val = off + (y 1).val := by
    show off + 1 * (y 1).val = _; omega
  have e2 : (((rectO off hO).emb y) 2).val = (y 2).val := by
    show 0 + 1 * (y 2).val = _; omega
  have h1 : (y 1).val < 64 := (y 1).isLt
  have h2 : (y 2).val < 1024 := (y 2).isLt
  by_cases h : (y 2).val < 512
  · rw [pieceV_left _ _ _ _ _ _ h, H.he, hpe]
    unfold tgt rowAt
    rw [dif_pos (by rw [e2]; exact h)]
    refine congrArg₂ FloatOps.addf ?_ ?_
    · refine congrArg 𝓔.emb (idx_ext₃ ?_ ?_ ?_)
      · show 0 = 0 + 1 * (y 0).val; omega
      · exact e1.symm
      · exact e2.symm
    · refine congrArg 𝓔.dpe (Shape.idx_ext₂ ?_ ?_)
      · show (2500 + (off + (y 1).val) - (pick w₀ w₁ w₂ w₃ (seg w₀ w₁ w₂ w₃ (off + (y 1).val))).toNat) % 5000 = _
        rw [← e1]; rfl
      · exact e2.symm
  · rw [pieceV_right _ _ _ _ _ _ h, H.hs]
    unfold tgt
    rw [dif_neg (by rw [e2]; exact h)]
    refine congrArg₂ FloatOps.addf ?_ ?_
    · refine congrArg 𝓔.emb (idx_ext₃ ?_ ?_ ?_)
      · show 0 = 0 + 1 * (y 0).val; omega
      · exact e1.symm
      · show 512 + ((y 2).val - 512) = _
        rw [e2]; omega
    · refine congrArg 𝓔.ape (idx_ext₃ ?_ ?_ ?_)
      · show (0 : ℕ) = 0; rfl
      · exact e1.symm
      · exact congrArg (· - 512) e2.symm

/-! ## The stores -/

/-- Storing the rows' values extends what the output holds by 64 rows. -/
theorem storeRows_run {off : ℕ} {hO : ∀ a, (![0, off, 0] : Fin 3 → ℕ) a + ShFull1.size a ≤ ShEmb.size a}
    {w : ShFull1.Idx → F .f32} (hX : Inv 𝓔 w₀ w₁ w₂ w₃ off X)
    (hw : ∀ y, w y = tgt 𝓔.emb 𝓔.dpe 𝓔.ape w₀ w₁ w₂ w₃ ((rectO off hO).emb y))
    (h : ∀ X', Inv 𝓔 w₀ w₁ w₂ w₃ (off + 64) X' → Runs U 𝓔 defs 𝒱 c K X' Post) :
    Runs U 𝓔 defs 𝒱 c (storeRows 𝓔.a6 off hO w K) X Post := by
  refine Runs.load6 (Runs.store6 fun X' hin hout => h X' fun x hx => ?_)
  have h0 : (x 0).val < 1 := (x 0).isLt
  have h2 : (x 2).val < 1024 := (x 2).isLt
  by_cases hlo : (x 1).val < off
  · rw [hout x fun y hy => ?_]
    · exact hX x hlo
    · have e1 : (((rectO off hO).emb y) 1).val = off + (y 1).val := by
        show off + 1 * (y 1).val = _; omega
      rw [hy] at e1
      omega
  · have hx' : (rectO off hO).emb (ix3 0 ⟨(x 1).val - off, by omega⟩ ⟨(x 2).val, h2⟩) = x := by
      refine idx_ext₃ ?_ ?_ ?_
      · show 0 + 1 * 0 = (x 0).val; omega
      · show off + 1 * ((x 1).val - off) = (x 1).val; omega
      · show 0 + 1 * (x 2).val = (x 2).val; omega
    have := (hin _).trans (hw (ix3 0 ⟨(x 1).val - off, by omega⟩ ⟨(x 2).val, h2⟩))
    rwa [hx'] at this

/-- What the output holds before case `r`, what is left of the row number being `q`: the sub-block's rows are stored
once the case has passed. -/
def Upto (𝓔 : Env F sig) (w₀ w₁ w₂ w₃ : BitVec 32) (off q r : ℕ) (X : ShEmb.Idx → Elt F .f32) : Prop :=
  (r ≤ q → Inv 𝓔 w₀ w₁ w₂ w₃ off X) ∧ (q < r → Inv 𝓔 w₀ w₁ w₂ w₃ (off + 64) X)

/-- Case `r` of the eight. -/
theorem caseStore_run {off : ℕ} {hO : ∀ a, (![0, off, 0] : Fin 3 → ℕ) a + ShFull1.size a ≤ ShEmb.size a}
    {w : ShFull1.Idx → F .f32} {a r : ℕ} (ha : a < 2 ^ 31) (hr : r < 8) (hX : Upto 𝓔 w₀ w₁ w₂ w₃ off (a % 8) r X)
    (hw : a % 8 = r → ∀ y, w y = tgt 𝓔.emb 𝓔.dpe 𝓔.ape w₀ w₁ w₂ w₃ ((rectO off hO).emb y))
    (h : ∀ X', Upto 𝓔 w₀ w₁ w₂ w₃ off (a % 8) (r + 1) X' → Runs U 𝓔 defs 𝒱 c K X' Post) :
    Runs U 𝓔 defs 𝒱 c (caseStore 𝓔.a6 off hO (caseOf (BitVec.ofNat 32 a) r) w K) X Post := by
  unfold caseStore
  by_cases hq : a % 8 = r
  · rw [if_pos ((caseOf_iff ha hr).2 hq)]
    exact storeRows_run (hX.1 (by omega)) (hw hq) fun X' hX' => h X' ⟨fun _ => by omega, fun _ => hX'⟩
  · rw [if_neg fun e => hq ((caseOf_iff ha hr).1 e)]
    exact h X ⟨fun _ => hX.1 (by omega), fun _ => hX.2 (by omega)⟩

/-! ## The two ways -/

/-- What the output holds between the two ways: the sub-block's rows are stored if they lie in one segment. -/
def Half (𝓔 : Env F sig) (b w₀ w₁ w₂ w₃ : BitVec 32) (off : ℕ) (X : ShEmb.Idx → Elt F .f32) : Prop :=
  Inv 𝓔 w₀ w₁ w₂ w₃ off X ∧ (condS b off w₀ w₁ w₂ w₃ = 1#1 → Inv 𝓔 w₀ w₁ w₂ w₃ (off + 64) X)

theorem Inv.mono {off off' : ℕ} (h : off ≤ off') (hX : Inv 𝓔 w₀ w₁ w₂ w₃ off' X) : Inv 𝓔 w₀ w₁ w₂ w₃ off X :=
  fun x hx => hX x (by omega)

/-- The piece of case `r` when what is left is `r`. -/
theorem pieceR_tgt (hsm : Small w₀ w₁ w₂ w₃) {off : ℕ} {hoff : off + 64 ≤ 2048}
    {hO : ∀ a, (![0, off, 0] : Fin 3 → ℕ) a + ShFull1.size a ≤ ShEmb.size a} {e s : ShHalf.Idx → F .f32}
    (H : Halves 𝓔 off hoff e s) (hS : seg w₀ w₁ w₂ w₃ off = seg w₀ w₁ w₂ w₃ (off + 63)) {v : BitVec 32}
    (hv : v = pick w₀ w₁ w₂ w₃ (seg w₀ w₁ w₂ w₃ off))
    (h : ∀ a, offT 0#32 off v a + ShBig.size a ≤ ShDpe.size a) {r : ℕ} (hr : r < 8) (hq : (2500 + off - v.toNat) % 8 = r)
    (y : ShFull1.Idx) :
    pieceR e s (fun x => 𝓔.dpe ((Rect.unit (s := ShDpe) (offT 0#32 off v) ShBig.size h).toLoadRect.idx x)) r hr y
      = tgt 𝓔.emb 𝓔.dpe 𝓔.ape w₀ w₁ w₂ w₃ ((rectO off hO).emb y) := by
  have hvs : v.toNat < 2048 := by rw [hv]; exact hsm.pick _
  subst hq
  refine piece_tgt H (fun j => ?_) y
  have h0 : (j 0).val < 64 := (j 0).isLt
  rw [slice_at _ _ _ _ hr, seg_const hS h0, ← hv]
  exact big_at 𝓔.dpe hvs hoff h (j 0).val (by omega) h0 (j 1)

/-- One segment. -/
theorem single_run {b g : BitVec 32} {n : Fin 8} (C : Ctx 𝓔 b g w₀ w₁ w₂ w₃ n) {off : ℕ} (hoff : off + 64 ≤ 2048)
    (hX : Inv 𝓔 w₀ w₁ w₂ w₃ off X) {hO : ∀ a, (![0, off, 0] : Fin 3 → ℕ) a + ShFull1.size a ≤ ShEmb.size a}
    {dec : ∀ s, Decidable (ChkT b off w₀ w₁ w₂ w₃ s)}
    {hS : condS b off w₀ w₁ w₂ w₃ = 1#1 → ∀ a, offS g b off w₀ w₁ w₂ w₃ a + Sh11.size a ≤ ShShift.size a}
    {e s : ShHalf.Idx → F .f32} (H : Halves 𝓔 off hoff e s)
    (h : ∀ X', Half 𝓔 b w₀ w₁ w₂ w₃ off X' → Runs U 𝓔 defs 𝒱 c K X' Post) :
    Runs U 𝓔 defs 𝒱 c (single 𝓔.a2 𝓔.a4 𝓔.a6 off hO b g w₀ w₁ w₂ w₃ dec hS e s K) X Post := by
  obtain ⟨rfl, hg, hsm, hw⟩ := C
  unfold single
  by_cases hc : condS 0#32 off w₀ w₁ w₂ w₃ = 1#1
  swap
  · rw [dif_neg hc]
    exact h X ⟨hX, fun h' => absurd h' hc⟩
  rw [dif_pos hc]
  have hseg := (condS_iff hsm hoff).1 hc
  refine Runs.bind ?_
  refine Runs.load2_const (v := pick w₀ w₁ w₂ w₃ (seg w₀ w₁ w₂ w₃ off)) (fun x => ?_) ?_
  · have hlt := segN_lt w₀.toNat w₁.toNat w₂.toNat w₃.toNat off
    refine Eq.trans (congrArg 𝓔.shift (Shape.idx_ext₂ ?_ ?_)) (hw ⟨seg w₀ w₁ w₂ w₃ off, hlt⟩)
    · have hx : (x 0).val < 1 := (x 0).isLt
      show offS g 0#32 off w₀ w₁ w₂ w₃ 0 + 1 * (x 0).val = n.val
      have e0 : offS g 0#32 off w₀ w₁ w₂ w₃ 0 = g.toNat := congrFun (offS_eq hsm g hoff) 0
      omega
    · have hx : (x 1).val < 1 := (x 1).isLt
      show offS g 0#32 off w₀ w₁ w₂ w₃ 1 + 1 * (x 1).val = seg w₀ w₁ w₂ w₃ off
      have e1 : offS g 0#32 off w₀ w₁ w₂ w₃ 1 = seg w₀ w₁ w₂ w₃ off := congrFun (offS_eq hsm g hoff) 1
      omega
  have hvs : (pick w₀ w₁ w₂ w₃ (seg w₀ w₁ w₂ w₃ off)).toNat < 2048 := hsm.pick _
  refine Runs.assume (fun _ => offT_inb hvs hoff) ?_
  refine Runs.load4 ?_
  rw [base_sub_word hvs hoff]
  have ha : 2500 + off - (pick w₀ w₁ w₂ w₃ (seg w₀ w₁ w₂ w₃ off)).toNat < 2 ^ 31 := by omega
  have hP := fun (r : ℕ) (hr : r < 8) hq y => pieceR_tgt (hO := hO) hsm H hseg rfl (offT_inb hvs hoff) hr hq y
  have h₀ : Upto 𝓔 w₀ w₁ w₂ w₃ off ((2500 + off - (pick w₀ w₁ w₂ w₃ (seg w₀ w₁ w₂ w₃ off)).toNat) % 8) 0 X :=
    ⟨fun _ => hX, fun h' => absurd h' (Nat.not_lt_zero _)⟩
  refine caseStore_run ha (r := 0) (by omega) h₀ (hP 0 (by omega)) fun X hX => ?_
  refine caseStore_run ha (r := 1) (by omega) hX (hP 1 (by omega)) fun X hX => ?_
  refine caseStore_run ha (r := 2) (by omega) hX (hP 2 (by omega)) fun X hX => ?_
  refine caseStore_run ha (r := 3) (by omega) hX (hP 3 (by omega)) fun X hX => ?_
  refine caseStore_run ha (r := 4) (by omega) hX (hP 4 (by omega)) fun X hX => ?_
  refine caseStore_run ha (r := 5) (by omega) hX (hP 5 (by omega)) fun X hX => ?_
  refine caseStore_run ha (r := 6) (by omega) hX (hP 6 (by omega)) fun X hX => ?_
  refine Runs.ret ?_
  refine caseStore_run ha (r := 7) (by omega) hX (hP 7 (by omega)) fun X hX => ?_
  have hX' := hX.2 (by omega)
  exact h X ⟨hX'.mono (by omega), fun _ => hX'⟩

/-- Several segments. -/
theorem multi_run {b g : BitVec 32} {n : Fin 8} (C : Ctx 𝓔 b g w₀ w₁ w₂ w₃ n) {off : ℕ} (hoff : off + 64 ≤ 2048)
    (hX : Half 𝓔 b w₀ w₁ w₂ w₃ off X) {hO : ∀ a, (![0, off, 0] : Fin 3 → ℕ) a + ShFull1.size a ≤ ShEmb.size a}
    {hT₀ : condM b off w₀ w₁ w₂ w₃ = 1#1 → ∀ a, offT b off w₀ a + ShBig.size a ≤ ShDpe.size a}
    {hT₁ : condM b off w₀ w₁ w₂ w₃ = 1#1 → ∀ a, offT b off w₁ a + ShBig.size a ≤ ShDpe.size a}
    {hT₂ : condM b off w₀ w₁ w₂ w₃ = 1#1 → ∀ a, offT b off w₂ a + ShBig.size a ≤ ShDpe.size a}
    {hT₃ : condM b off w₀ w₁ w₂ w₃ = 1#1 → ∀ a, offT b off w₃ a + ShBig.size a ≤ ShDpe.size a}
    {e s : ShHalf.Idx → F .f32} (H : Halves 𝓔 off hoff e s)
    (h : ∀ X', Inv 𝓔 w₀ w₁ w₂ w₃ (off + 64) X' → Runs U 𝓔 defs 𝒱 c K X' Post) :
    Runs U 𝓔 defs 𝒱 c (multi 𝓔.a4 𝓔.a6 off hO b w₀ w₁ w₂ w₃ (mid w₀ w₁) (mid w₁ w₂) (mid w₂ w₃) hT₀ hT₁ hT₂ hT₃ e s K) X Post := by
  obtain ⟨rfl, hg, hsm, hw⟩ := C
  unfold multi
  by_cases hc : condM 0#32 off w₀ w₁ w₂ w₃ = 1#1
  swap
  · rw [dif_neg hc]
    refine h X (hX.2 ?_)
    by_contra h'
    exact hc ((condM_iff hsm hoff).2 h')
  rw [dif_pos hc]
  refine Runs.bind ?_
  refine Runs.load4 ?_
  refine Runs.load4 ?_
  refine Runs.ret ?_
  refine Runs.load4 ?_
  refine Runs.load4 ?_
  refine storeRows_run hX.1 (piece_tgt H fun j => ?_) h
  have hj := segV_at hsm hoff (j 0)
  have hlt : seg w₀ w₁ w₂ w₃ (off + (j 0).val) < 4 := segN_lt w₀.toNat w₁.toNat w₂.toNat w₃.toNat _
  refine (select3_at _ hlt _ _ _ _ j hj).trans ?_
  have c₀ := chunk_at 𝓔.dpe hsm.h₀ hoff (hT₀ hc) j
  have c₁ := chunk_at 𝓔.dpe hsm.h₁ hoff (hT₁ hc) j
  have c₂ := chunk_at 𝓔.dpe hsm.h₂ hoff (hT₂ hc) j
  have c₃ := chunk_at 𝓔.dpe hsm.h₃ hoff (hT₃ hc) j
  clear hj
  generalize seg w₀ w₁ w₂ w₃ (off + (j 0).val) = q at *
  rcases (show q = 3 ∨ q = 2 ∨ q = 1 ∨ q = 0 by omega) with rfl | rfl | rfl | rfl
  · exact c₃
  · exact c₂
  · exact c₁
  · exact c₀

/-- What the loads of a sub-block read. -/
theorem halves {off : ℕ} (hoff : off + 64 ≤ 2048)
    (hE : ∀ a, (![0, off, 0] : Fin 3 → ℕ) a + ShHalf1.size a ≤ ShEmb.size a)
    (hE' : ∀ a, (![0, off, 512] : Fin 3 → ℕ) a + ShHalf1.size a ≤ ShEmb.size a)
    (hA : ∀ a, (![0, off, 0] : Fin 3 → ℕ) a + ShHalf1.size a ≤ ShApe.size a) (hc : ShHalf1.ShapeCasts ShHalf) :
    Halves 𝓔 off hoff
      (shapeCast ShHalf (fun x => 𝓔.emb ((Rect.unit (s := ShEmb) ![0, off, 0] ShHalf1.size hE).toLoadRect.idx x)) hc)
      (addf (shapeCast ShHalf (fun x => 𝓔.emb ((Rect.unit (s := ShEmb) ![0, off, 512] ShHalf1.size hE').toLoadRect.idx x)) hc)
        (shapeCast ShHalf (fun x => 𝓔.ape ((Rect.unit (s := ShApe) ![0, off, 0] ShHalf1.size hA).toLoadRect.idx x)) hc)) where
  he j := by
    rw [dropUnit_at]
    refine congrArg 𝓔.emb (idx_ext₃ ?_ ?_ ?_)
    · show 0 + 1 * 0 = 0; rfl
    · show off + 1 * (j 0).val = off + (j 0).val; omega
    · show 0 + 1 * (j 1).val = (j 1).val; omega
  hs j := by
    rw [addf_apply, dropUnit_at, dropUnit_at]
    congr 1
    · refine congrArg 𝓔.emb (idx_ext₃ ?_ ?_ ?_)
      · show 0 + 1 * 0 = 0; rfl
      · show off + 1 * (j 0).val = off + (j 0).val; omega
      · show 512 + 1 * (j 1).val = 512 + (j 1).val; omega
    · refine congrArg 𝓔.ape (idx_ext₃ ?_ ?_ ?_)
      · show 0 + 1 * 0 = 0; rfl
      · show off + 1 * (j 0).val = off + (j 0).val; omega
      · show 0 + 1 * (j 1).val = (j 1).val; omega

end Cert.PE
-- ==== Proof.Body.lean ====
/- The kernel function of the idealized program on one batch: it runs through, and it leaves the wanted block. -/
module

public import proofs.«01_k».proof.Proof.Blocks
public import proofs.«01_k».proof.Proof.Gen.KernelIdeal.Frame

@[expose] public section

set_option maxRecDepth 16384

noncomputable section

namespace Cert.KernelIdeal

open Idealize.ShloMosaic Idealize.ShloMosaic.TcCoe
open Idealize.SL Idealize.SL.RA Idealize.SL.BI
open Idealize.SL.Sem
open Cert.PE

variable {F : FTy → Type} [FloatOps F]
variable {U : Type} [URA U]
variable {𝓔 : Env F sig} {w₀ w₁ w₂ w₃ : BitVec 32} {i : grid0.Coords}

/-- What the body assumes of the shifts and of the launch coordinates at point `i`. -/
abbrev BodyCtx (𝓔 : Env F sig) (i : grid0.Coords) (w₀ w₁ w₂ w₃ : BitVec 32) : Prop :=
  Ctx 𝓔 (BitVec.ofNat 32 (i 0).val) (BitVec.ofNat 32 (i 1).val) w₀ w₁ w₂ w₃ (i 1)

/-- A one-word read at the batch's row and column `k` reads the batch's shift `k`. -/
theorem read_word (C : BodyCtx 𝓔 i w₀ w₁ w₂ w₃) (k : Fin 4) {o : Fin 2 → ℕ} (ho : o = ![(i 1).val, k.val])
    {h : ∀ a, o a + Sh11.size a ≤ ShShift.size a} (x : Sh11.Idx) :
    𝓔.shift ((Rect.unit (s := ShShift) o Sh11.size h).toLoadRect.idx x) = pick w₀ w₁ w₂ w₃ k.val := by
  subst ho
  rw [← C.hw k]
  have h0 : (x 0).val < 1 := (x 0).isLt
  have h1 : (x 1).val < 1 := (x 1).isLt
  refine congrArg 𝓔.shift (Shape.idx_ext₂ ?_ ?_)
  · show (i 1).val + 1 * (x 0).val = (i 1).val
    omega
  · show k.val + 1 * (x 1).val = k.val
    omega

section
-- these stay closed while the program is matched against the rules: they are the same on both sides
attribute [local irreducible] Runs Scalar.addi Scalar.subi Scalar.muli Scalar.divsi Scalar.remsi Scalar.cmpi Scalar.extui Scalar.indexCast
  BitVec.ofNat BitVec.toNat shapeCast concatenate extractStridedSlice dynamicRotate broadcastTo select addf iota addi cmpi extui broadcast

set_option maxHeartbeats 400000 in
/-- Every access the body makes at offsets computed from the shifts stays inside its buffer. -/
theorem accesses_inside (C : BodyCtx 𝓔 i w₀ w₁ w₂ w₃) : k0_chk1 i w₀ w₁ w₂ w₃ := by
  repeat' apply And.intro
  all_goals intro _
  all_goals first
    | exact C.shift_inb (by decide)
    | exact C.table_inb (s := w₀) C.sm.h₀ (by decide)
    | exact C.table_inb (s := w₁) C.sm.h₁ (by decide)
    | exact C.table_inb (s := w₂) C.sm.h₂ (by decide)
    | exact C.table_inb (s := w₃) C.sm.h₃ (by decide)

set_option maxHeartbeats 2000000 in
/-- The body runs through, and every row of the output then holds its value. -/
theorem body_runs {𝒱 : Variants} {c : Dev nD} (h2 : 𝓔.a2.IsWhole) (h3 : 𝓔.a3.IsWhole) (h4 : 𝓔.a4.IsWhole) (h5 : 𝓔.a5.IsWhole)
    (h6 : 𝓔.a6.IsWhole) (X : ShEmb.Idx → Elt F .f32) (C : BodyCtx 𝓔 i w₀ w₁ w₂ w₃) :
    Runs U 𝓔 (defs₀ (F := F)) 𝒱 c (cc0__pe_kernel i 𝓔.a2 h2 𝓔.a3 h3 𝓔.a4 h4 𝓔.a5 h5 𝓔.a6 h6) X
      (fun _ X' => Inv 𝓔 w₀ w₁ w₂ w₃ 2048 X') := by
  have hX : Inv 𝓔 w₀ w₁ w₂ w₃ 0 X := fun x hx => absurd hx (Nat.not_lt_zero _)
  have hchk : k0_chk1 i w₀ w₁ w₂ w₃ := accesses_inside C
  apply Runs.bind
  apply Runs.load2_const (v := w₀)
  · exact read_word C 0 (Gen.k0_off1_eq i)
  apply Runs.load2_const (v := w₁)
  · exact read_word C 1 (Gen.k0_off2_eq i)
  apply Runs.load2_const (v := w₂)
  · exact read_word C 2 (Gen.k0_off3_eq i)
  apply Runs.load2_const (v := w₃)
  · exact read_word C 3 (Gen.k0_off4_eq i)
  apply Runs.assume hchk
  apply Runs.ret
  apply Runs.bind
  apply Runs.ret
  apply Runs.bind
  iterate 32
    first | apply Runs.load3 | (apply Runs.ret; first | (apply Runs.bind; apply Runs.load3) | apply Runs.load3)
    first | apply Runs.load3 | (apply Runs.ret; first | (apply Runs.bind; apply Runs.load3) | apply Runs.load3)
    first | apply Runs.load5 | (apply Runs.ret; first | (apply Runs.bind; apply Runs.load5) | apply Runs.load5)
    first
      | apply single_run C (by decide) hX (halves _ _ _ _ _)
      | (apply Runs.ret; first | (apply Runs.bind; apply single_run C (by decide) hX (halves _ _ _ _ _)) | apply single_run C (by decide) hX (halves _ _ _ _ _))
    intro X hX
    first
      | apply multi_run C (by decide) hX (halves _ _ _ _ _)
      | (apply Runs.ret; first | (apply Runs.bind; apply multi_run C (by decide) hX (halves _ _ _ _ _)) | apply multi_run C (by decide) hX (halves _ _ _ _ _))
    intro X hX
    simp only [Nat.reduceAdd] at hX
  first | exact Runs.ret hX | (apply Runs.ret; exact Runs.ret hX)

end

end Cert.KernelIdeal

end
-- ==== Proof.Run.lean ====
/- The launch of the idealized program: what each window's block is, what the body leaves at each grid point, and the result
array after the run. -/
module

public import proofs.«01_k».proof.Proof.Body
public import proofs.«01_k».proof.Proof.Result
public import Idealize.ShloMosaic.Lib.Pipeline.Frame
public import Idealize.ShloMosaic.Lib.Pipeline.ValueKit

@[expose] public section

set_option maxRecDepth 16384

noncomputable section

namespace Cert.KernelIdeal.Run

open Cert.KernelIdeal Cert.PE
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The argument arrays, and the windows' blocks of them -/

abbrev embOf (c : Dev nD) : ShEmbs.Idx → F .f32 := m ((c : Thread nD τ).loc main_arg0)
abbrev shiftOf (c : Dev nD) : ShShift.Idx → BitVec 32 := m ((c : Thread nD τ).loc main_arg1)
abbrev dpeOf (c : Dev nD) : ShDpe.Idx → F .f32 := m ((c : Thread nD τ).loc main_arg2)
abbrev apeOf (c : Dev nD) : ShApes.Idx → F .f32 := m ((c : Thread nD τ).loc main_arg3)

/-- The batch of grid point `t`. -/
abbrev batch (t : Fin cfg0.N) : Fin 8 := grid0.coords t 1

/-- Each window's block index at each grid point. -/
theorem index0 : ∀ t : Fin cfg0.N, win0_0.index t = ![0, 0] := (by decide +kernel : ∀ t : Fin grid0.N, _)
theorem index1 : ∀ t : Fin cfg0.N, win0_1.index t = ![(batch t).val, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![(batch t).val, 0, 0] := (by decide +kernel : ∀ t : Fin grid0.N, _)
theorem coord0 : ∀ t : Fin cfg0.N, (grid0.coords t 0).val = 0 := (by decide +kernel : ∀ t : Fin grid0.N, _)
theorem batch_onto : ∀ n : Fin 8, ∃ t : Fin cfg0.N, (batch t).val = n.val := (by decide +kernel : ∀ n : Fin 8, ∃ t : Fin grid0.N, (grid0.coords t 1).val = n.val)

/-- The shifts' window holds the whole array. -/
theorem iblk0_eq (c : Dev nD) (t : Fin cfg0.N) : Gen.iblk m c 0 t = shiftOf m c := by
  have e := index0 t
  funext j
  refine congrArg (shiftOf m c) (Shape.idx_ext₂ ?_ ?_)
  · show win0_0.index t (0 : Fin 2) * 8 + 1 * (j 0).val = (j 0).val
    rw [e]; show 0 * 8 + 1 * (j 0).val = (j 0).val; omega
  · show win0_0.index t (1 : Fin 2) * 4 + 1 * (j 1).val = (j 1).val
    rw [e]; show 0 * 4 + 1 * (j 1).val = (j 1).val; omega

/-- The embeddings' window holds the batch's block. -/
theorem iblk1_eq (c : Dev nD) (t : Fin cfg0.N) : Gen.iblk m c 1 t = embBlock (embOf m c) (batch t) := by
  have e := index1 t
  funext j
  refine congrArg (embOf m c) (idx_ext₃ ?_ ?_ ?_)
  · have h : (j 0).val < 1 := (j 0).isLt
    show win0_1.index t (0 : Fin 3) * 1 + 1 * (j 0).val = (batch t).val
    rw [e]; show (batch t).val * 1 + 1 * (j 0).val = (batch t).val; omega
  · show win0_1.index t (1 : Fin 3) * 2048 + 1 * (j 1).val = (j 1).val
    rw [e]; show 0 * 2048 + 1 * (j 1).val = (j 1).val; omega
  · show win0_1.index t (2 : Fin 3) * 1024 + 1 * (j 2).val = (j 2).val
    rw [e]; show 0 * 1024 + 1 * (j 2).val = (j 2).val; omega

/-- The distance table's window holds the whole table. -/
theorem iblk2_eq (c : Dev nD) (t : Fin cfg0.N) : Gen.iblk m c 2 t = dpeOf m c := by
  have e := index2 t
  funext j
  refine congrArg (dpeOf m c) (Shape.idx_ext₂ ?_ ?_)
  · show win0_2.index t (0 : Fin 2) * 5000 + 1 * (j 0).val = (j 0).val
    rw [e]; show 0 * 5000 + 1 * (j 0).val = (j 0).val; omega
  · show win0_2.index t (1 : Fin 2) * 512 + 1 * (j 1).val = (j 1).val
    rw [e]; show 0 * 512 + 1 * (j 1).val = (j 1).val; omega

/-- The absolute encodings' window holds the leading positions'. -/
theorem iblk3_eq (c : Dev nD) (t : Fin cfg0.N) : Gen.X0_3 m c t = apeBlock (apeOf m c) := by
  have e := index3 t
  funext j
  unfold Gen.X0_3 Pipeline.Window.fill
  rw [dif_pos (Gen.moved0_3 t j)]
  refine congrArg (apeOf m c) (idx_ext₃ ?_ ?_ ?_)
  · have h : (j 0).val < 1 := (j 0).isLt
    show win0_3.index t (0 : Fin 3) * 1 + 1 * (j 0).val = 0
    rw [e]; show 0 * 1 + 1 * (j 0).val = 0; omega
  · show win0_3.index t (1 : Fin 3) * 2048 + 1 * (j 1).val = (j 1).val
    rw [e]; show 0 * 2048 + 1 * (j 1).val = (j 1).val; omega
  · show win0_3.index t (2 : Fin 3) * 512 + 1 * (j 2).val = (j 2).val
    rw [e]; show 0 * 512 + 1 * (j 2).val = (j 2).val; omega

/-! ## The proof data -/

/-- What the body leaves in the output's staging buffer at `t`: the batch's block of the result. -/
def outAt (c : Dev nD) (t : Fin cfg0.N) : ShEmb.Idx → F .f32 :=
  block (embOf m c) (shiftOf m c) (dpeOf m c) (apeOf m c) (batch t)

/-- The arrays as launched; each input window left as found, the output's at its block of the result. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.X0_3 m c t
    | ⟨4, _⟩ => outAt m c t
  Φ _ := Pipeline.ΦA spec0 c
  q _ := fullShare
  owed _ := 0

theorem after_0 (c : Dev nD) (t : Fin cfg0.N) : (dats m 0 c).after 0 t = Gen.iblk m c 0 t := by dsimp only [dats]
theorem after_1 (c : Dev nD) (t : Fin cfg0.N) : (dats m 0 c).after 1 t = Gen.iblk m c 1 t := by dsimp only [dats]
theorem after_2 (c : Dev nD) (t : Fin cfg0.N) : (dats m 0 c).after 2 t = Gen.iblk m c 2 t := by dsimp only [dats]
theorem after_3 (c : Dev nD) (t : Fin cfg0.N) : (dats m 0 c).after 3 t = Gen.X0_3 m c t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = Gen.iblk m c 0 t :=
  Gen.before0_0_of m (dats m 0 c) rfl (after_0 m c) t d
theorem before_1 (c : Dev nD) (t : Fin cfg0.N) (d) : (dats m 0 c).before 1 t d = Gen.iblk m c 1 t :=
  Gen.before0_1_of m (dats m 0 c) rfl (after_1 m c) t d
theorem before_2 (c : Dev nD) (t : Fin cfg0.N) (d) : (dats m 0 c).before 2 t d = Gen.iblk m c 2 t :=
  Gen.before0_2_of m (dats m 0 c) rfl (after_2 m c) t d
theorem before_3 (c : Dev nD) (t : Fin cfg0.N) (d) : (dats m 0 c).before 3 t d = Gen.X0_3 m c t :=
  Gen.before0_3_of m (dats m 0 c) rfl (after_3 m c) t d

/-! ## The body -/

/-- The body's buffers at `t`, with the contents of the four it only reads. -/
def env (c : Dev nD) (t : Fin cfg0.N) : Env F sig where
  a2 := Gen.st0_0 t
  a3 := Gen.st0_1 t
  a4 := Gen.st0_2 t
  a5 := Gen.st0_3 t
  a6 := Gen.st0_4 t
  shift := shiftOf m c
  emb := embBlock (embOf m c) (batch t)
  dpe := dpeOf m c
  ape := apeBlock (apeOf m c)

/-- The body's assumptions hold at every point. -/
theorem env_ctx (c : Dev nD) (h : InRange (shiftOf m c)) (t : Fin cfg0.N) :
    BodyCtx (env m c t) (grid0.coords t) (word (shiftOf m c) (batch t) 0) (word (shiftOf m c) (batch t) 1)
      (word (shiftOf m c) (batch t) 2) (word (shiftOf m c) (batch t) 3) where
  hb := by rw [coord0 t]
  hg := by
    have hn : (grid0.coords t 1).val < 8 := (grid0.coords t 1).isLt
    rw [BitVec.toNat_ofNat]
    exact Nat.mod_eq_of_lt (by omega)
  sm := h.small _
  hw := pick_word _ _

/-- The body at `t`: from the four inputs' blocks and the output's buffer at anything, to the batch's block of the result. -/
theorem body_triple (𝒱₀ : Variants) (c : Dev nD) (h : InRange (shiftOf m c)) (t : Fin cfg0.N) (X : ShEmb.Idx → Elt F .f32) :
    held (UR sig nD τ) (env m c t) c X ⊢ wp frame (wpE (Ix := Unit) (Name := ℕ) (U := UR sig nD τ) (Lvl := ℕ) (defs₀ (F := F)) 𝒱₀ (c : Thread nD τ) none) Set.univ
      (Gen.bodyAt0 t) fun _ => held (UR sig nD τ) (env m c t) c (outAt m c t) := by
  have hrun := body_runs (U := UR sig nD τ) (𝓔 := env m c t) (i := grid0.coords t) (𝒱 := 𝒱₀) (c := c)
    (Gen.hstage0_0 ((cfg0.slots t 0).cast Gen.nbuf0_0)) (Gen.hstage0_1 ((cfg0.slots t 1).cast Gen.nbuf0_1)) (Gen.hstage0_2 ((cfg0.slots t 2).cast Gen.nbuf0_2))
    (Gen.hstage0_3 ((cfg0.slots t 3).cast Gen.nbuf0_3)) (Gen.hstage0_4 ((cfg0.slots t 4).cast Gen.nbuf0_4)) X (env_ctx m c h t)
  refine hrun _ fun _ X' hX' => ?_
  rw [show X' = outAt m c t from funext fun x => hX' x (x 1).isLt]

/-- The body table's row at the slots is the body. -/
theorem defs₀_row (t : Fin cfg0.N) : defs₀ (F := F) .tc cfg0.body (cfg0.bodyArgs t (cfg0.slots t)) = Gen.bodyAt0 t := by
  unfold defs₀; rw [Defs.onTc_tc]

set_option backward.isDefEq.respectTransparency.types false in
/-- The library's obligation: at every point the body takes the windows' buffers from before to after. -/
theorem body_obligation (h : ∀ c, InRange (shiftOf m c)) (𝒱₀ : Variants) (c : Dev nD) :
    BodyObligation (dats (F := F) m 0 c) (defs₀ (F := F)) 𝒱₀ () Set.univ := fun t => by
  rw [Gen.bigSep_W0, Gen.bigSep_W0]
  dsimp only
  simp only [before_0, before_1, before_2, before_3, after_0, after_1, after_2, after_3, after_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  rw [iblk0_eq, iblk1_eq, iblk2_eq, iblk3_eq]
  iintro ⟨HΦ, Ho, ⟨%d0, H0⟩, ⟨%d1, H1⟩, ⟨%d2, H2⟩, ⟨%d3, H3⟩, ⟨%d4, H4⟩⟩
  sl_rw [defs₀_row t]
  iapply wp_wand_r
  isplitl [H0 H1 H2 H3 H4]
  · iapply (body_triple m 𝒱₀ c (h c) t ((dats m 0 c).before 4 t d4))
    unfold held
    isplitl [H0]; · iexact H0
    isplitl [H1]; · iexact H1
    isplitl [H2]; · iexact H2
    isplitl [H3]; · iexact H3
    iexact H4
  · unfold held
    iintro %a ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-! ## The run -/

set_option backward.isDefEq.respectTransparency.types false in
/-- Every execution ends, with the arrays as the proof data compute them and every semaphore counter at zero. -/
theorem run_main (h : ∀ c, InRange (shiftOf m c)) : θ_run defs (onTc (τ := τ) (main (F := F))) (s₀ m ρ)
    (fun r => (Pipeline.FramePost cfgs (dats m) 0 (Gen.V m)) r ∧ r.2.sem = fun _ => 0) :=
  Pipeline.θ_run_frame (Q' := _) cfgs (dats m) (0 : Fin 1) Gen.launch0 defs₀ Variants.none m ρ main
    (hbody := fun c => (body_obligation m h Variants.none c).loose) (hshare := fun c => (dats m 0 c).share_full fun _ => rfl)
    (howed := fun _ _ => rfl) (V := Gen.V m) (hmain := Gen.hmain m Variants.none) (hA := fun _ _ => rfl) (hΦ := fun _ _ => rfl)

/-- An index of the output's block at `t` as an index of the result array. -/
theorem emb4 (t : Fin cfg0.N) (j : ShEmb.Idx) : ((cfg0.win 4).blk t).view.emb j = PE.ix3 (batch t) (j 1) (j 2) := by
  have e := index4 t
  refine idx_ext₃ ?_ ?_ ?_
  · have h : (j 0).val < 1 := (j 0).isLt
    show win0_4.index t (0 : Fin 3) * 1 + 1 * (j 0).val = (batch t).val
    rw [e]; show (batch t).val * 1 + 1 * (j 0).val = (batch t).val; omega
  · show win0_4.index t (1 : Fin 3) * 2048 + 1 * (j 1).val = (j 1).val
    rw [e]; show 0 * 2048 + 1 * (j 1).val = (j 1).val; omega
  · show win0_4.index t (2 : Fin 3) * 1024 + 1 * (j 2).val = (j 2).val
    rw [e]; show 0 * 1024 + 1 * (j 2).val = (j 2).val; omega

/-- The result array as a function of the arguments. -/
abbrev resultOf (c : Dev nD) : ShEmbs.Idx → F .f32 := G (embOf m c) (shiftOf m c) (dpeOf m c) (apeOf m c)

/-- What a point writes back is its block of the result. -/
theorem flushed4_eq (c : Dev nD) (t : Fin cfg0.N) :
    (dats m 0 c).flushed 4 t = ((cfg0.win 4).blk t).view.read (Elt F) (resultOf m c) := by
  funext j
  show outAt m c t j = resultOf m c (((cfg0.win 4).blk t).view.emb j)
  rw [emb4]
  show outAt m c t j = outAt m c t (PE.ix3 0 (j 1) (j 2))
  rw [ix3_block]

/-- Every index of the result array is in some point's block. -/
theorem covered4 (y : ShEmbs.Idx) : ∃ t : Fin cfg0.N, (cfg0.win 4).flush t = true ∧ y ∈ ((cfg0.win 4).blk t).view.set := by
  obtain ⟨t, ht⟩ := batch_onto (y 0)
  refine ⟨t, Gen.flush0_4 t, ?_⟩
  have h := ((cfg0.win 4).blk t).view.emb_mem_set (PE.ix3 0 (y 1) (y 2) : ShEmb.Idx)
  rw [emb4] at h
  have e : PE.ix3 (batch t) ((PE.ix3 0 (y 1) (y 2) : ShEmb.Idx) 1) ((PE.ix3 0 (y 1) (y 2) : ShEmb.Idx) 2) = y := idx_ext₃ ht rfl rfl
  rwa [e] at h

/-- The result array after the run. -/
theorem final4 (c : Dev nD) : (dats m 0 c).arrAt 4 cfg0.N = resultOf m c :=
  (dats m 0 c).arrAt_eq_of_cover 4 (resultOf m c) (fun t _ => flushed4_eq m c t) covered4

/-- Every execution ends, with the result as a function of the arguments, the arguments as they were and every semaphore
    counter at zero. -/
theorem run (h : ∀ c, InRange (shiftOf m c)) : θ_run defs (onTc (τ := τ) (main (F := F))) ⟨m, fun _ => 0, ρ⟩ (fun r =>
    (∀ c : Dev nD, r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r (h : _ ∧ _) => ⟨fun c => ⟨((h.1 c).1 4).trans (final4 m c),
      ((h.1 c).1 1).trans (((dats m 0 c).arrAt_in 1 rfl _).trans (Gen.V_main_arg0 m c)),
      ((h.1 c).1 0).trans (((dats m 0 c).arrAt_in 0 rfl _).trans (Gen.V_main_arg1 m c)),
      ((h.1 c).1 2).trans (((dats m 0 c).arrAt_in 2 rfl _).trans (Gen.V_main_arg2 m c)),
      ((h.1 c).1 3).trans (((dats m 0 c).arrAt_in 3 rfl _).trans (Gen.V_main_arg3 m c))⟩, h.2⟩) (run_main m ρ h)

end Cert.KernelIdeal.Run

end
-- ==== Proof.Gathers.lean ====
/- The reference's two gathers, read at an index: the shift of a position's segment, and the table row of a position. -/
module

public import proofs.«01_k».proof.Proof.Result
public import proofs.«01_k».proof.Proof.Gen.ReferenceIdeal.Run

@[expose] public section

noncomputable section

namespace Cert.PE

open Cert.ReferenceIdeal Cert.ReferenceIdeal.Gen Idealize.ShloMosaic

/-- A small word, read signed and clamped below a bound it is under, is its number. -/
theorem clamp_word {k n : ℕ} (hk : k ≤ n) (hn : n < 2 ^ 31) : min (BitVec.ofNat 32 k).toInt.toNat n = k := by
  rw [WordCmp.toInt_ofNat_of_lt (w := 32) (by omega), Int.toNat_natCast]
  omega

/-- The place of batch `n` and position `p` in the arrays that hold a number of each. -/
def place (n : Fin 8) (p : Fin 2048) : S8x2048x1.Idx := PE.ix3 n p 0

/-- The gather of the shifts takes, of the batch of `y`, the shift whose number stands at the place of `y`. -/
theorem gather_shift (x : ShShift.Idx → BitVec 32) (idx : S8x2048x1.Idx → BitVec 32) (y : S8x2048.Idx) {k : ℕ} (hk : k < 4)
    (he : idx (place (y 0) (y 1)) = BitVec.ofNat 32 k) :
    Host.gather gather_S8x4_S8x2048x1_S8x2048_n_1_0_0_1_2_11 x idx y = x (Shape.pair (d := ![8, 4]) (y 0) ⟨k, hk⟩) := by
  let d := gather_S8x4_S8x2048x1_S8x2048_n_1_0_0_1_2_11
  unfold Host.gather
  congr 1
  funext a
  refine Fin.ext ?_
  show d.start y idx a + d.batchCoord y a + d.offCoord y a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx y ⟨List.idxOf (1 : Fin 2) d.startIndexMap,
        List.idxOf_lt_length_iff.2 (List.mem_singleton.mpr rfl)⟩ = place (y 0) (y 1) := by
      funext b; refine Fin.ext ?_
      match b with
      | ⟨0, _⟩ => rfl
      | ⟨1, _⟩ => rfl
      | ⟨2, _⟩ => rfl
    exact (congrArg (fun w : BitVec 32 => min w.toInt.toNat 3) ((congrArg idx hsi).trans he)).trans
      (clamp_word (by omega) (by omega))

/-- The gather of the table takes, at depth `y 2`, the row whose number stands at the place of `y`. -/
theorem gather_rows {α : Type} (x : ShDpe.Idx → α) (idx : S8x2048x1.Idx → BitVec 32) (y : S8x2048x512.Idx) {k : ℕ}
    (hk : k < 5000) (he : idx (place (y 0) (y 1)) = BitVec.ofNat 32 k) :
    Host.gather gather_S5000x512_S8x2048x1_S8x2048x512_2_0_n_n_0_2_1512 x idx y
      = x (Shape.pair (d := ![5000, 512]) ⟨k, hk⟩ (y 2)) := by
  let d := gather_S5000x512_S8x2048x1_S8x2048x512_2_0_n_n_0_2_1512
  unfold Host.gather
  congr 1
  funext a
  refine Fin.ext ?_
  show d.start y idx a + d.batchCoord y a + d.offCoord y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => absurd h List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx y ⟨List.idxOf (0 : Fin 2) d.startIndexMap,
        List.idxOf_lt_length_iff.2 (List.mem_singleton.mpr rfl)⟩ = place (y 0) (y 1) := by
      funext b; refine Fin.ext ?_
      match b with
      | ⟨0, _⟩ => rfl
      | ⟨1, _⟩ => rfl
      | ⟨2, _⟩ => rfl
    exact (congrArg (fun w : BitVec 32 => min w.toInt.toNat 4999) ((congrArg idx hsi).trans he)).trans
      (clamp_word (by omega) (by omega))
  · rw [GatherDims.batchCoord_eq_zero _ _ _ (fun h => absurd h List.not_mem_nil)]
    unfold GatherDims.start
    rw [dif_neg (show (1 : Fin 2) ∉ d.startIndexMap from fun h => absurd (List.mem_singleton.mp h) (by decide))]
    simp only [Nat.zero_add, Nat.add_zero]
    unfold GatherDims.offCoord
    rw [dif_pos (show (1 : Fin 2) ∈ d.sKept from (GatherDims.mem_sKept _ _).mpr
      ⟨fun h => absurd (List.mem_singleton.mp h) (by decide), List.not_mem_nil⟩)]
    rfl

end Cert.PE

end
-- ==== Proof.RefWords.lean ====
/- The words and the masks of the reference, read as natural numbers. -/
module

public import proofs.«01_k».proof.Proof.Gathers
public import proofs.«01_k».proof.Proof.Range

@[expose] public section

noncomputable section

namespace Cert.PE

open Cert.ReferenceIdeal Cert.ReferenceIdeal.Gen Idealize.ShloMosaic

/-- The sign of a word as the reference takes it. -/
def sgnR (x : BitVec 32) : BitVec 32 := if x = 0 then 0 else if x.msb then -1 else 1

/-- The reference's floor of half a word, plus one: the truncating quotient by two, corrected where the signs differ and
the remainder is not zero. -/
def midR (x : BitVec 32) : BitVec 32 :=
  IntOp.addi (Scalar.select
    (IntOp.andi (IntOp.cmpi .ne (sgnR x) (sgnR 2#32)) (IntOp.cmpi .ne (IntOp.remsi .host x 2#32) 0#32))
    (IntOp.subi (IntOp.divsi .host x 2#32) 1#32) (IntOp.divsi .host x 2#32)) 1#32

/-- Of a small word it is half its number, plus one. -/
theorem midR_word {a : ℕ} (ha : a < 2 ^ 31) : midR (BitVec.ofNat 32 a) = BitVec.ofNat 32 (a / 2 + 1) := by
  have hsel : IntOp.andi (IntOp.cmpi .ne (sgnR (BitVec.ofNat 32 a)) (sgnR 2#32))
      (IntOp.cmpi .ne (BitVec.ofNat 32 (a % 2)) 0#32) = 0#1 := by
    by_cases h0 : a = 0
    · subst h0; decide
    · have h1 : sgnR (BitVec.ofNat 32 a) = 1#32 := by
        have hne : BitVec.ofNat 32 a ≠ 0 := fun e => h0 ((word_inj (b := 0) (by omega) (by omega)).mp e)
        unfold sgnR
        rw [if_neg hne, if_neg]
        · rfl
        · rw [BitVec.msb_eq_decide, BitVec.toNat_ofNat, Nat.mod_eq_of_lt (by omega)]
          simp only [decide_eq_true_eq]; omega
      have h2 : IntOp.cmpi .ne (1#32) (sgnR 2#32) = 0#1 := by decide
      rw [h1, h2]
      generalize IntOp.cmpi .ne (BitVec.ofNat 32 (a % 2)) 0#32 = c
      revert c; decide
  have hr := Routing.remsi_word .host (a := a) (b := 2) ha (by omega) (by omega)
  have hd := Routing.divsi_word .host (a := a) (b := 2) ha (by omega) (by omega)
  unfold midR
  rw [hr, hd, hsel]
  exact addi_word _ 1

/-- A bit that says a small word is at most another, widened. -/
theorem sle_word {a b : ℕ} (ha : a < 2 ^ 31) (hb : b < 2 ^ 31) :
    (IntOp.cmpi .sle (BitVec.ofNat 32 a) (BitVec.ofNat 32 b)).setWidth 32 = BitVec.ofNat 32 (if a ≤ b then 1 else 0) :=
  cmpi_sge_word hb ha

/-- A small word is not negative. -/
theorem not_neg_word {a : ℕ} (ha : a < 2 ^ 31) : IntOp.cmpi .slt (BitVec.ofNat 32 a) 0#32 = 0#1 := by
  have h : IntOp.cmpi .slt (BitVec.ofNat 32 a) 0#32 = BitVec.ofBool (decide (a < 0)) :=
    WordCmp.cmpi_slt_ofNat (w := 32) (by omega) (by omega)
  rw [h, decide_eq_false (Nat.not_lt_zero a)]; rfl

/-- So the reference, which adds an array's length to a negative position, leaves a small one as it is. -/
theorem wrap_word {a : ℕ} (ha : a < 2 ^ 31) (z : BitVec 32) :
    Scalar.select (IntOp.cmpi .slt (BitVec.ofNat 32 a) 0#32) z (BitVec.ofNat 32 a) = BitVec.ofNat 32 a := by
  rw [not_neg_word ha]; rfl

/-- A small word under a bound is between zero and the bound. -/
theorem between_word {a b : ℕ} (hab : a ≤ b) (hb : b < 2 ^ 31) :
    IntOp.andi (IntOp.cmpi .sge (BitVec.ofNat 32 a) 0#32) (IntOp.cmpi .sle (BitVec.ofNat 32 a) (BitVec.ofNat 32 b)) = 1#1 := by
  have h0 : IntOp.cmpi .sge (BitVec.ofNat 32 a) 0#32 = BitVec.ofBool (decide (0 ≤ a)) :=
    WordCmp.cmpi_sge_ofNat (w := 32) (by omega) (by omega)
  have h1 : IntOp.cmpi .sle (BitVec.ofNat 32 a) (BitVec.ofNat 32 b) = BitVec.ofBool (decide (a ≤ b)) :=
    WordCmp.cmpi_sge_ofNat (w := 32) (by omega) (by omega)
  rw [h0, h1, decide_eq_true (Nat.zero_le a), decide_eq_true hab]; rfl

/-- The reference's mask of the positions inside an array is set where the position is a small word under the bound. -/
theorem mask_one (X Z B : S8x2048x1.Idx → BitVec 32) (y : S8x2048.Idx) {k b : ℕ} (hX : X (place (y 0) (y 1)) = BitVec.ofNat 32 k)
    (hZ : Z (place (y 0) (y 1)) = 0#32) (hB : B (place (y 0) (y 1)) = BitVec.ofNat 32 b) (hk : k ≤ b) (hb : b < 2 ^ 31) :
    Host.reduce IntOp.andi (andi (cmpi .sge X Z) (cmpi .sle X B)) (constantI S_ 1 1#1) reducesTo_S8x2048x1_S8x2048_d2 h_S_ y
      = 1#1 := by
  refine (reduce_andi_one _ _ _ _).mpr fun i hi => ?_
  have hi' : i = place (y 0) (y 1) := by
    subst hi
    refine idx_ext₃ ?_ ?_ ?_
    · exact (Shape.ReducesTo.drop_apply_val reducesTo_S8x2048x1_S8x2048_d2 i 0).symm
    · exact (Shape.ReducesTo.drop_apply_val reducesTo_S8x2048x1_S8x2048_d2 i 1).symm
    · have h2 : (i 2).val < 1 := (i 2).isLt
      show (i 2).val = 0
      omega
  subst hi'
  show IntOp.andi (IntOp.cmpi .sge (X _) (Z _)) (IntOp.cmpi .sle (X _) (B _)) = 1#1
  rw [hX, hZ, hB]
  exact between_word hk hb

end Cert.PE

end
-- ==== Proof.Reference.lean ====
/- The reference's result array is the same function of its arguments as the kernel's (`run`), where every shift is in range:
its boundaries, its segments, its two gathers and its sum are read at an index, one after another. -/
module

public import proofs.«01_k».proof.Proof.RefWords
public import Idealize.ShloMosaic.Lib.Pipeline.Value
public import Idealize.ShloMosaic.Lib.Quiescent

@[expose] public section

noncomputable section

namespace Cert.PE.Reference

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

variable {F : FTy → Type} [FloatOps F] (V0 : Valuation τ sig (Elt F))

/-- A selection whose bit is set. -/
theorem select_set {α : Type} {c : BitVec 1} (h : c = 1#1) (a b : α) : Scalar.select c a b = a := if_pos h

/-- The shifts of a memory. -/
abbrev shiftV : ShShift.Idx → BitVec 32 := V0 (Proc.devRef .tc main_arg1)

/-- The segment of position `p` of batch `n`. -/
abbrev segV (n : Fin 8) (p : ℕ) : ℕ :=
  seg (word (shiftV V0) n 0) (word (shiftV V0) n 1) (word (shiftV V0) n 2) (word (shiftV V0) n 3) p

/-- The reference's boundaries, three of each batch. -/
def mids : S8x3.Idx → BitVec 32 :=
  addi (select (andi (cmpi .ne (signi (res_main_v2 V0)) (broadcastInDim S8x3 ![] bcast_S_S8x3 (signi (res_main_call0_v0 V0))))
    (cmpi .ne (Host.remsi (res_main_v2 V0) (broadcastInDim S8x3 ![] bcast_S_S8x3 (res_main_call0_v0 V0)))
      (broadcastInDim S8x3 ![] bcast_S_S8x3 (constantI S_ 32 0#32))))
    (subi (res_main_call0_v2 V0) (broadcastInDim S8x3 ![] bcast_S_S8x3 (constantI S_ 32 1#32))) (res_main_call0_v2 V0))
    (broadcastInDim S8x3 ![] bcast_S_S8x3 (constantI S_ 32 1#32))

/-- A boundary is the midpoint of two neighbouring shifts, plus one. -/
theorem mids_at (h : InRange (shiftV V0)) (n : Fin 8) (k : Fin 3) :
    mids V0 (ix2 n k)
      = BitVec.ofNat 32 (midN (word (shiftV V0) n ⟨k.val, by omega⟩).toNat (word (shiftV V0) n ⟨k.val + 1, by omega⟩).toNat) := by
  have h0 : (word (shiftV V0) n ⟨k.val, by omega⟩).toNat < 2048 := h _
  have h1 : (word (shiftV V0) n ⟨k.val + 1, by omega⟩).toNat < 2048 := h _
  have e2 : res_main_v2 V0 (ix2 n k)
      = BitVec.ofNat 32 ((word (shiftV V0) n ⟨k.val, by omega⟩).toNat + (word (shiftV V0) n ⟨k.val + 1, by omega⟩).toNat) := by
    have i0 : extractStridedSlice S8x3 ![0, 0] (shiftV V0) slices_S8x4_S8x3_0_0 (ix2 n k) = word (shiftV V0) n ⟨k.val, by omega⟩ :=
      congrArg (shiftV V0) (funext fun a => Fin.ext (match a with | ⟨0, _⟩ => Nat.zero_add _ | ⟨1, _⟩ => Nat.zero_add _))
    have i1 : extractStridedSlice S8x3 ![0, 1] (shiftV V0) slices_S8x4_S8x3_0_1 (ix2 n k) = word (shiftV V0) n ⟨k.val + 1, by omega⟩ :=
      congrArg (shiftV V0) (funext fun a => Fin.ext (match a with | ⟨0, _⟩ => Nat.zero_add _ | ⟨1, _⟩ => Nat.add_comm _ _))
    show IntOp.addi (extractStridedSlice S8x3 ![0, 1] (shiftV V0) slices_S8x4_S8x3_0_1 (ix2 n k))
      (extractStridedSlice S8x3 ![0, 0] (shiftV V0) slices_S8x4_S8x3_0_0 (ix2 n k)) = _
    rw [i0, i1, eq_word (word (shiftV V0) n ⟨k.val + 1, by omega⟩), eq_word (word (shiftV V0) n ⟨k.val, by omega⟩)]
    refine (addi_word _ _).trans ?_
    simp only [BitVec.ofNat_toNat, BitVec.setWidth_eq]
    rw [Nat.add_comm]
  show midR (res_main_v2 V0 (ix2 n k)) = _
  rw [e2, midR_word (by omega)]
  rfl

/-- What the reference adds up over the boundaries: one where the boundary is at or below the position. -/
def past : S8x2048x3.Idx → BitVec 32 :=
  extui 32 (cmpi .sle (broadcastInDim S8x2048x3 ![0, 1, 2] bcast_S8x1x3_S8x2048x3_0_1_2
      (broadcastInDim S8x1x3 ![0, 2] bcast_S8x3_S8x1x3_0_2 (mids V0)))
    (broadcastInDim S8x2048x3 ![0, 1, 2] bcast_S1x2048x1_S8x2048x3_0_1_2
      (broadcastInDim S1x2048x1 ![1] bcast_S2048_S1x2048x1_1 (res_main_v6 V0)))) natLt_1_32

theorem past_at (h : InRange (shiftV V0)) (n : Fin 8) (p : Fin 2048) (k : Fin 3) :
    past V0 (PE.ix3 n p k) = BitVec.ofNat 32 (if midN (word (shiftV V0) n ⟨k.val, by omega⟩).toNat
      (word (shiftV V0) n ⟨k.val + 1, by omega⟩).toNat ≤ p.val then 1 else 0) := by
  have h0 : (word (shiftV V0) n ⟨k.val, by omega⟩).toNat < 2048 := h _
  have h1 : (word (shiftV V0) n ⟨k.val + 1, by omega⟩).toNat < 2048 := h _
  have hm : broadcastInDim S8x2048x3 ![0, 1, 2] bcast_S8x1x3_S8x2048x3_0_1_2
      (broadcastInDim S8x1x3 ![0, 2] bcast_S8x3_S8x1x3_0_2 (mids V0)) (PE.ix3 n p k) = mids V0 (ix2 n k) :=
    congrArg (mids V0) (funext fun a => Fin.ext (match a with | ⟨0, _⟩ => rfl | ⟨1, _⟩ => rfl))
  show (IntOp.cmpi .sle (broadcastInDim S8x2048x3 ![0, 1, 2] bcast_S8x1x3_S8x2048x3_0_1_2
      (broadcastInDim S8x1x3 ![0, 2] bcast_S8x3_S8x1x3_0_2 (mids V0)) (PE.ix3 n p k)) (BitVec.ofNat 32 p.val)).setWidth 32 = _
  rw [hm, mids_at V0 h]
  have hp := p.isLt
  refine sle_word ?_ (by omega)
  unfold midN
  omega

/-- Their sum is the segment. -/
theorem v13_at (h : InRange (shiftV V0)) (n : Fin 8) (p : Fin 2048) :
    res_main_v13 V0 (ix2 n p) = BitVec.ofNat 32 (segV V0 n p.val) := by
  have hR : S8x2048x3.Reduces [2] S8x2048 := by decide
  have e : res_main_v13 V0 (ix2 n p) = (Finset.univ : Finset (Fin 3)).fold IntOp.addi 0#32 fun k => past V0 (PE.ix3 n p k) := by
    refine (Host.reduce_eq_fold_single IntOp.addi (past V0) _ reducesTo_S8x2048x3_S8x2048_d2 hR h_S_ _).trans ?_
    refine congrArg (fun f => (Finset.univ : Finset (Fin 3)).fold IntOp.addi 0#32 f) (funext fun k => ?_)
    refine congrArg (past V0) (idx_ext₃ ?_ ?_ ?_) <;> rfl
  rw [e]
  show IntOp.addi (past V0 (PE.ix3 n p 0)) (IntOp.addi (past V0 (PE.ix3 n p 1)) (IntOp.addi (past V0 (PE.ix3 n p 2)) 0#32)) = _
  rw [past_at V0 h, past_at V0 h, past_at V0 h]
  refine (congrArg _ ((congrArg _ (addi_word _ 0)).trans (addi_word _ _))).trans ((addi_word _ _).trans ?_)
  exact congrArg (BitVec.ofNat 32) (Nat.add_assoc _ _ _).symm

theorem segV_lt (n : Fin 8) (p : ℕ) : segV V0 n p < 4 := segN_lt _ _ _ _ _

/-- The positions the shifts are gathered at are the segments. -/
theorem call1_at (h : InRange (shiftV V0)) (n : Fin 8) (p : Fin 2048) :
    res_main_call1_v5 V0 (place n p) = BitVec.ofNat 32 (segV V0 n p.val) := by
  unfold res_main_call1_v5
  refine (shapeCast_apply _ shapeCasts_S8x2048_S8x2048x1 (place n p) (ix2 n p) (by
    rw [Shape.rowMajor_val_two, Shape.rowMajor_val_three]
    show n.val * 2048 + p.val = (n.val * 2048 + p.val) * 1 + 0
    omega)).trans ?_
  show Scalar.select (IntOp.cmpi .slt (res_main_v13 V0 (ix2 n p)) 0#32) (IntOp.addi (res_main_v13 V0 (ix2 n p)) 4#32)
    (res_main_v13 V0 (ix2 n p)) = _
  have hs := segV_lt V0 n p.val
  rw [v13_at V0 h, wrap_word (by omega)]

/-- The shift of position `p` of batch `n`. -/
abbrev shiftAt (n : Fin 8) (p : ℕ) : BitVec 32 :=
  pick (word (shiftV V0) n 0) (word (shiftV V0) n 1) (word (shiftV V0) n 2) (word (shiftV V0) n 3) (segV V0 n p)

/-- The table row of a position is the position from 2500 on, minus its segment's shift. -/
theorem v19_at (h : InRange (shiftV V0)) (n : Fin 8) (p : Fin 2048) :
    res_main_v19 V0 (ix2 n p) = BitVec.ofNat 32 (2500 + p.val - (shiftAt V0 n p.val).toNat) := by
  have hs := segV_lt V0 n p.val
  have hm := mask_one (res_main_call1_v5 V0) (broadcastInDim S8x2048x1 ![] bcast_S_S8x2048x1 (constantI S_ 32 0#32))
    (broadcastInDim S8x2048x1 ![0, 1, 2] bcast_S1x1x1_S8x2048x1_0_1_2 (broadcastInDim S1x1x1 ![2] bcast_S1_S1x1x1_2 (constantI S1 32 3#32)))
    (ix2 n p) (b := 3) (call1_at V0 h n p) rfl rfl (by omega) (by omega)
  have hg := (gather_shift (shiftV V0) (res_main_call1_v5 V0) (ix2 n p) hs (call1_at V0 h n p)).trans
    (pick_word (shiftV V0) n ⟨segV V0 n p.val, hs⟩)
  have hb : broadcastInDim S8x2048 ![0, 1] bcast_S1x2048_S8x2048_0_1 (addi (broadcastInDim S1x2048 ![] bcast_S_S1x2048
      (constantI S_ 32 2500#32)) (broadcastInDim S1x2048 ![1] bcast_S2048_S1x2048_1 (res_main_v6 V0))) (ix2 n p)
      = BitVec.ofNat 32 (2500 + p.val) := addi_word 2500 p.val
  unfold res_main_v19
  refine (congrArg₂ IntOp.subi hb ((select_set hm _ _).trans hg)).trans ?_
  have h1 : (shiftAt V0 n p.val).toNat < 2048 := (h.small n).pick _
  have hp := p.isLt
  refine (congrArg (IntOp.subi _) (eq_word (shiftAt V0 n p.val))).trans (subi_word ?_ ?_) <;> omega

/-- The positions the table is gathered at are those rows. -/
theorem call2_at (h : InRange (shiftV V0)) (n : Fin 8) (p : Fin 2048) :
    res_main_call2_v5 V0 (place n p) = BitVec.ofNat 32 (2500 + p.val - (shiftAt V0 n p.val).toNat) := by
  unfold res_main_call2_v5
  rw [broadcastInDim_apply ![0, 1] bcast_S8x2048_S8x2048x1_0_1 _ (place n p) (ix2 n p) (fun a => by
    match a with
    | ⟨0, _⟩ => rfl
    | ⟨1, _⟩ => rfl)]
  show Scalar.select (IntOp.cmpi .slt (res_main_v19 V0 (ix2 n p)) 0#32) (IntOp.addi (res_main_v19 V0 (ix2 n p)) 5000#32)
    (res_main_v19 V0 (ix2 n p)) = _
  have hp := p.isLt
  rw [v19_at V0 h, wrap_word (by omega)]

/-- The reference's left half: the table rows, where the mask is set. -/
def leftV : S8x2048x512.Idx → F .f32 :=
  select (broadcastInDim S8x2048x512 ![0, 1] bcast_S8x2048_S8x2048x512_0_1 (Host.reduce IntOp.andi
      (andi (cmpi .sge (res_main_call2_v5 V0) (broadcastInDim S8x2048x1 ![] bcast_S_S8x2048x1 (constantI S_ 32 0#32)))
        (cmpi .sle (res_main_call2_v5 V0) (broadcastInDim S8x2048x1 ![0, 1, 2] bcast_S1x1x1_S8x2048x1_0_1_2
          (broadcastInDim S1x1x1 ![2] bcast_S1_S1x1x1_2 (constantI S1 32 4999#32)))))
      (constantI S_ 1 1#1) reducesTo_S8x2048x1_S8x2048_d2 h_S_))
    (Host.gather gather_S5000x512_S8x2048x1_S8x2048x512_2_0_n_n_0_2_1512 (V0 (Proc.devRef .tc main_arg2)) (res_main_call2_v5 V0))
    (broadcastInDim S8x2048x512 ![] bcast_S_S8x2048x512 (constant S_ .f32 0x7FC00000#32))

theorem leftV_at (h : InRange (shiftV V0)) (n : Fin 8) (p : Fin 2048) (d : Fin 512) :
    leftV V0 (PE.ix3 n p d) = (V0 (Proc.devRef .tc main_arg2) : ShDpe.Idx → F .f32) (Shape.pair (d := ![5000, 512])
      (Fin.ofNat 5000 (2500 + p.val - (shiftAt V0 n p.val).toNat)) d) := by
  have hp := p.isLt
  have hr : 2500 + p.val - (shiftAt V0 n p.val).toNat < 5000 := by omega
  have hm := mask_one (res_main_call2_v5 V0) (broadcastInDim S8x2048x1 ![] bcast_S_S8x2048x1 (constantI S_ 32 0#32))
    (broadcastInDim S8x2048x1 ![0, 1, 2] bcast_S1x1x1_S8x2048x1_0_1_2
      (broadcastInDim S1x1x1 ![2] bcast_S1_S1x1x1_2 (constantI S1 32 4999#32)))
    (ix2 n p) (b := 4999) (call2_at V0 h n p) rfl rfl (by omega) (by omega)
  have hb := (broadcastInDim_apply ![0, 1] bcast_S8x2048_S8x2048x512_0_1 (Host.reduce IntOp.andi
      (andi (cmpi .sge (res_main_call2_v5 V0) (broadcastInDim S8x2048x1 ![] bcast_S_S8x2048x1 (constantI S_ 32 0#32)))
        (cmpi .sle (res_main_call2_v5 V0) (broadcastInDim S8x2048x1 ![0, 1, 2] bcast_S1x1x1_S8x2048x1_0_1_2
          (broadcastInDim S1x1x1 ![2] bcast_S1_S1x1x1_2 (constantI S1 32 4999#32)))))
      (constantI S_ 1 1#1) reducesTo_S8x2048x1_S8x2048_d2 h_S_) (PE.ix3 n p d : S8x2048x512.Idx) (ix2 n p) (fun a => by
    match a with
    | ⟨0, _⟩ => rfl
    | ⟨1, _⟩ => rfl)).trans hm
  have hg := gather_rows (V0 (Proc.devRef .tc main_arg2) : ShDpe.Idx → F .f32) (res_main_call2_v5 V0) (PE.ix3 n p d) hr (call2_at V0 h n p)
  unfold leftV
  refine ((select_set hb _ _).trans hg).trans ?_
  refine congrArg (fun r : Fin 5000 => (V0 (Proc.devRef .tc main_arg2) : ShDpe.Idx → F .f32) (Shape.pair (d := ![5000, 512]) r d)) (Fin.ext ?_)
  exact (Nat.mod_eq_of_lt hr).symm

/-- The reference's right half: the other table's leading rows, the same of every batch. -/
def rightV : S8x2048x512.Idx → F .f32 :=
  broadcastInDim S8x2048x512 ![0, 1, 2] bcast_S1x2048x512_S8x2048x512_0_1_2
    (extractStridedSlice S1x2048x512 ![0, 0, 0] (V0 (Proc.devRef .tc main_arg3)) slices_S1x5000x512_S1x2048x512_0_0_0)

theorem rightV_at (n : Fin 8) (p : Fin 2048) (d : Fin 512) :
    rightV V0 (PE.ix3 n p d) = apeBlock (V0 (Proc.devRef .tc main_arg3)) (PE.ix3 0 p d) :=
  congrArg (V0 (Proc.devRef .tc main_arg3) : ShApes.Idx → F .f32) (idx_ext₃ rfl (Nat.zero_add _) (Nat.zero_add _))

/-- The reference's result is the function of its arguments that the kernel's is. -/
theorem value (h : InRange (shiftV V0)) :
    addf (V0 (Proc.devRef .tc main_arg0) : FVec F S8x2048x1024 .f32) (concatenate S8x2048x1024 2 [⟨S8x2048x512, leftV V0⟩, ⟨S8x2048x512, rightV V0⟩]
      concatenates_S8x2048x512_S8x2048x512_S8x2048x1024_d2)
      = G (V0 (Proc.devRef .tc main_arg0)) (shiftV V0) (V0 (Proc.devRef .tc main_arg2)) (V0 (Proc.devRef .tc main_arg3)) := by
  funext y
  have h2 : (y 2).val < 1024 := (y 2).isLt
  have he : (V0 (Proc.devRef .tc main_arg0) : ShEmbs.Idx → F .f32) y
      = embBlock (V0 (Proc.devRef .tc main_arg0)) (y 0) (PE.ix3 0 (y 1) (y 2)) :=
    congrArg (V0 (Proc.devRef .tc main_arg0) : ShEmbs.Idx → F .f32) (idx_ext₃ rfl rfl rfl)
  show FloatOps.addf ((V0 (Proc.devRef .tc main_arg0) : ShEmbs.Idx → F .f32) y) (concatenate S8x2048x1024 2 _ _ y) = tgt _ _ _ _ _ _ _ _
  unfold tgt
  rw [he]
  split
  · rename_i hl
    refine congrArg (FloatOps.addf _) ?_
    exact (concatenate_pair_apply_left (t := S8x2048x1024) 2 (leftV V0) (rightV V0) _ y rfl (PE.ix3 (y 0) (y 1) ⟨(y 2).val, hl⟩)
      (fun b => by
        match b with
        | ⟨0, _⟩ => rfl
        | ⟨1, _⟩ => rfl
        | ⟨2, _⟩ => rfl)).trans (leftV_at V0 h (y 0) (y 1) ⟨(y 2).val, hl⟩)
  · rename_i hl
    have hl' : ¬ (y 2).val < 512 := hl
    refine congrArg (FloatOps.addf _) ?_
    exact (concatenate_pair_apply_right (t := S8x2048x1024) 2 (leftV V0) (rightV V0) _ y rfl rfl
      (PE.ix3 (y 0) (y 1) ⟨(y 2).val - 512, by omega⟩)
      (fun b hb => by
        match b with
        | ⟨0, _⟩ => rfl
        | ⟨1, _⟩ => rfl
        | ⟨2, _⟩ => exact absurd rfl hb)
      (by show (y 2).val - 512 + 512 = (y 2).val; omega)).trans (rightV_at V0 (y 0) (y 1) ⟨(y 2).val - 512, by omega⟩)

/-- The reference ends with its arguments as they were and every counter zero, and where the shifts are in range its result
array is `G` of its arguments. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      (InRange (m ((c.tc : Thread nD τ).loc main_arg1)) → r.2.mem ((c.tc : Thread nD τ).loc main_v24)
        = G (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨fun hr => (h c).1.trans (value (launchContents m c) hr), (h c).2⟩,
    sem_eq_zero_of_no_sems (by decide) r.2⟩) (Cert.ReferenceIdeal.Value.run m ρ)

end Cert.PE.Reference

end
-- ==== Proof.lean ====
module

public import proofs.«01_k».proof.Defs
public import proofs.«01_k».proof.Proof.Gen.Pre_in_range
public import proofs.«01_k».proof.Proof.Range
public import proofs.«01_k».proof.Proof.Run
public import proofs.«01_k».proof.Proof.RunKernel
public import proofs.«01_k».proof.Proof.Reference
public import Idealize.ShloMosaic.Adequacy
public import Idealize.ShloMosaic.Init

@[expose] public section

noncomputable section

namespace Cert.Proof

open Idealize.ShloMosaic Idealize.SL.Sem

/-- The kernel as printed runs, leaves its arguments as they were and ends with every counter zero. -/
theorem frame_kernel : Cert.quiescent_Kernel (hKernel := Cert.Kernel.Gen.facts) (hPre_in_range := Cert.Pre_in_range.Gen.facts) :=
  fun m g h => (θ_run _ _ _).mono (fun _ H => ⟨fun c => (H.1 c).2, H.2⟩)
    (Cert.Kernel.Run.run m g fun c => Cert.PE.inRange_of_pre (h c))

/-- So does the idealized kernel. -/
theorem frame_kernelIdeal :
    Cert.quiescent_KernelIdeal (hKernelIdeal := Cert.KernelIdeal.Gen.facts) (hPre_in_range := Cert.Pre_in_range.Gen.facts) :=
  fun m g h => (θ_run _ _ _).mono (fun _ H => ⟨fun c => (H.1 c).2, H.2⟩)
    (Cert.KernelIdeal.Run.run m g fun c => Cert.PE.inRange_of_pre (h c))

/-- So does the reference, from any arguments. -/
theorem frame_reference : Cert.quiescent_ReferenceIdeal (hReferenceIdeal := Cert.ReferenceIdeal.Gen.facts) :=
  fun m g _ => (θ_run _ _ _).mono (fun _ H => ⟨fun c => (H.1 c).2, H.2⟩) (Cert.PE.Reference.run m g)

/-- The idealized kernel and the reference end with the same result array, from the same arguments with the shifts in range. -/
theorem equal : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' h hm
  have hr : ∀ c, Cert.PE.InRange (Cert.KernelIdeal.Run.shiftOf m c) := fun c => Cert.PE.inRange_of_pre (h c)
  refine ⟨fun c => Cert.KernelIdeal.Run.resultOf m c,
    (θ_run _ _ _).mono (fun _ H => H.1) (Cert.KernelIdeal.Run.run m g hr),
    (θ_run _ _ _).mono (fun r H c => ⟨?_, (H.1 c).2⟩) (Cert.PE.Reference.run m' g')⟩
  obtain ⟨e0, e1, e2, e3⟩ := hm c
  refine ((H.1 c).1 ?_).trans ?_
  · rw [e1]; exact hr c
  · rw [e0, e1, e2, e3]

theorem claim : Cert.Claim :=
  ⟨Cert.Kernel.Gen.facts, Cert.KernelIdeal.Gen.facts, Cert.ReferenceIdeal.Gen.facts, Cert.Pre_in_range.Gen.facts,
    frame_kernel, frame_kernelIdeal, frame_reference, fun m g _ => frame_reference m g trivial, trivial, equal⟩

end Cert.Proof

end
